-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28)
      ∧ r.2.mem ((c.tc : Thread Cert.Kernel11.nD Cert.Kernel11.τ).loc Cert.Kernel11.main_arg29) = m ((c.tc : Thread Cert.Kernel11.nD Cert.Kernel11.τ).loc Cert.Kernel11.main_arg29)
      ∧ r.2.mem ((c.tc : Thread Cert.Kernel11.nD Cert.Kernel11.τ).loc Cert.Kernel11.main_arg30) = m ((c.tc : Thread Cert.Kernel11.nD Cert.Kernel11.τ).loc Cert.Kernel11.main_arg30)
      ∧ r.2.mem ((c.tc : Thread Cert.Kernel11.nD Cert.Kernel11.τ).loc Cert.Kernel11.main_arg31) = m ((c.tc : Thread Cert.Kernel11.nD Cert.Kernel11.τ).loc Cert.Kernel11.main_arg31)
      ∧ r.2.mem ((c.tc : Thread Cert.Kernel11.nD Cert.Kernel11.τ).loc Cert.Kernel11.main_arg32) = m ((c.tc : Thread Cert.Kernel11.nD Cert.Kernel11.τ).loc Cert.Kernel11.main_arg32)
      ∧ r.2.mem ((c.tc : Thread Cert.Kernel11.nD Cert.Kernel11.τ).loc Cert.Kernel11.main_arg33) = m ((c.tc : Thread Cert.Kernel11.nD Cert.Kernel11.τ).loc Cert.Kernel11.main_arg33)
      ∧ r.2.mem ((c.tc : Thread Cert.Kernel11.nD Cert.Kernel11.τ).loc Cert.Kernel11.main_arg34) = m ((c.tc : Thread Cert.Kernel11.nD Cert.Kernel11.τ).loc Cert.Kernel11.main_arg34)
      ∧ r.2.mem ((c.tc : Thread Cert.Kernel11.nD Cert.Kernel11.τ).loc Cert.Kernel11.main_arg35) = m ((c.tc : Thread Cert.Kernel11.nD Cert.Kernel11.τ).loc Cert.Kernel11.main_arg35)
      ∧ r.2.mem ((c.tc : Thread Cert.Kernel11.nD Cert.Kernel11.τ).loc Cert.Kernel11.main_arg36) = m ((c.tc : Thread Cert.Kernel11.nD Cert.Kernel11.τ).loc Cert.Kernel11.main_arg36)
      ∧ r.2.mem ((c.tc : Thread Cert.Kernel11.nD Cert.Kernel11.τ).loc Cert.Kernel11.main_arg37) = m ((c.tc : Thread Cert.Kernel11.nD Cert.Kernel11.τ).loc Cert.Kernel11.main_arg37)
      ∧ r.2.mem ((c.tc : Thread Cert.Kernel11.nD Cert.Kernel11.τ).loc Cert.Kernel11.main_arg38) = m ((c.tc : Thread Cert.Kernel11.nD Cert.Kernel11.τ).loc Cert.Kernel11.main_arg38))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
      ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
      ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
      ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
      ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
      ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
      ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
      ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
      ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
      ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
      ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
      ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
      ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
      ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
      ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
      ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23)
      ∧ r.2.mem ((c.tc : Thread Cert.Reference11Ideal.nD Cert.Reference11Ideal.τ).loc Cert.Reference11Ideal.main_arg24) = m ((c.tc : Thread Cert.Reference11Ideal.nD Cert.Reference11Ideal.τ).loc Cert.Reference11Ideal.main_arg24)
      ∧ r.2.mem ((c.tc : Thread Cert.Reference11Ideal.nD Cert.Reference11Ideal.τ).loc Cert.Reference11Ideal.main_arg25) = m ((c.tc : Thread Cert.Reference11Ideal.nD Cert.Reference11Ideal.τ).loc Cert.Reference11Ideal.main_arg25)
      ∧ r.2.mem ((c.tc : Thread Cert.Reference11Ideal.nD Cert.Reference11Ideal.τ).loc Cert.Reference11Ideal.main_arg26) = m ((c.tc : Thread Cert.Reference11Ideal.nD Cert.Reference11Ideal.τ).loc Cert.Reference11Ideal.main_arg26)
      ∧ r.2.mem ((c.tc : Thread Cert.Reference11Ideal.nD Cert.Reference11Ideal.τ).loc Cert.Reference11Ideal.main_arg27) = m ((c.tc : Thread Cert.Reference11Ideal.nD Cert.Reference11Ideal.τ).loc Cert.Reference11Ideal.main_arg27)
      ∧ r.2.mem ((c.tc : Thread Cert.Reference11Ideal.nD Cert.Reference11Ideal.τ).loc Cert.Reference11Ideal.main_arg28) = m ((c.tc : Thread Cert.Reference11Ideal.nD Cert.Reference11Ideal.τ).loc Cert.Reference11Ideal.main_arg28)
      ∧ r.2.mem ((c.tc : Thread Cert.Reference11Ideal.nD Cert.Reference11Ideal.τ).loc Cert.Reference11Ideal.main_arg29) = m ((c.tc : Thread Cert.Reference11Ideal.nD Cert.Reference11Ideal.τ).loc Cert.Reference11Ideal.main_arg29)
      ∧ r.2.mem ((c.tc : Thread Cert.Reference11Ideal.nD Cert.Reference11Ideal.τ).loc Cert.Reference11Ideal.main_arg30) = m ((c.tc : Thread Cert.Reference11Ideal.nD Cert.Reference11Ideal.τ).loc Cert.Reference11Ideal.main_arg30)
      ∧ r.2.mem ((c.tc : Thread Cert.Reference11Ideal.nD Cert.Reference11Ideal.τ).loc Cert.Reference11Ideal.main_arg31) = m ((c.tc : Thread Cert.Reference11Ideal.nD Cert.Reference11Ideal.τ).loc Cert.Reference11Ideal.main_arg31)
      ∧ r.2.mem ((c.tc : Thread Cert.Reference11Ideal.nD Cert.Reference11Ideal.τ).loc Cert.Reference11Ideal.main_arg32) = m ((c.tc : Thread Cert.Reference11Ideal.nD Cert.Reference11Ideal.τ).loc Cert.Reference11Ideal.main_arg32)
      ∧ r.2.mem ((c.tc : Thread Cert.Reference11Ideal.nD Cert.Reference11Ideal.τ).loc Cert.Reference11Ideal.main_arg33) = m ((c.tc : Thread Cert.Reference11Ideal.nD Cert.Reference11Ideal.τ).loc Cert.Reference11Ideal.main_arg33)
      ∧ r.2.mem ((c.tc : Thread Cert.Reference11Ideal.nD Cert.Reference11Ideal.τ).loc Cert.Reference11Ideal.main_arg34) = m ((c.tc : Thread Cert.Reference11Ideal.nD Cert.Reference11Ideal.τ).loc Cert.Reference11Ideal.main_arg34)
      ∧ r.2.mem ((c.tc : Thread Cert.Reference11Ideal.nD Cert.Reference11Ideal.τ).loc Cert.Reference11Ideal.main_arg35) = m ((c.tc : Thread Cert.Reference11Ideal.nD Cert.Reference11Ideal.τ).loc Cert.Reference11Ideal.main_arg35)
      ∧ r.2.mem ((c.tc : Thread Cert.Reference11Ideal.nD Cert.Reference11Ideal.τ).loc Cert.Reference11Ideal.main_arg36) = m ((c.tc : Thread Cert.Reference11Ideal.nD Cert.Reference11Ideal.τ).loc Cert.Reference11Ideal.main_arg36)
      ∧ r.2.mem ((c.tc : Thread Cert.Reference11Ideal.nD Cert.Reference11Ideal.τ).loc Cert.Reference11Ideal.main_arg37) = m ((c.tc : Thread Cert.Reference11Ideal.nD Cert.Reference11Ideal.τ).loc Cert.Reference11Ideal.main_arg37)
      ∧ r.2.mem ((c.tc : Thread Cert.Reference11Ideal.nD Cert.Reference11Ideal.τ).loc Cert.Reference11Ideal.main_arg38) = m ((c.tc : Thread Cert.Reference11Ideal.nD Cert.Reference11Ideal.τ).loc Cert.Reference11Ideal.main_arg38))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_2)) (v3 : (c : Dev Cert.KernelIdeal.nD) → Buf (Elt Ideal) ((c.tc : Thread Cert.KernelIdeal.nD Cert.KernelIdeal.τ).loc Cert.KernelIdeal.main_v34_3)) (v4 : (c : Dev Cert.KernelIdeal.nD) → Buf (Elt Ideal) ((c.tc : Thread Cert.KernelIdeal.nD Cert.KernelIdeal.τ).loc Cert.KernelIdeal.main_v34_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_2) = v2 c
          ∧ r.2.mem ((c.tc : Thread Cert.KernelIdeal.nD Cert.KernelIdeal.τ).loc Cert.KernelIdeal.main_v34_3) = v3 c
          ∧ r.2.mem ((c.tc : Thread Cert.KernelIdeal.nD Cert.KernelIdeal.τ).loc Cert.KernelIdeal.main_v34_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v85) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)) (v4 : (c : Dev Cert.Kernel2Ideal.nD) → Buf (Elt Ideal) ((c.tc : Thread Cert.Kernel2Ideal.nD Cert.Kernel2Ideal.τ).loc Cert.Kernel2Ideal.main_v0_4)) (v5 : (c : Dev Cert.Kernel2Ideal.nD) → Buf (Elt Ideal) ((c.tc : Thread Cert.Kernel2Ideal.nD Cert.Kernel2Ideal.τ).loc Cert.Kernel2Ideal.main_v0_5)) (v6 : (c : Dev Cert.Kernel2Ideal.nD) → Buf (Elt Ideal) ((c.tc : Thread Cert.Kernel2Ideal.nD Cert.Kernel2Ideal.τ).loc Cert.Kernel2Ideal.main_v0_6)) (v7 : (c : Dev Cert.Kernel2Ideal.nD) → Buf (Elt Ideal) ((c.tc : Thread Cert.Kernel2Ideal.nD Cert.Kernel2Ideal.τ).loc Cert.Kernel2Ideal.main_v0_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_v0_4) = v4 c
          ∧ r.2.mem ((c.tc : Thread Cert.Kernel2Ideal.nD Cert.Kernel2Ideal.τ).loc Cert.Kernel2Ideal.main_v0_5) = v5 c
          ∧ r.2.mem ((c.tc : Thread Cert.Kernel2Ideal.nD Cert.Kernel2Ideal.τ).loc Cert.Kernel2Ideal.main_v0_6) = v6 c
          ∧ r.2.mem ((c.tc : Thread Cert.Kernel2Ideal.nD Cert.Kernel2Ideal.τ).loc Cert.Kernel2Ideal.main_v0_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v97) = v1 c
          ∧ r.2.mem ((c.tc : Thread Cert.Reference2Ideal.nD Cert.Reference2Ideal.τ).loc Cert.Reference2Ideal.main_v98) = v2 c
          ∧ r.2.mem ((c.tc : Thread Cert.Reference2Ideal.nD Cert.Reference2Ideal.τ).loc Cert.Reference2Ideal.main_v99) = v3 c
          ∧ r.2.mem ((c.tc : Thread Cert.Reference2Ideal.nD Cert.Reference2Ideal.τ).loc Cert.Reference2Ideal.main_v100) = v4 c
          ∧ r.2.mem ((c.tc : Thread Cert.Reference2Ideal.nD Cert.Reference2Ideal.τ).loc Cert.Reference2Ideal.main_v101) = v5 c
          ∧ r.2.mem ((c.tc : Thread Cert.Reference2Ideal.nD Cert.Reference2Ideal.τ).loc Cert.Reference2Ideal.main_v88) = v6 c
          ∧ r.2.mem ((c.tc : Thread Cert.Reference2Ideal.nD Cert.Reference2Ideal.τ).loc Cert.Reference2Ideal.main_v96) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)) (v2 : (c : Dev Cert.Kernel6Ideal.nD) → Buf (Elt Ideal) ((c.tc : Thread Cert.Kernel6Ideal.nD Cert.Kernel6Ideal.τ).loc Cert.Kernel6Ideal.main_v3_2)) (v3 : (c : Dev Cert.Kernel6Ideal.nD) → Buf (Elt Ideal) ((c.tc : Thread Cert.Kernel6Ideal.nD Cert.Kernel6Ideal.τ).loc Cert.Kernel6Ideal.main_v3_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_v3_2) = v2 c
          ∧ r.2.mem ((c.tc : Thread Cert.Kernel6Ideal.nD Cert.Kernel6Ideal.τ).loc Cert.Kernel6Ideal.main_v3_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v28) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_v15) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)) (v2 : (c : Dev Cert.Kernel7Ideal.nD) → Buf (Elt Ideal) ((c.tc : Thread Cert.Kernel7Ideal.nD Cert.Kernel7Ideal.τ).loc Cert.Kernel7Ideal.main_v3_2)) (v3 : (c : Dev Cert.Kernel7Ideal.nD) → Buf (Elt Ideal) ((c.tc : Thread Cert.Kernel7Ideal.nD Cert.Kernel7Ideal.τ).loc Cert.Kernel7Ideal.main_v3_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_v3_2) = v2 c
          ∧ r.2.mem ((c.tc : Thread Cert.Kernel7Ideal.nD Cert.Kernel7Ideal.τ).loc Cert.Kernel7Ideal.main_v3_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_v15) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)) (v3 : (c : Dev Cert.Kernel8Ideal.nD) → Buf (Elt Ideal) ((c.tc : Thread Cert.Kernel8Ideal.nD Cert.Kernel8Ideal.τ).loc Cert.Kernel8Ideal.main_v6_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_v6_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v31) = v1 c
          ∧ r.2.mem ((c.tc : Thread Cert.Reference8Ideal.nD Cert.Reference8Ideal.τ).loc Cert.Reference8Ideal.main_v32) = v2 c
          ∧ r.2.mem ((c.tc : Thread Cert.Reference8Ideal.nD Cert.Reference8Ideal.τ).loc Cert.Reference8Ideal.main_v33) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v9) = v2 c
          ∧ r.2.mem ((c.tc : Thread Cert.Reference9Ideal.nD Cert.Reference9Ideal.τ).loc Cert.Reference9Ideal.main_v15) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v3_0)) (v1 : (c : Dev Cert.Kernel10Ideal.nD) → Buf (Elt Ideal) ((c.tc : Thread Cert.Kernel10Ideal.nD Cert.Kernel10Ideal.τ).loc Cert.Kernel10Ideal.main_v3_1)) (v2 : (c : Dev Cert.Kernel10Ideal.nD) → Buf (Elt Ideal) ((c.tc : Thread Cert.Kernel10Ideal.nD Cert.Kernel10Ideal.τ).loc Cert.Kernel10Ideal.main_v3_2)) (v3 : (c : Dev Cert.Kernel10Ideal.nD) → Buf (Elt Ideal) ((c.tc : Thread Cert.Kernel10Ideal.nD Cert.Kernel10Ideal.τ).loc Cert.Kernel10Ideal.main_v3_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3_0) = v0 c
          ∧ r.2.mem ((c.tc : Thread Cert.Kernel10Ideal.nD Cert.Kernel10Ideal.τ).loc Cert.Kernel10Ideal.main_v3_1) = v1 c
          ∧ r.2.mem ((c.tc : Thread Cert.Kernel10Ideal.nD Cert.Kernel10Ideal.τ).loc Cert.Kernel10Ideal.main_v3_2) = v2 c
          ∧ r.2.mem ((c.tc : Thread Cert.Kernel10Ideal.nD Cert.Kernel10Ideal.τ).loc Cert.Kernel10Ideal.main_v3_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)
      ∧ m' ((c.tc : Thread Cert.Reference11Ideal.nD Cert.Reference11Ideal.τ).loc Cert.Reference11Ideal.main_arg24) = m ((c.tc : Thread Cert.Kernel11Ideal.nD Cert.Kernel11Ideal.τ).loc Cert.Kernel11Ideal.main_arg24)
      ∧ m' ((c.tc : Thread Cert.Reference11Ideal.nD Cert.Reference11Ideal.τ).loc Cert.Reference11Ideal.main_arg25) = m ((c.tc : Thread Cert.Kernel11Ideal.nD Cert.Kernel11Ideal.τ).loc Cert.Kernel11Ideal.main_arg25)
      ∧ m' ((c.tc : Thread Cert.Reference11Ideal.nD Cert.Reference11Ideal.τ).loc Cert.Reference11Ideal.main_arg26) = m ((c.tc : Thread Cert.Kernel11Ideal.nD Cert.Kernel11Ideal.τ).loc Cert.Kernel11Ideal.main_arg26)
      ∧ m' ((c.tc : Thread Cert.Reference11Ideal.nD Cert.Reference11Ideal.τ).loc Cert.Reference11Ideal.main_arg27) = m ((c.tc : Thread Cert.Kernel11Ideal.nD Cert.Kernel11Ideal.τ).loc Cert.Kernel11Ideal.main_arg27)
      ∧ m' ((c.tc : Thread Cert.Reference11Ideal.nD Cert.Reference11Ideal.τ).loc Cert.Reference11Ideal.main_arg28) = m ((c.tc : Thread Cert.Kernel11Ideal.nD Cert.Kernel11Ideal.τ).loc Cert.Kernel11Ideal.main_arg28)
      ∧ m' ((c.tc : Thread Cert.Reference11Ideal.nD Cert.Reference11Ideal.τ).loc Cert.Reference11Ideal.main_arg29) = m ((c.tc : Thread Cert.Kernel11Ideal.nD Cert.Kernel11Ideal.τ).loc Cert.Kernel11Ideal.main_arg29)
      ∧ m' ((c.tc : Thread Cert.Reference11Ideal.nD Cert.Reference11Ideal.τ).loc Cert.Reference11Ideal.main_arg30) = m ((c.tc : Thread Cert.Kernel11Ideal.nD Cert.Kernel11Ideal.τ).loc Cert.Kernel11Ideal.main_arg30)
      ∧ m' ((c.tc : Thread Cert.Reference11Ideal.nD Cert.Reference11Ideal.τ).loc Cert.Reference11Ideal.main_arg31) = m ((c.tc : Thread Cert.Kernel11Ideal.nD Cert.Kernel11Ideal.τ).loc Cert.Kernel11Ideal.main_arg31)
      ∧ m' ((c.tc : Thread Cert.Reference11Ideal.nD Cert.Reference11Ideal.τ).loc Cert.Reference11Ideal.main_arg32) = m ((c.tc : Thread Cert.Kernel11Ideal.nD Cert.Kernel11Ideal.τ).loc Cert.Kernel11Ideal.main_arg32)
      ∧ m' ((c.tc : Thread Cert.Reference11Ideal.nD Cert.Reference11Ideal.τ).loc Cert.Reference11Ideal.main_arg33) = m ((c.tc : Thread Cert.Kernel11Ideal.nD Cert.Kernel11Ideal.τ).loc Cert.Kernel11Ideal.main_arg33)
      ∧ m' ((c.tc : Thread Cert.Reference11Ideal.nD Cert.Reference11Ideal.τ).loc Cert.Reference11Ideal.main_arg34) = m ((c.tc : Thread Cert.Kernel11Ideal.nD Cert.Kernel11Ideal.τ).loc Cert.Kernel11Ideal.main_arg34)
      ∧ m' ((c.tc : Thread Cert.Reference11Ideal.nD Cert.Reference11Ideal.τ).loc Cert.Reference11Ideal.main_arg35) = m ((c.tc : Thread Cert.Kernel11Ideal.nD Cert.Kernel11Ideal.τ).loc Cert.Kernel11Ideal.main_arg35)
      ∧ m' ((c.tc : Thread Cert.Reference11Ideal.nD Cert.Reference11Ideal.τ).loc Cert.Reference11Ideal.main_arg36) = m ((c.tc : Thread Cert.Kernel11Ideal.nD Cert.Kernel11Ideal.τ).loc Cert.Kernel11Ideal.main_arg36)
      ∧ m' ((c.tc : Thread Cert.Reference11Ideal.nD Cert.Reference11Ideal.τ).loc Cert.Reference11Ideal.main_arg37) = m ((c.tc : Thread Cert.Kernel11Ideal.nD Cert.Kernel11Ideal.τ).loc Cert.Kernel11Ideal.main_arg37)
      ∧ m' ((c.tc : Thread Cert.Reference11Ideal.nD Cert.Reference11Ideal.τ).loc Cert.Reference11Ideal.main_arg38) = m ((c.tc : Thread Cert.Kernel11Ideal.nD Cert.Kernel11Ideal.τ).loc Cert.Kernel11Ideal.main_arg38)) →
    ∃ (v0 : (c : Dev Cert.Kernel11Ideal.nD) → Buf (Elt Ideal) ((c.tc : Thread Cert.Kernel11Ideal.nD Cert.Kernel11Ideal.τ).loc Cert.Kernel11Ideal.main_v12_0)) (v1 : (c : Dev Cert.Kernel11Ideal.nD) → Buf (Elt Ideal) ((c.tc : Thread Cert.Kernel11Ideal.nD Cert.Kernel11Ideal.τ).loc Cert.Kernel11Ideal.main_v12_1)) (v2 : (c : Dev Cert.Kernel11Ideal.nD) → Buf (Elt Ideal) ((c.tc : Thread Cert.Kernel11Ideal.nD Cert.Kernel11Ideal.τ).loc Cert.Kernel11Ideal.main_v12_2)) (v3 : (c : Dev Cert.Kernel11Ideal.nD) → Buf (Elt Ideal) ((c.tc : Thread Cert.Kernel11Ideal.nD Cert.Kernel11Ideal.τ).loc Cert.Kernel11Ideal.main_v12_3)) (v4 : (c : Dev Cert.Kernel11Ideal.nD) → Buf (Elt Ideal) ((c.tc : Thread Cert.Kernel11Ideal.nD Cert.Kernel11Ideal.τ).loc Cert.Kernel11Ideal.main_v12_4)) (v5 : (c : Dev Cert.Kernel11Ideal.nD) → Buf (Elt Ideal) ((c.tc : Thread Cert.Kernel11Ideal.nD Cert.Kernel11Ideal.τ).loc Cert.Kernel11Ideal.main_v12_5)) (v6 : (c : Dev Cert.Kernel11Ideal.nD) → Buf (Elt Ideal) ((c.tc : Thread Cert.Kernel11Ideal.nD Cert.Kernel11Ideal.τ).loc Cert.Kernel11Ideal.main_v12_6)) (v7 : (c : Dev Cert.Kernel11Ideal.nD) → Buf (Elt Ideal) ((c.tc : Thread Cert.Kernel11Ideal.nD Cert.Kernel11Ideal.τ).loc Cert.Kernel11Ideal.main_v12_7)) (v8 : (c : Dev Cert.Kernel11Ideal.nD) → Buf (Elt Ideal) ((c.tc : Thread Cert.Kernel11Ideal.nD Cert.Kernel11Ideal.τ).loc Cert.Kernel11Ideal.main_v12_8)) (v9 : (c : Dev Cert.Kernel11Ideal.nD) → Buf (Elt Ideal) ((c.tc : Thread Cert.Kernel11Ideal.nD Cert.Kernel11Ideal.τ).loc Cert.Kernel11Ideal.main_v12_9)) (v10 : (c : Dev Cert.Kernel11Ideal.nD) → Buf (Elt Ideal) ((c.tc : Thread Cert.Kernel11Ideal.nD Cert.Kernel11Ideal.τ).loc Cert.Kernel11Ideal.main_v12_10)) (v11 : (c : Dev Cert.Kernel11Ideal.nD) → Buf (Elt Ideal) ((c.tc : Thread Cert.Kernel11Ideal.nD Cert.Kernel11Ideal.τ).loc Cert.Kernel11Ideal.main_v12_11)) (v12 : (c : Dev Cert.Kernel11Ideal.nD) → Buf (Elt Ideal) ((c.tc : Thread Cert.Kernel11Ideal.nD Cert.Kernel11Ideal.τ).loc Cert.Kernel11Ideal.main_v12_12)) (v13 : (c : Dev Cert.Kernel11Ideal.nD) → Buf (Elt Ideal) ((c.tc : Thread Cert.Kernel11Ideal.nD Cert.Kernel11Ideal.τ).loc Cert.Kernel11Ideal.main_v12_13)) (v14 : (c : Dev Cert.Kernel11Ideal.nD) → Buf (Elt Ideal) ((c.tc : Thread Cert.Kernel11Ideal.nD Cert.Kernel11Ideal.τ).loc Cert.Kernel11Ideal.main_v12_14)) (v15 : (c : Dev Cert.Kernel11Ideal.nD) → Buf (Elt Ideal) ((c.tc : Thread Cert.Kernel11Ideal.nD Cert.Kernel11Ideal.τ).loc Cert.Kernel11Ideal.main_v12_15)) (v16 : (c : Dev Cert.Kernel11Ideal.nD) → Buf (Elt Ideal) ((c.tc : Thread Cert.Kernel11Ideal.nD Cert.Kernel11Ideal.τ).loc Cert.Kernel11Ideal.main_v12_16)) (v17 : (c : Dev Cert.Kernel11Ideal.nD) → Buf (Elt Ideal) ((c.tc : Thread Cert.Kernel11Ideal.nD Cert.Kernel11Ideal.τ).loc Cert.Kernel11Ideal.main_v12_17)) (v18 : (c : Dev Cert.Kernel11Ideal.nD) → Buf (Elt Ideal) ((c.tc : Thread Cert.Kernel11Ideal.nD Cert.Kernel11Ideal.τ).loc Cert.Kernel11Ideal.main_v12_18)) (v19 : (c : Dev Cert.Kernel11Ideal.nD) → Buf (Elt Ideal) ((c.tc : Thread Cert.Kernel11Ideal.nD Cert.Kernel11Ideal.τ).loc Cert.Kernel11Ideal.main_v12_19)) (v20 : (c : Dev Cert.Kernel11Ideal.nD) → Buf (Elt Ideal) ((c.tc : Thread Cert.Kernel11Ideal.nD Cert.Kernel11Ideal.τ).loc Cert.Kernel11Ideal.main_v12_20)) (v21 : (c : Dev Cert.Kernel11Ideal.nD) → Buf (Elt Ideal) ((c.tc : Thread Cert.Kernel11Ideal.nD Cert.Kernel11Ideal.τ).loc Cert.Kernel11Ideal.main_v12_21)) (v22 : (c : Dev Cert.Kernel11Ideal.nD) → Buf (Elt Ideal) ((c.tc : Thread Cert.Kernel11Ideal.nD Cert.Kernel11Ideal.τ).loc Cert.Kernel11Ideal.main_v12_22)) (v23 : (c : Dev Cert.Kernel11Ideal.nD) → Buf (Elt Ideal) ((c.tc : Thread Cert.Kernel11Ideal.nD Cert.Kernel11Ideal.τ).loc Cert.Kernel11Ideal.main_v12_23)) (v24 : (c : Dev Cert.Kernel11Ideal.nD) → Buf (Elt Ideal) ((c.tc : Thread Cert.Kernel11Ideal.nD Cert.Kernel11Ideal.τ).loc Cert.Kernel11Ideal.main_v12_24)) (v25 : (c : Dev Cert.Kernel11Ideal.nD) → Buf (Elt Ideal) ((c.tc : Thread Cert.Kernel11Ideal.nD Cert.Kernel11Ideal.τ).loc Cert.Kernel11Ideal.main_v12_25)) (v26 : (c : Dev Cert.Kernel11Ideal.nD) → Buf (Elt Ideal) ((c.tc : Thread Cert.Kernel11Ideal.nD Cert.Kernel11Ideal.τ).loc Cert.Kernel11Ideal.main_v12_26)) (v27 : (c : Dev Cert.Kernel11Ideal.nD) → Buf (Elt Ideal) ((c.tc : Thread Cert.Kernel11Ideal.nD Cert.Kernel11Ideal.τ).loc Cert.Kernel11Ideal.main_v12_27)) (v28 : (c : Dev Cert.Kernel11Ideal.nD) → Buf (Elt Ideal) ((c.tc : Thread Cert.Kernel11Ideal.nD Cert.Kernel11Ideal.τ).loc Cert.Kernel11Ideal.main_v12_28)) (v29 : (c : Dev Cert.Kernel11Ideal.nD) → Buf (Elt Ideal) ((c.tc : Thread Cert.Kernel11Ideal.nD Cert.Kernel11Ideal.τ).loc Cert.Kernel11Ideal.main_v12_29)) (v30 : (c : Dev Cert.Kernel11Ideal.nD) → Buf (Elt Ideal) ((c.tc : Thread Cert.Kernel11Ideal.nD Cert.Kernel11Ideal.τ).loc Cert.Kernel11Ideal.main_v12_30)) (v31 : (c : Dev Cert.Kernel11Ideal.nD) → Buf (Elt Ideal) ((c.tc : Thread Cert.Kernel11Ideal.nD Cert.Kernel11Ideal.τ).loc Cert.Kernel11Ideal.main_v12_31)) (v32 : (c : Dev Cert.Kernel11Ideal.nD) → Buf (Elt Ideal) ((c.tc : Thread Cert.Kernel11Ideal.nD Cert.Kernel11Ideal.τ).loc Cert.Kernel11Ideal.main_v12_32)) (v33 : (c : Dev Cert.Kernel11Ideal.nD) → Buf (Elt Ideal) ((c.tc : Thread Cert.Kernel11Ideal.nD Cert.Kernel11Ideal.τ).loc Cert.Kernel11Ideal.main_v12_33)) (v34 : (c : Dev Cert.Kernel11Ideal.nD) → Buf (Elt Ideal) ((c.tc : Thread Cert.Kernel11Ideal.nD Cert.Kernel11Ideal.τ).loc Cert.Kernel11Ideal.main_v12_34)) (v35 : (c : Dev Cert.Kernel11Ideal.nD) → Buf (Elt Ideal) ((c.tc : Thread Cert.Kernel11Ideal.nD Cert.Kernel11Ideal.τ).loc Cert.Kernel11Ideal.main_v12_35)) (v36 : (c : Dev Cert.Kernel11Ideal.nD) → Buf (Elt Ideal) ((c.tc : Thread Cert.Kernel11Ideal.nD Cert.Kernel11Ideal.τ).loc Cert.Kernel11Ideal.main_v12_36)) (v37 : (c : Dev Cert.Kernel11Ideal.nD) → Buf (Elt Ideal) ((c.tc : Thread Cert.Kernel11Ideal.nD Cert.Kernel11Ideal.τ).loc Cert.Kernel11Ideal.main_v12_37)) (v38 : (c : Dev Cert.Kernel11Ideal.nD) → Buf (Elt Ideal) ((c.tc : Thread Cert.Kernel11Ideal.nD Cert.Kernel11Ideal.τ).loc Cert.Kernel11Ideal.main_v12_38)) (v39 : (c : Dev Cert.Kernel11Ideal.nD) → Buf (Elt Ideal) ((c.tc : Thread Cert.Kernel11Ideal.nD Cert.Kernel11Ideal.τ).loc Cert.Kernel11Ideal.main_v12_39)) (v40 : (c : Dev Cert.Kernel11Ideal.nD) → Buf (Elt Ideal) ((c.tc : Thread Cert.Kernel11Ideal.nD Cert.Kernel11Ideal.τ).loc Cert.Kernel11Ideal.main_v12_40)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12_0) = v0 c
          ∧ r.2.mem ((c.tc : Thread Cert.Kernel11Ideal.nD Cert.Kernel11Ideal.τ).loc Cert.Kernel11Ideal.main_v12_1) = v1 c
          ∧ r.2.mem ((c.tc : Thread Cert.Kernel11Ideal.nD Cert.Kernel11Ideal.τ).loc Cert.Kernel11Ideal.main_v12_2) = v2 c
          ∧ r.2.mem ((c.tc : Thread Cert.Kernel11Ideal.nD Cert.Kernel11Ideal.τ).loc Cert.Kernel11Ideal.main_v12_3) = v3 c
          ∧ r.2.mem ((c.tc : Thread Cert.Kernel11Ideal.nD Cert.Kernel11Ideal.τ).loc Cert.Kernel11Ideal.main_v12_4) = v4 c
          ∧ r.2.mem ((c.tc : Thread Cert.Kernel11Ideal.nD Cert.Kernel11Ideal.τ).loc Cert.Kernel11Ideal.main_v12_5) = v5 c
          ∧ r.2.mem ((c.tc : Thread Cert.Kernel11Ideal.nD Cert.Kernel11Ideal.τ).loc Cert.Kernel11Ideal.main_v12_6) = v6 c
          ∧ r.2.mem ((c.tc : Thread Cert.Kernel11Ideal.nD Cert.Kernel11Ideal.τ).loc Cert.Kernel11Ideal.main_v12_7) = v7 c
          ∧ r.2.mem ((c.tc : Thread Cert.Kernel11Ideal.nD Cert.Kernel11Ideal.τ).loc Cert.Kernel11Ideal.main_v12_8) = v8 c
          ∧ r.2.mem ((c.tc : Thread Cert.Kernel11Ideal.nD Cert.Kernel11Ideal.τ).loc Cert.Kernel11Ideal.main_v12_9) = v9 c
          ∧ r.2.mem ((c.tc : Thread Cert.Kernel11Ideal.nD Cert.Kernel11Ideal.τ).loc Cert.Kernel11Ideal.main_v12_10) = v10 c
          ∧ r.2.mem ((c.tc : Thread Cert.Kernel11Ideal.nD Cert.Kernel11Ideal.τ).loc Cert.Kernel11Ideal.main_v12_11) = v11 c
          ∧ r.2.mem ((c.tc : Thread Cert.Kernel11Ideal.nD Cert.Kernel11Ideal.τ).loc Cert.Kernel11Ideal.main_v12_12) = v12 c
          ∧ r.2.mem ((c.tc : Thread Cert.Kernel11Ideal.nD Cert.Kernel11Ideal.τ).loc Cert.Kernel11Ideal.main_v12_13) = v13 c
          ∧ r.2.mem ((c.tc : Thread Cert.Kernel11Ideal.nD Cert.Kernel11Ideal.τ).loc Cert.Kernel11Ideal.main_v12_14) = v14 c
          ∧ r.2.mem ((c.tc : Thread Cert.Kernel11Ideal.nD Cert.Kernel11Ideal.τ).loc Cert.Kernel11Ideal.main_v12_15) = v15 c
          ∧ r.2.mem ((c.tc : Thread Cert.Kernel11Ideal.nD Cert.Kernel11Ideal.τ).loc Cert.Kernel11Ideal.main_v12_16) = v16 c
          ∧ r.2.mem ((c.tc : Thread Cert.Kernel11Ideal.nD Cert.Kernel11Ideal.τ).loc Cert.Kernel11Ideal.main_v12_17) = v17 c
          ∧ r.2.mem ((c.tc : Thread Cert.Kernel11Ideal.nD Cert.Kernel11Ideal.τ).loc Cert.Kernel11Ideal.main_v12_18) = v18 c
          ∧ r.2.mem ((c.tc : Thread Cert.Kernel11Ideal.nD Cert.Kernel11Ideal.τ).loc Cert.Kernel11Ideal.main_v12_19) = v19 c
          ∧ r.2.mem ((c.tc : Thread Cert.Kernel11Ideal.nD Cert.Kernel11Ideal.τ).loc Cert.Kernel11Ideal.main_v12_20) = v20 c
          ∧ r.2.mem ((c.tc : Thread Cert.Kernel11Ideal.nD Cert.Kernel11Ideal.τ).loc Cert.Kernel11Ideal.main_v12_21) = v21 c
          ∧ r.2.mem ((c.tc : Thread Cert.Kernel11Ideal.nD Cert.Kernel11Ideal.τ).loc Cert.Kernel11Ideal.main_v12_22) = v22 c
          ∧ r.2.mem ((c.tc : Thread Cert.Kernel11Ideal.nD Cert.Kernel11Ideal.τ).loc Cert.Kernel11Ideal.main_v12_23) = v23 c
          ∧ r.2.mem ((c.tc : Thread Cert.Kernel11Ideal.nD Cert.Kernel11Ideal.τ).loc Cert.Kernel11Ideal.main_v12_24) = v24 c
          ∧ r.2.mem ((c.tc : Thread Cert.Kernel11Ideal.nD Cert.Kernel11Ideal.τ).loc Cert.Kernel11Ideal.main_v12_25) = v25 c
          ∧ r.2.mem ((c.tc : Thread Cert.Kernel11Ideal.nD Cert.Kernel11Ideal.τ).loc Cert.Kernel11Ideal.main_v12_26) = v26 c
          ∧ r.2.mem ((c.tc : Thread Cert.Kernel11Ideal.nD Cert.Kernel11Ideal.τ).loc Cert.Kernel11Ideal.main_v12_27) = v27 c
          ∧ r.2.mem ((c.tc : Thread Cert.Kernel11Ideal.nD Cert.Kernel11Ideal.τ).loc Cert.Kernel11Ideal.main_v12_28) = v28 c
          ∧ r.2.mem ((c.tc : Thread Cert.Kernel11Ideal.nD Cert.Kernel11Ideal.τ).loc Cert.Kernel11Ideal.main_v12_29) = v29 c
          ∧ r.2.mem ((c.tc : Thread Cert.Kernel11Ideal.nD Cert.Kernel11Ideal.τ).loc Cert.Kernel11Ideal.main_v12_30) = v30 c
          ∧ r.2.mem ((c.tc : Thread Cert.Kernel11Ideal.nD Cert.Kernel11Ideal.τ).loc Cert.Kernel11Ideal.main_v12_31) = v31 c
          ∧ r.2.mem ((c.tc : Thread Cert.Kernel11Ideal.nD Cert.Kernel11Ideal.τ).loc Cert.Kernel11Ideal.main_v12_32) = v32 c
          ∧ r.2.mem ((c.tc : Thread Cert.Kernel11Ideal.nD Cert.Kernel11Ideal.τ).loc Cert.Kernel11Ideal.main_v12_33) = v33 c
          ∧ r.2.mem ((c.tc : Thread Cert.Kernel11Ideal.nD Cert.Kernel11Ideal.τ).loc Cert.Kernel11Ideal.main_v12_34) = v34 c
          ∧ r.2.mem ((c.tc : Thread Cert.Kernel11Ideal.nD Cert.Kernel11Ideal.τ).loc Cert.Kernel11Ideal.main_v12_35) = v35 c
          ∧ r.2.mem ((c.tc : Thread Cert.Kernel11Ideal.nD Cert.Kernel11Ideal.τ).loc Cert.Kernel11Ideal.main_v12_36) = v36 c
          ∧ r.2.mem ((c.tc : Thread Cert.Kernel11Ideal.nD Cert.Kernel11Ideal.τ).loc Cert.Kernel11Ideal.main_v12_37) = v37 c
          ∧ r.2.mem ((c.tc : Thread Cert.Kernel11Ideal.nD Cert.Kernel11Ideal.τ).loc Cert.Kernel11Ideal.main_v12_38) = v38 c
          ∧ r.2.mem ((c.tc : Thread Cert.Kernel11Ideal.nD Cert.Kernel11Ideal.τ).loc Cert.Kernel11Ideal.main_v12_39) = v39 c
          ∧ r.2.mem ((c.tc : Thread Cert.Kernel11Ideal.nD Cert.Kernel11Ideal.τ).loc Cert.Kernel11Ideal.main_v12_40) = v40 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
          ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
          ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
          ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
          ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
          ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
          ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
          ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
          ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
          ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
          ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
          ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
          ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35)
          ∧ r.2.mem ((c.tc : Thread Cert.Kernel11Ideal.nD Cert.Kernel11Ideal.τ).loc Cert.Kernel11Ideal.main_arg36) = m ((c.tc : Thread Cert.Kernel11Ideal.nD Cert.Kernel11Ideal.τ).loc Cert.Kernel11Ideal.main_arg36)
          ∧ r.2.mem ((c.tc : Thread Cert.Kernel11Ideal.nD Cert.Kernel11Ideal.τ).loc Cert.Kernel11Ideal.main_arg37) = m ((c.tc : Thread Cert.Kernel11Ideal.nD Cert.Kernel11Ideal.τ).loc Cert.Kernel11Ideal.main_arg37)
          ∧ r.2.mem ((c.tc : Thread Cert.Kernel11Ideal.nD Cert.Kernel11Ideal.τ).loc Cert.Kernel11Ideal.main_arg38) = m ((c.tc : Thread Cert.Kernel11Ideal.nD Cert.Kernel11Ideal.τ).loc Cert.Kernel11Ideal.main_arg38))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_v33) = v1 c
          ∧ r.2.mem ((c.tc : Thread Cert.Reference11Ideal.nD Cert.Reference11Ideal.τ).loc Cert.Reference11Ideal.main_v14) = v2 c
          ∧ r.2.mem ((c.tc : Thread Cert.Reference11Ideal.nD Cert.Reference11Ideal.τ).loc Cert.Reference11Ideal.main_v20) = v3 c
          ∧ r.2.mem ((c.tc : Thread Cert.Reference11Ideal.nD Cert.Reference11Ideal.τ).loc Cert.Reference11Ideal.main_v34) = v4 c
          ∧ r.2.mem ((c.tc : Thread Cert.Reference11Ideal.nD Cert.Reference11Ideal.τ).loc Cert.Reference11Ideal.main_v58) = v5 c
          ∧ r.2.mem ((c.tc : Thread Cert.Reference11Ideal.nD Cert.Reference11Ideal.τ).loc Cert.Reference11Ideal.main_v39) = v6 c
          ∧ r.2.mem ((c.tc : Thread Cert.Reference11Ideal.nD Cert.Reference11Ideal.τ).loc Cert.Reference11Ideal.main_v45) = v7 c
          ∧ r.2.mem ((c.tc : Thread Cert.Reference11Ideal.nD Cert.Reference11Ideal.τ).loc Cert.Reference11Ideal.main_v59) = v8 c
          ∧ r.2.mem ((c.tc : Thread Cert.Reference11Ideal.nD Cert.Reference11Ideal.τ).loc Cert.Reference11Ideal.main_v86) = v9 c
          ∧ r.2.mem ((c.tc : Thread Cert.Reference11Ideal.nD Cert.Reference11Ideal.τ).loc Cert.Reference11Ideal.main_v67) = v10 c
          ∧ r.2.mem ((c.tc : Thread Cert.Reference11Ideal.nD Cert.Reference11Ideal.τ).loc Cert.Reference11Ideal.main_v73) = v11 c
          ∧ r.2.mem ((c.tc : Thread Cert.Reference11Ideal.nD Cert.Reference11Ideal.τ).loc Cert.Reference11Ideal.main_v87) = v12 c
          ∧ r.2.mem ((c.tc : Thread Cert.Reference11Ideal.nD Cert.Reference11Ideal.τ).loc Cert.Reference11Ideal.main_v117) = v13 c
          ∧ r.2.mem ((c.tc : Thread Cert.Reference11Ideal.nD Cert.Reference11Ideal.τ).loc Cert.Reference11Ideal.main_v98) = v14 c
          ∧ r.2.mem ((c.tc : Thread Cert.Reference11Ideal.nD Cert.Reference11Ideal.τ).loc Cert.Reference11Ideal.main_v104) = v15 c
          ∧ r.2.mem ((c.tc : Thread Cert.Reference11Ideal.nD Cert.Reference11Ideal.τ).loc Cert.Reference11Ideal.main_v118) = v16 c
          ∧ r.2.mem ((c.tc : Thread Cert.Reference11Ideal.nD Cert.Reference11Ideal.τ).loc Cert.Reference11Ideal.main_v142) = v17 c
          ∧ r.2.mem ((c.tc : Thread Cert.Reference11Ideal.nD Cert.Reference11Ideal.τ).loc Cert.Reference11Ideal.main_v123) = v18 c
          ∧ r.2.mem ((c.tc : Thread Cert.Reference11Ideal.nD Cert.Reference11Ideal.τ).loc Cert.Reference11Ideal.main_v129) = v19 c
          ∧ r.2.mem ((c.tc : Thread Cert.Reference11Ideal.nD Cert.Reference11Ideal.τ).loc Cert.Reference11Ideal.main_v143) = v20 c
          ∧ r.2.mem ((c.tc : Thread Cert.Reference11Ideal.nD Cert.Reference11Ideal.τ).loc Cert.Reference11Ideal.main_v167) = v21 c
          ∧ r.2.mem ((c.tc : Thread Cert.Reference11Ideal.nD Cert.Reference11Ideal.τ).loc Cert.Reference11Ideal.main_v148) = v22 c
          ∧ r.2.mem ((c.tc : Thread Cert.Reference11Ideal.nD Cert.Reference11Ideal.τ).loc Cert.Reference11Ideal.main_v154) = v23 c
          ∧ r.2.mem ((c.tc : Thread Cert.Reference11Ideal.nD Cert.Reference11Ideal.τ).loc Cert.Reference11Ideal.main_v168) = v24 c
          ∧ r.2.mem ((c.tc : Thread Cert.Reference11Ideal.nD Cert.Reference11Ideal.τ).loc Cert.Reference11Ideal.main_v192) = v25 c
          ∧ r.2.mem ((c.tc : Thread Cert.Reference11Ideal.nD Cert.Reference11Ideal.τ).loc Cert.Reference11Ideal.main_v173) = v26 c
          ∧ r.2.mem ((c.tc : Thread Cert.Reference11Ideal.nD Cert.Reference11Ideal.τ).loc Cert.Reference11Ideal.main_v179) = v27 c
          ∧ r.2.mem ((c.tc : Thread Cert.Reference11Ideal.nD Cert.Reference11Ideal.τ).loc Cert.Reference11Ideal.main_v193) = v28 c
          ∧ r.2.mem ((c.tc : Thread Cert.Reference11Ideal.nD Cert.Reference11Ideal.τ).loc Cert.Reference11Ideal.main_v217) = v29 c
          ∧ r.2.mem ((c.tc : Thread Cert.Reference11Ideal.nD Cert.Reference11Ideal.τ).loc Cert.Reference11Ideal.main_v198) = v30 c
          ∧ r.2.mem ((c.tc : Thread Cert.Reference11Ideal.nD Cert.Reference11Ideal.τ).loc Cert.Reference11Ideal.main_v204) = v31 c
          ∧ r.2.mem ((c.tc : Thread Cert.Reference11Ideal.nD Cert.Reference11Ideal.τ).loc Cert.Reference11Ideal.main_v218) = v32 c
          ∧ r.2.mem ((c.tc : Thread Cert.Reference11Ideal.nD Cert.Reference11Ideal.τ).loc Cert.Reference11Ideal.main_v242) = v33 c
          ∧ r.2.mem ((c.tc : Thread Cert.Reference11Ideal.nD Cert.Reference11Ideal.τ).loc Cert.Reference11Ideal.main_v223) = v34 c
          ∧ r.2.mem ((c.tc : Thread Cert.Reference11Ideal.nD Cert.Reference11Ideal.τ).loc Cert.Reference11Ideal.main_v229) = v35 c
          ∧ r.2.mem ((c.tc : Thread Cert.Reference11Ideal.nD Cert.Reference11Ideal.τ).loc Cert.Reference11Ideal.main_v243) = v36 c
          ∧ r.2.mem ((c.tc : Thread Cert.Reference11Ideal.nD Cert.Reference11Ideal.τ).loc Cert.Reference11Ideal.main_v270) = v37 c
          ∧ r.2.mem ((c.tc : Thread Cert.Reference11Ideal.nD Cert.Reference11Ideal.τ).loc Cert.Reference11Ideal.main_v251) = v38 c
          ∧ r.2.mem ((c.tc : Thread Cert.Reference11Ideal.nD Cert.Reference11Ideal.τ).loc Cert.Reference11Ideal.main_v257) = v39 c
          ∧ r.2.mem ((c.tc : Thread Cert.Reference11Ideal.nD Cert.Reference11Ideal.τ).loc Cert.Reference11Ideal.main_v272) = v40 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23)
          ∧ r.2.mem ((c.tc : Thread Cert.Reference11Ideal.nD Cert.Reference11Ideal.τ).loc Cert.Reference11Ideal.main_arg24) = m' ((c.tc : Thread Cert.Reference11Ideal.nD Cert.Reference11Ideal.τ).loc Cert.Reference11Ideal.main_arg24)
          ∧ r.2.mem ((c.tc : Thread Cert.Reference11Ideal.nD Cert.Reference11Ideal.τ).loc Cert.Reference11Ideal.main_arg25) = m' ((c.tc : Thread Cert.Reference11Ideal.nD Cert.Reference11Ideal.τ).loc Cert.Reference11Ideal.main_arg25)
          ∧ r.2.mem ((c.tc : Thread Cert.Reference11Ideal.nD Cert.Reference11Ideal.τ).loc Cert.Reference11Ideal.main_arg26) = m' ((c.tc : Thread Cert.Reference11Ideal.nD Cert.Reference11Ideal.τ).loc Cert.Reference11Ideal.main_arg26)
          ∧ r.2.mem ((c.tc : Thread Cert.Reference11Ideal.nD Cert.Reference11Ideal.τ).loc Cert.Reference11Ideal.main_arg27) = m' ((c.tc : Thread Cert.Reference11Ideal.nD Cert.Reference11Ideal.τ).loc Cert.Reference11Ideal.main_arg27)
          ∧ r.2.mem ((c.tc : Thread Cert.Reference11Ideal.nD Cert.Reference11Ideal.τ).loc Cert.Reference11Ideal.main_arg28) = m' ((c.tc : Thread Cert.Reference11Ideal.nD Cert.Reference11Ideal.τ).loc Cert.Reference11Ideal.main_arg28)
          ∧ r.2.mem ((c.tc : Thread Cert.Reference11Ideal.nD Cert.Reference11Ideal.τ).loc Cert.Reference11Ideal.main_arg29) = m' ((c.tc : Thread Cert.Reference11Ideal.nD Cert.Reference11Ideal.τ).loc Cert.Reference11Ideal.main_arg29)
          ∧ r.2.mem ((c.tc : Thread Cert.Reference11Ideal.nD Cert.Reference11Ideal.τ).loc Cert.Reference11Ideal.main_arg30) = m' ((c.tc : Thread Cert.Reference11Ideal.nD Cert.Reference11Ideal.τ).loc Cert.Reference11Ideal.main_arg30)
          ∧ r.2.mem ((c.tc : Thread Cert.Reference11Ideal.nD Cert.Reference11Ideal.τ).loc Cert.Reference11Ideal.main_arg31) = m' ((c.tc : Thread Cert.Reference11Ideal.nD Cert.Reference11Ideal.τ).loc Cert.Reference11Ideal.main_arg31)
          ∧ r.2.mem ((c.tc : Thread Cert.Reference11Ideal.nD Cert.Reference11Ideal.τ).loc Cert.Reference11Ideal.main_arg32) = m' ((c.tc : Thread Cert.Reference11Ideal.nD Cert.Reference11Ideal.τ).loc Cert.Reference11Ideal.main_arg32)
          ∧ r.2.mem ((c.tc : Thread Cert.Reference11Ideal.nD Cert.Reference11Ideal.τ).loc Cert.Reference11Ideal.main_arg33) = m' ((c.tc : Thread Cert.Reference11Ideal.nD Cert.Reference11Ideal.τ).loc Cert.Reference11Ideal.main_arg33)
          ∧ r.2.mem ((c.tc : Thread Cert.Reference11Ideal.nD Cert.Reference11Ideal.τ).loc Cert.Reference11Ideal.main_arg34) = m' ((c.tc : Thread Cert.Reference11Ideal.nD Cert.Reference11Ideal.τ).loc Cert.Reference11Ideal.main_arg34)
          ∧ r.2.mem ((c.tc : Thread Cert.Reference11Ideal.nD Cert.Reference11Ideal.τ).loc Cert.Reference11Ideal.main_arg35) = m' ((c.tc : Thread Cert.Reference11Ideal.nD Cert.Reference11Ideal.τ).loc Cert.Reference11Ideal.main_arg35)
          ∧ r.2.mem ((c.tc : Thread Cert.Reference11Ideal.nD Cert.Reference11Ideal.τ).loc Cert.Reference11Ideal.main_arg36) = m' ((c.tc : Thread Cert.Reference11Ideal.nD Cert.Reference11Ideal.τ).loc Cert.Reference11Ideal.main_arg36)
          ∧ r.2.mem ((c.tc : Thread Cert.Reference11Ideal.nD Cert.Reference11Ideal.τ).loc Cert.Reference11Ideal.main_arg37) = m' ((c.tc : Thread Cert.Reference11Ideal.nD Cert.Reference11Ideal.τ).loc Cert.Reference11Ideal.main_arg37)
          ∧ r.2.mem ((c.tc : Thread Cert.Reference11Ideal.nD Cert.Reference11Ideal.τ).loc Cert.Reference11Ideal.main_arg38) = m' ((c.tc : Thread Cert.Reference11Ideal.nD Cert.Reference11Ideal.τ).loc Cert.Reference11Ideal.main_arg38))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S8192x1024 : Shape := ⟨2, ![8192, 1024]⟩
abbrev S6x1024 : Shape := ⟨2, ![6, 1024]⟩
abbrev S1x1024 : Shape := ⟨2, ![1, 1024]⟩
abbrev S1024x1024 : Shape := ⟨2, ![1024, 1024]⟩
abbrev S5632x1024 : Shape := ⟨2, ![5632, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S5632x1024 : S_.BroadcastsInDim S5632x1024 (![] : Fin 0 → Fin S5632x1024.rank)
  reducesTo_S5632x1024_S_d0_1 : S5632x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v3 : IVec S_ 1) (main_v8 : IVec S_ 1) (main_v12 : IVec S_ 1) (main_v16 : IVec S_ 1) (main_v20 : IVec S_ 1) (main_v25 : IVec S_ 1) (main_v30 : IVec S_ 1) (main_v32 : FVec F S2816x1024 .f32) (main_cst_12 : FVec F S_ .f32) : IVec S_ 1 :=
  let main_v33 : FVec F S2816x1024 .f32 := broadcastInDim S2816x1024 ![] bcast_S_S2816x1024 main_cst_12
  let main_v34 : IVec S2816x1024 1 := cmpf .olt main_v32 main_v33
  let main_c_13 : IVec S_ 1 := constantI S_ 1 1#1
  let main_v35 : IVec S_ 1 := (fun x v => Host.reduce IntOp.andi x v reducesTo_S2816x1024_S_d0_1 h_S_) main_v34 main_c_13
  let main_v36 : IVec S_ 1 := andi main_v3 main_v8
  let main_v37 : IVec S_ 1 := andi main_v36 main_v12
  let main_v38 : IVec S_ 1 := andi main_v37 main_v16
  let main_v39 : IVec S_ 1 := andi main_v38 main_v20
  let main_v40 : IVec S_ 1 := andi main_v39 main_v25
  let main_v41 : IVec S_ 1 := andi main_v40 main_v30
  let main_v42 : IVec S_ 1 := andi main_v41 main_v35
  main_v42

def fn_part1 {F : FTy → Type} [FloatOps F] (main_arg4 : FVec F S1x1024 .f32) (main_arg5 : FVec F S1024x1024 .bf16) (main_arg6 : FVec F S5632x1024 .bf16) (main_arg7 : FVec F S2816x1024 .bf16) (main_v3 : IVec S_ 1) (main_v8 : IVec S_ 1) (main_v12 : IVec S_ 1) (main_v15 : IVec S6x1024 1) (main_c_5 : IVec S_ 1) : IVec S_ 1 :=
  let main_v16 : IVec S_ 1 := (fun x v => Host.reduce IntOp.andi x v reducesTo_S6x1024_S_d0_1 h_S_) main_v15 main_c_5
  let main_v17 : FVec F S1x1024 .f32 := Host.absf main_arg4
  let main_cst_6 : FVec F S_ .f32 := constant S_ .f32 0x7F800000#32
  let main_v18 : FVec F S1x1024 .f32 := broadcastInDim S1x1024 ![] bcast_S_S1x1024 main_cst_6
  let main_v19 : IVec S1x1024 1 := cmpf .olt main_v17 main_v18
  let main_c_7 : IVec S_ 1 := constantI S_ 1 1#1
  let main_v20 : IVec S_ 1 := (fun x v => Host.reduce IntOp.andi x v reducesTo_S1x1024_S_d0_1 h_S_) main_v19 main_c_7
  let main_v21 : FVec F S1024x1024 .f32 := (extf .f32 · bitsLt_bf16_f32) main_arg5
  let main_v22 : FVec F S1024x1024 .f32 := Host.absf main_v21
  let main_cst_8 : FVec F S_ .f32 := constant S_ .f32 0x7F800000#32
  let main_v23 : FVec F S1024x1024 .f32 := broadcastInDim S1024x1024 ![] bcast_S_S1024x1024 main_cst_8
  let main_v24 : IVec S1024x1024 1 := cmpf .olt main_v22 main_v23
  let main_c_9 : IVec S_ 1 := constantI S_ 1 1#1
  let main_v25 : IVec S_ 1 := (fun x v => Host.reduce IntOp.andi x v reducesTo_S1024x1024_S_d0_1 h_S_) main_v24 main_c_9
  let main_v26 : FVec F S5632x1024 .f32 := (extf .f32 · bitsLt_bf16_f32) main_arg6
  let main_v27 : FVec F S5632x1024 .f32 := Host.absf main_v26
  let main_cst_10 : FVec F S_ .f32 := constant S_ .f32 0x7F800000#32
  let main_v28 : FVec F S5632x1024 .f32 := broadcastInDim S5632x1024 ![] bcast_S_S5632x1024 main_cst_10
  let main_v29 : IVec S5632x1024 1 := cmpf .olt main_v27 main_v28
  let main_c_11 : IVec S_ 1 := constantI S_ 1 1#1
  let main_v30 : IVec S_ 1 := (fun x v => Host.reduce IntOp.andi x v reducesTo_S5632x1024_S_d0_1 h_S_) main_v29 main_c_11
  let main_v31 : FVec F S2816x1024 .f32 := (extf .f32 · bitsLt_bf16_f32) main_arg7
  let main_v32 : FVec F S2816x1024 .f32 := Host.absf main_v31
  let main_cst_12 : FVec F S_ .f32 := constant S_ .f32 0x7F800000#32
  fn_part2 (F := F) main_v3 main_v8 main_v12 main_v16 main_v20 main_v25 main_v30 main_v32 main_cst_12

def fn {F : FTy → Type} [FloatOps F] (main_arg0 : FVec F S8192x1024 .f32) (main_arg1 : FVec F S8192x1024 .bf16) (main_arg2 : FVec F S8192x1024 .f32) (main_arg3 : FVec F S6x1024 .f32) (main_arg4 : FVec F S1x1024 .f32) (main_arg5 : FVec F S1024x1024 .bf16) (main_arg6 : FVec F S5632x1024 .bf16) (main_arg7 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : FVec F S6x1024 .f32 := Host.absf main_arg3
  let main_cst_4 : FVec F S_ .f32 := constant S_ .f32 0x7F800000#32
  let main_v14 : FVec F S6x1024 .f32 := broadcastInDim S6x1024 ![] bcast_S_S6x1024 main_cst_4
  let main_v15 : IVec S6x1024 1 := cmpf .olt main_v13 main_v14
  let main_c_5 : IVec S_ 1 := constantI S_ 1 1#1
  fn_part1 (F := F) main_arg4 main_arg5 main_arg6 main_arg7 main_v3 main_v8 main_v12 main_v15 main_c_5
-- ==== Pre_finite2.lean ====
abbrev S8192x1024 : Shape := ⟨2, ![8192, 1024]⟩
abbrev S6x1024 : Shape := ⟨2, ![6, 1024]⟩
abbrev S1x1024 : Shape := ⟨2, ![1, 1024]⟩
abbrev S1024x1024 : Shape := ⟨2, ![1024, 1024]⟩
abbrev S5632x1024 : Shape := ⟨2, ![5632, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S6x1024 : S_.BroadcastsInDim S6x1024 (![] : Fin 0 → Fin S6x1024.rank)
  reducesTo_S6x1024_S_d0_1 : S6x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S5632x1024 : S_.BroadcastsInDim S5632x1024 (![] : Fin 0 → Fin S5632x1024.rank)
  reducesTo_S5632x1024_S_d0_1 : S5632x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg8 : FVec F S2816x1024 .bf16) (main_v3 : IVec S_ 1) (main_v8 : IVec S_ 1) (main_v12 : IVec S_ 1) (main_v16 : IVec S_ 1) (main_v20 : IVec S_ 1) (main_v24 : IVec S_ 1) (main_v29 : IVec S_ 1) (main_v31 : FVec F S5632x1024 .f32) (main_v32 : FVec F S5632x1024 .f32) : IVec S_ 1 :=
  let main_v33 : IVec S5632x1024 1 := cmpf .olt main_v31 main_v32
  let main_c_13 : IVec S_ 1 := constantI S_ 1 1#1
  let main_v34 : IVec S_ 1 := (fun x v => Host.reduce IntOp.andi x v reducesTo_S5632x1024_S_d0_1 h_S_) main_v33 main_c_13
  let main_v35 : FVec F S2816x1024 .f32 := (extf .f32 · bitsLt_bf16_f32) main_arg8
  let main_v36 : FVec F S2816x1024 .f32 := Host.absf main_v35
  let main_cst_14 : FVec F S_ .f32 := constant S_ .f32 0x7F800000#32
  let main_v37 : FVec F S2816x1024 .f32 := broadcastInDim S2816x1024 ![] bcast_S_S2816x1024 main_cst_14
  let main_v38 : IVec S2816x1024 1 := cmpf .olt main_v36 main_v37
  let main_c_15 : IVec S_ 1 := constantI S_ 1 1#1
  let main_v39 : IVec S_ 1 := (fun x v => Host.reduce IntOp.andi x v reducesTo_S2816x1024_S_d0_1 h_S_) main_v38 main_c_15
  let main_v40 : IVec S_ 1 := andi main_v3 main_v8
  let main_v41 : IVec S_ 1 := andi main_v40 main_v12
  let main_v42 : IVec S_ 1 := andi main_v41 main_v16
  let main_v43 : IVec S_ 1 := andi main_v42 main_v20
  let main_v44 : IVec S_ 1 := andi main_v43 main_v24
  let main_v45 : IVec S_ 1 := andi main_v44 main_v29
  let main_v46 : IVec S_ 1 := andi main_v45 main_v34
  let main_v47 : IVec S_ 1 := andi main_v46 main_v39
  main_v47

def fn_part1 {F : FTy → Type} [FloatOps F] (main_arg4 : FVec F S1x1024 .f32) (main_arg5 : FVec F S1x1024 .f32) (main_arg6 : FVec F S1024x1024 .bf16) (main_arg7 : FVec F S5632x1024 .bf16) (main_arg8 : FVec F S2816x1024 .bf16) (main_v3 : IVec S_ 1) (main_v8 : IVec S_ 1) (main_v12 : IVec S_ 1) (main_v15 : IVec S6x1024 1) (main_c_5 : IVec S_ 1) : IVec S_ 1 :=
  let main_v16 : IVec S_ 1 := (fun x v => Host.reduce IntOp.andi x v reducesTo_S6x1024_S_d0_1 h_S_) main_v15 main_c_5
  let main_v17 : FVec F S1x1024 .f32 := Host.absf main_arg4
  let main_cst_6 : FVec F S_ .f32 := constant S_ .f32 0x7F800000#32
  let main_v18 : FVec F S1x1024 .f32 := broadcastInDim S1x1024 ![] bcast_S_S1x1024 main_cst_6
  let main_v19 : IVec S1x1024 1 := cmpf .olt main_v17 main_v18
  let main_c_7 : IVec S_ 1 := constantI S_ 1 1#1
  let main_v20 : IVec S_ 1 := (fun x v => Host.reduce IntOp.andi x v reducesTo_S1x1024_S_d0_1 h_S_) main_v19 main_c_7
  let main_v21 : FVec F S1x1024 .f32 := Host.absf main_arg5
  let main_cst_8 : FVec F S_ .f32 := constant S_ .f32 0x7F800000#32
  let main_v22 : FVec F S1x1024 .f32 := broadcastInDim S1x1024 ![] bcast_S_S1x1024 main_cst_8
  let main_v23 : IVec S1x1024 1 := cmpf .olt main_v21 main_v22
  let main_c_9 : IVec S_ 1 := constantI S_ 1 1#1
  let main_v24 : IVec S_ 1 := (fun x v => Host.reduce IntOp.andi x v reducesTo_S1x1024_S_d0_1 h_S_) main_v23 main_c_9
  let main_v25 : FVec F S1024x1024 .f32 := (extf .f32 · bitsLt_bf16_f32) main_arg6
  let main_v26 : FVec F S1024x1024 .f32 := Host.absf main_v25
  let main_cst_10 : FVec F S_ .f32 := constant S_ .f32 0x7F800000#32
  let main_v27 : FVec F S1024x1024 .f32 := broadcastInDim S1024x1024 ![] bcast_S_S1024x1024 main_cst_10
  let main_v28 : IVec S1024x1024 1 := cmpf .olt main_v26 main_v27
  let main_c_11 : IVec S_ 1 := constantI S_ 1 1#1
  let main_v29 : IVec S_ 1 := (fun x v => Host.reduce IntOp.andi x v reducesTo_S1024x1024_S_d0_1 h_S_) main_v28 main_c_11
  let main_v30 : FVec F S5632x1024 .f32 := (extf .f32 · bitsLt_bf16_f32) main_arg7
  let main_v31 : FVec F S5632x1024 .f32 := Host.absf main_v30
  let main_cst_12 : FVec F S_ .f32 := constant S_ .f32 0x7F800000#32
  let main_v32 : FVec F S5632x1024 .f32 := broadcastInDim S5632x1024 ![] bcast_S_S5632x1024 main_cst_12
  fn_part2 (F := F) main_arg8 main_v3 main_v8 main_v12 main_v16 main_v20 main_v24 main_v29 main_v31 main_v32

def fn {F : FTy → Type} [FloatOps F] (main_arg0 : FVec F S8192x1024 .f32) (main_arg1 : FVec F S8192x1024 .bf16) (main_arg2 : FVec F S8192x1024 .f32) (main_arg3 : FVec F S6x1024 .f32) (main_arg4 : FVec F S1x1024 .f32) (main_arg5 : FVec F S1x1024 .f32) (main_arg6 : FVec F S1024x1024 .bf16) (main_arg7 : FVec F S5632x1024 .bf16) (main_arg8 : FVec F S2816x1024 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : FVec F S6x1024 .f32 := Host.absf main_arg3
  let main_cst_4 : FVec F S_ .f32 := constant S_ .f32 0x7F800000#32
  let main_v14 : FVec F S6x1024 .f32 := broadcastInDim S6x1024 ![] bcast_S_S6x1024 main_cst_4
  let main_v15 : IVec S6x1024 1 := cmpf .olt main_v13 main_v14
  let main_c_5 : IVec S_ 1 := constantI S_ 1 1#1
  fn_part1 (F := F) main_arg4 main_arg5 main_arg6 main_arg7 main_arg8 main_v3 main_v8 main_v12 main_v15 main_c_5
-- ==== Kernel.lean ====
abbrev S8192x1024 : Shape := ⟨2, ![8192, 1024]⟩
abbrev S6x1024 : Shape := ⟨2, ![6, 1024]⟩
abbrev S1x1024 : Shape := ⟨2, ![1, 1024]⟩
abbrev S1024x1024 : Shape := ⟨2, ![1024, 1024]⟩
abbrev S5632x1024 : Shape := ⟨2, ![5632, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8x1024 : Shape := ⟨2, ![8, 1024]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S1024 : Shape := ⟨1, ![1024]⟩

abbrev nBuf : Space → Nat
  | .hbm => 51
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S6x1024, .f32⟩
  | .hbm, ⟨4, _⟩ => ⟨S1x1024, .f32⟩
  | .hbm, ⟨5, _⟩ => ⟨S1024x1024, .bf16⟩
  | .hbm, ⟨6, _⟩ => ⟨S5632x1024, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .bf16⟩
  | .hbm, ⟨39, _⟩ => ⟨S1024x5632, .bf16⟩
  | .hbm, ⟨40, _⟩ => ⟨S8192x5632, .f32⟩
  | .hbm, ⟨41, _⟩ => ⟨S8192x5632, .bf16⟩
  | .hbm, ⟨42, _⟩ => ⟨S8192x1024, .f32⟩
  | .hbm, ⟨43, _⟩ => ⟨S8192x1024, .f32⟩
  | .hbm, ⟨44, _⟩ => ⟨S8192x1024, .bf16⟩
  | .hbm, ⟨45, _⟩ => ⟨S8192x1024, .bf16⟩
  | .hbm, ⟨46, _⟩ => ⟨S8192x5632, .bf16⟩
  | .hbm, ⟨47, _⟩ => ⟨S8192x1024, .f32⟩
  | .hbm, ⟨48, _⟩ => ⟨S8192x1024, .bf16⟩
  | .hbm, ⟨49, _⟩ => ⟨S8192x1024, .f32⟩
  | .hbm, ⟨50, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S6x1024, .f32⟩
  | .local _ .vmem, ⟨11, _⟩ => ⟨S1x1024, .f32⟩
  | .local _ .vmem, ⟨12, _⟩ => ⟨S1024x1024, .bf16⟩
  | .local _ .vmem, ⟨13, _⟩ => ⟨S5632x1024, .bf16⟩
  | .local _ .vmem, ⟨14, _⟩ => ⟨S2816x1024, .bf16⟩
  | .local _ .vmem, ⟨15, _⟩ => ⟨S256x5632, .bf16⟩
  | .local _ .vmem, ⟨16, _⟩ => ⟨S256x5632, .bf16⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .f32⟩
  | .local _ .vmem, ⟨22, _⟩ => ⟨S256x1024, .f32⟩
  | .local _ .vmem, ⟨23, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev main_v34_4 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5632x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1024 : Shape := ⟨2, ![8192, 1024]⟩
abbrev S6x1024 : Shape := ⟨2, ![6, 1024]⟩
abbrev S1x1024 : Shape := ⟨2, ![1, 1024]⟩
abbrev S1024x1024 : Shape := ⟨2, ![1024, 1024]⟩
abbrev S5632x1024 : Shape := ⟨2, ![5632, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S1024 : Shape := ⟨1, ![1024]⟩
abbrev S4x1024 : Shape := ⟨2, ![4, 1024]⟩
abbrev S8x1024 : Shape := ⟨2, ![8, 1024]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S6x1024, .f32⟩
  | .hbm, ⟨4, _⟩ => ⟨S1x1024, .f32⟩
  | .hbm, ⟨5, _⟩ => ⟨S1024x1024, .bf16⟩
  | .hbm, ⟨6, _⟩ => ⟨S5632x1024, .bf16⟩
  | .hbm, ⟨7, _⟩ => ⟨S2816x1024, .bf16⟩
  | .hbm, ⟨8, _⟩ => ⟨S8192x1024, .f32⟩
  | .hbm, ⟨9, _⟩ => ⟨S1024x1024, .f32⟩
  | .hbm, ⟨10, _⟩ => ⟨S5632x1024, .f32⟩
  | .hbm, ⟨11, _⟩ => ⟨S2816x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S1024x5632, .f32⟩
  | .hbm, ⟨47, _⟩ => ⟨S8192x5632, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S_, .f32⟩
  | .hbm, ⟨53, _⟩ => ⟨S8192x2816, .f32⟩
  | .hbm, ⟨54, _⟩ => ⟨S8192x2816, .f32⟩
  | .hbm, ⟨55, _⟩ => ⟨S_, .f32⟩
  | .hbm, ⟨56, _⟩ => ⟨S8192x2816, .f32⟩
  | .hbm, ⟨57, _⟩ => ⟨S8192x2816, .f32⟩
  | .hbm, ⟨58, _⟩ => ⟨S_, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S8192x2816, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x2816, .f32⟩
  | .hbm, ⟨73, _⟩ => ⟨S8192x2816, .f32⟩
  | .hbm, ⟨74, _⟩ => ⟨S8192x2816, .f32⟩
  | .hbm, ⟨75, _⟩ => ⟨S8192x2816, .f32⟩
  | .hbm, ⟨76, _⟩ => ⟨S8192x2816, .f32⟩
  | .hbm, ⟨77, _⟩ => ⟨S8192x2816, .f32⟩
  | .hbm, ⟨78, _⟩ => ⟨S8192x2816, .f32⟩
  | .hbm, ⟨79, _⟩ => ⟨S8192x5632, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S_, .f32⟩
  | .hbm, ⟨92, _⟩ => ⟨S1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192, .f32⟩
  | .hbm, ⟨99, _⟩ => ⟨S8192x1, .f32⟩
  | .hbm, ⟨100, _⟩ => ⟨S8192x1024, .f32⟩
  | .hbm, ⟨101, _⟩ => ⟨S8192x1024, .f32⟩
  | .hbm, ⟨102, _⟩ => ⟨S8192x1, .f32⟩
  | .hbm, ⟨103, _⟩ => ⟨S_, .f32⟩
  | .hbm, ⟨104, _⟩ => ⟨S8192x1, .f32⟩
  | .hbm, ⟨105, _⟩ => ⟨S8192x1, .f32⟩
  | .hbm, ⟨106, _⟩ => ⟨S_, .f32⟩
  | .hbm, ⟨107, _⟩ => ⟨S8192, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S_, .f32⟩
  | .hbm, ⟨118, _⟩ => ⟨S1024, .f32⟩
  | .hbm, ⟨119, _⟩ => ⟨S1x1024, .f32⟩
  | .hbm, ⟨120, _⟩ => ⟨S8192x1024, .f32⟩
  | .hbm, ⟨121, _⟩ => ⟨S_, .f32⟩
  | .hbm, ⟨122, _⟩ => ⟨S4x1024, .f32⟩
  | .hbm, ⟨123, _⟩ => ⟨S8x1024, .f32⟩
  | .hbm, ⟨124, _⟩ => ⟨S8192x5632, .bf16⟩
  | .hbm, ⟨125, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v37_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v37_1 : Ref sig .tc := ⟨.hbm, 61, rfl⟩
abbrev main_v37_0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_4 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_5 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_6 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_7 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_v71 : Ref sig .tc := ⟨.hbm, 104, rfl⟩
abbrev main_v72 : Ref sig .tc := ⟨.hbm, 105, rfl⟩
abbrev main_cst_9 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_10 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_11 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩

abbrev nD : Nat := 1
abbrev τ : Topo := Topo.v7x

variable {F : FTy → Type} [FloatOps F]
-- ==== Kernel2.lean ====
abbrev S8192x1024 : Shape := ⟨2, ![8192, 1024]⟩
abbrev S6x1024 : Shape := ⟨2, ![6, 1024]⟩
abbrev S1x1024 : Shape := ⟨2, ![1, 1024]⟩
abbrev S1024x1024 : Shape := ⟨2, ![1024, 1024]⟩
abbrev S5632x1024 : Shape := ⟨2, ![5632, 1024]⟩
abbrev S2816x1024 : Shape := ⟨2, ![2816, 1024]⟩
abbrev S8192x2816 : Shape := ⟨2, ![8192, 2816]⟩
abbrev S8192x5632 : Shape := ⟨2, ![8192, 5632]⟩
abbrev S8x1024 : Shape := ⟨2, ![8, 1024]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1024 : Shape := ⟨1, ![1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 17
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S6x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S5632x1024, .bf16⟩
  | .hbm, ⟨8, _⟩ => ⟨S2816x1024, .bf16⟩
  | .hbm, ⟨9, _⟩ => ⟨S8192x1024, .f32⟩
  | .hbm, ⟨10, _⟩ => ⟨S8192x1024, .bf16⟩
  | .hbm, ⟨11, _⟩ => ⟨S8192x1024, .bf16⟩
  | .hbm, ⟨12, _⟩ => ⟨S8192x2816, .bf16⟩
  | .hbm, ⟨13, _⟩ => ⟨S8192x5632, .bf16⟩
  | .hbm, ⟨14, _⟩ => ⟨S8192x1024, .bf16⟩
  | .hbm, ⟨15, _⟩ => ⟨S8192x1024, .f32⟩
  | .hbm, ⟨16, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S6x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S5632x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x5632, .bf16⟩
  | .local _ .vmem, ⟨21, _⟩ => ⟨S256x5632, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5632x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference2Ideal.lean ====
abbrev S8192x1024 : Shape := ⟨2, ![8192, 1024]⟩
abbrev S6x1024 : Shape := ⟨2, ![6, 1024]⟩
abbrev S1x1024 : Shape := ⟨2, ![1, 1024]⟩
abbrev S1024x1024 : Shape := ⟨2, ![1024, 1024]⟩
abbrev S5632x1024 : Shape := ⟨2, ![5632, 1024]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1024x5632 : Shape := ⟨2, ![1024, 5632]⟩
abbrev S8192x5632 : Shape := ⟨2, ![8192, 5632]⟩
abbrev S8192x2816 : Shape := ⟨2, ![8192, 2816]⟩
abbrev S1024 : Shape := ⟨1, ![1024]⟩
abbrev S5x1024 : Shape := ⟨2, ![5, 1024]⟩
abbrev S8x1024 : Shape := ⟨2, ![8, 1024]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S8192x1024, .bf16⟩
  | 2 => ⟨S8192x1024, .f32⟩
  | 3 => ⟨S6x1024, .f32⟩
  | 4 => ⟨S1x1024, .f32⟩
  | 5 => ⟨S1x1024, .f32⟩
  | 6 => ⟨S1024x1024, .bf16⟩
  | 7 => ⟨S5632x1024, .bf16⟩
  | 8 => ⟨S2816x1024, .bf16⟩
  | 9 => ⟨S8192x1024, .f32⟩
  | 10 => ⟨S1024x1024, .f32⟩
  | 11 => ⟨S5632x1024, .f32⟩
  | 12 => ⟨S2816x1024, .f32⟩
  | 13 => ⟨S1x1024, .f32⟩
  | 14 => ⟨S1x1024, .f32⟩
  | 15 => ⟨S1x1024, .f32⟩
  | 16 => ⟨S1x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x1024, .f32⟩
  | 33 => ⟨S8192x1024, .f32⟩
  | 34 => ⟨S8192x1024, .f32⟩
  | 35 => ⟨S8192x1024, .f32⟩
  | 36 => ⟨S_, .f32⟩
  | 37 => ⟨S1x1024, .f32⟩
  | 38 => ⟨S1x1024, .f32⟩
  | 39 => ⟨S8192x1024, .f32⟩
  | 40 => ⟨S8192x1024, .f32⟩
  | 41 => ⟨S8192x1024, .f32⟩
  | 42 => ⟨S8192x1024, .f32⟩
  | 43 => ⟨S1024x5632, .f32⟩
  | 44 => ⟨S8192x5632, .f32⟩
  | 45 => ⟨S8192x2816, .f32⟩
  | 46 => ⟨S8192x2816, .f32⟩
  | 47 => ⟨S8192x2816, .f32⟩
  | 48 => ⟨S8192x2816, .f32⟩
  | 49 => ⟨S_, .f32⟩
  | 50 => ⟨S8192x2816, .f32⟩
  | 51 => ⟨S8192x2816, .f32⟩
  | 52 => ⟨S_, .f32⟩
  | 53 => ⟨S8192x2816, .f32⟩
  | 54 => ⟨S8192x2816, .f32⟩
  | 55 => ⟨S8192x2816, .f32⟩
  | 56 => ⟨S8192x2816, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S8192, .f32⟩
  | 64 => ⟨S8192x1, .f32⟩
  | 65 => ⟨S_, .f32⟩
  | 66 => ⟨S8192x1, .f32⟩
  | 67 => ⟨S8192x1, .f32⟩
  | 68 => ⟨S_, .f32⟩
  | 69 => ⟨S8192x1, .f32⟩
  | 70 => ⟨S8192x1, .f32⟩
  | 71 => ⟨S8192x1, .f32⟩
  | 72 => ⟨S8192x1, .f32⟩
  | 73 => ⟨S_, .f32⟩
  | 74 => ⟨S8192x1, .f32⟩
  | 75 => ⟨S8192x1, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192, .f32⟩
  | 87 => ⟨S_, .f32⟩
  | 88 => ⟨S8192, .f32⟩
  | 89 => ⟨S8192, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192, .f32⟩
  | 98 => ⟨S_, .f32⟩
  | 99 => ⟨S8192, .f32⟩
  | 100 => ⟨S8192, .f32⟩
  | 101 => ⟨S8192x1024, .f32⟩
  | 102 => ⟨S8192x1024, .f32⟩
  | 103 => ⟨S8192x1024, .f32⟩
  | 104 => ⟨S_, .f32⟩
  | 105 => ⟨S1024, .f32⟩
  | 106 => ⟨S1x1024, .f32⟩
  | 107 => ⟨S8192x1024, .f32⟩
  | 108 => ⟨S8192x1024, .f32⟩
  | 109 => ⟨S8192x1024, .f32⟩
  | 110 => ⟨S_, .f32⟩
  | 111 => ⟨S8192, .f32⟩
  | 112 => ⟨S8192x1, .f32⟩
  | 113 => ⟨S8192x1024, .f32⟩
  | 114 => ⟨S8192x1024, .f32⟩
  | 115 => ⟨S8192x1, .f32⟩
  | 116 => ⟨S_, .f32⟩
  | 117 => ⟨S8192x1, .f32⟩
  | 118 => ⟨S8192x1, .f32⟩
  | 119 => ⟨S_, .f32⟩
  | 120 => ⟨S8192, .f32⟩
  | 121 => ⟨S8192x1024, .f32⟩
  | 122 => ⟨S8192x1024, .f32⟩
  | 123 => ⟨S8192x1024, .f32⟩
  | 124 => ⟨S8192x1024, .f32⟩
  | 125 => ⟨S8192x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S1x1024, .f32⟩
  | 5 => ⟨S_, .f32⟩
  | 6 => ⟨S5x1024, .f32⟩
  | 7 => ⟨S8x1024, .f32⟩
  | 8 => ⟨S8192x1024, .bf16⟩
  | 9 => ⟨S8192x1024, .bf16⟩
  | 10 => ⟨S8192x2816, .bf16⟩
  | 11 => ⟨S8192x5632, .bf16⟩
  | 12 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_v61 : Ref sig .tc := ⟨.hbm, 89, rfl⟩
abbrev main_cst_10 : Ref sig .tc := ⟨.hbm, 90, rfl⟩
abbrev main_v62 : Ref sig .tc := ⟨.hbm, 91, rfl⟩
abbrev main_cst_11 : Ref sig .tc := ⟨.hbm, 92, rfl⟩
abbrev main_v63 : Ref sig .tc := ⟨.hbm, 93, rfl⟩
abbrev main_cst_12 : Ref sig .tc := ⟨.hbm, 94, rfl⟩
abbrev main_cst_13 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_15 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_17 : Ref sig .tc := ⟨.hbm, 116, rfl⟩
abbrev main_v81 : Ref sig .tc := ⟨.hbm, 117, rfl⟩
abbrev main_v82 : Ref sig .tc := ⟨.hbm, 118, rfl⟩
abbrev main_cst_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_20 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩

abbrev nD : Nat := 1
abbrev τ : Topo := Topo.v7x

variable {F : FTy → Type} [FloatOps F]
-- ==== Kernel3.lean ====
abbrev S8192x5632 : Shape := ⟨2, ![8192, 5632]⟩
abbrev S8192x1024 : Shape := ⟨2, ![8192, 1024]⟩
abbrev S4x1408x1024 : Shape := ⟨3, ![4, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S4x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩
abbrev S4x1408x1024 : Shape := ⟨3, ![4, 1408, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S_, .f32⟩
  | .hbm, ⟨3, _⟩ => ⟨S5632x1024, .f32⟩
  | .hbm, ⟨4, _⟩ => ⟨S8192x1024, .f32⟩
  | .hbm, ⟨5, _⟩ => ⟨S1024x5632, .f32⟩
  | .hbm, ⟨6, _⟩ => ⟨S8192x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | .hbm, ⟨12, _⟩ => ⟨S4x1408x1024, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2x1408x1024 : Shape := ⟨3, ![2, 1408, 1024]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x1408x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S2x1408x1024 : Shape := ⟨3, ![2, 1408, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | .hbm, ⟨10, _⟩ => ⟨S2x1408x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S1x1024x384 : Shape := ⟨3, ![1, 1024, 384]⟩
abbrev S8x1024x384 : Shape := ⟨3, ![8, 1024, 384]⟩
abbrev S1024x384 : Shape := ⟨2, ![1024, 384]⟩
abbrev S256x384 : Shape := ⟨2, ![256, 384]⟩
abbrev S8x256x384 : Shape := ⟨3, ![8, 256, 384]⟩
abbrev S1x256x384 : Shape := ⟨3, ![1, 256, 384]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S8x1024x384, .bf16⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S256x384, .f32⟩
  | .local _ .vmem, ⟨5, _⟩ => ⟨S256x384, .f32⟩
  | .local _ .vmem, ⟨6, _⟩ => ⟨S8x256x384, .bf16⟩
  | .local _ .vmem, ⟨7, _⟩ => ⟨S8x256x384, .bf16⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1x1024x384 : Shape := ⟨3, ![1, 1024, 384]⟩
abbrev S8x1024x384 : Shape := ⟨3, ![8, 1024, 384]⟩
abbrev S_ : Shape := ⟨0, ![]⟩
abbrev S1024x384 : Shape := ⟨2, ![1024, 384]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1x1024x384, .f32⟩
  | .hbm, ⟨2, _⟩ => ⟨S1x1024x384, .f32⟩
  | .hbm, ⟨3, _⟩ => ⟨S8x1024x384, .bf16⟩
  | .hbm, ⟨4, _⟩ => ⟨S8x1024x384, .f32⟩
  | .hbm, ⟨5, _⟩ => ⟨S_, .f32⟩
  | .hbm, ⟨6, _⟩ => ⟨S1024x384, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S_, .f32⟩
  | .hbm, ⟨14, _⟩ => ⟨S1024x384, .f32⟩
  | .hbm, ⟨15, _⟩ => ⟨S1024x384, .f32⟩
  | .hbm, ⟨16, _⟩ => ⟨S1024x384, .f32⟩
  | .hbm, ⟨17, _⟩ => ⟨S_, .f32⟩
  | .hbm, ⟨18, _⟩ => ⟨S1024x384, .f32⟩
  | .hbm, ⟨19, _⟩ => ⟨S1024x384, .f32⟩
  | .hbm, ⟨20, _⟩ => ⟨S1024x384, .f32⟩
  | .hbm, ⟨21, _⟩ => ⟨S_, .f32⟩
  | .hbm, ⟨22, _⟩ => ⟨S1024x384, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S_, .f32⟩
  | .hbm, ⟨29, _⟩ => ⟨S1024x384, .f32⟩
  | .hbm, ⟨30, _⟩ => ⟨S1024x384, .f32⟩
  | .hbm, ⟨31, _⟩ => ⟨S1024x384, .f32⟩
  | .hbm, ⟨32, _⟩ => ⟨S_, .f32⟩
  | .hbm, ⟨33, _⟩ => ⟨S1024x384, .f32⟩
  | .hbm, ⟨34, _⟩ => ⟨S1024x384, .f32⟩
  | .hbm, ⟨35, _⟩ => ⟨S1024x384, .f32⟩
  | .hbm, ⟨36, _⟩ => ⟨S_, .f32⟩
  | .hbm, ⟨37, _⟩ => ⟨S1024x384, .f32⟩
  | .hbm, ⟨38, _⟩ => ⟨S1024x384, .f32⟩
  | .hbm, ⟨39, _⟩ => ⟨S1024x384, .f32⟩
  | .hbm, ⟨40, _⟩ => ⟨S_, .f32⟩
  | .hbm, ⟨41, _⟩ => ⟨S1024x384, .f32⟩
  | .hbm, ⟨42, _⟩ => ⟨S1024x384, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel7.lean ====
abbrev S1x128x1024 : Shape := ⟨3, ![1, 128, 1024]⟩
abbrev S8x128x1024 : Shape := ⟨3, ![8, 128, 1024]⟩
abbrev S128x1024 : Shape := ⟨2, ![128, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S1x128x1024 : Shape := ⟨3, ![1, 128, 1024]⟩
abbrev S8x128x1024 : Shape := ⟨3, ![8, 128, 1024]⟩
abbrev S_ : Shape := ⟨0, ![]⟩
abbrev S128x1024 : Shape := ⟨2, ![128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel8.lean ====
abbrev S1x1024x704 : Shape := ⟨3, ![1, 1024, 704]⟩
abbrev S8x704x1024 : Shape := ⟨3, ![8, 704, 1024]⟩
abbrev S1024x704 : Shape := ⟨2, ![1024, 704]⟩
abbrev S704x1024 : Shape := ⟨2, ![704, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 14
  | .vmem => 16
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S8x704x1024, .bf16⟩
  | .hbm, ⟨4, _⟩ => ⟨S1024x704, .f32⟩
  | .hbm, ⟨5, _⟩ => ⟨S704x1024, .f32⟩
  | .hbm, ⟨6, _⟩ => ⟨S1024x704, .f32⟩
  | .hbm, ⟨7, _⟩ => ⟨S704x1024, .f32⟩
  | .hbm, ⟨8, _⟩ => ⟨S1024x704, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S1x1024x704 : Shape := ⟨3, ![1, 1024, 704]⟩
abbrev S8x704x1024 : Shape := ⟨3, ![8, 704, 1024]⟩
abbrev S_ : Shape := ⟨0, ![]⟩
abbrev S704x1024 : Shape := ⟨2, ![704, 1024]⟩
abbrev S1024x704 : Shape := ⟨2, ![1024, 704]⟩

abbrev nBuf : Space → Nat
  | .hbm => 48
  | .vmem => 0
  | .smem => 0
  | _ => 0

abbrev bufTy : (tb : Table) → Fin (tcTables nBuf tb) → BufTy
  | .hbm, ⟨0, _⟩ => ⟨S1x1024x704, .f32⟩
  | .hbm, ⟨1, _⟩ => ⟨S1x1024x704, .f32⟩
  | .hbm, ⟨2, _⟩ => ⟨S1x1024x704, .f32⟩
  | .hbm, ⟨3, _⟩ => ⟨S8x704x1024, .bf16⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1024x704, .f32⟩
  | .hbm, ⟨8, _⟩ => ⟨S704x1024, .f32⟩
  | .hbm, ⟨9, _⟩ => ⟨S1024x704, .f32⟩
  | .hbm, ⟨10, _⟩ => ⟨S1024x704, .f32⟩
  | .hbm, ⟨11, _⟩ => ⟨S1024x704, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | .hbm, ⟨45, _⟩ => ⟨S704x1024, .f32⟩
  | .hbm, ⟨46, _⟩ => ⟨S704x1024, .f32⟩
  | .hbm, ⟨47, _⟩ => ⟨S704x1024, .f32⟩
  | _, _ => ⟨S1x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel9.lean ====
abbrev S1x352x1024 : Shape := ⟨3, ![1, 352, 1024]⟩
abbrev S8x352x1024 : Shape := ⟨3, ![8, 352, 1024]⟩
abbrev S352x1024 : Shape := ⟨2, ![352, 1024]⟩
abbrev S176x1024 : Shape := ⟨2, ![176, 1024]⟩
abbrev S8x176x1024 : Shape := ⟨3, ![8, 176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S8x352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S8x176x1024, .bf16⟩
  | .local _ .vmem, ⟨7, _⟩ => ⟨S8x176x1024, .bf16⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S1x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S1x352x1024 : Shape := ⟨3, ![1, 352, 1024]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 43
  | .vmem => 0
  | .smem => 0
  | _ => 0

abbrev bufTy : (tb : Table) → Fin (tcTables nBuf tb) → BufTy
  | .hbm, ⟨0, _⟩ => ⟨S1x352x1024, .f32⟩
  | .hbm, ⟨1, _⟩ => ⟨S1x352x1024, .f32⟩
  | .hbm, ⟨2, _⟩ => ⟨S1x352x1024, .f32⟩
  | .hbm, ⟨3, _⟩ => ⟨S8x352x1024, .bf16⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | _, _ => ⟨S1x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel10.lean ====
abbrev S1x1024x768 : Shape := ⟨3, ![1, 1024, 768]⟩
abbrev S8x1024 : Shape := ⟨2, ![8, 1024]⟩
abbrev S8x768 : Shape := ⟨2, ![8, 768]⟩
abbrev S1024x768 : Shape := ⟨2, ![1024, 768]⟩
abbrev S256x768 : Shape := ⟨2, ![256, 768]⟩
abbrev S8x256 : Shape := ⟨2, ![8, 256]⟩

abbrev nBuf : Space → Nat
  | .hbm => 12
  | .vmem => 17
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S8x1024, .f32⟩
  | .hbm, ⟨4, _⟩ => ⟨S8x768, .f32⟩
  | .hbm, ⟨5, _⟩ => ⟨S1024x768, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S8x256, .f32⟩
  | .local _ .vmem, ⟨7, _⟩ => ⟨S8x256, .f32⟩
  | .local _ .vmem, ⟨8, _⟩ => ⟨S8x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference10Ideal.lean ====
abbrev S1x1024x768 : Shape := ⟨3, ![1, 1024, 768]⟩
abbrev S8x1024 : Shape := ⟨2, ![8, 1024]⟩
abbrev S8x768 : Shape := ⟨2, ![8, 768]⟩
abbrev S1024x768 : Shape := ⟨2, ![1024, 768]⟩
abbrev S768x1024 : Shape := ⟨2, ![768, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S8x1024, .f32⟩
  | .hbm, ⟨4, _⟩ => ⟨S8x768, .f32⟩
  | .hbm, ⟨5, _⟩ => ⟨S1024x768, .f32⟩
  | .hbm, ⟨6, _⟩ => ⟨S8x768, .f32⟩
  | .hbm, ⟨7, _⟩ => ⟨S768x1024, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S_, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S1024x768, .f32⟩
  | .hbm, ⟨23, _⟩ => ⟨S_, .f32⟩
  | .hbm, ⟨24, _⟩ => ⟨S1024x768, .f32⟩
  | .hbm, ⟨25, _⟩ => ⟨S1024x768, .f32⟩
  | .hbm, ⟨26, _⟩ => ⟨S1024x768, .f32⟩
  | .hbm, ⟨27, _⟩ => ⟨S_, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | .hbm, ⟨37, _⟩ => ⟨S1024x768, .f32⟩
  | .hbm, ⟨38, _⟩ => ⟨S_, .f32⟩
  | .hbm, ⟨39, _⟩ => ⟨S1024x768, .f32⟩
  | .hbm, ⟨40, _⟩ => ⟨S1024x768, .f32⟩
  | .hbm, ⟨41, _⟩ => ⟨S1024x768, .f32⟩
  | .hbm, ⟨42, _⟩ => ⟨S_, .f32⟩
  | .hbm, ⟨43, _⟩ => ⟨S1024x768, .f32⟩
  | .hbm, ⟨44, _⟩ => ⟨S1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel11.lean ====
abbrev S8x8x1024 : Shape := ⟨3, ![8, 8, 1024]⟩
abbrev S8x4x128x128 : Shape := ⟨4, ![8, 4, 128, 128]⟩
abbrev S8x128x4 : Shape := ⟨3, ![8, 128, 4]⟩
abbrev S8x1x512 : Shape := ⟨3, ![8, 1, 512]⟩
abbrev S8x2x512 : Shape := ⟨3, ![8, 2, 512]⟩
abbrev S8x1x128 : Shape := ⟨3, ![8, 1, 128]⟩
abbrev S1x6144 : Shape := ⟨2, ![1, 6144]⟩
abbrev S1x1024 : Shape := ⟨2, ![1, 1024]⟩
abbrev S1x4x128x128 : Shape := ⟨4, ![1, 4, 128, 128]⟩
abbrev S1x4x128 : Shape := ⟨3, ![1, 4, 128]⟩
abbrev S1x512 : Shape := ⟨2, ![1, 512]⟩
abbrev S2x512 : Shape := ⟨2, ![2, 512]⟩
abbrev S1x128 : Shape := ⟨2, ![1, 128]⟩
abbrev S1024 : Shape := ⟨1, ![1024]⟩
abbrev S4x128x128 : Shape := ⟨3, ![4, 128, 128]⟩
abbrev S4x128 : Shape := ⟨2, ![4, 128]⟩
abbrev S128x4 : Shape := ⟨2, ![128, 4]⟩
abbrev S8x128 : Shape := ⟨2, ![8, 128]⟩
abbrev S1x8x1024 : Shape := ⟨3, ![1, 8, 1024]⟩
abbrev S8x1024 : Shape := ⟨2, ![8, 1024]⟩
abbrev S1x128x4 : Shape := ⟨3, ![1, 128, 4]⟩
abbrev S1x1x512 : Shape := ⟨3, ![1, 1, 512]⟩
abbrev S1x2x512 : Shape := ⟨3, ![1, 2, 512]⟩
abbrev S1x1x128 : Shape := ⟨3, ![1, 1, 128]⟩

abbrev nBuf : Space → Nat
  | .hbm => 92
  | .vmem => 80
  | .smem => 0
  | _ => 0

abbrev bufTy : (tb : Table) → Fin (tcTables nBuf tb) → BufTy
  | .hbm, ⟨0, _⟩ => ⟨S8x8x1024, .f32⟩
  | .hbm, ⟨1, _⟩ => ⟨S8x8x1024, .f32⟩
  | .hbm, ⟨2, _⟩ => ⟨S8x8x1024, .f32⟩
  | .hbm, ⟨3, _⟩ => ⟨S8x4x128x128, .f32⟩
  | .hbm, ⟨4, _⟩ => ⟨S8x128x4, .f32⟩
  | .hbm, ⟨5, _⟩ => ⟨S8x1x512, .f32⟩
  | .hbm, ⟨6, _⟩ => ⟨S8x1x512, .f32⟩
  | .hbm, ⟨7, _⟩ => ⟨S8x2x512, .f32⟩
  | .hbm, ⟨8, _⟩ => ⟨S8x1x128, .f32⟩
  | .hbm, ⟨9, _⟩ => ⟨S1x6144, .f32⟩
  | .hbm, ⟨10, _⟩ => ⟨S1x6144, .f32⟩
  | .hbm, ⟨11, _⟩ => ⟨S1x6144, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x4x128x128, .f32⟩
  | .hbm, ⟨16, _⟩ => ⟨S1x4x128x128, .f32⟩
  | .hbm, ⟨17, _⟩ => ⟨S1x4x128x128, .f32⟩
  | .hbm, ⟨18, _⟩ => ⟨S1x4x128, .f32⟩
  | .hbm, ⟨19, _⟩ => ⟨S1x4x128, .f32⟩
  | .hbm, ⟨20, _⟩ => ⟨S1x4x128, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S4x128x128, .f32⟩
  | .hbm, ⟨40, _⟩ => ⟨S4x128x128, .f32⟩
  | .hbm, ⟨41, _⟩ => ⟨S4x128x128, .f32⟩
  | .hbm, ⟨42, _⟩ => ⟨S4x128, .f32⟩
  | .hbm, ⟨43, _⟩ => ⟨S128x4, .f32⟩
  | .hbm, ⟨44, _⟩ => ⟨S4x128, .f32⟩
  | .hbm, ⟨45, _⟩ => ⟨S128x4, .f32⟩
  | .hbm, ⟨46, _⟩ => ⟨S4x128, .f32⟩
  | .hbm, ⟨47, _⟩ => ⟨S128x4, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x6144, .f32⟩
  | .hbm, ⟨52, _⟩ => ⟨S1x6144, .f32⟩
  | .hbm, ⟨53, _⟩ => ⟨S1x6144, .f32⟩
  | .hbm, ⟨54, _⟩ => ⟨S1x6144, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S4x128x128, .f32⟩
  | .hbm, ⟨60, _⟩ => ⟨S4x128x128, .f32⟩
  | .hbm, ⟨61, _⟩ => ⟨S4x128x128, .f32⟩
  | .hbm, ⟨62, _⟩ => ⟨S4x128x128, .f32⟩
  | .hbm, ⟨63, _⟩ => ⟨S128x4, .f32⟩
  | .hbm, ⟨64, _⟩ => ⟨S128x4, .f32⟩
  | .hbm, ⟨65, _⟩ => ⟨S128x4, .f32⟩
  | .hbm, ⟨66, _⟩ => ⟨S128x4, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S2x512, .f32⟩
  | .hbm, ⟨76, _⟩ => ⟨S2x512, .f32⟩
  | .hbm, ⟨77, _⟩ => ⟨S2x512, .f32⟩
  | .hbm, ⟨78, _⟩ => ⟨S2x512, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S8x128, .f32⟩
  | .local _ .vmem, ⟨0, _⟩ => ⟨S8x8x1024, .f32⟩
  | .local _ .vmem, ⟨1, _⟩ => ⟨S8x8x1024, .f32⟩
  | .local _ .vmem, ⟨2, _⟩ => ⟨S8x8x1024, .f32⟩
  | .local _ .vmem, ⟨3, _⟩ => ⟨S8x4x128x128, .f32⟩
  | .local _ .vmem, ⟨4, _⟩ => ⟨S8x128x4, .f32⟩
  | .local _ .vmem, ⟨5, _⟩ => ⟨S8x1x512, .f32⟩
  | .local _ .vmem, ⟨6, _⟩ => ⟨S8x1x512, .f32⟩
  | .local _ .vmem, ⟨7, _⟩ => ⟨S8x2x512, .f32⟩
  | .local _ .vmem, ⟨8, _⟩ => ⟨S8x1x128, .f32⟩
  | .local _ .vmem, ⟨9, _⟩ => ⟨S1x6144, .f32⟩
  | .local _ .vmem, ⟨10, _⟩ => ⟨S1x6144, .f32⟩
  | .local _ .vmem, ⟨11, _⟩ => ⟨S1x6144, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S4x128x128, .f32⟩
  | .local _ .vmem, ⟨16, _⟩ => ⟨S4x128x128, .f32⟩
  | .local _ .vmem, ⟨17, _⟩ => ⟨S4x128x128, .f32⟩
  | .local _ .vmem, ⟨18, _⟩ => ⟨S128x4, .f32⟩
  | .local _ .vmem, ⟨19, _⟩ => ⟨S128x4, .f32⟩
  | .local _ .vmem, ⟨20, _⟩ => ⟨S128x4, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S2x512, .f32⟩
  | .local _ .vmem, ⟨28, _⟩ => ⟨S2x512, .f32⟩
  | .local _ .vmem, ⟨29, _⟩ => ⟨S2x512, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x6144, .f32⟩
  | .local _ .vmem, ⟨40, _⟩ => ⟨S1x6144, .f32⟩
  | .local _ .vmem, ⟨41, _⟩ => ⟨S1x6144, .f32⟩
  | .local _ .vmem, ⟨42, _⟩ => ⟨S1x6144, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S4x128x128, .f32⟩
  | .local _ .vmem, ⟨48, _⟩ => ⟨S4x128x128, .f32⟩
  | .local _ .vmem, ⟨49, _⟩ => ⟨S4x128x128, .f32⟩
  | .local _ .vmem, ⟨50, _⟩ => ⟨S4x128x128, .f32⟩
  | .local _ .vmem, ⟨51, _⟩ => ⟨S128x4, .f32⟩
  | .local _ .vmem, ⟨52, _⟩ => ⟨S128x4, .f32⟩
  | .local _ .vmem, ⟨53, _⟩ => ⟨S128x4, .f32⟩
  | .local _ .vmem, ⟨54, _⟩ => ⟨S128x4, .f32⟩
  | .local _ .vmem, ⟨55, _⟩ => ⟨S1x512, .f32⟩
  | .local _ .vmem, ⟨56, _⟩ => ⟨S1x512, .f32⟩
  | .local _ .vmem, ⟨57, _⟩ => ⟨S1x512, .f32⟩
  | .local _ .vmem, ⟨58, _⟩ => ⟨S1x512, .f32⟩
  | .local _ .vmem, ⟨59, _⟩ => ⟨S1x512, .f32⟩
  | .local _ .vmem, ⟨60, _⟩ => ⟨S1x512, .f32⟩
  | .local _ .vmem, ⟨61, _⟩ => ⟨S1x512, .f32⟩
  | .local _ .vmem, ⟨62, _⟩ => ⟨S1x512, .f32⟩
  | .local _ .vmem, ⟨63, _⟩ => ⟨S2x512, .f32⟩
  | .local _ .vmem, ⟨64, _⟩ => ⟨S2x512, .f32⟩
  | .local _ .vmem, ⟨65, _⟩ => ⟨S2x512, .f32⟩
  | .local _ .vmem, ⟨66, _⟩ => ⟨S2x512, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S1x128, .f32⟩
  | .local _ .vmem, ⟨71, _⟩ => ⟨S1x1024, .f32⟩
  | .local _ .vmem, ⟨72, _⟩ => ⟨S1x1024, .f32⟩
  | .local _ .vmem, ⟨73, _⟩ => ⟨S1x1024, .f32⟩
  | .local _ .vmem, ⟨74, _⟩ => ⟨S1x1024, .f32⟩
  | .local _ .vmem, ⟨75, _⟩ => ⟨S1x1024, .f32⟩
  | .local _ .vmem, ⟨76, _⟩ => ⟨S1x1024, .f32⟩
  | .local _ .vmem, ⟨77, _⟩ => ⟨S1x1024, .f32⟩
  | .local _ .vmem, ⟨78, _⟩ => ⟨S1x1024, .f32⟩
  | .local _ .vmem, ⟨79, _⟩ => ⟨S8x128, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12_0 : Ref sig .tc := ⟨.hbm, 51, rfl⟩
abbrev main_v12_1 : Ref sig .tc := ⟨.hbm, 52, rfl⟩
abbrev main_v12_2 : Ref sig .tc := ⟨.hbm, 53, rfl⟩
abbrev main_v12_3 : Ref sig .tc := ⟨.hbm, 54, rfl⟩
abbrev main_v12_4 : Ref sig .tc := ⟨.hbm, 55, rfl⟩
abbrev main_v12_5 : Ref sig .tc := ⟨.hbm, 56, rfl⟩
abbrev main_v12_6 : Ref sig .tc := ⟨.hbm, 57, rfl⟩
abbrev main_v12_7 : Ref sig .tc := ⟨.hbm, 58, rfl⟩
abbrev main_v12_8 : Ref sig .tc := ⟨.hbm, 59, rfl⟩
abbrev main_v12_9 : Ref sig .tc := ⟨.hbm, 60, rfl⟩
abbrev main_v12_10 : Ref sig .tc := ⟨.hbm, 61, rfl⟩
abbrev main_v12_11 : Ref sig .tc := ⟨.hbm, 62, rfl⟩
abbrev main_v12_12 : Ref sig .tc := ⟨.hbm, 63, rfl⟩
abbrev main_v12_13 : Ref sig .tc := ⟨.hbm, 64, rfl⟩
abbrev main_v12_14 : Ref sig .tc := ⟨.hbm, 65, rfl⟩
abbrev main_v12_15 : Ref sig .tc := ⟨.hbm, 66, rfl⟩
abbrev main_v12_16 : Ref sig .tc := ⟨.hbm, 67, rfl⟩
abbrev main_v12_17 : Ref sig .tc := ⟨.hbm, 68, rfl⟩
abbrev main_v12_18 : Ref sig .tc := ⟨.hbm, 69, rfl⟩
abbrev main_v12_19 : Ref sig .tc := ⟨.hbm, 70, rfl⟩
abbrev main_v12_20 : Ref sig .tc := ⟨.hbm, 71, rfl⟩
abbrev main_v12_21 : Ref sig .tc := ⟨.hbm, 72, rfl⟩
abbrev main_v12_22 : Ref sig .tc := ⟨.hbm, 73, rfl⟩
abbrev main_v12_23 : Ref sig .tc := ⟨.hbm, 74, rfl⟩
abbrev main_v12_24 : Ref sig .tc := ⟨.hbm, 75, rfl⟩
abbrev main_v12_25 : Ref sig .tc := ⟨.hbm, 76, rfl⟩
abbrev main_v12_26 : Ref sig .tc := ⟨.hbm, 77, rfl⟩
abbrev main_v12_27 : Ref sig .tc := ⟨.hbm, 78, rfl⟩
abbrev main_v12_28 : Ref sig .tc := ⟨.hbm, 79, rfl⟩
abbrev main_v12_29 : Ref sig .tc := ⟨.hbm, 80, rfl⟩
abbrev main_v12_30 : Ref sig .tc := ⟨.hbm, 81, rfl⟩
abbrev main_v12_31 : Ref sig .tc := ⟨.hbm, 82, rfl⟩
abbrev main_v12_32 : Ref sig .tc := ⟨.hbm, 83, rfl⟩
abbrev main_v12_33 : Ref sig .tc := ⟨.hbm, 84, rfl⟩
abbrev main_v12_34 : Ref sig .tc := ⟨.hbm, 85, rfl⟩
abbrev main_v12_35 : Ref sig .tc := ⟨.hbm, 86, rfl⟩
abbrev main_v12_36 : Ref sig .tc := ⟨.hbm, 87, rfl⟩
abbrev main_v12_37 : Ref sig .tc := ⟨.hbm, 88, rfl⟩
abbrev main_v12_38 : Ref sig .tc := ⟨.hbm, 89, rfl⟩
abbrev main_v12_39 : Ref sig .tc := ⟨.hbm, 90, rfl⟩
abbrev main_v12_40 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79

abbrev nD : Nat := 1
abbrev τ : Topo := Topo.v7x

variable {F : FTy → Type} [FloatOps F]

abbrev grid0 : Pipeline.Grid := .none

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x6144 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x6144 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S4x128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S2x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x6144 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x6144 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x6144 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x6144 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S4x128x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S4x128x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S4x128x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S4x128x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S128x4 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S128x4 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S128x4 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S128x4 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x512 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x512 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x512 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x512 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x512 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x512 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x512 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S2x512 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S2x512 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S2x512 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S2x512 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x128 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x128 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x128 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x128 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x1024 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S8x128 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))
-- ==== Reference11Ideal.lean ====
abbrev S8x8x1024 : Shape := ⟨3, ![8, 8, 1024]⟩
abbrev S8x4x128x128 : Shape := ⟨4, ![8, 4, 128, 128]⟩
abbrev S8x128x4 : Shape := ⟨3, ![8, 128, 4]⟩
abbrev S8x1x512 : Shape := ⟨3, ![8, 1, 512]⟩
abbrev S8x2x512 : Shape := ⟨3, ![8, 2, 512]⟩
abbrev S8x1x128 : Shape := ⟨3, ![8, 1, 128]⟩
abbrev S1x6144 : Shape := ⟨2, ![1, 6144]⟩
abbrev S1x1024 : Shape := ⟨2, ![1, 1024]⟩
abbrev S1x4x128x128 : Shape := ⟨4, ![1, 4, 128, 128]⟩
abbrev S1x4x128 : Shape := ⟨3, ![1, 4, 128]⟩
abbrev S1x512 : Shape := ⟨2, ![1, 512]⟩
abbrev S2x512 : Shape := ⟨2, ![2, 512]⟩
abbrev S1x128 : Shape := ⟨2, ![1, 128]⟩
abbrev S1024 : Shape := ⟨1, ![1024]⟩
abbrev S_ : Shape := ⟨0, ![]⟩
abbrev S8x1024 : Shape := ⟨2, ![8, 1024]⟩
abbrev S4x128x128 : Shape := ⟨3, ![4, 128, 128]⟩
abbrev S128x4 : Shape := ⟨2, ![128, 4]⟩
abbrev S4x128 : Shape := ⟨2, ![4, 128]⟩
abbrev S8x128 : Shape := ⟨2, ![8, 128]⟩

abbrev nBuf : Space → Nat
  | .hbm => 411
  | .vmem => 0
  | .smem => 0
  | _ => 0

abbrev hbmTy0_0 (i : Nat) : BufTy := match i % 128 with
  | 0 => ⟨S8x8x1024, .f32⟩
  | 1 => ⟨S8x8x1024, .f32⟩
  | 2 => ⟨S8x8x1024, .f32⟩
  | 3 => ⟨S8x4x128x128, .f32⟩
  | 4 => ⟨S8x128x4, .f32⟩
  | 5 => ⟨S8x1x512, .f32⟩
  | 6 => ⟨S8x1x512, .f32⟩
  | 7 => ⟨S8x2x512, .f32⟩
  | 8 => ⟨S8x1x128, .f32⟩
  | 9 => ⟨S1x6144, .f32⟩
  | 10 => ⟨S1x6144, .f32⟩
  | 11 => ⟨S1x6144, .f32⟩
  | 12 => ⟨S1x1024, .f32⟩
  | 13 => ⟨S1x1024, .f32⟩
  | 14 => ⟨S1x1024, .f32⟩
  | 15 => ⟨S1x4x128x128, .f32⟩
  | 16 => ⟨S1x4x128x128, .f32⟩
  | 17 => ⟨S1x4x128x128, .f32⟩
  | 18 => ⟨S1x4x128, .f32⟩
  | 19 => ⟨S1x4x128, .f32⟩
  | 20 => ⟨S1x4x128, .f32⟩
  | 21 => ⟨S1x512, .f32⟩
  | 22 => ⟨S1x512, .f32⟩
  | 23 => ⟨S1x512, .f32⟩
  | 24 => ⟨S1x512, .f32⟩
  | 25 => ⟨S1x512, .f32⟩
  | 26 => ⟨S1x512, .f32⟩
  | 27 => ⟨S2x512, .f32⟩
  | 28 => ⟨S2x512, .f32⟩
  | 29 => ⟨S2x512, .f32⟩
  | 30 => ⟨S1x128, .f32⟩
  | 31 => ⟨S1x128, .f32⟩
  | 32 => ⟨S1x128, .f32⟩
  | 33 => ⟨S1x1024, .f32⟩
  | 34 => ⟨S1x1024, .f32⟩
  | 35 => ⟨S1x1024, .f32⟩
  | 36 => ⟨S1024, .f32⟩
  | 37 => ⟨S1024, .f32⟩
  | 38 => ⟨S1024, .f32⟩
  | 39 => ⟨S_, .f32⟩
  | 40 => ⟨S8x1024, .f32⟩
  | 41 => ⟨S_, .f32⟩
  | 42 => ⟨S8x1024, .f32⟩
  | 43 => ⟨S_, .f32⟩
  | 44 => ⟨S8x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x6144, .f32⟩
  | 52 => ⟨S_, .f32⟩
  | 53 => ⟨S1x6144, .f32⟩
  | 54 => ⟨S1x6144, .f32⟩
  | 55 => ⟨S_, .f32⟩
  | 56 => ⟨S1x6144, .f32⟩
  | 57 => ⟨S1x6144, .f32⟩
  | 58 => ⟨S1x6144, .f32⟩
  | 59 => ⟨S_, .f32⟩
  | 60 => ⟨S1x6144, .f32⟩
  | 61 => ⟨S1x6144, .f32⟩
  | 62 => ⟨S1x6144, .f32⟩
  | 63 => ⟨S_, .f32⟩
  | 64 => ⟨S1x6144, .f32⟩
  | 65 => ⟨S1x6144, .f32⟩
  | 66 => ⟨S1x6144, .f32⟩
  | 67 => ⟨S_, .f32⟩
  | 68 => ⟨S1x6144, .f32⟩
  | 69 => ⟨S1x6144, .f32⟩
  | 70 => ⟨S_, .f32⟩
  | 71 => ⟨S1x6144, .f32⟩
  | 72 => ⟨S1x6144, .f32⟩
  | 73 => ⟨S1x6144, .f32⟩
  | 74 => ⟨S_, .f32⟩
  | 75 => ⟨S1x6144, .f32⟩
  | 76 => ⟨S1x6144, .f32⟩
  | 77 => ⟨S1x6144, .f32⟩
  | 78 => ⟨S_, .f32⟩
  | 79 => ⟨S1x6144, .f32⟩
  | 80 => ⟨S1x6144, .f32⟩
  | 81 => ⟨S1x6144, .f32⟩
  | 82 => ⟨S_, .f32⟩
  | 83 => ⟨S1x6144, .f32⟩
  | 84 => ⟨S1x6144, .f32⟩
  | 85 => ⟨S1x1024, .f32⟩
  | 86 => ⟨S_, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S_, .f32⟩
  | 98 => ⟨S1x1024, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S_, .f32⟩
  | 120 => ⟨S4x128x128, .f32⟩
  | 121 => ⟨S4x128x128, .f32⟩
  | 122 => ⟨S4x128x128, .f32⟩
  | 123 => ⟨S4x128x128, .f32⟩
  | 124 => ⟨S_, .f32⟩
  | 125 => ⟨S4x128x128, .f32⟩
  | 126 => ⟨S4x128x128, .f32⟩
  | 127 => ⟨S_, .f32⟩
  | _ => ⟨S8x8x1024, .f32⟩

abbrev hbmTy0_1 (i : Nat) : BufTy := match i % 128 with
  | 0 => ⟨S4x128x128, .f32⟩
  | 1 => ⟨S4x128x128, .f32⟩
  | 2 => ⟨S4x128x128, .f32⟩
  | 3 => ⟨S_, .f32⟩
  | 4 => ⟨S4x128x128, .f32⟩
  | 5 => ⟨S4x128x128, .f32⟩
  | 6 => ⟨S4x128x128, .f32⟩
  | 7 => ⟨S_, .f32⟩
  | 8 => ⟨S4x128x128, .f32⟩
  | 9 => ⟨S4x128x128, .f32⟩
  | 10 => ⟨S4x128x128, .f32⟩
  | 11 => ⟨S_, .f32⟩
  | 12 => ⟨S4x128x128, .f32⟩
  | 13 => ⟨S4x128x128, .f32⟩
  | 14 => ⟨S_, .f32⟩
  | 15 => ⟨S4x128x128, .f32⟩
  | 16 => ⟨S4x128x128, .f32⟩
  | 17 => ⟨S4x128x128, .f32⟩
  | 18 => ⟨S_, .f32⟩
  | 19 => ⟨S4x128x128, .f32⟩
  | 20 => ⟨S4x128x128, .f32⟩
  | 21 => ⟨S4x128x128, .f32⟩
  | 22 => ⟨S_, .f32⟩
  | 23 => ⟨S4x128x128, .f32⟩
  | 24 => ⟨S4x128x128, .f32⟩
  | 25 => ⟨S4x128x128, .f32⟩
  | 26 => ⟨S_, .f32⟩
  | 27 => ⟨S4x128x128, .f32⟩
  | 28 => ⟨S4x128x128, .f32⟩
  | 29 => ⟨S_, .f32⟩
  | 30 => ⟨S128x4, .f32⟩
  | 31 => ⟨S4x128, .f32⟩
  | 32 => ⟨S128x4, .f32⟩
  | 33 => ⟨S4x128, .f32⟩
  | 34 => ⟨S128x4, .f32⟩
  | 35 => ⟨S4x128, .f32⟩
  | 36 => ⟨S128x4, .f32⟩
  | 37 => ⟨S_, .f32⟩
  | 38 => ⟨S128x4, .f32⟩
  | 39 => ⟨S128x4, .f32⟩
  | 40 => ⟨S_, .f32⟩
  | 41 => ⟨S128x4, .f32⟩
  | 42 => ⟨S128x4, .f32⟩
  | 43 => ⟨S128x4, .f32⟩
  | 44 => ⟨S_, .f32⟩
  | 45 => ⟨S128x4, .f32⟩
  | 46 => ⟨S128x4, .f32⟩
  | 47 => ⟨S128x4, .f32⟩
  | 48 => ⟨S_, .f32⟩
  | 49 => ⟨S128x4, .f32⟩
  | 50 => ⟨S128x4, .f32⟩
  | 51 => ⟨S128x4, .f32⟩
  | 52 => ⟨S_, .f32⟩
  | 53 => ⟨S128x4, .f32⟩
  | 54 => ⟨S128x4, .f32⟩
  | 55 => ⟨S_, .f32⟩
  | 56 => ⟨S128x4, .f32⟩
  | 57 => ⟨S128x4, .f32⟩
  | 58 => ⟨S128x4, .f32⟩
  | 59 => ⟨S_, .f32⟩
  | 60 => ⟨S128x4, .f32⟩
  | 61 => ⟨S128x4, .f32⟩
  | 62 => ⟨S128x4, .f32⟩
  | 63 => ⟨S_, .f32⟩
  | 64 => ⟨S128x4, .f32⟩
  | 65 => ⟨S128x4, .f32⟩
  | 66 => ⟨S128x4, .f32⟩
  | 67 => ⟨S_, .f32⟩
  | 68 => ⟨S128x4, .f32⟩
  | 69 => ⟨S128x4, .f32⟩
  | 70 => ⟨S_, .f32⟩
  | 71 => ⟨S1x512, .f32⟩
  | 72 => ⟨S_, .f32⟩
  | 73 => ⟨S1x512, .f32⟩
  | 74 => ⟨S1x512, .f32⟩
  | 75 => ⟨S_, .f32⟩
  | 76 => ⟨S1x512, .f32⟩
  | 77 => ⟨S1x512, .f32⟩
  | 78 => ⟨S1x512, .f32⟩
  | 79 => ⟨S_, .f32⟩
  | 80 => ⟨S1x512, .f32⟩
  | 81 => ⟨S1x512, .f32⟩
  | 82 => ⟨S1x512, .f32⟩
  | 83 => ⟨S_, .f32⟩
  | 84 => ⟨S1x512, .f32⟩
  | 85 => ⟨S1x512, .f32⟩
  | 86 => ⟨S1x512, .f32⟩
  | 87 => ⟨S_, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S_, .f32⟩
  | 106 => ⟨S1x512, .f32⟩
  | 107 => ⟨S_, .f32⟩
  | 108 => ⟨S1x512, .f32⟩
  | 109 => ⟨S1x512, .f32⟩
  | 110 => ⟨S_, .f32⟩
  | 111 => ⟨S1x512, .f32⟩
  | 112 => ⟨S1x512, .f32⟩
  | 113 => ⟨S1x512, .f32⟩
  | 114 => ⟨S_, .f32⟩
  | 115 => ⟨S1x512, .f32⟩
  | 116 => ⟨S1x512, .f32⟩
  | 117 => ⟨S1x512, .f32⟩
  | 118 => ⟨S_, .f32⟩
  | 119 => ⟨S1x512, .f32⟩
  | 120 => ⟨S1x512, .f32⟩
  | 121 => ⟨S1x512, .f32⟩
  | 122 => ⟨S_, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S8x8x1024, .f32⟩

abbrev hbmTy0_2 (i : Nat) : BufTy := match i % 128 with
  | 0 => ⟨S1x512, .f32⟩
  | 1 => ⟨S_, .f32⟩
  | 2 => ⟨S1x512, .f32⟩
  | 3 => ⟨S1x512, .f32⟩
  | 4 => ⟨S1x512, .f32⟩
  | 5 => ⟨S_, .f32⟩
  | 6 => ⟨S1x512, .f32⟩
  | 7 => ⟨S1x512, .f32⟩
  | 8 => ⟨S1x512, .f32⟩
  | 9 => ⟨S_, .f32⟩
  | 10 => ⟨S1x512, .f32⟩
  | 11 => ⟨S1x512, .f32⟩
  | 12 => ⟨S_, .f32⟩
  | 13 => ⟨S2x512, .f32⟩
  | 14 => ⟨S_, .f32⟩
  | 15 => ⟨S2x512, .f32⟩
  | 16 => ⟨S2x512, .f32⟩
  | 17 => ⟨S_, .f32⟩
  | 18 => ⟨S2x512, .f32⟩
  | 19 => ⟨S2x512, .f32⟩
  | 20 => ⟨S2x512, .f32⟩
  | 21 => ⟨S_, .f32⟩
  | 22 => ⟨S2x512, .f32⟩
  | 23 => ⟨S2x512, .f32⟩
  | 24 => ⟨S2x512, .f32⟩
  | 25 => ⟨S_, .f32⟩
  | 26 => ⟨S2x512, .f32⟩
  | 27 => ⟨S2x512, .f32⟩
  | 28 => ⟨S2x512, .f32⟩
  | 29 => ⟨S_, .f32⟩
  | 30 => ⟨S2x512, .f32⟩
  | 31 => ⟨S2x512, .f32⟩
  | 32 => ⟨S_, .f32⟩
  | 33 => ⟨S2x512, .f32⟩
  | 34 => ⟨S2x512, .f32⟩
  | 35 => ⟨S2x512, .f32⟩
  | 36 => ⟨S_, .f32⟩
  | 37 => ⟨S2x512, .f32⟩
  | 38 => ⟨S2x512, .f32⟩
  | 39 => ⟨S2x512, .f32⟩
  | 40 => ⟨S_, .f32⟩
  | 41 => ⟨S2x512, .f32⟩
  | 42 => ⟨S2x512, .f32⟩
  | 43 => ⟨S2x512, .f32⟩
  | 44 => ⟨S_, .f32⟩
  | 45 => ⟨S2x512, .f32⟩
  | 46 => ⟨S2x512, .f32⟩
  | 47 => ⟨S_, .f32⟩
  | 48 => ⟨S1x128, .f32⟩
  | 49 => ⟨S_, .f32⟩
  | 50 => ⟨S1x128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S_, .f32⟩
  | 61 => ⟨S1x128, .f32⟩
  | 62 => ⟨S1x128, .f32⟩
  | 63 => ⟨S1x128, .f32⟩
  | 64 => ⟨S_, .f32⟩
  | 65 => ⟨S1x128, .f32⟩
  | 66 => ⟨S1x128, .f32⟩
  | 67 => ⟨S_, .f32⟩
  | 68 => ⟨S1x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S1x1024, .f32⟩
  | 83 => ⟨S_, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S_, .f32⟩
  | 102 => ⟨S1x1024, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S1x1024, .f32⟩
  | 109 => ⟨S_, .f32⟩
  | 110 => ⟨S1x1024, .f32⟩
  | 111 => ⟨S1x1024, .f32⟩
  | 112 => ⟨S1x1024, .f32⟩
  | 113 => ⟨S_, .f32⟩
  | 114 => ⟨S1x1024, .f32⟩
  | 115 => ⟨S1x1024, .f32⟩
  | 116 => ⟨S1x1024, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x8x1024, .f32⟩

abbrev hbmTy0_3 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x128, .f32⟩
  | 26 => ⟨S8x128, .f32⟩
  | _ => ⟨S8x8x1024, .f32⟩

abbrev hbmTy (i : Nat) : BufTy := match i / 128 with
  | 0 => hbmTy0_0 i
  | 1 => hbmTy0_1 i
  | 2 => hbmTy0_2 i
  | 3 => hbmTy0_3 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_cst : Ref sig .tc := ⟨.hbm, 39, rfl⟩
abbrev main_v0 : Ref sig .tc := ⟨.hbm, 40, rfl⟩
abbrev main_cst_0 : Ref sig .tc := ⟨.hbm, 41, rfl⟩
abbrev main_v1 : Ref sig .tc := ⟨.hbm, 42, rfl⟩
abbrev main_cst_1 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_2 : Ref sig .tc := ⟨.hbm, 52, rfl⟩
abbrev main_v10 : Ref sig .tc := ⟨.hbm, 53, rfl⟩
abbrev main_v11 : Ref sig .tc := ⟨.hbm, 54, rfl⟩
abbrev main_cst_3 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_cst_4 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_cst_5 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_6 : Ref sig .tc := ⟨.hbm, 67, rfl⟩
abbrev main_v21 : Ref sig .tc := ⟨.hbm, 68, rfl⟩
abbrev main_v22 : Ref sig .tc := ⟨.hbm, 69, rfl⟩
abbrev main_cst_7 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_cst_8 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_cst_9 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_cst_10 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_11 : Ref sig .tc := ⟨.hbm, 86, rfl⟩
abbrev main_v35 : Ref sig .tc := ⟨.hbm, 87, rfl⟩
abbrev main_v36 : Ref sig .tc := ⟨.hbm, 88, rfl⟩
abbrev main_cst_12 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_cst_13 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev main_cst_14 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_cst_15 : Ref sig .tc := ⟨.hbm, 101, rfl⟩
abbrev main_v46 : Ref sig .tc := ⟨.hbm, 102, rfl⟩
abbrev main_v47 : Ref sig .tc := ⟨.hbm, 103, rfl⟩
abbrev main_cst_16 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_cst_17 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_cst_18 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_cst_19 : Ref sig .tc := ⟨.hbm, 116, rfl⟩
abbrev main_v57 : Ref sig .tc := ⟨.hbm, 117, rfl⟩
abbrev main_v58 : Ref sig .tc := ⟨.hbm, 118, rfl⟩
abbrev main_cst_20 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_cst_21 : Ref sig .tc := ⟨.hbm, 124, rfl⟩
abbrev main_v63 : Ref sig .tc := ⟨.hbm, 125, rfl⟩
abbrev main_v64 : Ref sig .tc := ⟨.hbm, 126, rfl⟩
abbrev main_cst_22 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_cst_23 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_cst_24 : Ref sig .tc := ⟨.hbm, 135, rfl⟩
abbrev main_v71 : Ref sig .tc := ⟨.hbm, 136, rfl⟩
abbrev main_v72 : Ref sig .tc := ⟨.hbm, 137, rfl⟩
abbrev main_v73 : Ref sig .tc := ⟨.hbm, 138, rfl⟩
abbrev main_cst_25 : Ref sig .tc := ⟨.hbm, 139, rfl⟩
abbrev main_v74 : Ref sig .tc := ⟨.hbm, 140, rfl⟩
abbrev main_v75 : Ref sig .tc := ⟨.hbm, 141, rfl⟩
abbrev main_cst_26 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_27 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_cst_28 : Ref sig .tc := ⟨.hbm, 150, rfl⟩
abbrev main_v82 : Ref sig .tc := ⟨.hbm, 151, rfl⟩
abbrev main_v83 : Ref sig .tc := ⟨.hbm, 152, rfl⟩
abbrev main_v84 : Ref sig .tc := ⟨.hbm, 153, rfl⟩
abbrev main_cst_29 : Ref sig .tc := ⟨.hbm, 154, rfl⟩
abbrev main_v85 : Ref sig .tc := ⟨.hbm, 155, rfl⟩
abbrev main_v86 : Ref sig .tc := ⟨.hbm, 156, rfl⟩
abbrev main_cst_30 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_31 : Ref sig .tc := ⟨.hbm, 165, rfl⟩
abbrev main_v94 : Ref sig .tc := ⟨.hbm, 166, rfl⟩
abbrev main_v95 : Ref sig .tc := ⟨.hbm, 167, rfl⟩
abbrev main_cst_32 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_cst_33 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_cst_34 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_cst_35 : Ref sig .tc := ⟨.hbm, 180, rfl⟩
abbrev main_v105 : Ref sig .tc := ⟨.hbm, 181, rfl⟩
abbrev main_v106 : Ref sig .tc := ⟨.hbm, 182, rfl⟩
abbrev main_cst_36 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_cst_37 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_cst_38 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_cst_39 : Ref sig .tc := ⟨.hbm, 195, rfl⟩
abbrev main_v116 : Ref sig .tc := ⟨.hbm, 196, rfl⟩
abbrev main_v117 : Ref sig .tc := ⟨.hbm, 197, rfl⟩
abbrev main_cst_40 : Ref sig .tc := ⟨.hbm, 198, rfl⟩
abbrev main_v118 : Ref sig .tc := ⟨.hbm, 199, rfl⟩
abbrev main_cst_41 : Ref sig .tc := ⟨.hbm, 200, rfl⟩
abbrev main_v119 : Ref sig .tc := ⟨.hbm, 201, rfl⟩
abbrev main_v120 : Ref sig .tc := ⟨.hbm, 202, rfl⟩
abbrev main_cst_42 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_cst_43 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_cst_44 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_cst_45 : Ref sig .tc := ⟨.hbm, 215, rfl⟩
abbrev main_v130 : Ref sig .tc := ⟨.hbm, 216, rfl⟩
abbrev main_v131 : Ref sig .tc := ⟨.hbm, 217, rfl⟩
abbrev main_cst_46 : Ref sig .tc := ⟨.hbm, 218, rfl⟩
abbrev main_v132 : Ref sig .tc := ⟨.hbm, 219, rfl⟩
abbrev main_v133 : Ref sig .tc := ⟨.hbm, 220, rfl⟩
abbrev main_v134 : Ref sig .tc := ⟨.hbm, 221, rfl⟩
abbrev main_cst_47 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_cst_48 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_cst_49 : Ref sig .tc := ⟨.hbm, 230, rfl⟩
abbrev main_v141 : Ref sig .tc := ⟨.hbm, 231, rfl⟩
abbrev main_v142 : Ref sig .tc := ⟨.hbm, 232, rfl⟩
abbrev main_cst_50 : Ref sig .tc := ⟨.hbm, 233, rfl⟩
abbrev main_v143 : Ref sig .tc := ⟨.hbm, 234, rfl⟩
abbrev main_cst_51 : Ref sig .tc := ⟨.hbm, 235, rfl⟩
abbrev main_v144 : Ref sig .tc := ⟨.hbm, 236, rfl⟩
abbrev main_v145 : Ref sig .tc := ⟨.hbm, 237, rfl⟩
abbrev main_cst_52 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_cst_53 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_cst_54 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_cst_55 : Ref sig .tc := ⟨.hbm, 250, rfl⟩
abbrev main_v155 : Ref sig .tc := ⟨.hbm, 251, rfl⟩
abbrev main_v156 : Ref sig .tc := ⟨.hbm, 252, rfl⟩
abbrev main_cst_56 : Ref sig .tc := ⟨.hbm, 253, rfl⟩
abbrev main_v157 : Ref sig .tc := ⟨.hbm, 254, rfl⟩
abbrev main_v158 : Ref sig .tc := ⟨.hbm, 255, rfl⟩
abbrev main_v159 : Ref sig .tc := ⟨.hbm, 256, rfl⟩
abbrev main_cst_57 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_cst_58 : Ref sig .tc := ⟨.hbm, 261, rfl⟩
abbrev main_v163 : Ref sig .tc := ⟨.hbm, 262, rfl⟩
abbrev main_v164 : Ref sig .tc := ⟨.hbm, 263, rfl⟩
abbrev main_v165 : Ref sig .tc := ⟨.hbm, 264, rfl⟩
abbrev main_cst_59 : Ref sig .tc := ⟨.hbm, 265, rfl⟩
abbrev main_v166 : Ref sig .tc := ⟨.hbm, 266, rfl⟩
abbrev main_v167 : Ref sig .tc := ⟨.hbm, 267, rfl⟩
abbrev main_cst_60 : Ref sig .tc := ⟨.hbm, 268, rfl⟩
abbrev main_v168 : Ref sig .tc := ⟨.hbm, 269, rfl⟩
abbrev main_cst_61 : Ref sig .tc := ⟨.hbm, 270, rfl⟩
abbrev main_v169 : Ref sig .tc := ⟨.hbm, 271, rfl⟩
abbrev main_v170 : Ref sig .tc := ⟨.hbm, 272, rfl⟩
abbrev main_cst_62 : Ref sig .tc := ⟨.hbm, 273, rfl⟩
abbrev main_v171 : Ref sig .tc := ⟨.hbm, 274, rfl⟩
abbrev main_v172 : Ref sig .tc := ⟨.hbm, 275, rfl⟩
abbrev main_v173 : Ref sig .tc := ⟨.hbm, 276, rfl⟩
abbrev main_cst_63 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_cst_64 : Ref sig .tc := ⟨.hbm, 281, rfl⟩
abbrev main_v177 : Ref sig .tc := ⟨.hbm, 282, rfl⟩
abbrev main_v178 : Ref sig .tc := ⟨.hbm, 283, rfl⟩
abbrev main_v179 : Ref sig .tc := ⟨.hbm, 284, rfl⟩
abbrev main_cst_65 : Ref sig .tc := ⟨.hbm, 285, rfl⟩
abbrev main_v180 : Ref sig .tc := ⟨.hbm, 286, rfl⟩
abbrev main_v181 : Ref sig .tc := ⟨.hbm, 287, rfl⟩
abbrev main_cst_66 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩
abbrev main_cst_67 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_cst_68 : Ref sig .tc := ⟨.hbm, 296, rfl⟩
abbrev main_v188 : Ref sig .tc := ⟨.hbm, 297, rfl⟩
abbrev main_v189 : Ref sig .tc := ⟨.hbm, 298, rfl⟩
abbrev main_v190 : Ref sig .tc := ⟨.hbm, 299, rfl⟩
abbrev main_cst_69 : Ref sig .tc := ⟨.hbm, 300, rfl⟩
abbrev main_v191 : Ref sig .tc := ⟨.hbm, 301, rfl⟩
abbrev main_v192 : Ref sig .tc := ⟨.hbm, 302, rfl⟩
abbrev main_cst_70 : Ref sig .tc := ⟨.hbm, 303, rfl⟩
abbrev main_v193 : Ref sig .tc := ⟨.hbm, 304, rfl⟩
abbrev main_cst_71 : Ref sig .tc := ⟨.hbm, 305, rfl⟩
abbrev main_v194 : Ref sig .tc := ⟨.hbm, 306, rfl⟩
abbrev main_v195 : Ref sig .tc := ⟨.hbm, 307, rfl⟩
abbrev main_cst_72 : Ref sig .tc := ⟨.hbm, 308, rfl⟩
abbrev main_v196 : Ref sig .tc := ⟨.hbm, 309, rfl⟩
abbrev main_v197 : Ref sig .tc := ⟨.hbm, 310, rfl⟩
abbrev main_v198 : Ref sig .tc := ⟨.hbm, 311, rfl⟩
abbrev main_cst_73 : Ref sig .tc := ⟨.hbm, 312, rfl⟩
abbrev main_v199 : Ref sig .tc := ⟨.hbm, 313, rfl⟩
abbrev main_v200 : Ref sig .tc := ⟨.hbm, 314, rfl⟩
abbrev main_v201 : Ref sig .tc := ⟨.hbm, 315, rfl⟩
abbrev main_cst_74 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_cst_75 : Ref sig .tc := ⟨.hbm, 320, rfl⟩
abbrev main_v205 : Ref sig .tc := ⟨.hbm, 321, rfl⟩
abbrev main_v206 : Ref sig .tc := ⟨.hbm, 322, rfl⟩
abbrev main_cst_76 : Ref sig .tc := ⟨.hbm, 323, rfl⟩
abbrev main_v207 : Ref sig .tc := ⟨.hbm, 324, rfl⟩
abbrev main_v208 : Ref sig .tc := ⟨.hbm, 325, rfl⟩
abbrev main_v209 : Ref sig .tc := ⟨.hbm, 326, rfl⟩
abbrev main_cst_77 : Ref sig .tc := ⟨.hbm, 327, rfl⟩
abbrev main_v210 : Ref sig .tc := ⟨.hbm, 328, rfl⟩
abbrev main_v211 : Ref sig .tc := ⟨.hbm, 329, rfl⟩
abbrev main_v212 : Ref sig .tc := ⟨.hbm, 330, rfl⟩
abbrev main_cst_78 : Ref sig .tc := ⟨.hbm, 331, rfl⟩
abbrev main_v213 : Ref sig .tc := ⟨.hbm, 332, rfl⟩
abbrev main_v214 : Ref sig .tc := ⟨.hbm, 333, rfl⟩
abbrev main_v215 : Ref sig .tc := ⟨.hbm, 334, rfl⟩
abbrev main_cst_79 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_cst_80 : Ref sig .tc := ⟨.hbm, 339, rfl⟩
abbrev main_v219 : Ref sig .tc := ⟨.hbm, 340, rfl⟩
abbrev main_v220 : Ref sig .tc := ⟨.hbm, 341, rfl⟩
abbrev main_cst_81 : Ref sig .tc := ⟨.hbm, 342, rfl⟩
abbrev main_v221 : Ref sig .tc := ⟨.hbm, 343, rfl⟩
abbrev main_v222 : Ref sig .tc := ⟨.hbm, 344, rfl⟩
abbrev main_v223 : Ref sig .tc := ⟨.hbm, 345, rfl⟩
abbrev main_cst_82 : Ref sig .tc := ⟨.hbm, 346, rfl⟩
abbrev main_v224 : Ref sig .tc := ⟨.hbm, 347, rfl⟩
abbrev main_v225 : Ref sig .tc := ⟨.hbm, 348, rfl⟩
abbrev main_v226 : Ref sig .tc := ⟨.hbm, 349, rfl⟩
abbrev main_cst_83 : Ref sig .tc := ⟨.hbm, 350, rfl⟩
abbrev main_v227 : Ref sig .tc := ⟨.hbm, 351, rfl⟩
abbrev main_v228 : Ref sig .tc := ⟨.hbm, 352, rfl⟩
abbrev main_v229 : Ref sig .tc := ⟨.hbm, 353, rfl⟩
abbrev main_cst_84 : Ref sig .tc := ⟨.hbm, 354, rfl⟩
abbrev main_v230 : Ref sig .tc := ⟨.hbm, 355, rfl⟩
abbrev main_v231 : Ref sig .tc := ⟨.hbm, 356, rfl⟩
abbrev main_cst_85 : Ref sig .tc := ⟨.hbm, 357, rfl⟩
abbrev main_v232 : Ref sig .tc := ⟨.hbm, 358, rfl⟩
abbrev main_v233 : Ref sig .tc := ⟨.hbm, 359, rfl⟩
abbrev main_v234 : Ref sig .tc := ⟨.hbm, 360, rfl⟩
abbrev main_cst_86 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_cst_87 : Ref sig .tc := ⟨.hbm, 365, rfl⟩
abbrev main_v238 : Ref sig .tc := ⟨.hbm, 366, rfl⟩
abbrev main_v239 : Ref sig .tc := ⟨.hbm, 367, rfl⟩
abbrev main_v240 : Ref sig .tc := ⟨.hbm, 368, rfl⟩
abbrev main_cst_88 : Ref sig .tc := ⟨.hbm, 369, rfl⟩
abbrev main_v241 : Ref sig .tc := ⟨.hbm, 370, rfl⟩
abbrev main_v242 : Ref sig .tc := ⟨.hbm, 371, rfl⟩
abbrev main_v243 : Ref sig .tc := ⟨.hbm, 372, rfl⟩
abbrev main_v244 : Ref sig .tc := ⟨.hbm, 373, rfl⟩
abbrev main_v245 : Ref sig .tc := ⟨.hbm, 374, rfl⟩
abbrev main_v246 : Ref sig .tc := ⟨.hbm, 375, rfl⟩
abbrev main_cst_89 : Ref sig .tc := ⟨.hbm, 376, rfl⟩
abbrev main_v247 : Ref sig .tc := ⟨.hbm, 377, rfl⟩
abbrev main_v248 : Ref sig .tc := ⟨.hbm, 378, rfl⟩
abbrev main_cst_90 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_cst_91 : Ref sig .tc := ⟨.hbm, 383, rfl⟩
abbrev main_v252 : Ref sig .tc := ⟨.hbm, 384, rfl⟩
abbrev main_v253 : Ref sig .tc := ⟨.hbm, 385, rfl⟩
abbrev main_v254 : Ref sig .tc := ⟨.hbm, 386, rfl⟩
abbrev main_cst_92 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_cst_93 : Ref sig .tc := ⟨.hbm, 391, rfl⟩
abbrev main_v258 : Ref sig .tc := ⟨.hbm, 392, rfl⟩
abbrev main_v259 : Ref sig .tc := ⟨.hbm, 393, rfl⟩
abbrev main_cst_94 : Ref sig .tc := ⟨.hbm, 394, rfl⟩
abbrev main_v260 : Ref sig .tc := ⟨.hbm, 395, rfl⟩
abbrev main_v261 : Ref sig .tc := ⟨.hbm, 396, rfl⟩
abbrev main_v262 : Ref sig .tc := ⟨.hbm, 397, rfl⟩
abbrev main_cst_95 : Ref sig .tc := ⟨.hbm, 398, rfl⟩
abbrev main_v263 : Ref sig .tc := ⟨.hbm, 399, rfl⟩
abbrev main_v264 : Ref sig .tc := ⟨.hbm, 400, rfl⟩
abbrev main_v265 : Ref sig .tc := ⟨.hbm, 401, rfl⟩
abbrev main_cst_96 : Ref sig .tc := ⟨.hbm, 402, rfl⟩
abbrev main_v266 : Ref sig .tc := ⟨.hbm, 403, rfl⟩
abbrev main_v267 : Ref sig .tc := ⟨.hbm, 404, rfl⟩
abbrev main_v268 : Ref sig .tc := ⟨.hbm, 405, rfl⟩
abbrev main_cst_97 : Ref sig .tc := ⟨.hbm, 406, rfl⟩
abbrev main_v269 : Ref sig .tc := ⟨.hbm, 407, rfl⟩
abbrev main_v270 : Ref sig .tc := ⟨.hbm, 408, rfl⟩
abbrev main_v271 : Ref sig .tc := ⟨.hbm, 409, rfl⟩
abbrev main_v272 : Ref sig .tc := ⟨.hbm, 410, rfl⟩

abbrev nD : Nat := 1
abbrev τ : Topo := Topo.v7x

variable {F : FTy → Type} [FloatOps F]
-- ==== Kernel12.lean ====
abbrev S8192x1024 : Shape := ⟨2, ![8192, 1024]⟩
abbrev S8192x3072 : Shape := ⟨2, ![8192, 3072]⟩
abbrev S8x1024x384 : Shape := ⟨3, ![8, 1024, 384]⟩
abbrev S2048x1024 : Shape := ⟨2, ![2048, 1024]⟩
abbrev S2048x1536 : Shape := ⟨2, ![2048, 1536]⟩
abbrev S4x1024x384 : Shape := ⟨3, ![4, 1024, 384]⟩
abbrev S1024x1536 : Shape := ⟨2, ![1024, 1536]⟩
abbrev S1024x384 : Shape := ⟨2, ![1024, 384]⟩
abbrev S1x1024x384 : Shape := ⟨3, ![1, 1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8x1024x384, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S4x1024x384, .bf16⟩
  | .local _ .vmem, ⟨5, _⟩ => ⟨S4x1024x384, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x8x384, .bf16⟩
  | .hbm, ⟨11, _⟩ => ⟨S8x1024x384, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Finite.lean ====
/- What the precondition says: an array whose absolute values all lie below infinity holds real numbers. -/
module

public import Idealize.ShloMosaic.Lib.ReduceAll
public import Idealize.ShloMosaic.Lib.Pointwise
public import Idealize.ShloMosaic.Lib.StableHlo

@[expose] public section

noncomputable section

namespace Cert.Finite

open Idealize.ShloMosaic

/-- The shape of a scalar. -/
abbrev S0 : Shape := ⟨0, ![]⟩

instance : Subsingleton S0.Idx := ⟨fun _ _ => funext fun a => a.elim0⟩

/-- An extended real whose absolute value lies below infinity is a real number. -/
theorem real_of_abs_lt (v : EReal) (h : max v (-v) < ⊤) : v = ((v.toReal : ℝ) : EReal) := by
  obtain ⟨h1, h2⟩ := max_lt_iff.mp h
  refine (EReal.coe_toReal (ne_of_lt h1) fun e => ?_).symm
  rw [e, EReal.neg_bot] at h2
  exact lt_irrefl _ h2

variable {s : Shape} {axes : List (Fin s.rank)}

/-- One conjunct of the precondition, read at one index. -/
theorem real_of_all (x : FVec Ideal s .f32) (hb : S0.BroadcastsInDim s (![] : Fin 0 → Fin s.rank)) (h : s.ReducesTo axes S0)
    (hu : 0 < S0.numel) (j : S0.Idx)
    (e : Host.reduce IntOp.andi (cmpf .olt (Host.absf x) (broadcastInDim s ![] hb (constant S0 .f32 0x7F800000#32)))
      (constantI S0 1 1#1) h hu j = 1#1) (i : s.Idx) : x i = (((x i).toReal : ℝ) : EReal) := by
  have top : Ideal.ofBits .f32 0x7F800000#32 = ⊤ := by simp [Ideal.ofBits, Ideal.ieee]
  have key : Ideal.cmp .olt (max (x i) (-(x i))) (Ideal.ofBits .f32 0x7F800000#32) = 1#1 :=
    Host.reduce_andi_all _ _ h hu j e i
  rw [top] at key
  refine real_of_abs_lt _ (by_contra fun n => ?_)
  rw [Ideal.cmp, decide_eq_false n] at key
  exact absurd key (by decide)

end Cert.Finite

end
-- ==== Proof.Reals.lean ====
/- Real arithmetic behind the value claims: the operations of the ideal programs on finite numbers, and the few identities
   of real numbers by which the kernel's formulas differ from the reference's. -/
module

public import Idealize.ShloMosaic.Lib.Pointwise
public import Idealize.ShloMosaic.Lib.IdealHost

@[expose] public section

set_option maxRecDepth 16384

noncomputable section

namespace Cert.RealMath

open Idealize.ShloMosaic

/-- A finite sum of finite numbers is their sum in the reals. -/
theorem coe_sum {ι : Type*} [Fintype ι] (f : ι → ℝ) : (∑ i, ((f i : ℝ) : EReal)) = ((∑ i, f i : ℝ) : EReal) := by
  classical
  induction (Finset.univ : Finset ι) using Finset.induction_on with
  | empty => simp
  | insert a s h ih => rw [Finset.sum_insert h, Finset.sum_insert h, ih, EReal.coe_add]

/-- Division of finite numbers by a number other than zero. -/
theorem div_real {y : ℝ} (h : y ≠ 0) (x : ℝ) : Ideal.div (x : EReal) (y : EReal) = ((x / y : ℝ) : EReal) := by
  rw [Ideal.div_coe h, ← EReal.coe_mul, mul_one_div]

/-- The reciprocal square root of a positive number. -/
theorem rsqrt_pos {v : ℝ} (h : 0 < v) : Ideal.rsqrt (v : EReal) = (((Real.sqrt v)⁻¹ : ℝ) : EReal) := by
  rw [Ideal.rsqrt_coe, if_neg (not_lt.mpr h.le), if_neg h.ne']

theorem one_coe : (1 : EReal) = ((1 : ℝ) : EReal) := rfl

theorem half : Ideal.ofBits .f32 0x3F000000#32 = ((1 / 2 : ℝ) : EReal) := by
  simp [Ideal.ofBits, Ideal.ieee]; rw [← EReal.coe_mul]; norm_num

theorem neg_half : Ideal.ofBits .f32 0xBF000000#32 = ((-(1 / 2) : ℝ) : EReal) := by
  simp [Ideal.ofBits, Ideal.ieee]; rw [← EReal.coe_mul]; norm_num

/-- The length of a row, as the programs write it. -/
theorem width : Ideal.ofBits .f32 0x44800000#32 = ((1024 : ℝ) : EReal) := by
  simp [Ideal.ofBits, Ideal.ieee]; rw [← EReal.coe_mul]; norm_num

/-- The small number the norm adds to the mean square. -/
def eps : ℝ := 8796093 * (2 : ℝ) ^ (-43 : ℤ)

theorem eps_pos : 0 < eps := by unfold eps; positivity

theorem eps_eq : Ideal.ofBits .f32 0x358637BD#32 = ((eps : ℝ) : EReal) := by
  simp [Ideal.ofBits, Ideal.ieee, eps]

/-- The logistic function. -/
def sg (v : ℝ) : ℝ := (1 + Real.exp (-v))⁻¹

/-- The logistic function by way of the hyperbolic tangent. -/
theorem sg_tanh (v : ℝ) : 1 / 2 * Real.tanh (1 / 2 * v) + 1 / 2 = sg v := by
  have hv : v = 2 * (1 / 2 * v) := by ring
  unfold sg
  rw [Real.tanh_eq_sinh_div_cosh, Real.sinh_eq, Real.cosh_eq]
  generalize hw : 1 / 2 * v = w
  have e : Real.exp (-v) = Real.exp (-w) * Real.exp (-w) := by rw [← Real.exp_add, ← hw]; ring_nf
  have e' : Real.exp w * Real.exp (-w) = 1 := by rw [← Real.exp_add]; simp
  rw [e]
  have p := Real.exp_pos w
  have q := Real.exp_pos (-w)
  field_simp
  nlinarith

/-- The logistic function by way of a division. -/
theorem sg_div (v : ℝ) : 1 / (1 + Real.exp (-v)) = sg v := one_div _

theorem sg_ne (v : ℝ) : 1 + Real.exp (-v) ≠ 0 := by have := Real.exp_pos (-v); positivity

/-- A reciprocal square root over its argument is its cube. -/
theorem inv_sqrt_div {v : ℝ} (h : 0 < v) : (Real.sqrt v)⁻¹ / v = (Real.sqrt v)⁻¹ ^ 3 := by
  have hs : Real.sqrt v * Real.sqrt v = v := Real.mul_self_sqrt h.le
  have h0 : Real.sqrt v ≠ 0 := (Real.sqrt_pos.mpr h).ne'
  rw [div_eq_mul_inv]
  nth_rw 2 [← hs]
  rw [mul_inv]; ring

end Cert.RealMath

end
-- ==== Proof.FfnRow.lean ====
/- The backward step of the gated feed-forward half of the block, for one token: every number the kernel leaves, as a
   real function of that token's rows and the weights. -/
module

public import proofs.«01_k».proof.Proof.Reals

@[expose] public section

noncomputable section

namespace Cert.FfnRow

open Cert.RealMath

/-- Column `f` of the first half of the gate-and-up row. -/
def lo (f : Fin 2816) : Fin 5632 := ⟨f.val, by omega⟩

/-- Column `f` of its second half. -/
def hi (f : Fin 2816) : Fin 5632 := ⟨2816 + f.val, by omega⟩

/-- A column lies in one half or the other. -/
theorem lo_or_hi (i : Fin 5632) : (∃ f, lo f = i) ∨ ∃ f, hi f = i := by
  by_cases h : i.val < 2816
  · exact .inl ⟨⟨i.val, h⟩, rfl⟩
  · exact .inr ⟨⟨i.val - 2816, by omega⟩, Fin.ext (by simp only [hi]; omega)⟩

/-- A sum over the whole row is the sum over its two halves. -/
theorem sum_halves {M : Type} [AddCommMonoid M] (f : Fin 5632 → M) : ∑ i, f i = ∑ i, f (lo i) + ∑ i, f (hi i) :=
  Fin.sum_univ_add (a := 2816) (b := 2816) f

/-- The weights, and the vectors that modulate a token: six rows of `ada`, the norm's weight, the mixing's output
    projection, the feed-forward's two projections. -/
structure Weights where
  ada : Fin 6 → Fin 1024 → ℝ
  nw : Fin 1024 → ℝ
  wo : Fin 1024 → Fin 1024 → ℝ
  wi : Fin 5632 → Fin 1024 → ℝ
  wf : Fin 2816 → Fin 1024 → ℝ

/-- The mean square of a row, with the small number added. -/
def ms (x : Fin 1024 → ℝ) : ℝ := (∑ j, x j * x j) / 1024 + eps

theorem ms_pos (x : Fin 1024 → ℝ) : 0 < ms x := by
  have h : 0 ≤ ∑ j, x j * x j := Finset.sum_nonneg fun j _ => mul_self_nonneg (x j)
  have := eps_pos
  unfold ms; positivity

/-- The reciprocal root mean square. -/
def rs (x : Fin 1024 → ℝ) : ℝ := (Real.sqrt (ms x))⁻¹

/-- The normalised row. -/
def xh (x : Fin 1024 → ℝ) (j : Fin 1024) : ℝ := x j * rs x

variable (W : Weights)

/-- The mixing's output projection of a token. -/
def mix (y : Fin 1024 → ℝ) (j : Fin 1024) : ℝ := ∑ k, y k * W.wo k j

/-- The residual stream after the mixing. -/
def res (x y : Fin 1024 → ℝ) (j : Fin 1024) : ℝ := x j + W.ada 2 j * mix W y j

/-- The normed and modulated row the feed-forward reads. -/
def mod (x : Fin 1024 → ℝ) (j : Fin 1024) : ℝ := xh x j * W.nw j * (1 + W.ada 4 j) + W.ada 3 j

/-- The gate and the up projection of a residual row. -/
def gu (x : Fin 1024 → ℝ) (f : Fin 5632) : ℝ := ∑ j, mod W x j * W.wi f j

/-- The gradient at the feed-forward's output. -/
def dffn (d : Fin 1024 → ℝ) (j : Fin 1024) : ℝ := W.ada 5 j * d j

/-- The gradient at the activation. -/
def dact (d : Fin 1024 → ℝ) (f : Fin 2816) : ℝ := ∑ j, d j * W.wf f j

/-- The gradient at the gate. -/
def dgate (g : Fin 5632 → ℝ) (d : Fin 1024 → ℝ) (f : Fin 2816) : ℝ :=
  dact W d f * g (hi f) * (sg (g (lo f)) * (1 + g (lo f) * (1 - sg (g (lo f)))))

/-- The gradient at the up projection. -/
def dup (g : Fin 5632 → ℝ) (d : Fin 1024 → ℝ) (f : Fin 2816) : ℝ := dact W d f * (g (lo f) * sg (g (lo f)))

/-- The gradient at the modulated row. -/
def dmod (g : Fin 5632 → ℝ) (d : Fin 1024 → ℝ) (j : Fin 1024) : ℝ :=
  ∑ f, dgate W g d f * W.wi (lo f) j + ∑ f, dup W g d f * W.wi (hi f) j

/-- The gradient at the normed row. -/
def dnorm (g : Fin 5632 → ℝ) (d : Fin 1024 → ℝ) (j : Fin 1024) : ℝ := dmod W g d j * (1 + W.ada 4 j)

/-- The gradient at the normalised row, before the weight. -/
def dhat (g : Fin 5632 → ℝ) (d : Fin 1024 → ℝ) (j : Fin 1024) : ℝ := dnorm W g d j * W.nw j

/-- The mean the norm's gradient takes off. -/
def mean (x : Fin 1024 → ℝ) (g : Fin 5632 → ℝ) (d : Fin 1024 → ℝ) : ℝ := (∑ j, dhat W g d j * xh x j) / 1024

/-- The gradient at the residual stream: the skip connection's and the feed-forward's. -/
def dres (x : Fin 1024 → ℝ) (g : Fin 5632 → ℝ) (d e : Fin 1024 → ℝ) (j : Fin 1024) : ℝ :=
  e j + rs x * (dhat W g d j - xh x j * mean W x g d)

/-- The gradient at the mixing's projection. -/
def dmix (x : Fin 1024 → ℝ) (g : Fin 5632 → ℝ) (d e : Fin 1024 → ℝ) (j : Fin 1024) : ℝ :=
  W.ada 2 j * dres W x g d e j

/-- The gradient at the mixing's concatenated output. -/
def dcat (x : Fin 1024 → ℝ) (g : Fin 5632 → ℝ) (d e : Fin 1024 → ℝ) (k : Fin 1024) : ℝ :=
  ∑ j, dmix W x g d e j * W.wo k j

/-- What a token adds to the sums over tokens: to row 0 the gradient of the shift, to row 1 that of the scale, to row 2
    that of the norm's weight, to row 3 that of the mixing's gate; nothing to the other rows. -/
def share (x : Fin 1024 → ℝ) (g : Fin 5632 → ℝ) (d e mx : Fin 1024 → ℝ) (q : Fin 8) (j : Fin 1024) : ℝ :=
  if q.val = 0 then dmod W g d j
  else if q.val = 1 then dmod W g d j * (xh x j * W.nw j)
  else if q.val = 2 then dnorm W g d j * xh x j
  else if q.val = 3 then dres W x g d e j * mx j
  else 0

/-- The norm's gradient as differentiation of the reciprocal root writes it is the one above. -/
theorem norm_grad (x : Fin 1024 → ℝ) (h : Fin 1024 → ℝ) (j : Fin 1024) :
    h j * rs x + x j * ((∑ k, x k * h k) * (-(1 / 2) * (rs x / ms x)) / 1024)
        + ((∑ k, x k * h k) * (-(1 / 2) * (rs x / ms x)) / 1024) * x j
      = rs x * (h j - xh x j * ((∑ k, h k * xh x k) / 1024)) := by
  have e : rs x / ms x = rs x ^ 3 := inv_sqrt_div (ms_pos x)
  have s : (∑ k, h k * xh x k) = (∑ k, x k * h k) * rs x := by
    rw [Finset.sum_mul]; exact Finset.sum_congr rfl fun k _ => by unfold xh; ring
  rw [e, s]; unfold xh; ring

end Cert.FfnRow

end
-- ==== Proof.FfnData.lean ====
/- The step's arguments as real numbers, and what each token's rows are. -/
module

public import proofs.«01_k».proof.Proof.FfnRow
public import Idealize.ShloMosaic.Lib.Pipeline.ValueKit

@[expose] public section

noncomputable section

namespace Cert.FfnRow

open Idealize.ShloMosaic Cert.RealMath

/-- The weights, and for each token its row of the residual stream, its row of the mixing's output and the gradient
    that arrives at it. -/
structure Data where
  W : Weights
  X : Fin 8192 → Fin 1024 → ℝ
  Y : Fin 8192 → Fin 1024 → ℝ
  D : Fin 8192 → Fin 1024 → ℝ

namespace Data

variable (A : Data) (t : Fin 8192)

/-- The mixing's projection of token `t`. -/
def m : Fin 1024 → ℝ := mix A.W (A.Y t)
/-- Its residual row after the mixing. -/
def x : Fin 1024 → ℝ := res A.W (A.X t) (A.Y t)
/-- Its gate and up row. -/
def g : Fin 5632 → ℝ := gu A.W (A.x t)
/-- The gradient at its feed-forward output. -/
def d : Fin 1024 → ℝ := dffn A.W (A.D t)

end Data

variable (A : Data)

/-- The arrays hold these numbers. -/
structure Holds (x0 : FVec Ideal (⟨2, ![8192, 1024]⟩ : Shape) .f32) (x1 : FVec Ideal (⟨2, ![8192, 1024]⟩ : Shape) .bf16)
    (x2 : FVec Ideal (⟨2, ![8192, 1024]⟩ : Shape) .f32) (x3 : FVec Ideal (⟨2, ![6, 1024]⟩ : Shape) .f32)
    (x4 : FVec Ideal (⟨2, ![1, 1024]⟩ : Shape) .f32) (x5 : FVec Ideal (⟨2, ![1024, 1024]⟩ : Shape) .bf16)
    (x6 : FVec Ideal (⟨2, ![5632, 1024]⟩ : Shape) .bf16) (x7 : FVec Ideal (⟨2, ![2816, 1024]⟩ : Shape) .bf16) : Prop where
  h0 : ∀ (t : Fin 8192) (j : Fin 1024), x0 (ix2 t j) = ((A.X t j : ℝ) : EReal)
  h1 : ∀ (t : Fin 8192) (j : Fin 1024), x1 (ix2 t j) = ((A.Y t j : ℝ) : EReal)
  h2 : ∀ (t : Fin 8192) (j : Fin 1024), x2 (ix2 t j) = ((A.D t j : ℝ) : EReal)
  h3 : ∀ (q : Fin 6) (j : Fin 1024), x3 (ix2 q j) = ((A.W.ada q j : ℝ) : EReal)
  h4 : ∀ (z : Fin 1) (j : Fin 1024), x4 (ix2 z j) = ((A.W.nw j : ℝ) : EReal)
  h5 : ∀ k j : Fin 1024, x5 (ix2 k j) = ((A.W.wo k j : ℝ) : EReal)
  h6 : ∀ (f : Fin 5632) (j : Fin 1024), x6 (ix2 f j) = ((A.W.wi f j : ℝ) : EReal)
  h7 : ∀ (f : Fin 2816) (j : Fin 1024), x7 (ix2 f j) = ((A.W.wf f j : ℝ) : EReal)

end Cert.FfnRow

end
-- ==== Proof.FfnFinite.lean ====
/- Under the precondition the step's arguments hold real numbers. -/
module

public import proofs.«01_k».proof.Proof.Finite
public import proofs.«01_k».proof.Proof.FfnData
public import proofs.«01_k».proof.Proof.Gen.Pre_finite

@[expose] public section

noncomputable section

namespace Cert.FfnFinite

open Idealize.ShloMosaic Cert.Pre_finite

variable (x0 : FVec Ideal S8192x1024 .f32) (x1 : FVec Ideal S8192x1024 .bf16) (x2 : FVec Ideal S8192x1024 .f32)
  (x3 : FVec Ideal S6x1024 .f32) (x4 : FVec Ideal S1x1024 .f32) (x5 : FVec Ideal S1024x1024 .bf16)
  (x6 : FVec Ideal S5632x1024 .bf16) (x7 : FVec Ideal S2816x1024 .bf16)

/-- The real numbers the arguments hold. -/
def data : FfnRow.Data where
  W := {
    ada := fun q j => (x3 (ix2 q j)).toReal
    nw := fun j => (x4 (ix2 0 j)).toReal
    wo := fun k j => (x5 (ix2 k j)).toReal
    wi := fun f j => (x6 (ix2 f j)).toReal
    wf := fun f j => (x7 (ix2 f j)).toReal }
  X := fun t j => (x0 (ix2 t j)).toReal
  Y := fun t j => (x1 (ix2 t j)).toReal
  D := fun t j => (x2 (ix2 t j)).toReal

theorem holds [Facts] (h : Cert.Pre_finite.fn (F := Ideal) x0 x1 x2 x3 x4 x5 x6 x7 = fun _ => 1#1) :
    FfnRow.Holds (data x0 x1 x2 x3 x4 x5 x6 x7) x0 x1 x2 x3 x4 x5 x6 x7 := by
  have j : Finite.S0.Idx := fun a => a.elim0
  have e := congrFun h j
  simp only [Cert.Pre_finite.fn, fn_part1, fn_part2, andi, IntOp.andi_eq_one] at e
  obtain ⟨⟨⟨⟨⟨⟨⟨e0, e1⟩, e2⟩, e3⟩, e4⟩, e5⟩, e6⟩, e7⟩ := e
  refine ⟨fun t k => Finite.real_of_all x0 _ _ _ j e0 _, fun t k => Finite.real_of_all (extf .f32 x1 Facts.bitsLt_bf16_f32) _ _ _ j e1 _,
    fun t k => Finite.real_of_all x2 _ _ _ j e2 _, fun q k => Finite.real_of_all x3 _ _ _ j e3 _, fun z k => ?_,
    fun t k => Finite.real_of_all (extf .f32 x5 Facts.bitsLt_bf16_f32) _ _ _ j e5 _,
    fun t k => Finite.real_of_all (extf .f32 x6 Facts.bitsLt_bf16_f32) _ _ _ j e6 _,
    fun t k => Finite.real_of_all (extf .f32 x7 Facts.bitsLt_bf16_f32) _ _ _ j e7 _⟩
  rw [Subsingleton.elim z 0]
  exact Finite.real_of_all x4 _ _ _ j e4 _

end Cert.FfnFinite

end
-- ==== Proof.FfnRef.lean ====
/- What the reference computes on finite numbers: the gradients of the real formulas, token by token. -/
module

public import proofs.«01_k».proof.Proof.FfnData
public import proofs.«01_k».proof.Proof.Gen.ReferenceIdeal.Read
public import Idealize.ShloMosaic.Lib.Pointwise

@[expose] public section

set_option maxRecDepth 16384

noncomputable section

namespace Cert.FfnRef

open Idealize.ShloMosaic Idealize.ShloMosaic.TcCoe Idealize.SL.Sem
open Cert.ReferenceIdeal Cert.ReferenceIdeal.Gen Cert.ReferenceIdeal.Read Cert.RealMath

variable {A : FfnRow.Data} {x0 x2 : FVec Ideal S8192x1024 .f32} {x1 : FVec Ideal S8192x1024 .bf16}
  {x3 : FVec Ideal S6x1024 .f32} {x4 : FVec Ideal S1x1024 .f32} {x5 : FVec Ideal S1024x1024 .bf16}
  {x6 : FVec Ideal S5632x1024 .bf16} {x7 : FVec Ideal S2816x1024 .bf16}
  (H : FfnRow.Holds A x0 x1 x2 x3 x4 x5 x6 x7)

include H

theorem mix (t : Fin 8192) (j : Fin 1024) : val_main_v8 (F := Ideal) x1 x5 (ix2 t j) = ((A.m t j : ℝ) : EReal) := by
  pointwise [val_main_v8, val_main_v0, val_main_v1]
  simp only [H.h1, H.h5, ← EReal.coe_mul, coe_sum, zero_add]; rfl

theorem res (t : Fin 8192) (j : Fin 1024) : val_main_v11 (F := Ideal) x0 x1 x3 x5 (ix2 t j) = ((A.x t j : ℝ) : EReal) := by
  pointwise [val_main_v11, val_main_v10, val_main_v9, val_main_v4]
  rw [mix H, H.h0, H.h3, ← EReal.coe_mul, ← EReal.coe_add]; rfl

theorem ms (t : Fin 8192) (z : Fin 1) :
    val_main_v18 (F := Ideal) x0 x1 x3 x5 (ix2 t z) = ((FfnRow.ms (A.x t) : ℝ) : EReal) := by
  pointwise [val_main_v18, val_main_v17, val_main_v16, val_main_v15, val_main_v14, val_main_v13, val_main_v12,
    val_main_cst, val_main_cst_0, val_main_cst_1]
  simp only [res H, ← EReal.coe_mul, coe_sum, zero_add, width, eps_eq]
  rw [div_real (by norm_num), ← EReal.coe_add]; rfl

theorem rs (t : Fin 8192) (z : Fin 1) :
    val_main_v19 (F := Ideal) x0 x1 x3 x5 (ix2 t z) = ((FfnRow.rs (A.x t) : ℝ) : EReal) := by
  pointwise [val_main_v19]
  rw [ms H, rsqrt_pos (FfnRow.ms_pos _)]; rfl

theorem slope (t : Fin 8192) (z : Fin 1) :
    val_main_v22 (F := Ideal) x0 x1 x3 x5 (ix2 t z)
      = ((-(1 / 2) * (FfnRow.rs (A.x t) / FfnRow.ms (A.x t)) : ℝ) : EReal) := by
  pointwise [val_main_v22, val_main_v21, val_main_v20, val_main_cst_2]
  rw [rs H, ms H, neg_half, div_real (FfnRow.ms_pos _).ne', ← EReal.coe_mul]

theorem xh (t : Fin 8192) (j : Fin 1024) :
    val_main_v24 (F := Ideal) x0 x1 x3 x5 (ix2 t j) = ((FfnRow.xh (A.x t) j : ℝ) : EReal) := by
  pointwise [val_main_v24, val_main_v23]
  rw [rs H, res H, ← EReal.coe_mul]; rfl

theorem normed (t : Fin 8192) (j : Fin 1024) :
    val_main_v26 (F := Ideal) x0 x1 x3 x4 x5 (ix2 t j) = ((FfnRow.xh (A.x t) j * A.W.nw j : ℝ) : EReal) := by
  pointwise [val_main_v26, val_main_v25]
  rw [xh H, H.h4, ← EReal.coe_mul]

theorem scale (z : Fin 1) (j : Fin 1024) :
    val_main_v28 (F := Ideal) x3 (ix2 z j) = ((1 + A.W.ada 4 j : ℝ) : EReal) := by
  pointwise [val_main_v28, val_main_v27, val_main_v6, val_main_cst_3]
  rw [H.h3, one_coe, ← EReal.coe_add]

theorem mod (t : Fin 8192) (j : Fin 1024) :
    val_main_v32 (F := Ideal) x0 x1 x3 x4 x5 (ix2 t j) = ((FfnRow.mod A.W (A.x t) j : ℝ) : EReal) := by
  pointwise [val_main_v32, val_main_v31, val_main_v30, val_main_v29, val_main_v5]
  rw [normed H, scale H, H.h3, ← EReal.coe_mul, ← EReal.coe_add]; rfl

theorem gu (t : Fin 8192) (f : Fin 5632) :
    val_main_v34 (F := Ideal) x0 x1 x3 x4 x5 x6 (ix2 t f) = ((A.g t f : ℝ) : EReal) := by
  pointwise [val_main_v34, val_main_v33, val_main_v2]
  simp only [mod H, H.h6, ← EReal.coe_mul, coe_sum, zero_add]; rfl

theorem gate (t : Fin 8192) (f : Fin 2816) :
    val_main_v35 (F := Ideal) x0 x1 x3 x4 x5 x6 (ix2 t f) = ((A.g t (FfnRow.lo f) : ℝ) : EReal) := by
  pointwise [val_main_v35]
  exact gu H t _

theorem up (t : Fin 8192) (f : Fin 2816) :
    val_main_v36 (F := Ideal) x0 x1 x3 x4 x5 x6 (ix2 t f) = ((A.g t (FfnRow.hi f) : ℝ) : EReal) := by
  pointwise [val_main_v36]
  exact gu H t _

theorem sigmoid (t : Fin 8192) (f : Fin 2816) :
    val_main_v37_2 (F := Ideal) x0 x1 x3 x4 x5 x6 (ix2 t f) = ((sg (A.g t (FfnRow.lo f)) : ℝ) : EReal) := by
  pointwise [val_main_v37_2, val_main_call0_v4, val_main_call0_v3, val_main_call0_v2, val_main_call0_v1,
    val_main_call0_v0, val_main_call0_cst, val_main_call0_cst_0]
  rw [gate H]
  rw [← EReal.coe_neg, Ideal.exp_coe, ← EReal.coe_one, ← EReal.coe_add, div_real (sg_ne _), sg_div]

theorem act (t : Fin 8192) (f : Fin 2816) :
    val_main_v37_0 (F := Ideal) x0 x1 x3 x4 x5 x6 (ix2 t f)
      = ((A.g t (FfnRow.lo f) * sg (A.g t (FfnRow.lo f)) : ℝ) : EReal) := by
  pointwise [val_main_v37_0]
  rw [gate H, sigmoid H, ← EReal.coe_mul]

theorem dact (t : Fin 8192) (f : Fin 2816) :
    val_main_v47 (F := Ideal) x2 x3 x7 (ix2 t f) = ((FfnRow.dact A.W (A.d t) f : ℝ) : EReal) := by
  pointwise [val_main_v47, val_main_v46, val_main_v45, val_main_v44, val_main_v7, val_main_v3]
  simp only [H.h2, H.h3, H.h7, ← EReal.coe_mul, coe_sum, zero_add]; rfl

theorem dup (t : Fin 8192) (f : Fin 2816) :
    val_main_v48 (F := Ideal) x0 x1 x2 x3 x4 x5 x6 x7 (ix2 t f) = ((FfnRow.dup A.W (A.g t) (A.d t) f : ℝ) : EReal) := by
  pointwise [val_main_v48]
  rw [act H, dact H, ← EReal.coe_mul, mul_comm]; rfl

theorem dgate (t : Fin 8192) (f : Fin 2816) :
    val_main_v50 (F := Ideal) x0 x1 x2 x3 x4 x5 x6 x7 (ix2 t f)
      = ((FfnRow.dgate A.W (A.g t) (A.d t) f : ℝ) : EReal) := by
  pointwise [val_main_v50, val_main_call1_v2, val_main_call1_v1, val_main_call1_v0, val_main_v49, val_main_v37_1,
    val_main_call0_v7, val_main_call0_v6, val_main_call0_cst_1]
  rw [gate H, up H, sigmoid H, dact H]
  simp only [one_coe, ← EReal.coe_mul, ← EReal.coe_add, ← EReal.coe_sub, FfnRow.dgate]
  congr 1; ring

theorem dgu (t : Fin 8192) (f : Fin 2816) :
    val_main_v51 (F := Ideal) x0 x1 x2 x3 x4 x5 x6 x7 (ix2 t (FfnRow.lo f))
        = ((FfnRow.dgate A.W (A.g t) (A.d t) f : ℝ) : EReal)
      ∧ val_main_v51 (F := Ideal) x0 x1 x2 x3 x4 x5 x6 x7 (ix2 t (FfnRow.hi f))
        = ((FfnRow.dup A.W (A.g t) (A.d t) f : ℝ) : EReal) := by
  rw [← dgate H, ← dup H]
  constructor
  · pointwise [val_main_v51, FfnRow.lo]
  · pointwise [val_main_v51, FfnRow.hi]

theorem dmod (t : Fin 8192) (j : Fin 1024) :
    val_main_v52 (F := Ideal) x0 x1 x2 x3 x4 x5 x6 x7 (ix2 t j) = ((FfnRow.dmod A.W (A.g t) (A.d t) j : ℝ) : EReal) := by
  pointwise [val_main_v52, val_main_v33, val_main_v2]
  simp only [FfnRow.sum_halves, (dgu H t _).1, (dgu H t _).2, H.h6, ← EReal.coe_mul, coe_sum, ← EReal.coe_add]; rfl

theorem dnorm (t : Fin 8192) (j : Fin 1024) :
    val_main_v59 (F := Ideal) x0 x1 x2 x3 x4 x5 x6 x7 (ix2 t j) = ((FfnRow.dnorm A.W (A.g t) (A.d t) j : ℝ) : EReal) := by
  pointwise [val_main_v59, val_main_v58]
  rw [dmod H, scale H, ← EReal.coe_mul]; rfl

theorem dhat (t : Fin 8192) (j : Fin 1024) :
    val_main_v64 (F := Ideal) x0 x1 x2 x3 x4 x5 x6 x7 (ix2 t j) = ((FfnRow.dhat A.W (A.g t) (A.d t) j : ℝ) : EReal) := by
  pointwise [val_main_v64, val_main_v63]
  rw [dnorm H, H.h4, ← EReal.coe_mul]; rfl

theorem pull (t : Fin 8192) (j : Fin 1024) :
    val_main_v74 (F := Ideal) x0 x1 x2 x3 x4 x5 x6 x7 (ix2 t j)
      = (((∑ k, A.x t k * FfnRow.dhat A.W (A.g t) (A.d t) k)
          * (-(1 / 2) * (FfnRow.rs (A.x t) / FfnRow.ms (A.x t))) / 1024 : ℝ) : EReal) := by
  pointwise [val_main_v74, val_main_v73, val_main_v72, val_main_v71, val_main_v70, val_main_v67, val_main_v66,
    val_main_v65, val_main_cst_7, val_main_cst_8, val_main_cst_9]
  simp only [res H, dhat H, slope H, ← EReal.coe_mul, coe_sum, zero_add, width]
  rw [Finset.sum_const, Finset.card_univ, Fintype.card_fin, one_smul, div_real (by norm_num)]

theorem dres (t : Fin 8192) (j : Fin 1024) :
    val_main_v79 (F := Ideal) x0 x1 x2 x3 x4 x5 x6 x7 (ix2 t j)
      = ((FfnRow.dres A.W (A.x t) (A.g t) (A.d t) (A.D t) j : ℝ) : EReal) := by
  pointwise [val_main_v79, val_main_v78, val_main_v77, val_main_v76, val_main_v75, val_main_v69, val_main_v68,
    val_main_v43]
  rw [pull H, dhat H, rs H, res H, H.h2]
  simp only [← EReal.coe_mul, ← EReal.coe_add]
  rw [FfnRow.norm_grad]; rfl

theorem dmix (t : Fin 8192) (j : Fin 1024) :
    val_main_v81 (F := Ideal) x0 x1 x2 x3 x4 x5 x6 x7 (ix2 t j)
      = ((FfnRow.dmix A.W (A.x t) (A.g t) (A.d t) (A.D t) j : ℝ) : EReal) := by
  pointwise [val_main_v81, val_main_v80, val_main_v4]
  rw [dres H, H.h3, ← EReal.coe_mul]; rfl

theorem dcat (t : Fin 8192) (k : Fin 1024) :
    val_main_v85 (F := Ideal) x0 x1 x2 x3 x4 x5 x6 x7 (ix2 t k)
      = ((FfnRow.dcat A.W (A.x t) (A.g t) (A.d t) (A.D t) k : ℝ) : EReal) := by
  pointwise [val_main_v85, val_main_v1]
  simp only [dmix H, H.h5, ← EReal.coe_mul, coe_sum, zero_add]; rfl

theorem part (q : Fin 8) (j : Fin 1024) :
    val_main_v87 (F := Ideal) x0 x1 x2 x3 x4 x5 x6 x7 (ix2 q j)
      = ((∑ t, FfnRow.share A.W (A.x t) (A.g t) (A.d t) (A.D t) (A.m t) q j : ℝ) : EReal) := by
  pointwise [val_main_v87, val_main_v54, val_main_v53, val_main_v57, val_main_v56, val_main_v55, val_main_v62,
    val_main_v61, val_main_v60, val_main_v84, val_main_v83, val_main_v82, val_main_v86, val_main_cst_4, val_main_cst_5,
    val_main_cst_6, val_main_cst_10, val_main_cst_11]
  simp only [dmod H, normed H, xh H, dnorm H, dres H, mix H, ← EReal.coe_mul, coe_sum, zero_add]
  split_ifs with a b c d
  · simp only [FfnRow.share, show q.val = 0 by omega, if_true]
  · simp [FfnRow.share, show q.val = 1 by omega, mul_comm]
  · simp [FfnRow.share, show q.val = 2 by omega, mul_comm]
  · simp [FfnRow.share, show q.val = 3 by omega]
  · simp [FfnRow.share, show q.val ≠ 0 by omega, show q.val ≠ 1 by omega, show q.val ≠ 2 by omega,
      show q.val ≠ 3 by omega]

end Cert.FfnRef

end
-- ==== Proof.FfnBlock.lean ====
/- What one grid point of the feed-forward's backward kernel computes from its 256 rows, on finite numbers. -/
module

public import proofs.«01_k».proof.Proof.FfnRow
public import proofs.«01_k».proof.Proof.Gen.KernelIdeal.Skeleton

@[expose] public section

set_option maxRecDepth 16384

noncomputable section

namespace Cert.FfnBlock

open Idealize.ShloMosaic Idealize.ShloMosaic.TcCoe Idealize.SL.Sem
open Cert.KernelIdeal Cert.KernelIdeal.Gen Cert.RealMath

variable (W : FfnRow.Weights) (x d e m : Fin 256 → Fin 1024 → ℝ) (g : Fin 256 → Fin 5632 → ℝ)

section Gate

variable {v5 : FVec Ideal S256x1024 .bf16} {v8 v11 : FVec Ideal S256x2816 .bf16} {v14 : FVec Ideal S2816x1024 .bf16}
  (h5 : ∀ (r : Fin 256) (j : Fin 1024), v5 (ix2 r j) = ((d r j : ℝ) : EReal))
  (h8 : ∀ (r : Fin 256) (f : Fin 2816), v8 (ix2 r f) = ((g r (FfnRow.lo f) : ℝ) : EReal))
  (h11 : ∀ (r : Fin 256) (f : Fin 2816), v11 (ix2 r f) = ((g r (FfnRow.hi f) : ℝ) : EReal))
  (h14 : ∀ (f : Fin 2816) (j : Fin 1024), v14 (ix2 f j) = ((W.wf f j : ℝ) : EReal))

include h8 in
theorem sigmoid (r : Fin 256) (f : Fin 2816) :
    k0_pay6 (F := Ideal) v8 (ix2 r f) = ((sg (g r (FfnRow.lo f)) : ℝ) : EReal) := by
  pointwise [k0_pay6, k0_pay4]
  rw [h8, half, ← EReal.coe_mul, Ideal.tanh_coe, ← EReal.coe_mul, ← EReal.coe_add, sg_tanh]

include h5 h14 in
theorem dact (r : Fin 256) (f : Fin 2816) :
    k0_pay5 (F := Ideal) v5 v14 (ix2 r f) = ((FfnRow.dact W (d r) f : ℝ) : EReal) := by
  pointwise [k0_pay5]
  simp only [h5, h14, ← EReal.coe_mul, coe_sum, FfnRow.dact, zero_add]

include h5 h8 h11 h14 in
theorem dgate (r : Fin 256) (f : Fin 2816) :
    k0_pay7 (F := Ideal) v5 v8 v11 v14 (ix2 r f) = ((FfnRow.dgate W (g r) (d r) f : ℝ) : EReal) := by
  pointwise [k0_pay7, k0_pay4]
  rw [dact W d h5 h14, sigmoid g h8, h8, h11]
  simp only [one_coe, ← EReal.coe_mul, ← EReal.coe_add, ← EReal.coe_sub, FfnRow.dgate]

include h5 h8 h14 in
theorem dup (r : Fin 256) (f : Fin 2816) :
    k0_pay8 (F := Ideal) v5 v8 v14 (ix2 r f) = ((FfnRow.dup W (g r) (d r) f : ℝ) : EReal) := by
  pointwise [k0_pay8, k0_pay4]
  rw [dact W d h5 h14, sigmoid g h8, h8]
  simp only [← EReal.coe_mul, FfnRow.dup]

end Gate

section Products

variable {v7 : FVec Ideal S256x1024 .f32} {v31 v34 : FVec Ideal S256x2816 .bf16} {v37 v40 : FVec Ideal S2816x1024 .bf16}
  {v4 v63 : FVec Ideal S1x1024 .f32} {v43 : FVec Ideal S256x1024 .f32}
  (h7 : v7 = k0_pay3 (F := Ideal))
  (h31 : ∀ (r : Fin 256) (f : Fin 2816), v31 (ix2 r f) = ((FfnRow.dgate W (g r) (d r) f : ℝ) : EReal))
  (h34 : ∀ (r : Fin 256) (f : Fin 2816), v34 (ix2 r f) = ((FfnRow.dup W (g r) (d r) f : ℝ) : EReal))
  (h37 : ∀ (f : Fin 2816) (j : Fin 1024), v37 (ix2 f j) = ((W.wi (FfnRow.lo f) j : ℝ) : EReal))
  (h40 : ∀ (f : Fin 2816) (j : Fin 1024), v40 (ix2 f j) = ((W.wi (FfnRow.hi f) j : ℝ) : EReal))
  (h4 : ∀ j : Fin 1024, v4 (ix2 0 j) = ((W.ada 4 j : ℝ) : EReal))
  (h63 : ∀ j : Fin 1024, v63 (ix2 0 j) = ((W.nw j : ℝ) : EReal))
  (h43 : ∀ (r : Fin 256) (j : Fin 1024), v43 (ix2 r j) = ((x r j : ℝ) : EReal))

include h7 h31 h34 h37 h40 in
theorem dmod (r : Fin 256) (j : Fin 1024) :
    k0_pay9 (F := Ideal) v7 v31 v34 v37 v40 (ix2 r j) = ((FfnRow.dmod W (g r) (d r) j : ℝ) : EReal) := by
  subst h7
  pointwise [k0_pay9, k0_pay3]
  simp only [h31, h34, h37, h40, ← EReal.coe_mul, coe_sum, zero_add, ← EReal.coe_add, FfnRow.dmod]

include h43 in
theorem rs (r : Fin 256) (z : Fin 1) : k0_pay11 (F := Ideal) v43 (ix2 r z) = ((FfnRow.rs (x r) : ℝ) : EReal) := by
  pointwise [k0_pay11, k0_pay10]
  simp only [h43, ← EReal.coe_mul, coe_sum, width, eps_eq]
  rw [div_real (by norm_num), ← EReal.coe_add]
  exact rsqrt_pos (FfnRow.ms_pos (x r))

include h43 in
theorem xh (r : Fin 256) (j : Fin 1024) : k0_pay12 (F := Ideal) v43 (ix2 r j) = ((FfnRow.xh (x r) j : ℝ) : EReal) := by
  pointwise [k0_pay12, k0_pay10]
  rw [h43, rs x h43, ← EReal.coe_mul]; rfl

include h43 h63 in
theorem normed (r : Fin 256) (j : Fin 1024) :
    k0_pay13 (F := Ideal) v43 v63 (ix2 r j) = ((FfnRow.xh (x r) j * W.nw j : ℝ) : EReal) := by
  pointwise [k0_pay13]
  rw [xh x h43, h63, ← EReal.coe_mul]

include h7 h31 h34 h37 h40 h4 in
theorem dnorm (r : Fin 256) (j : Fin 1024) :
    k0_pay14 (F := Ideal) v4 v7 v31 v34 v37 v40 (ix2 r j) = ((FfnRow.dnorm W (g r) (d r) j : ℝ) : EReal) := by
  pointwise [k0_pay14]
  rw [dmod W d g h7 h31 h34 h37 h40, h4, one_coe, ← EReal.coe_add, ← EReal.coe_mul]; rfl

include h7 h31 h34 h37 h40 h4 h63 in
theorem dhat (r : Fin 256) (j : Fin 1024) :
    k0_pay15 (F := Ideal) v4 v7 v31 v34 v37 v40 v63 (ix2 r j) = ((FfnRow.dhat W (g r) (d r) j : ℝ) : EReal) := by
  pointwise [k0_pay15]
  rw [dnorm W d g h7 h31 h34 h37 h40 h4, h63, ← EReal.coe_mul]; rfl

include h7 h31 h34 h37 h40 h4 h63 h43 in
theorem mean (r : Fin 256) (z : Fin 1) :
    k0_pay16 (F := Ideal) v4 v7 v31 v34 v37 v40 v43 v63 (ix2 r z) = ((FfnRow.mean W (x r) (g r) (d r) : ℝ) : EReal) := by
  pointwise [k0_pay16]
  simp only [dhat W d g h7 h31 h34 h37 h40 h4 h63, xh x h43, ← EReal.coe_mul, coe_sum, width]
  exact div_real (by norm_num) _

end Products

section Results

variable {v52 v70 : FVec Ideal S256x1 .f32} {v54 v62 v65 : FVec Ideal S256x1024 .f32} {v3 : FVec Ideal S1x1024 .f32}
  {v82 : FVec Ideal S1024x1024 .bf16}
  (h52 : ∀ (r : Fin 256) (z : Fin 1), v52 (ix2 r z) = ((FfnRow.rs (x r) : ℝ) : EReal))
  (h54 : ∀ (r : Fin 256) (j : Fin 1024), v54 (ix2 r j) = ((FfnRow.xh (x r) j : ℝ) : EReal))
  (h62 : ∀ (r : Fin 256) (j : Fin 1024), v62 (ix2 r j) = ((e r j : ℝ) : EReal))
  (h65 : ∀ (r : Fin 256) (j : Fin 1024), v65 (ix2 r j) = ((FfnRow.dhat W (g r) (d r) j : ℝ) : EReal))
  (h70 : ∀ (r : Fin 256) (z : Fin 1), v70 (ix2 r z) = ((FfnRow.mean W (x r) (g r) (d r) : ℝ) : EReal))
  (h3 : ∀ j : Fin 1024, v3 (ix2 0 j) = ((W.ada 2 j : ℝ) : EReal))
  (h82 : ∀ (k j : Fin 1024), v82 (ix2 k j) = ((W.wo k j : ℝ) : EReal))

include h52 h54 h62 h65 h70 in
theorem dres (r : Fin 256) (j : Fin 1024) :
    k0_pay17 (F := Ideal) v52 v54 v62 v65 v70 (ix2 r j) = ((FfnRow.dres W (x r) (g r) (d r) (e r) j : ℝ) : EReal) := by
  pointwise [k0_pay17]
  rw [h52, h54, h62, h65, h70]
  simp only [← EReal.coe_mul, ← EReal.coe_add, ← EReal.coe_sub, FfnRow.dres]

include h52 h54 h62 h65 h70 h3 in
theorem dmix (r : Fin 256) (j : Fin 1024) :
    k0_pay18 (F := Ideal) v3 v52 v54 v62 v65 v70 (ix2 r j) = ((FfnRow.dmix W (x r) (g r) (d r) (e r) j : ℝ) : EReal) := by
  pointwise [k0_pay18]
  rw [dres W x d e g h52 h54 h62 h65 h70, h3, ← EReal.coe_mul]; rfl

include h52 h54 h62 h65 h70 h3 h82 in
theorem dcat (r : Fin 256) (k : Fin 1024) :
    k0_pay19 (F := Ideal) v3 v52 v54 v62 v65 v70 v82 (ix2 r k)
      = ((FfnRow.dcat W (x r) (g r) (d r) (e r) k : ℝ) : EReal) := by
  pointwise [k0_pay19]
  simp only [dmix W x d e g h52 h54 h62 h65 h70 h3, h82, ← EReal.coe_mul, coe_sum, zero_add]; rfl

end Results

section Sums

variable {v42 v57 v54 v61 v76 : FVec Ideal S256x1024 .f32} {v107 : FVec Ideal S256x1024 .bf16}
  {a b : Fin 256 → Fin 1024 → ℝ} (acc : FVec Ideal S1x1024 .f32)

/-- The first row of the sums takes the tile's column sum. -/
theorem sum0 (h : ∀ (r : Fin 256) (j : Fin 1024), v42 (ix2 r j) = ((a r j : ℝ) : EReal)) (j : Fin 1024) :
    k0_pay20 (F := Ideal) v42 acc (ix2 0 j) = acc (ix2 0 j) + ((∑ r, a r j : ℝ) : EReal) := by
  pointwise [k0_pay20]
  simp only [h, coe_sum]

/-- The second row the column sum of a product. -/
theorem sum1 (h : ∀ (r : Fin 256) (j : Fin 1024), v42 (ix2 r j) = ((a r j : ℝ) : EReal))
    (h' : ∀ (r : Fin 256) (j : Fin 1024), v57 (ix2 r j) = ((b r j : ℝ) : EReal)) (j : Fin 1024) :
    k0_pay21 (F := Ideal) v42 v57 acc (ix2 0 j) = acc (ix2 0 j) + ((∑ r, a r j * b r j : ℝ) : EReal) := by
  pointwise [k0_pay21]
  simp only [h, h', ← EReal.coe_mul, coe_sum]

/-- The third likewise. -/
theorem sum2 (h : ∀ (r : Fin 256) (j : Fin 1024), v61 (ix2 r j) = ((a r j : ℝ) : EReal))
    (h' : ∀ (r : Fin 256) (j : Fin 1024), v54 (ix2 r j) = ((b r j : ℝ) : EReal)) (j : Fin 1024) :
    k0_pay22 (F := Ideal) v54 v61 acc (ix2 0 j) = acc (ix2 0 j) + ((∑ r, a r j * b r j : ℝ) : EReal) := by
  pointwise [k0_pay22]
  simp only [h, h', ← EReal.coe_mul, coe_sum]

/-- The fourth likewise. -/
theorem sum3 (h : ∀ (r : Fin 256) (j : Fin 1024), v76 (ix2 r j) = ((a r j : ℝ) : EReal))
    (h' : ∀ (r : Fin 256) (j : Fin 1024), v107 (ix2 r j) = ((b r j : ℝ) : EReal)) (j : Fin 1024) :
    k0_pay1 (F := Ideal) v76 acc v107 (ix2 0 j) = acc (ix2 0 j) + ((∑ r, a r j * b r j : ℝ) : EReal) := by
  pointwise [k0_pay1]
  simp only [h, h', ← EReal.coe_mul, coe_sum]

end Sums

/-- The vectors one grid point loads, read as the rows and weights of the real formulas. -/
structure Loads (v3 v4 v63 : FVec Ideal S1x1024 .f32) (v5 : FVec Ideal S256x1024 .bf16)
    (v8 v11 : FVec Ideal S256x2816 .bf16) (v14 v37 v40 : FVec Ideal S2816x1024 .bf16)
    (v43 v62 : FVec Ideal S256x1024 .f32) (v82 : FVec Ideal S1024x1024 .bf16) : Prop where
  h3 : ∀ j : Fin 1024, v3 (ix2 0 j) = ((W.ada 2 j : ℝ) : EReal)
  h4 : ∀ j : Fin 1024, v4 (ix2 0 j) = ((W.ada 4 j : ℝ) : EReal)
  h63 : ∀ j : Fin 1024, v63 (ix2 0 j) = ((W.nw j : ℝ) : EReal)
  h5 : ∀ (r : Fin 256) (j : Fin 1024), v5 (ix2 r j) = ((d r j : ℝ) : EReal)
  h8 : ∀ (r : Fin 256) (f : Fin 2816), v8 (ix2 r f) = ((g r (FfnRow.lo f) : ℝ) : EReal)
  h11 : ∀ (r : Fin 256) (f : Fin 2816), v11 (ix2 r f) = ((g r (FfnRow.hi f) : ℝ) : EReal)
  h14 : ∀ (f : Fin 2816) (j : Fin 1024), v14 (ix2 f j) = ((W.wf f j : ℝ) : EReal)
  h37 : ∀ (f : Fin 2816) (j : Fin 1024), v37 (ix2 f j) = ((W.wi (FfnRow.lo f) j : ℝ) : EReal)
  h40 : ∀ (f : Fin 2816) (j : Fin 1024), v40 (ix2 f j) = ((W.wi (FfnRow.hi f) j : ℝ) : EReal)
  h43 : ∀ (r : Fin 256) (j : Fin 1024), v43 (ix2 r j) = ((x r j : ℝ) : EReal)
  h62 : ∀ (r : Fin 256) (j : Fin 1024), v62 (ix2 r j) = ((e r j : ℝ) : EReal)
  h82 : ∀ (k j : Fin 1024), v82 (ix2 k j) = ((W.wo k j : ℝ) : EReal)

namespace Loads

variable {W x d e g} {v3 v4 v63 : FVec Ideal S1x1024 .f32} {v5 : FVec Ideal S256x1024 .bf16}
  {v8 v11 : FVec Ideal S256x2816 .bf16} {v14 v37 v40 : FVec Ideal S2816x1024 .bf16}
  {v43 v62 : FVec Ideal S256x1024 .f32} {v82 : FVec Ideal S1024x1024 .bf16} {v107 : FVec Ideal S256x1024 .bf16}
  (L : Loads W x d e g v3 v4 v63 v5 v8 v11 v14 v37 v40 v43 v62 v82)

include L

theorem dgate (r : Fin 256) (f : Fin 2816) :
    k0_pay7 (F := Ideal) v5 v8 v11 v14 (ix2 r f) = ((FfnRow.dgate W (g r) (d r) f : ℝ) : EReal) :=
  FfnBlock.dgate W d g L.h5 L.h8 L.h11 L.h14 r f

theorem dup (r : Fin 256) (f : Fin 2816) :
    k0_pay8 (F := Ideal) v5 v8 v14 (ix2 r f) = ((FfnRow.dup W (g r) (d r) f : ℝ) : EReal) :=
  FfnBlock.dup W d g L.h5 L.h8 L.h14 r f

theorem dmod (r : Fin 256) (j : Fin 1024) :
    k0_pay9 (F := Ideal) k0_pay3 (k0_pay7 v5 v8 v11 v14) (k0_pay8 v5 v8 v14) v37 v40 (ix2 r j)
      = ((FfnRow.dmod W (g r) (d r) j : ℝ) : EReal) :=
  FfnBlock.dmod W d g rfl L.dgate L.dup L.h37 L.h40 r j

theorem dnorm (r : Fin 256) (j : Fin 1024) :
    k0_pay14 (F := Ideal) v4 k0_pay3 (k0_pay7 v5 v8 v11 v14) (k0_pay8 v5 v8 v14) v37 v40 (ix2 r j)
      = ((FfnRow.dnorm W (g r) (d r) j : ℝ) : EReal) :=
  FfnBlock.dnorm W d g rfl L.dgate L.dup L.h37 L.h40 L.h4 r j

theorem dhat (r : Fin 256) (j : Fin 1024) :
    k0_pay15 (F := Ideal) v4 k0_pay3 (k0_pay7 v5 v8 v11 v14) (k0_pay8 v5 v8 v14) v37 v40 v63 (ix2 r j)
      = ((FfnRow.dhat W (g r) (d r) j : ℝ) : EReal) :=
  FfnBlock.dhat W d g rfl L.dgate L.dup L.h37 L.h40 L.h4 L.h63 r j

theorem mean (r : Fin 256) (z : Fin 1) :
    k0_pay16 (F := Ideal) v4 k0_pay3 (k0_pay7 v5 v8 v11 v14) (k0_pay8 v5 v8 v14) v37 v40 v43 v63 (ix2 r z)
      = ((FfnRow.mean W (x r) (g r) (d r) : ℝ) : EReal) :=
  FfnBlock.mean W x d g rfl L.dgate L.dup L.h37 L.h40 L.h4 L.h63 L.h43 r z

/-- The block of the residual stream's gradient. -/
theorem dres (r : Fin 256) (j : Fin 1024) :
    k0_pay17 (F := Ideal) (k0_pay11 v43) (k0_pay12 v43) v62
        (k0_pay15 v4 k0_pay3 (k0_pay7 v5 v8 v11 v14) (k0_pay8 v5 v8 v14) v37 v40 v63)
        (k0_pay16 v4 k0_pay3 (k0_pay7 v5 v8 v11 v14) (k0_pay8 v5 v8 v14) v37 v40 v43 v63) (ix2 r j)
      = ((FfnRow.dres W (x r) (g r) (d r) (e r) j : ℝ) : EReal) :=
  FfnBlock.dres W x d e g (FfnBlock.rs x L.h43) (FfnBlock.xh x L.h43) L.h62 L.dhat L.mean r j

/-- The block of the mixing projection's gradient. -/
theorem dmix (r : Fin 256) (j : Fin 1024) :
    k0_pay18 (F := Ideal) v3 (k0_pay11 v43) (k0_pay12 v43) v62
        (k0_pay15 v4 k0_pay3 (k0_pay7 v5 v8 v11 v14) (k0_pay8 v5 v8 v14) v37 v40 v63)
        (k0_pay16 v4 k0_pay3 (k0_pay7 v5 v8 v11 v14) (k0_pay8 v5 v8 v14) v37 v40 v43 v63) (ix2 r j)
      = ((FfnRow.dmix W (x r) (g r) (d r) (e r) j : ℝ) : EReal) :=
  FfnBlock.dmix W x d e g (FfnBlock.rs x L.h43) (FfnBlock.xh x L.h43) L.h62 L.dhat L.mean L.h3 r j

/-- The block of the concatenated output's gradient. -/
theorem dcat (r : Fin 256) (k : Fin 1024) :
    k0_pay19 (F := Ideal) v3 (k0_pay11 v43) (k0_pay12 v43) v62
        (k0_pay15 v4 k0_pay3 (k0_pay7 v5 v8 v11 v14) (k0_pay8 v5 v8 v14) v37 v40 v63)
        (k0_pay16 v4 k0_pay3 (k0_pay7 v5 v8 v11 v14) (k0_pay8 v5 v8 v14) v37 v40 v43 v63) v82 (ix2 r k)
      = ((FfnRow.dcat W (x r) (g r) (d r) (e r) k : ℝ) : EReal) :=
  FfnBlock.dcat W x d e g (FfnBlock.rs x L.h43) (FfnBlock.xh x L.h43) L.h62 L.dhat L.mean L.h3 L.h82 r k

/-- What the tile adds to each row of the sums: the row held `a` at column `j`. -/
theorem row0 {acc : FVec Ideal S1x1024 .f32} {a : EReal} {j : Fin 1024} (ha : acc (ix2 0 j) = a) (q : Fin 8)
    (hq : q.val = 0) :
    k0_pay20 (F := Ideal) (k0_pay9 k0_pay3 (k0_pay7 v5 v8 v11 v14) (k0_pay8 v5 v8 v14) v37 v40) acc (ix2 0 j)
      = a + ((∑ r, FfnRow.share W (x r) (g r) (d r) (e r) (m r) q j : ℝ) : EReal) := by
  rw [sum0 acc L.dmod, ha]
  simp only [FfnRow.share, hq, if_true]

theorem row1 {acc : FVec Ideal S1x1024 .f32} {a : EReal} {j : Fin 1024} (ha : acc (ix2 0 j) = a) (q : Fin 8)
    (hq : q.val = 1) :
    k0_pay21 (F := Ideal) (k0_pay9 k0_pay3 (k0_pay7 v5 v8 v11 v14) (k0_pay8 v5 v8 v14) v37 v40) (k0_pay13 v43 v63) acc
        (ix2 0 j)
      = a + ((∑ r, FfnRow.share W (x r) (g r) (d r) (e r) (m r) q j : ℝ) : EReal) := by
  rw [sum1 acc L.dmod (FfnBlock.normed W x L.h63 L.h43), ha]
  simp [FfnRow.share, hq]

theorem row2 {acc : FVec Ideal S1x1024 .f32} {a : EReal} {j : Fin 1024} (ha : acc (ix2 0 j) = a) (q : Fin 8)
    (hq : q.val = 2) :
    k0_pay22 (F := Ideal) (k0_pay12 v43) (k0_pay14 v4 k0_pay3 (k0_pay7 v5 v8 v11 v14) (k0_pay8 v5 v8 v14) v37 v40) acc
        (ix2 0 j)
      = a + ((∑ r, FfnRow.share W (x r) (g r) (d r) (e r) (m r) q j : ℝ) : EReal) := by
  rw [sum2 acc L.dnorm (FfnBlock.xh x L.h43), ha]
  simp [FfnRow.share, hq]

theorem row3 (h107 : ∀ (r : Fin 256) (j : Fin 1024), v107 (ix2 r j) = ((m r j : ℝ) : EReal))
    {acc : FVec Ideal S1x1024 .f32} {a : EReal} {j : Fin 1024} (ha : acc (ix2 0 j) = a) (q : Fin 8) (hq : q.val = 3) :
    k0_pay1 (F := Ideal) (k0_pay17 (k0_pay11 v43) (k0_pay12 v43) v62
        (k0_pay15 v4 k0_pay3 (k0_pay7 v5 v8 v11 v14) (k0_pay8 v5 v8 v14) v37 v40 v63)
        (k0_pay16 v4 k0_pay3 (k0_pay7 v5 v8 v11 v14) (k0_pay8 v5 v8 v14) v37 v40 v43 v63)) acc v107 (ix2 0 j)
      = a + ((∑ r, FfnRow.share W (x r) (g r) (d r) (e r) (m r) q j : ℝ) : EReal) := by
  rw [sum3 acc L.dres h107, ha]
  simp [FfnRow.share, hq]

end Loads

end Cert.FfnBlock

end
-- ==== Proof.Boxes.lean ====
/- A matrix written box by box, read at one entry: the newest box that holds the entry decides it. -/
module

public import Idealize.ShloMosaic.Lib.Pipeline.ValueKit
public import Idealize.ShloMosaic.Lib.Pipeline.ReadBack

@[expose] public section

noncomputable section

namespace Cert.Boxes

open Idealize.ShloMosaic Idealize.ShloMosaic.View

variable {K N o p k n : ℕ} {e : EltTy} {Val : EltTy → Type} [∀ e, Nonempty (Val e)]
  (inb : ∀ x, (![o, p] : Fin 2 → ℕ) x + (![k, n] : Fin 2 → ℕ) x ≤ (⟨2, ![K, N]⟩ : Shape).size x)
  (w : (⟨2, ![k, n]⟩ : Shape).Idx → Val e) (L : List (Piece Val (⟨2, ![K, N]⟩ : Shape) e)) (q : Fin K) (j : Fin N)

/-- The box's entry `(q', j')` is the matrix's entry `(o + q', p + j')`. -/
theorem emb_box (q' : Fin k) (j' : Fin n) (hq : q.val = o + q'.val) (hj : j.val = p + j'.val) :
    (Rect.unit (s := (⟨2, ![K, N]⟩ : Shape)) ![o, p] ![k, n] inb).emb (ix2 q' j') = ix2 q j := by
  funext x; apply Fin.ext
  fin_cases x
  · show o + 1 * q'.val = q.val; omega
  · show p + 1 * j'.val = j.val; omega

/-- An entry off the box's rows or off its columns is not in the box. -/
theorem not_mem_box (h : q.val < o ∨ o + k ≤ q.val ∨ j.val < p ∨ p + n ≤ j.val) :
    ix2 q j ∉ (Rect.unit (s := (⟨2, ![K, N]⟩ : Shape)) ![o, p] ![k, n] inb).set := by
  intro hm
  obtain ⟨a, ha, ea⟩ := (LoadRect.mem_set _).mp hm (0 : Fin 2)
  obtain ⟨b, hb, eb⟩ := (LoadRect.mem_set _).mp hm (1 : Fin 2)
  have ha' : a < k := ha
  have hb' : b < n := hb
  have ea' : q.val = o + 1 * a := ea
  have eb' : j.val = p + 1 * b := eb
  omega

/-- In the newest box: its payload. -/
theorem canon_hit (q' : Fin k) (j' : Fin n) (hq : q.val = o + q'.val) (hj : j.val = p + j'.val) :
    canon ((⟨Rect.unit (s := (⟨2, ![K, N]⟩ : Shape)) ![o, p] ![k, n] inb, w⟩ : Piece Val (⟨2, ![K, N]⟩ : Shape) e) :: L)
      (ix2 q j) = w (ix2 q' j') := by
  rw [← emb_box inb q j q' j' hq hj]
  exact canon_cons_emb (Rect.unit (s := (⟨2, ![K, N]⟩ : Shape)) ![o, p] ![k, n] inb) w L (ix2 q' j')

/-- Off the newest box: the older ones. -/
theorem canon_miss (h : q.val < o ∨ o + k ≤ q.val ∨ j.val < p ∨ p + n ≤ j.val) :
    canon ((⟨Rect.unit (s := (⟨2, ![K, N]⟩ : Shape)) ![o, p] ![k, n] inb, w⟩ : Piece Val (⟨2, ![K, N]⟩ : Shape) e) :: L)
      (ix2 q j) = canon L (ix2 q j) :=
  canon_cons_of_not_mem _ L (not_mem_box inb q j h)

/-- A box of a matrix, at an entry. -/
theorem ld_box (A : (⟨2, ![K, N]⟩ : Shape).Idx → Val e) (q' : Fin k) (j' : Fin n) (hq : q.val = o + q'.val)
    (hj : j.val = p + j'.val) :
    View.ld A (Rect.unit (s := (⟨2, ![K, N]⟩ : Shape)) ![o, p] ![k, n] inb) (ix2 q' j') = A (ix2 q j) :=
  congrArg A (emb_box inb q j q' j' hq hj)

variable {sig : RefSig} {κ : Kind} {sp : Space} (v : View sig κ sp (⟨2, ![K, N]⟩ : Shape) e) (f : v.ty.Contents Val)

/-- The same over earlier contents: in the newest box, its payload. -/
theorem read_hit (q' : Fin k) (j' : Fin n) (hq : q.val = o + q'.val) (hj : j.val = p + j'.val) :
    v.read Val (v.writes Val f
      ((⟨Rect.unit (s := (⟨2, ![K, N]⟩ : Shape)) ![o, p] ![k, n] inb, w⟩ : Piece Val (⟨2, ![K, N]⟩ : Shape) e) :: L))
      (ix2 q j) = w (ix2 q' j') := by
  rw [← emb_box inb q j q' j' hq hj]
  exact read_writes_cons_emb v f (Rect.unit (s := (⟨2, ![K, N]⟩ : Shape)) ![o, p] ![k, n] inb) w L (ix2 q' j')

/-- Off the newest box: what the older ones left. -/
theorem read_miss (h : q.val < o ∨ o + k ≤ q.val ∨ j.val < p ∨ p + n ≤ j.val) :
    v.read Val (v.writes Val f
      ((⟨Rect.unit (s := (⟨2, ![K, N]⟩ : Shape)) ![o, p] ![k, n] inb, w⟩ : Piece Val (⟨2, ![K, N]⟩ : Shape) e) :: L))
      (ix2 q j) = v.read Val (v.writes Val f L) (ix2 q j) := by
  rw [writes_cons]
  refine read_slice_write_of_not_mem _ _ _ _ ?_
  rw [Rect.map_emb_univ]
  exact not_mem_box inb q j h

/-- A load of a box from what the pieces cover, at an entry. -/
theorem load_box (q' : Fin k) (j' : Fin n) (hq : q.val = o + q'.val) (hj : j.val = p + j'.val) :
    v.readCov L (Rect.unit (s := (⟨2, ![K, N]⟩ : Shape)) ![o, p] ![k, n] inb).toLoadRect (ix2 q' j') = canon L (ix2 q j) := by
  rw [readCov_eq_canon', ← emb_box inb q j q' j' hq hj]
  rfl

section Rows

variable {N : ℕ} (v : View sig κ sp (⟨2, ![8, N]⟩ : Shape) e) (f : v.ty.Contents Val)
  (L : List (Piece Val (⟨2, ![8, N]⟩ : Shape) e))
  (i0 : ∀ x, (![0, 0] : Fin 2 → ℕ) x + (![1, N] : Fin 2 → ℕ) x ≤ (⟨2, ![8, N]⟩ : Shape).size x)
  (i1 : ∀ x, (![1, 0] : Fin 2 → ℕ) x + (![1, N] : Fin 2 → ℕ) x ≤ (⟨2, ![8, N]⟩ : Shape).size x)
  (i2 : ∀ x, (![2, 0] : Fin 2 → ℕ) x + (![1, N] : Fin 2 → ℕ) x ≤ (⟨2, ![8, N]⟩ : Shape).size x)
  (i3 : ∀ x, (![3, 0] : Fin 2 → ℕ) x + (![1, N] : Fin 2 → ℕ) x ≤ (⟨2, ![8, N]⟩ : Shape).size x)
  (p0 p1 p2 p3 : (⟨2, ![1, N]⟩ : Shape).Idx → Val e) (G : Fin 8 → Fin N → Val e)

/-- Rows 0 to 2 written one after the other over the pieces `L`. -/
abbrev rows3 : List (Piece Val (⟨2, ![8, N]⟩ : Shape) e) :=
  ⟨Rect.unit (s := (⟨2, ![8, N]⟩ : Shape)) ![2, 0] ![1, N] i2, p2⟩
    :: ⟨Rect.unit (s := (⟨2, ![8, N]⟩ : Shape)) ![1, 0] ![1, N] i1, p1⟩
    :: ⟨Rect.unit (s := (⟨2, ![8, N]⟩ : Shape)) ![0, 0] ![1, N] i0, p0⟩ :: L

/-- Rows 0 to 3. -/
abbrev rows : List (Piece Val (⟨2, ![8, N]⟩ : Shape) e) :=
  ⟨Rect.unit (s := (⟨2, ![8, N]⟩ : Shape)) ![3, 0] ![1, N] i3, p3⟩ :: rows3 L i0 i1 i2 p0 p1 p2

variable (h0 : ∀ q j, q.val = 0 → p0 (ix2 0 j) = G q j) (h1 : ∀ q j, q.val = 1 → p1 (ix2 0 j) = G q j)
  (h2 : ∀ q j, q.val = 2 → p2 (ix2 0 j) = G q j) (h3 : ∀ q j, q.val = 3 → p3 (ix2 0 j) = G q j)

include h0 h1 h2

/-- An entry of the rows just written, over earlier contents that already hold the wanted value in the other rows. -/
theorem read_rows3 (q : Fin 8) (j : Fin N) (hr : 3 ≤ q.val → v.read Val (v.writes Val f L) (ix2 q j) = G q j) :
    v.read Val (v.writes Val f (rows3 L i0 i1 i2 p0 p1 p2)) (ix2 q j) = G q j := by
  by_cases e2 : q.val = 2
  · exact (read_hit i2 p2 _ q j v f 0 j (by simp [e2]) (by simp)).trans (h2 q j e2)
  rw [read_miss i2 p2 _ q j v f (by omega)]
  by_cases e1 : q.val = 1
  · exact (read_hit i1 p1 _ q j v f 0 j (by simp [e1]) (by simp)).trans (h1 q j e1)
  rw [read_miss i1 p1 _ q j v f (by omega)]
  by_cases e0 : q.val = 0
  · exact (read_hit i0 p0 _ q j v f 0 j (by simp [e0]) (by simp)).trans (h0 q j e0)
  rw [read_miss i0 p0 _ q j v f (by omega)]
  exact hr (by omega)

/-- The same when nothing was there before the pieces. -/
theorem canon_rows3 (q : Fin 8) (j : Fin N) (hr : 3 ≤ q.val → canon L (ix2 q j) = G q j) :
    canon (rows3 L i0 i1 i2 p0 p1 p2) (ix2 q j) = G q j := by
  by_cases e2 : q.val = 2
  · exact (canon_hit i2 p2 _ q j 0 j (by simp [e2]) (by simp)).trans (h2 q j e2)
  rw [canon_miss i2 p2 _ q j (by omega)]
  by_cases e1 : q.val = 1
  · exact (canon_hit i1 p1 _ q j 0 j (by simp [e1]) (by simp)).trans (h1 q j e1)
  rw [canon_miss i1 p1 _ q j (by omega)]
  by_cases e0 : q.val = 0
  · exact (canon_hit i0 p0 _ q j 0 j (by simp [e0]) (by simp)).trans (h0 q j e0)
  rw [canon_miss i0 p0 _ q j (by omega)]
  exact hr (by omega)

include h3

/-- The four rows, over earlier contents. -/
theorem read_rows (hr : ∀ q j, 4 ≤ q.val → v.read Val (v.writes Val f L) (ix2 q j) = G q j) (q : Fin 8) (j : Fin N) :
    v.read Val (v.writes Val f (rows L i0 i1 i2 i3 p0 p1 p2 p3)) (ix2 q j) = G q j := by
  by_cases e3 : q.val = 3
  · exact (read_hit i3 p3 _ q j v f 0 j (by simp [e3]) (by simp)).trans (h3 q j e3)
  rw [read_miss i3 p3 _ q j v f (by omega)]
  exact read_rows3 v f L i0 i1 i2 p0 p1 p2 G h0 h1 h2 q j fun h => hr q j (by omega)

/-- The four rows over nothing. -/
theorem canon_rows (hr : ∀ q j, 4 ≤ q.val → canon L (ix2 q j) = G q j) (q : Fin 8) (j : Fin N) :
    canon (rows L i0 i1 i2 i3 p0 p1 p2 p3) (ix2 q j) = G q j := by
  by_cases e3 : q.val = 3
  · exact (canon_hit i3 p3 _ q j 0 j (by simp [e3]) (by simp)).trans (h3 q j e3)
  rw [canon_miss i3 p3 _ q j (by omega)]
  exact canon_rows3 L i0 i1 i2 p0 p1 p2 G h0 h1 h2 q j fun h => hr q j (by omega)

end Rows

end Cert.Boxes

end
-- ==== Proof.FfnTile.lean ====
/- What the feed-forward's backward kernel leaves in its blocks at each grid point, on finite numbers. -/
module

public import proofs.«01_k».proof.Proof.FfnBlock
public import proofs.«01_k».proof.Proof.Boxes
public import proofs.«01_k».proof.Proof.Gen.KernelIdeal.Frame

@[expose] public section

set_option maxRecDepth 16384

noncomputable section

namespace Cert.FfnTile

open Idealize.ShloMosaic Idealize.ShloMosaic.TcCoe Idealize.SL.Sem
open Cert.KernelIdeal Cert.KernelIdeal.Gen Cert.RealMath

variable (m : (ℓ : Loc nD τ sig) → Buf (Elt Ideal) ℓ) (c : Dev nD)
variable (W : FfnRow.Weights) (x d e mx : Fin 256 → Fin 1024 → ℝ) (g : Fin 256 → Fin 5632 → ℝ)

/-- The blocks a grid point is given, as the rows and weights of the real formulas. -/
structure Blocks (t : Fin cfg0.N) : Prop where
  b0 : ∀ (r : Fin 256) (j : Fin 1024), (iblk m c 0 t : FVec Ideal S256x1024 .f32) (ix2 r j) = ((x r j : ℝ) : EReal)
  b1 : ∀ (r : Fin 256) (f : Fin 5632), (iblk m c 1 t : FVec Ideal S256x5632 .bf16) (ix2 r f) = ((g r f : ℝ) : EReal)
  b2 : ∀ (r : Fin 256) (j : Fin 1024), (iblk m c 2 t : FVec Ideal S256x1024 .bf16) (ix2 r j) = ((d r j : ℝ) : EReal)
  b3 : ∀ (r : Fin 256) (j : Fin 1024), (iblk m c 3 t : FVec Ideal S256x1024 .f32) (ix2 r j) = ((e r j : ℝ) : EReal)
  b4 : ∀ (r : Fin 256) (j : Fin 1024), (iblk m c 4 t : FVec Ideal S256x1024 .bf16) (ix2 r j) = ((mx r j : ℝ) : EReal)
  b5 : ∀ (q : Fin 6) (j : Fin 1024), (iblk m c 5 t : FVec Ideal S6x1024 .f32) (ix2 q j) = ((W.ada q j : ℝ) : EReal)
  b6 : ∀ j : Fin 1024, (iblk m c 6 t : FVec Ideal S1x1024 .f32) (ix2 0 j) = ((W.nw j : ℝ) : EReal)
  b7 : ∀ (k j : Fin 1024), (iblk m c 7 t : FVec Ideal S1024x1024 .bf16) (ix2 k j) = ((W.wo k j : ℝ) : EReal)
  b8 : ∀ (f : Fin 5632) (j : Fin 1024), (iblk m c 8 t : FVec Ideal S5632x1024 .bf16) (ix2 f j) = ((W.wi f j : ℝ) : EReal)
  b9 : ∀ (f : Fin 2816) (j : Fin 1024), (iblk m c 9 t : FVec Ideal S2816x1024 .bf16) (ix2 f j) = ((W.wf f j : ℝ) : EReal)

variable {m c W x d e mx g}

/-- What the grid point loads from its blocks. -/
theorem loads {t : Fin cfg0.N} (B : Blocks m c W x d e mx g t) :
    FfnBlock.Loads W x d e g
      (View.ld (Val := Elt Ideal) (e' := .f32) (iblk m c 5 t : FVec Ideal S6x1024 .f32)
        (Rect.unit ![2, 0] ![1, 1024] inb_S6x1024_S1x1024_2_0))
      (View.ld (Val := Elt Ideal) (e' := .f32) (iblk m c 5 t : FVec Ideal S6x1024 .f32)
        (Rect.unit ![4, 0] ![1, 1024] inb_S6x1024_S1x1024_4_0))
      (iblk m c 6 t) (iblk m c 2 t)
      (View.ld (Val := Elt Ideal) (e' := .bf16) (iblk m c 1 t : FVec Ideal S256x5632 .bf16)
        (Rect.unit ![0, 0] ![256, 2816] inb_S256x5632_S256x2816_0_0))
      (View.ld (Val := Elt Ideal) (e' := .bf16) (iblk m c 1 t : FVec Ideal S256x5632 .bf16)
        (Rect.unit ![0, 2816] ![256, 2816] inb_S256x5632_S256x2816_0_2816))
      (iblk m c 9 t)
      (View.ld (Val := Elt Ideal) (e' := .bf16) (iblk m c 8 t : FVec Ideal S5632x1024 .bf16)
        (Rect.unit ![0, 0] ![2816, 1024] inb_S5632x1024_S2816x1024_0_0))
      (View.ld (Val := Elt Ideal) (e' := .bf16) (iblk m c 8 t : FVec Ideal S5632x1024 .bf16)
        (Rect.unit ![2816, 0] ![2816, 1024] inb_S5632x1024_S2816x1024_2816_0))
      (iblk m c 0 t) (iblk m c 3 t) (iblk m c 7 t) where
  h3 := by intro j; pointwise; exact B.b5 _ _
  h4 := by intro j; pointwise; exact B.b5 _ _
  h63 := B.b6
  h5 := B.b2
  h8 := by intro r f; pointwise; exact B.b1 _ _
  h11 := by intro r f; pointwise; exact B.b1 _ _
  h14 := B.b9
  h37 := by intro f j; pointwise; exact B.b8 _ _
  h40 := by intro f j; pointwise; exact B.b8 _ _
  h43 := B.b0
  h62 := B.b3
  h82 := B.b7

/-- The blocks the grid point leaves in the four outputs written block by block. -/
structure Left (t : Fin cfg0.N) : Prop where
  dgate : ∀ (r : Fin 256) (f : Fin 2816),
    (outsAt0 m c t.val t.isLt).1 (ix2 r (FfnRow.lo f)) = ((FfnRow.dgate W (g r) (d r) f : ℝ) : EReal)
  dup : ∀ (r : Fin 256) (f : Fin 2816),
    (outsAt0 m c t.val t.isLt).1 (ix2 r (FfnRow.hi f)) = ((FfnRow.dup W (g r) (d r) f : ℝ) : EReal)
  dres : ∀ (r : Fin 256) (j : Fin 1024),
    (outsAt0 m c t.val t.isLt).2.1 (ix2 r j) = ((FfnRow.dres W (x r) (g r) (d r) (e r) j : ℝ) : EReal)
  dmix : ∀ (r : Fin 256) (j : Fin 1024),
    (outsAt0 m c t.val t.isLt).2.2.1 (ix2 r j) = ((FfnRow.dmix W (x r) (g r) (d r) (e r) j : ℝ) : EReal)
  dcat : ∀ (r : Fin 256) (k : Fin 1024),
    (outsAt0 m c t.val t.isLt).2.2.2.1 (ix2 r k) = ((FfnRow.dcat W (x r) (g r) (d r) (e r) k : ℝ) : EReal)

/-- They do not depend on which of the two cases of the body the point is. -/
theorem left {t : Fin cfg0.N} (B : Blocks m c W x d e mx g t) : Left (m := m) (c := c) (W := W) (x := x) (d := d) (e := e) (g := g) t := by
  by_cases h : t.val % 32 = 0
  · constructor <;> rw [outsAt0_A m c t h] <;> frame_out
    · exact fun r f => (Boxes.canon_miss _ _ _ _ _ (by simp [FfnRow.lo])).trans
        ((Boxes.canon_hit _ _ _ _ _ r f (by simp) (by simp [FfnRow.lo])).trans ((loads B).dgate r f))
    · exact fun r f => (Boxes.canon_hit _ _ _ _ _ r f (by simp) (by simp [FfnRow.hi])).trans ((loads B).dup r f)
    · exact (loads B).dres
    · exact (loads B).dmix
    · exact (loads B).dcat
  · constructor <;> rw [outsAt0_B m c t h] <;> frame_out
    · exact fun r f => (Boxes.canon_miss _ _ _ _ _ (by simp [FfnRow.lo])).trans
        ((Boxes.canon_hit _ _ _ _ _ r f (by simp) (by simp [FfnRow.lo])).trans ((loads B).dgate r f))
    · exact fun r f => (Boxes.canon_hit _ _ _ _ _ r f (by simp) (by simp [FfnRow.hi])).trans ((loads B).dup r f)
    · exact (loads B).dres
    · exact (loads B).dmix
    · exact (loads B).dcat

/-- A later point goes on from the sums the point before it left. -/
theorem next {t : Fin cfg0.N} (h : ¬t.val % 32 = 0) (B : Blocks m c W x d e mx g t) (q : Fin 8) (j : Fin 1024) :
    (outsAt0 m c t.val t.isLt).2.2.2.2 (ix2 q j)
      = (outsAt0 m c (t.val - 1) (Nat.lt_of_le_of_lt (Nat.sub_le _ _) t.isLt)).2.2.2.2 (ix2 q j)
        + ((∑ r, FfnRow.share W (x r) (g r) (d r) (e r) (mx r) q j : ℝ) : EReal) := by
  rw [outsAt0_B m c t h]
  generalize (outsAt0 m c (t.val - 1) (Nat.lt_of_le_of_lt (Nat.sub_le _ _) t.isLt)).2.2.2.2 = old
  frame_out
  refine Boxes.read_rows (G := fun q j => old (ix2 q j)
    + ((∑ r, FfnRow.share W (x r) (g r) (d r) (e r) (mx r) q j : ℝ) : EReal)) _ _ [] _ _ _ _ _ _ _ _ ?_ ?_ ?_ ?_ ?_ q j
  · exact fun q j hq => (loads B).row0 mx (Boxes.ld_box _ _ _ _ 0 j (by simp [hq]) (by simp)) q hq
  · exact fun q j hq => (loads B).row1 mx (Boxes.ld_box _ _ _ _ 0 j (by simp [hq]) (by simp)) q hq
  · exact fun q j hq => (loads B).row2 mx (Boxes.ld_box _ _ _ _ 0 j (by simp [hq]) (by simp)) q hq
  · exact fun q j hq => (loads B).row3 mx B.b4 (Boxes.ld_box _ _ _ _ 0 j (by simp [hq]) (by simp)) q hq
  · intro q j hq
    rw [View.writes_nil, Memref.IsWhole.read_unread]
    simp [FfnRow.share, show q.val ≠ 0 by omega, show q.val ≠ 1 by omega, show q.val ≠ 2 by omega,
      show q.val ≠ 3 by omega]

/-- The first point starts them at zero. -/
theorem first {t : Fin cfg0.N} (h : t.val % 32 = 0) (B : Blocks m c W x d e mx g t) (q : Fin 8) (j : Fin 1024) :
    (outsAt0 m c t.val t.isLt).2.2.2.2 (ix2 q j)
      = (0 : EReal) + ((∑ r, FfnRow.share W (x r) (g r) (d r) (e r) (mx r) q j : ℝ) : EReal) := by
  rw [outsAt0_A m c t h]
  frame_out
  have fill : ∀ (q : Fin 8) (j : Fin 1024), View.canon (Val := Elt Ideal) (s := S8x1024) (e := .f32)
      [⟨Rect.unit ![0, 0] ![8, 1024] inb_S8x1024_S8x1024_0_0, k0_pay2 (F := Ideal)⟩] (ix2 q j) = (0 : EReal) := fun q j =>
    (Boxes.canon_hit (K := 8) (N := 1024) _ _ _ q j q j (by simp) (by simp)).trans (by pointwise [k0_pay2])
  refine Boxes.canon_rows (Val := Elt Ideal) (e := .f32) (N := 1024) (G := fun q j => (0 : EReal)
    + ((∑ r, FfnRow.share W (x r) (g r) (d r) (e r) (mx r) q j : ℝ) : EReal)) _ _ _ _ _ _ _ _ _ ?_ ?_ ?_ ?_ ?_ q j
  · exact fun q j hq => (loads B).row0 mx ((Boxes.load_box _ _ q j _ 0 j (by simp [hq]) (by simp)).trans (fill q j)) q hq
  · exact fun q j hq => (loads B).row1 mx ((Boxes.load_box _ _ q j _ 0 j (by simp [hq]) (by simp)).trans
      ((Boxes.canon_miss _ _ _ _ _ (by omega)).trans (fill q j))) q hq
  · exact fun q j hq => (loads B).row2 mx ((Boxes.load_box _ _ q j _ 0 j (by simp [hq]) (by simp)).trans
      ((Boxes.canon_miss _ _ _ _ _ (by omega)).trans ((Boxes.canon_miss _ _ _ _ _ (by omega)).trans (fill q j)))) q hq
  · exact fun q j hq => (loads B).row3 mx B.b4 ((Boxes.load_box _ _ q j _ 0 j (by simp [hq]) (by simp)).trans
      ((Boxes.canon_miss _ _ _ _ _ (by omega)).trans ((Boxes.canon_miss _ _ _ _ _ (by omega)).trans
        ((Boxes.canon_miss _ _ _ _ _ (by omega)).trans (fill q j))))) q hq
  · intro q j hq
    rw [fill]
    simp [FfnRow.share, show q.val ≠ 0 by omega, show q.val ≠ 1 by omega, show q.val ≠ 2 by omega,
      show q.val ≠ 3 by omega]

end Cert.FfnTile

end
-- ==== Proof.FfnHost.lean ====
/- What the host prepares for the kernel on finite numbers, and the blocks a grid point is given. -/
module

public import proofs.«01_k».proof.Proof.FfnData
public import proofs.«01_k».proof.Proof.FfnTile
public import proofs.«01_k».proof.Proof.Gen.KernelIdeal.Value
public import Idealize.ShloMosaic.Lib.Pointwise
public import Idealize.ShloMosaic.Lib.Claim

@[expose] public section

set_option maxRecDepth 16384

noncomputable section

namespace Cert.FfnHost

open Idealize.ShloMosaic Idealize.ShloMosaic.TcCoe Idealize.SL.Sem
open Idealize.ShloMosaic.Pipeline (Dat)
open Cert.KernelIdeal Cert.KernelIdeal.Gen Cert.RealMath

variable {m : (ℓ : Loc nD τ sig) → Buf (Elt Ideal) ℓ} {c : Dev nD} {A : FfnRow.Data}
  (H : FfnRow.Holds A (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)))

include H

theorem res (t : Fin 8192) (j : Fin 1024) :
    (V m c main_v7 : FVec Ideal S8192x1024 .f32) (ix2 t j) = ((A.x t j : ℝ) : EReal) := by
  obtain ⟨h0, h1, h2, h3, h4, h5, h6, h7⟩ : FfnRow.Holds A (m (c, Proc.tc.devRef main_arg0))
    (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6))
    (m (c, Proc.tc.devRef main_arg7)) := H
  entry_read
  pointwise
  simp only [h0, h1, h3, h5, ← EReal.coe_mul, coe_sum, ← EReal.coe_add]; rfl

theorem gu (t : Fin 8192) (f : Fin 5632) :
    (V m c main_v29 : FVec Ideal S8192x5632 .bf16) (ix2 t f) = ((A.g t f : ℝ) : EReal) := by
  have hx : ∀ j, A.X t j + A.W.ada 2 j * ∑ k, A.Y t k * A.W.wo k j = A.x t j := fun _ => rfl
  have hr : Ideal.rsqrt (((∑ k, A.x t k * A.x t k) / 1024 + eps : ℝ) : EReal) = ((FfnRow.rs (A.x t) : ℝ) : EReal) :=
    rsqrt_pos (FfnRow.ms_pos _)
  obtain ⟨h0, h1, h2, h3, h4, h5, h6, h7⟩ : FfnRow.Holds A (m (c, Proc.tc.devRef main_arg0))
    (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6))
    (m (c, Proc.tc.devRef main_arg7)) := H
  entry_read
  pointwise
  simp only [h0, h1, h3, h4, h5, h6, ← EReal.coe_mul, coe_sum, width, eps_eq, one_coe,
    div_real (show (1024 : ℝ) ≠ 0 by norm_num), ← EReal.coe_add, hx, hr]
  rfl

theorem dffn (t : Fin 8192) (j : Fin 1024) :
    (V m c main_v32 : FVec Ideal S8192x1024 .bf16) (ix2 t j) = ((A.d t j : ℝ) : EReal) := by
  have h2 := H.h2 t j
  have h3 := H.h3 5 j
  entry_read
  pointwise
  refine (congrArg₂ (fun a b : EReal => a * b) h3 h2).trans ?_
  rw [← EReal.coe_mul]; rfl

theorem mix (t : Fin 8192) (j : Fin 1024) :
    (V m c main_v33 : FVec Ideal S8192x1024 .bf16) (ix2 t j) = ((A.m t j : ℝ) : EReal) := by
  obtain ⟨h0, h1, h2, h3, h4, h5, h6, h7⟩ : FfnRow.Holds A (m (c, Proc.tc.devRef main_arg0))
    (m (c, Proc.tc.devRef main_arg1)) (m (c, Proc.tc.devRef main_arg2)) (m (c, Proc.tc.devRef main_arg3))
    (m (c, Proc.tc.devRef main_arg4)) (m (c, Proc.tc.devRef main_arg5)) (m (c, Proc.tc.devRef main_arg6))
    (m (c, Proc.tc.devRef main_arg7)) := H
  entry_read
  pointwise
  simp only [h1, h5, ← EReal.coe_mul, coe_sum]; rfl

omit H in
/-- Which blocks the windows hold at grid point `t`: the tokens' windows the `t`-th 256 rows, the others the whole array. -/
theorem idx : ∀ t : Fin cfg0.N, win0_0.index t = ![t.val, 0] ∧ win0_1.index t = ![t.val, 0]
    ∧ win0_2.index t = ![t.val, 0] ∧ win0_3.index t = ![t.val, 0] ∧ win0_4.index t = ![t.val, 0]
    ∧ win0_5.index t = ![0, 0] ∧ win0_6.index t = ![0, 0] ∧ win0_7.index t = ![0, 0] ∧ win0_8.index t = ![0, 0]
    ∧ win0_9.index t = ![0, 0] ∧ win0_10.index t = ![t.val, 0] ∧ win0_11.index t = ![t.val, 0]
    ∧ win0_12.index t = ![t.val, 0] ∧ win0_13.index t = ![t.val, 0] ∧ win0_14.index t = ![0, 0] ∧ t.val < 32 :=
  (by decide +kernel : ∀ t : Fin grid0.N, _)

omit H in
/-- Row `r` of grid point `t` is this token. -/
def tok (t : Fin cfg0.N) (r : Fin 256) : Fin 8192 :=
  ⟨t.val * 256 + r.val, by have := (idx t).2.2.2.2.2.2.2.2.2.2.2.2.2.2.2; omega⟩

section Blocks

variable (t : Fin cfg0.N)

theorem blk0 (r : Fin 256) (j : Fin 1024) :
    (iblk m c 0 t : FVec Ideal S256x1024 .f32) (ix2 r j) = ((A.x (tok t r) j : ℝ) : EReal) :=
  Eq.trans (by blk_ext [iblk, tok, idx t]) (res H (tok t r) j)

theorem blk1 (r : Fin 256) (j : Fin 5632) :
    (iblk m c 1 t : FVec Ideal S256x5632 .bf16) (ix2 r j) = ((A.g (tok t r) j : ℝ) : EReal) :=
  Eq.trans (by blk_ext [iblk, tok, idx t]) (gu H (tok t r) j)

theorem blk2 (r : Fin 256) (j : Fin 1024) :
    (iblk m c 2 t : FVec Ideal S256x1024 .bf16) (ix2 r j) = ((A.d (tok t r) j : ℝ) : EReal) :=
  Eq.trans (by blk_ext [iblk, tok, idx t]) (dffn H (tok t r) j)

theorem blk3 (r : Fin 256) (j : Fin 1024) :
    (iblk m c 3 t : FVec Ideal S256x1024 .f32) (ix2 r j) = ((A.D (tok t r) j : ℝ) : EReal) :=
  Eq.trans (by blk_ext [iblk, V, tok, idx t]) (H.h2 (tok t r) j)

theorem blk4 (r : Fin 256) (j : Fin 1024) :
    (iblk m c 4 t : FVec Ideal S256x1024 .bf16) (ix2 r j) = ((A.m (tok t r) j : ℝ) : EReal) :=
  Eq.trans (by blk_ext [iblk, tok, idx t]) (mix H (tok t r) j)

theorem blk5 (r : Fin 6) (j : Fin 1024) :
    (iblk m c 5 t : FVec Ideal S6x1024 .f32) (ix2 r j) = ((A.W.ada r j : ℝ) : EReal) :=
  Eq.trans (by blk_ext [iblk, V, idx t]) (H.h3 r j)

theorem blk6 (r : Fin 1) (j : Fin 1024) :
    (iblk m c 6 t : FVec Ideal S1x1024 .f32) (ix2 r j) = ((A.W.nw j : ℝ) : EReal) :=
  Eq.trans (by blk_ext [iblk, V, idx t]) (H.h4 r j)

theorem blk7 (r : Fin 1024) (j : Fin 1024) :
    (iblk m c 7 t : FVec Ideal S1024x1024 .bf16) (ix2 r j) = ((A.W.wo r j : ℝ) : EReal) :=
  Eq.trans (by blk_ext [iblk, V, idx t]) (H.h5 r j)

theorem blk8 (r : Fin 5632) (j : Fin 1024) :
    (iblk m c 8 t : FVec Ideal S5632x1024 .bf16) (ix2 r j) = ((A.W.wi r j : ℝ) : EReal) :=
  Eq.trans (by blk_ext [iblk, V, idx t]) (H.h6 r j)

theorem blk9 (r : Fin 2816) (j : Fin 1024) :
    (iblk m c 9 t : FVec Ideal S2816x1024 .bf16) (ix2 r j) = ((A.W.wf r j : ℝ) : EReal) :=
  Eq.trans (by blk_ext [iblk, V, idx t]) (H.h7 r j)

/-- The blocks of grid point `t` hold the rows of its 256 tokens. -/
theorem blocks :
    FfnTile.Blocks m c A.W (fun r => A.x (tok t r)) (fun r => A.d (tok t r)) (fun r => A.D (tok t r))
      (fun r => A.m (tok t r)) (fun r => A.g (tok t r)) t :=
  ⟨blk0 H t, blk1 H t, blk2 H t, blk3 H t, blk4 H t, blk5 H t, fun j => blk6 H t 0 j, blk7 H t, blk8 H t, blk9 H t⟩

end Blocks

end Cert.FfnHost

end
-- ==== Proof.FfnArrays.lean ====
/- What the kernel's result arrays hold after the run, on finite numbers: any array of the same numbers is that array. -/
module

public import proofs.«01_k».proof.Proof.FfnHost

@[expose] public section

set_option maxRecDepth 16384

noncomputable section

namespace Cert.FfnArrays

open Idealize.ShloMosaic Idealize.ShloMosaic.TcCoe Idealize.SL.Sem
open Idealize.ShloMosaic.Pipeline (Dat)
open Cert.KernelIdeal Cert.KernelIdeal.Gen Cert.RealMath Cert.FfnHost

variable {m : (ℓ : Loc nD τ sig) → Buf (Elt Ideal) ℓ} {c : Dev nD} {A : FfnRow.Data}
  (H : FfnRow.Holds A (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)))

include H

theorem dgu (R : FVec Ideal S8192x5632 .bf16)
    (hg : ∀ t f, R (ix2 t (FfnRow.lo f)) = ((FfnRow.dgate A.W (A.g t) (A.d t) f : ℝ) : EReal))
    (hu : ∀ t f, R (ix2 t (FfnRow.hi f)) = ((FfnRow.dup A.W (A.g t) (A.d t) f : ℝ) : EReal)) :
    (dats m 0 c).arrAt 10 cfg0.N = R := by
  refine (dats m 0 c).arrAt_eq_of_covers 10 _ (by decide +kernel) fun t hf y => ?_
  blk_simp
  rw [after0_10]
  idx_vars y
  rcases FfnRow.lo_or_hi y1 with ⟨f, rfl⟩ | ⟨f, rfl⟩
  · refine ((FfnTile.left (blocks H t)).dgate y0 f).trans ((hg (tok t y0) f).symm.trans ?_)
    blk_ext [tok, idx t]
  · refine ((FfnTile.left (blocks H t)).dup y0 f).trans ((hu (tok t y0) f).symm.trans ?_)
    blk_ext [tok, idx t]

theorem dres (R : FVec Ideal S8192x1024 .f32)
    (h : ∀ t j, R (ix2 t j) = ((FfnRow.dres A.W (A.x t) (A.g t) (A.d t) (A.D t) j : ℝ) : EReal)) :
    (dats m 0 c).arrAt 11 cfg0.N = R := by
  refine (dats m 0 c).arrAt_eq_of_covers 11 _ (by decide +kernel) fun t hf y => ?_
  blk_simp
  rw [after0_11]
  idx_vars y
  refine ((FfnTile.left (blocks H t)).dres y0 y1).trans ((h (tok t y0) y1).symm.trans ?_)
  blk_ext [tok, idx t]

theorem dmix (R : FVec Ideal S8192x1024 .bf16)
    (h : ∀ t j, R (ix2 t j) = ((FfnRow.dmix A.W (A.x t) (A.g t) (A.d t) (A.D t) j : ℝ) : EReal)) :
    (dats m 0 c).arrAt 12 cfg0.N = R := by
  refine (dats m 0 c).arrAt_eq_of_covers 12 _ (by decide +kernel) fun t hf y => ?_
  blk_simp
  rw [after0_12]
  idx_vars y
  refine ((FfnTile.left (blocks H t)).dmix y0 y1).trans ((h (tok t y0) y1).symm.trans ?_)
  blk_ext [tok, idx t]

theorem dcat (R : FVec Ideal S8192x1024 .f32)
    (h : ∀ t j, R (ix2 t j) = ((FfnRow.dcat A.W (A.x t) (A.g t) (A.d t) (A.D t) j : ℝ) : EReal)) :
    (dats m 0 c).arrAt 13 cfg0.N = R := by
  refine (dats m 0 c).arrAt_eq_of_covers 13 _ (by decide +kernel) fun t hf y => ?_
  blk_simp
  rw [after0_13]
  idx_vars y
  refine ((FfnTile.left (blocks H t)).dcat y0 y1).trans ((h (tok t y0) y1).symm.trans ?_)
  blk_ext [tok, idx t]

/-- The sums after the last grid point: every token's share, 256 tokens at each of the 32 points. -/
theorem sums (t : Fin cfg0.N) (ht : t.val + 1 = cfg0.N) (q : Fin 8) (j : Fin 1024) :
    (outsAt0 m c t.val t.isLt).2.2.2.2 (ix2 q j)
      = ((∑ t, FfnRow.share A.W (A.x t) (A.g t) (A.d t) (A.D t) (A.m t) q j : ℝ) : EReal) := by
  have key := Pipeline.eq_sum_fin_of_reset_step_apply_last (M := EReal) (ι := Fin 8 × Fin 1024)
    (fun n h i => (outsAt0 m c n h).2.2.2.2 (ix2 i.1 i.2)) 32 (fun _ => 0)
    (fun t i => ((∑ r, FfnRow.share A.W (A.x (tok t r)) (A.g (tok t r)) (A.d (tok t r)) (A.D (tok t r)) (A.m (tok t r))
      i.1 i.2 : ℝ) : EReal))
    (fun t h i => FfnTile.first h (blocks H t) i.1 i.2) (fun t h i => FfnTile.next h (blocks H t) i.1 i.2)
    (le_of_eq N_0) t ht (q, j)
  refine key.trans ?_
  rw [zero_add, coe_sum]
  congr 1
  exact (Fin.sum_univ_tiles 32 256 rfl fun t => FfnRow.share A.W (A.x t) (A.g t) (A.d t) (A.D t) (A.m t) q j).symm

theorem part (R : FVec Ideal S8x1024 .f32)
    (h : ∀ q j, R (ix2 q j) = ((∑ t, FfnRow.share A.W (A.x t) (A.g t) (A.d t) (A.D t) (A.m t) q j : ℝ) : EReal)) :
    (dats m 0 c).arrAt 14 cfg0.N = R := by
  refine (dats m 0 c).arrAt_eq_of_covers 14 _ (by decide +kernel) fun t hf y => ?_
  have ht : t.val + 1 = cfg0.N := by
    have h1 := (flush0_14 t).mp hf
    have h2 : cfg0.N = 32 := N_0
    have h3 := t.isLt
    omega
  blk_simp
  rw [after0_14]
  idx_vars y
  refine (sums H t ht y0 y1).trans ((h y0 y1).symm.trans ?_)
  blk_ext [idx t]

end Cert.FfnArrays

end
-- ==== Proof.FfnValue.lean ====
/- The feed-forward half's gradients: the kernel's five results are the reference's. -/
module

public import proofs.«01_k».proof.Defs
public import proofs.«01_k».proof.Proof.FfnFinite
public import proofs.«01_k».proof.Proof.FfnRef
public import proofs.«01_k».proof.Proof.FfnArrays
public import proofs.«01_k».proof.Proof.Gen.KernelIdeal.Value
public import proofs.«01_k».proof.Proof.Gen.ReferenceIdeal.Run
public import Idealize.ShloMosaic.Lib.Claim

@[expose] public section

set_option maxRecDepth 16384

noncomputable section

namespace Cert.FfnValue

open Idealize.ShloMosaic Idealize.ShloMosaic.TcCoe Idealize.SL.Sem

instance : Cert.KernelIdeal.Facts := Cert.KernelIdeal.Gen.facts
instance : Cert.ReferenceIdeal.Facts := Cert.ReferenceIdeal.Gen.facts
instance : Cert.Pre_finite.Facts := Cert.Pre_finite.Gen.facts

variable {m : (ℓ : Loc KernelIdeal.nD KernelIdeal.τ KernelIdeal.sig) → Buf (Elt Ideal) ℓ}
  {m' : (ℓ : Loc ReferenceIdeal.nD ReferenceIdeal.τ ReferenceIdeal.sig) → Buf (Elt Ideal) ℓ}

/-- Both launches hold the same real numbers. -/
theorem data (hpre : Pre_KernelIdeal_finite m) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)) :
    ∃ A : FfnRow.Data, FfnRow.Holds A
      (m ((c : Thread KernelIdeal.nD KernelIdeal.τ).loc KernelIdeal.main_arg0)) (m ((c : Thread KernelIdeal.nD KernelIdeal.τ).loc KernelIdeal.main_arg1))
      (m ((c : Thread KernelIdeal.nD KernelIdeal.τ).loc KernelIdeal.main_arg2)) (m ((c : Thread KernelIdeal.nD KernelIdeal.τ).loc KernelIdeal.main_arg3))
      (m ((c : Thread KernelIdeal.nD KernelIdeal.τ).loc KernelIdeal.main_arg4)) (m ((c : Thread KernelIdeal.nD KernelIdeal.τ).loc KernelIdeal.main_arg5))
      (m ((c : Thread KernelIdeal.nD KernelIdeal.τ).loc KernelIdeal.main_arg6)) (m ((c : Thread KernelIdeal.nD KernelIdeal.τ).loc KernelIdeal.main_arg7))
      ∧ FfnRow.Holds A
      (StableHlo.launchContents m' c (Proc.devRef .tc ReferenceIdeal.main_arg0)) (StableHlo.launchContents m' c (Proc.devRef .tc ReferenceIdeal.main_arg1))
      (StableHlo.launchContents m' c (Proc.devRef .tc ReferenceIdeal.main_arg2)) (StableHlo.launchContents m' c (Proc.devRef .tc ReferenceIdeal.main_arg3))
      (StableHlo.launchContents m' c (Proc.devRef .tc ReferenceIdeal.main_arg4)) (StableHlo.launchContents m' c (Proc.devRef .tc ReferenceIdeal.main_arg5))
      (StableHlo.launchContents m' c (Proc.devRef .tc ReferenceIdeal.main_arg6)) (StableHlo.launchContents m' c (Proc.devRef .tc ReferenceIdeal.main_arg7)) := by
  obtain ⟨h0, h1, h2, h3, h4, h5, h6, h7⟩ := h
  obtain ⟨A, H⟩ : ∃ A : FfnRow.Data, FfnRow.Holds A
      (m ((c : Thread KernelIdeal.nD KernelIdeal.τ).loc KernelIdeal.main_arg0)) (m ((c : Thread KernelIdeal.nD KernelIdeal.τ).loc KernelIdeal.main_arg1))
      (m ((c : Thread KernelIdeal.nD KernelIdeal.τ).loc KernelIdeal.main_arg2)) (m ((c : Thread KernelIdeal.nD KernelIdeal.τ).loc KernelIdeal.main_arg3))
      (m ((c : Thread KernelIdeal.nD KernelIdeal.τ).loc KernelIdeal.main_arg4)) (m ((c : Thread KernelIdeal.nD KernelIdeal.τ).loc KernelIdeal.main_arg5))
      (m ((c : Thread KernelIdeal.nD KernelIdeal.τ).loc KernelIdeal.main_arg6)) (m ((c : Thread KernelIdeal.nD KernelIdeal.τ).loc KernelIdeal.main_arg7)) := ⟨_, FfnFinite.holds _ _ _ _ _ _ _ _ (hpre c)⟩
  refine ⟨A, H, ?_⟩
  rw [← h0, ← h1, ← h2, ← h3, ← h4, ← h5, ← h6, ← h7] at H
  exact H

/-- The reference leaves its arguments as they were; it has no semaphore. -/
theorem frame : Cert.quiescent_ReferenceIdeal := fun m ρ _ =>
  (θ_run ReferenceIdeal.defs _ _).mono (fun r h => ⟨fun c => (h c).2.2.2.2.2, sem_eq_zero_of_no_sems (by decide) r.2⟩)
    (ReferenceIdeal.Value.run m ρ)

theorem algebraic : Cert.algebraic_KernelIdeal_ReferenceIdeal_pre_finite := by
  pair_intro
  · run_from Cert.KernelIdeal.Value.run_blocks m g
  · run_from Cert.ReferenceIdeal.Value.run m' g'
    all_goals obtain ⟨A, H, H'⟩ := data hpre c (hagree c)
    · refine (ReferenceIdeal.Read.val_main_v88_eq (StableHlo.launchContents m' c)).trans ?_
      exact (FfnArrays.dgu H _ (fun t f => (FfnRef.dgu H' t f).1) fun t f => (FfnRef.dgu H' t f).2).symm
    · refine (ReferenceIdeal.Read.val_main_v79_eq (StableHlo.launchContents m' c)).trans ?_
      exact (FfnArrays.dres H _ (FfnRef.dres H')).symm
    · refine (ReferenceIdeal.Read.val_main_v89_eq (StableHlo.launchContents m' c)).trans ?_
      exact (FfnArrays.dmix H _ (FfnRef.dmix H')).symm
    · refine (ReferenceIdeal.Read.val_main_v85_eq (StableHlo.launchContents m' c)).trans ?_
      exact (FfnArrays.dcat H _ (FfnRef.dcat H')).symm
    · refine (ReferenceIdeal.Read.val_main_v87_eq (StableHlo.launchContents m' c)).trans ?_
      exact (FfnArrays.part H _ (FfnRef.part H')).symm

end Cert.FfnValue

end
-- ==== Proof.FwdRow.lean ====
/- The feed-forward half's forward pass with the loss, and the gradient down to the feed-forward's output, one token at a
   time, as formulas on real numbers. -/
module

public import proofs.«01_k».proof.Proof.FfnRow

@[expose] public section

noncomputable section

namespace Cert.FwdRow

open Idealize.ShloMosaic Cert.RealMath

/-- The weights, the final norm's weight, and for each token its row of the residual stream, its row of the mixing's
    output and its target. -/
structure Data where
  W : FfnRow.Weights
  fw : Fin 1024 → ℝ
  X : Fin 8192 → Fin 1024 → ℝ
  Y : Fin 8192 → Fin 1024 → ℝ
  T : Fin 8192 → Fin 1024 → ℝ

namespace Data

variable (A : Data) (t : Fin 8192)

/-- The mixing's projection of token `t`. -/
def m : Fin 1024 → ℝ := FfnRow.mix A.W (A.Y t)
/-- Its residual row after the mixing. -/
def x : Fin 1024 → ℝ := FfnRow.res A.W (A.X t) (A.Y t)
/-- The normed and modulated row the feed-forward reads. -/
def h : Fin 1024 → ℝ := FfnRow.mod A.W (A.x t)
/-- Its gate and up row. -/
def g : Fin 5632 → ℝ := FfnRow.gu A.W (A.x t)
/-- The activation: the gate times its logistic, times the up projection. -/
def act (f : Fin 2816) : ℝ := A.g t (FfnRow.lo f) * sg (A.g t (FfnRow.lo f)) * A.g t (FfnRow.hi f)
/-- The feed-forward's output. -/
def ffn (j : Fin 1024) : ℝ := ∑ f, A.act t f * A.W.wf f j
/-- The residual row after the feed-forward. -/
def out (j : Fin 1024) : ℝ := A.x t j + A.W.ada 5 j * A.ffn t j
/-- The normed output less the target. -/
def err (j : Fin 1024) : ℝ := FfnRow.xh (A.out t) j * A.fw j - A.T t j
/-- The loss's gradient at the normed output. -/
def dy (j : Fin 1024) : ℝ := A.err t j * (1 / 1024)
/-- The gradient at the normalised output, before the weight. -/
def dhat (j : Fin 1024) : ℝ := A.dy t j * A.fw j
/-- The gradient at the residual row after the feed-forward. -/
def dout (j : Fin 1024) : ℝ :=
  FfnRow.rs (A.out t) * (A.dhat t j - FfnRow.xh (A.out t) j * ((∑ k, A.dhat t k * FfnRow.xh (A.out t) k) / 1024))
/-- The gradient at the feed-forward's output. -/
def dffn : Fin 1024 → ℝ := FfnRow.dffn A.W (A.dout t)
/-- The token's loss, half its mean squared error. -/
def loss : ℝ := 1 / 2048 * ∑ j, A.err t j * A.err t j

/-- What a token adds to the sums over tokens: to row 0 the gradient of the feed-forward's gate vector, to row 1 that of
    the final norm's weight, to row 2 its loss in every column; nothing to the other rows. -/
def share (q : Fin 8) (j : Fin 1024) : ℝ :=
  if q.val = 0 then A.dout t j * A.ffn t j
  else if q.val = 1 then A.dy t j * FfnRow.xh (A.out t) j
  else if q.val = 2 then A.loss t
  else 0

end Data

variable (A : Data)

/-- The arrays hold these numbers. -/
structure Holds (x0 : FVec Ideal (⟨2, ![8192, 1024]⟩ : Shape) .f32) (x1 : FVec Ideal (⟨2, ![8192, 1024]⟩ : Shape) .bf16)
    (x2 : FVec Ideal (⟨2, ![8192, 1024]⟩ : Shape) .f32) (x3 : FVec Ideal (⟨2, ![6, 1024]⟩ : Shape) .f32)
    (x4 x5 : FVec Ideal (⟨2, ![1, 1024]⟩ : Shape) .f32) (x6 : FVec Ideal (⟨2, ![1024, 1024]⟩ : Shape) .bf16)
    (x7 : FVec Ideal (⟨2, ![5632, 1024]⟩ : Shape) .bf16) (x8 : FVec Ideal (⟨2, ![2816, 1024]⟩ : Shape) .bf16) : Prop where
  h0 : ∀ (t : Fin 8192) (j : Fin 1024), x0 (ix2 t j) = ((A.X t j : ℝ) : EReal)
  h1 : ∀ (t : Fin 8192) (j : Fin 1024), x1 (ix2 t j) = ((A.Y t j : ℝ) : EReal)
  h2 : ∀ (t : Fin 8192) (j : Fin 1024), x2 (ix2 t j) = ((A.T t j : ℝ) : EReal)
  h3 : ∀ (q : Fin 6) (j : Fin 1024), x3 (ix2 q j) = ((A.W.ada q j : ℝ) : EReal)
  h4 : ∀ (z : Fin 1) (j : Fin 1024), x4 (ix2 z j) = ((A.W.nw j : ℝ) : EReal)
  h5 : ∀ (z : Fin 1) (j : Fin 1024), x5 (ix2 z j) = ((A.fw j : ℝ) : EReal)
  h6 : ∀ k j : Fin 1024, x6 (ix2 k j) = ((A.W.wo k j : ℝ) : EReal)
  h7 : ∀ (f : Fin 5632) (j : Fin 1024), x7 (ix2 f j) = ((A.W.wi f j : ℝ) : EReal)
  h8 : ∀ (f : Fin 2816) (j : Fin 1024), x8 (ix2 f j) = ((A.W.wf f j : ℝ) : EReal)

end Cert.FwdRow

end
-- ==== Proof.FwdFinite.lean ====
/- Under the precondition the forward call's arguments hold real numbers. -/
module

public import proofs.«01_k».proof.Proof.Finite
public import proofs.«01_k».proof.Proof.FwdRow
public import proofs.«01_k».proof.Proof.Gen.Pre_finite2

@[expose] public section

noncomputable section

namespace Cert.FwdFinite

open Idealize.ShloMosaic Cert.Pre_finite2

variable (x0 : FVec Ideal S8192x1024 .f32) (x1 : FVec Ideal S8192x1024 .bf16) (x2 : FVec Ideal S8192x1024 .f32)
  (x3 : FVec Ideal S6x1024 .f32) (x4 x5 : FVec Ideal S1x1024 .f32) (x6 : FVec Ideal S1024x1024 .bf16)
  (x7 : FVec Ideal S5632x1024 .bf16) (x8 : FVec Ideal S2816x1024 .bf16)

/-- The real numbers the arguments hold. -/
def data : FwdRow.Data where
  W := {
    ada := fun q j => (x3 (ix2 q j)).toReal
    nw := fun j => (x4 (ix2 0 j)).toReal
    wo := fun k j => (x6 (ix2 k j)).toReal
    wi := fun f j => (x7 (ix2 f j)).toReal
    wf := fun f j => (x8 (ix2 f j)).toReal }
  fw := fun j => (x5 (ix2 0 j)).toReal
  X := fun t j => (x0 (ix2 t j)).toReal
  Y := fun t j => (x1 (ix2 t j)).toReal
  T := fun t j => (x2 (ix2 t j)).toReal

theorem holds [Facts] (h : Cert.Pre_finite2.fn (F := Ideal) x0 x1 x2 x3 x4 x5 x6 x7 x8 = fun _ => 1#1) :
    ∃ A, FwdRow.Holds A x0 x1 x2 x3 x4 x5 x6 x7 x8 := by
  have j : Finite.S0.Idx := fun a => a.elim0
  have e := congrFun h j
  simp only [Cert.Pre_finite2.fn, fn_part1, fn_part2, andi, IntOp.andi_eq_one] at e
  obtain ⟨⟨⟨⟨⟨⟨⟨⟨e0, e1⟩, e2⟩, e3⟩, e4⟩, e5⟩, e6⟩, e7⟩, e8⟩ := e
  refine ⟨data x0 x1 x2 x3 x4 x5 x6 x7 x8, fun t k => Finite.real_of_all x0 _ _ _ j e0 _,
    fun t k => Finite.real_of_all (extf .f32 x1 Facts.bitsLt_bf16_f32) _ _ _ j e1 _,
    fun t k => Finite.real_of_all x2 _ _ _ j e2 _, fun q k => Finite.real_of_all x3 _ _ _ j e3 _, fun z k => ?_,
    fun z k => ?_, fun t k => Finite.real_of_all (extf .f32 x6 Facts.bitsLt_bf16_f32) _ _ _ j e6 _,
    fun t k => Finite.real_of_all (extf .f32 x7 Facts.bitsLt_bf16_f32) _ _ _ j e7 _,
    fun t k => Finite.real_of_all (extf .f32 x8 Facts.bitsLt_bf16_f32) _ _ _ j e8 _⟩
  · rw [Subsingleton.elim z 0]
    exact Finite.real_of_all x4 _ _ _ j e4 _
  · rw [Subsingleton.elim z 0]
    exact Finite.real_of_all x5 _ _ _ j e5 _

end Cert.FwdFinite

end
-- ==== Proof.FwdRef.lean ====
/- What the feed-forward half's reference computes on finite numbers, value by value. -/
module

public import proofs.«01_k».proof.Proof.FwdRow
public import proofs.«01_k».proof.Proof.Gen.Reference2Ideal.Read

@[expose] public section

set_option maxRecDepth 16384

noncomputable section

namespace Cert.FwdRef

open Idealize.ShloMosaic Idealize.ShloMosaic.TcCoe Idealize.SL.Sem
open Cert.Reference2Ideal Cert.Reference2Ideal.Gen Cert.Reference2Ideal.Read Cert.RealMath

/-- The factor two, from differentiating a square. -/
theorem two : Ideal.ofBits .f32 0x40000000#32 = ((2 : ℝ) : EReal) := by
  simp [Ideal.ofBits, Ideal.ieee]; rw [← EReal.coe_mul]; norm_num

variable {A : FwdRow.Data} {x0 x2 : FVec Ideal S8192x1024 .f32} {x1 : FVec Ideal S8192x1024 .bf16}
  {x3 : FVec Ideal S6x1024 .f32} {x4 x5 : FVec Ideal S1x1024 .f32} {x6 : FVec Ideal S1024x1024 .bf16}
  {x7 : FVec Ideal S5632x1024 .bf16} {x8 : FVec Ideal S2816x1024 .bf16}
  (H : FwdRow.Holds A x0 x1 x2 x3 x4 x5 x6 x7 x8)

include H

theorem m (t : Fin 8192) (j : Fin 1024) : val_main_v8 (F := Ideal) x1 x6 (ix2 t j) = ((A.m t j : ℝ) : EReal) := by
  pointwise [val_main_v8, val_main_v0, val_main_v1]
  simp only [H.h1, H.h6, ← EReal.coe_mul, coe_sum, zero_add]; rfl

theorem x (t : Fin 8192) (j : Fin 1024) : val_main_v11 (F := Ideal) x0 x1 x3 x6 (ix2 t j) = ((A.x t j : ℝ) : EReal) := by
  pointwise [val_main_v11, val_main_v10, val_main_v9, val_main_v4]
  rw [m H, H.h0, H.h3, ← EReal.coe_mul, ← EReal.coe_add]; rfl

theorem rs (t : Fin 8192) (z : Fin 1) :
    val_main_v19 (F := Ideal) x0 x1 x3 x6 (ix2 t z) = ((FfnRow.rs (A.x t) : ℝ) : EReal) := by
  pointwise [val_main_v19, val_main_v18, val_main_v17, val_main_v16, val_main_v15, val_main_v14, val_main_v13,
    val_main_v12, val_main_cst, val_main_cst_0, val_main_cst_1]
  simp only [x H, ← EReal.coe_mul, coe_sum, zero_add, width, eps_eq]
  rw [div_real (by norm_num), ← EReal.coe_add]
  exact rsqrt_pos (FfnRow.ms_pos _)

theorem h (t : Fin 8192) (j : Fin 1024) :
    val_main_v29 (F := Ideal) x0 x1 x3 x4 x6 (ix2 t j) = ((A.h t j : ℝ) : EReal) := by
  pointwise [val_main_v29, val_main_v28, val_main_v27, val_main_v26, val_main_v25, val_main_v24, val_main_v23,
    val_main_v22, val_main_v21, val_main_v20, val_main_v5, val_main_v6, val_main_cst_2]
  rw [x H, rs H, H.h4, H.h3, H.h3]
  simp only [one_coe, ← EReal.coe_mul, ← EReal.coe_add]; rfl

theorem g (t : Fin 8192) (f : Fin 5632) :
    val_main_v31 (F := Ideal) x0 x1 x3 x4 x6 x7 (ix2 t f) = ((A.g t f : ℝ) : EReal) := by
  pointwise [val_main_v31, val_main_v30, val_main_v2]
  simp only [h H, H.h7, ← EReal.coe_mul, coe_sum, zero_add]; rfl

theorem gate (t : Fin 8192) (f : Fin 2816) :
    val_main_v32 (F := Ideal) x0 x1 x3 x4 x6 x7 (ix2 t f) = ((A.g t (FfnRow.lo f) : ℝ) : EReal) := by
  pointwise [val_main_v32]
  exact g H t _

theorem act (t : Fin 8192) (f : Fin 2816) :
    val_main_v35 (F := Ideal) x0 x1 x3 x4 x6 x7 (ix2 t f) = ((A.act t f : ℝ) : EReal) := by
  have hu : val_main_v33 (F := Ideal) x0 x1 x3 x4 x6 x7 (ix2 t f) = ((A.g t (FfnRow.hi f) : ℝ) : EReal) := by
    pointwise [val_main_v33]
    exact g H t _
  pointwise [val_main_v35, val_main_v34, val_main_call0_v5, val_main_call0_v4, val_main_call0_v3, val_main_call0_v2,
    val_main_call0_v1, val_main_call0_v0, val_main_call0_cst, val_main_call0_cst_0]
  rw [gate H, hu]
  rw [← EReal.coe_neg, Ideal.exp_coe, ← EReal.coe_one, ← EReal.coe_add, div_real (sg_ne _), sg_div, ← EReal.coe_mul,
    ← EReal.coe_mul]
  rfl

theorem ffn (t : Fin 8192) (j : Fin 1024) :
    val_main_v36 (F := Ideal) x0 x1 x3 x4 x6 x7 x8 (ix2 t j) = ((A.ffn t j : ℝ) : EReal) := by
  pointwise [val_main_v36, val_main_v3]
  simp only [act H, H.h8, ← EReal.coe_mul, coe_sum, zero_add]; rfl

theorem out (t : Fin 8192) (j : Fin 1024) :
    val_main_v39 (F := Ideal) x0 x1 x3 x4 x6 x7 x8 (ix2 t j) = ((A.out t j : ℝ) : EReal) := by
  pointwise [val_main_v39, val_main_v38, val_main_v37, val_main_v7]
  rw [x H, ffn H, H.h3, ← EReal.coe_mul, ← EReal.coe_add]; rfl

theorem ms (t : Fin 8192) (z : Fin 1) :
    val_main_v46 (F := Ideal) x0 x1 x3 x4 x6 x7 x8 (ix2 t z) = ((FfnRow.ms (A.out t) : ℝ) : EReal) := by
  pointwise [val_main_v46, val_main_v45, val_main_v44, val_main_v43, val_main_v42, val_main_v41, val_main_v40,
    val_main_cst_3, val_main_cst_4, val_main_cst_5]
  simp only [out H, ← EReal.coe_mul, coe_sum, zero_add, width, eps_eq]
  rw [div_real (by norm_num), ← EReal.coe_add]; rfl

theorem rsOut (t : Fin 8192) (z : Fin 1) :
    val_main_v47 (F := Ideal) x0 x1 x3 x4 x6 x7 x8 (ix2 t z) = ((FfnRow.rs (A.out t) : ℝ) : EReal) := by
  pointwise [val_main_v47]
  rw [ms H, rsqrt_pos (FfnRow.ms_pos _)]; rfl

theorem slope (t : Fin 8192) (z : Fin 1) :
    val_main_v50 (F := Ideal) x0 x1 x3 x4 x6 x7 x8 (ix2 t z)
      = ((-(1 / 2) * (FfnRow.rs (A.out t) / FfnRow.ms (A.out t)) : ℝ) : EReal) := by
  pointwise [val_main_v50, val_main_v49, val_main_v48, val_main_cst_6]
  rw [rsOut H, ms H, neg_half, div_real (FfnRow.ms_pos _).ne', ← EReal.coe_mul]

theorem xh (t : Fin 8192) (j : Fin 1024) :
    val_main_v52 (F := Ideal) x0 x1 x3 x4 x6 x7 x8 (ix2 t j) = ((FfnRow.xh (A.out t) j : ℝ) : EReal) := by
  pointwise [val_main_v52, val_main_v51]
  rw [rsOut H, out H, ← EReal.coe_mul]; rfl

theorem err (t : Fin 8192) (j : Fin 1024) :
    val_main_v55 (F := Ideal) x0 x1 x2 x3 x4 x5 x6 x7 x8 (ix2 t j) = ((A.err t j : ℝ) : EReal) := by
  pointwise [val_main_v55, val_main_v54, val_main_v53]
  rw [xh H, H.h5, H.h2, ← EReal.coe_mul, ← EReal.coe_sub]; rfl

theorem dy (t : Fin 8192) (j : Fin 1024) :
    val_main_v69 (F := Ideal) x0 x1 x2 x3 x4 x5 x6 x7 x8 (ix2 t j) = ((A.dy t j : ℝ) : EReal) := by
  pointwise [val_main_v69, val_main_v68, val_main_v67, val_main_v66, val_main_v65, val_main_v64, val_main_v58,
    val_main_v57, val_main_cst_7, val_main_cst_12, val_main_cst_13, val_main_cst_14]
  simp only [err H, half, two, width, one_coe, ← EReal.coe_mul, div_real (show (1024 : ℝ) ≠ 0 by norm_num),
    FwdRow.Data.dy]
  congr 1; ring

theorem dhat (t : Fin 8192) (j : Fin 1024) :
    val_main_v74 (F := Ideal) x0 x1 x2 x3 x4 x5 x6 x7 x8 (ix2 t j) = ((A.dhat t j : ℝ) : EReal) := by
  pointwise [val_main_v74, val_main_v73]
  rw [dy H, H.h5, ← EReal.coe_mul]; rfl

theorem pull (t : Fin 8192) (j : Fin 1024) :
    val_main_v84 (F := Ideal) x0 x1 x2 x3 x4 x5 x6 x7 x8 (ix2 t j)
      = (((∑ k, A.out t k * A.dhat t k) * (-(1 / 2) * (FfnRow.rs (A.out t) / FfnRow.ms (A.out t))) / 1024 : ℝ) : EReal) := by
  pointwise [val_main_v84, val_main_v83, val_main_v82, val_main_v81, val_main_v80, val_main_v77, val_main_v76,
    val_main_v75, val_main_cst_16, val_main_cst_17, val_main_cst_18]
  simp only [out H, dhat H, slope H, ← EReal.coe_mul, coe_sum, zero_add, width]
  rw [Finset.sum_const, Finset.card_univ, Fintype.card_fin, one_smul, div_real (by norm_num)]

theorem dout (t : Fin 8192) (j : Fin 1024) :
    val_main_v88 (F := Ideal) x0 x1 x2 x3 x4 x5 x6 x7 x8 (ix2 t j) = ((A.dout t j : ℝ) : EReal) := by
  pointwise [val_main_v88, val_main_v87, val_main_v86, val_main_v85, val_main_v79, val_main_v78]
  rw [pull H, dhat H, rsOut H, out H]
  simp only [← EReal.coe_mul, ← EReal.coe_add]
  rw [FfnRow.norm_grad]; rfl

theorem mixOut (t : Fin 8192) (j : Fin 1024) : val_main_v97 (F := Ideal) x1 x6 (ix2 t j) = ((A.m t j : ℝ) : EReal) := by
  pointwise [val_main_v97]
  exact m H t j

theorem hOut (t : Fin 8192) (j : Fin 1024) :
    val_main_v98 (F := Ideal) x0 x1 x3 x4 x6 (ix2 t j) = ((A.h t j : ℝ) : EReal) := by
  pointwise [val_main_v98]
  exact h H t j

theorem actOut (t : Fin 8192) (f : Fin 2816) :
    val_main_v99 (F := Ideal) x0 x1 x3 x4 x6 x7 (ix2 t f) = ((A.act t f : ℝ) : EReal) := by
  pointwise [val_main_v99]
  exact act H t f

theorem gOut (t : Fin 8192) (f : Fin 5632) :
    val_main_v100 (F := Ideal) x0 x1 x3 x4 x6 x7 (ix2 t f) = ((A.g t f : ℝ) : EReal) := by
  pointwise [val_main_v100]
  exact g H t f

theorem dffn (t : Fin 8192) (j : Fin 1024) :
    val_main_v101 (F := Ideal) x0 x1 x2 x3 x4 x5 x6 x7 x8 (ix2 t j) = ((A.dffn t j : ℝ) : EReal) := by
  pointwise [val_main_v101, val_main_v90, val_main_v89, val_main_v7]
  rw [dout H, H.h3, ← EReal.coe_mul]; rfl

/-- The loss: half the sum over the tokens of their mean squared errors. -/
theorem loss (i : S_.Idx) :
    val_main_v63 (F := Ideal) x0 x1 x2 x3 x4 x5 x6 x7 x8 i = ((∑ t, A.loss t : ℝ) : EReal) := by
  pointwise [val_main_v63, val_main_v62, val_main_v61, val_main_v60, val_main_v59, val_main_v56, val_main_cst_8,
    val_main_cst_9, val_main_cst_10, val_main_cst_11]
  simp only [err H, half, width, ← EReal.coe_mul, coe_sum, zero_add, div_real (show (1024 : ℝ) ≠ 0 by norm_num)]
  rw [Finset.mul_sum]
  congr 1
  refine Finset.sum_congr rfl fun t _ => ?_
  unfold FwdRow.Data.loss; ring

theorem part (q : Fin 8) (j : Fin 1024) :
    val_main_v96 (F := Ideal) x0 x1 x2 x3 x4 x5 x6 x7 x8 (ix2 q j) = ((∑ t, A.share t q j : ℝ) : EReal) := by
  pointwise [val_main_v96, val_main_v95, val_main_v94, val_main_v93, val_main_v92, val_main_v91, val_main_v72,
    val_main_v71, val_main_v70, val_main_cst_15, val_main_cst_19, val_main_cst_20]
  simp only [dout H, ffn H, xh H, dy H, loss H, ← EReal.coe_mul, coe_sum, zero_add]
  split_ifs with a b c
  · simp only [FwdRow.Data.share, show q.val = 0 by omega, if_true]
  · simp [FwdRow.Data.share, show q.val = 1 by omega, mul_comm]
  · simp [FwdRow.Data.share, show q.val = 2 by omega]
  · simp [FwdRow.Data.share, show q.val ≠ 0 by omega, show q.val ≠ 1 by omega, show q.val ≠ 2 by omega]

end Cert.FwdRef

end
-- ==== Proof.FwdBlock.lean ====
/- What one grid point of the feed-forward half's forward kernel computes from its 256 rows, on finite numbers. -/
module

public import proofs.«01_k».proof.Proof.FwdRow
public import proofs.«01_k».proof.Proof.Gen.Kernel2Ideal.Skeleton

@[expose] public section

set_option maxRecDepth 16384

noncomputable section

namespace Cert.FwdBlock

open Idealize.ShloMosaic Idealize.ShloMosaic.TcCoe Idealize.SL.Sem
open Cert.Kernel2Ideal Cert.Kernel2Ideal.Gen Cert.RealMath

/-- One over the length of a row, as the kernel writes it. -/
theorem inv_width : Ideal.ofBits .f32 0x3A800000#32 = ((1 / 1024 : ℝ) : EReal) := by
  simp [Ideal.ofBits, Ideal.ieee]; rw [← EReal.coe_mul]; norm_num

/-- Half of it. -/
theorem half_inv_width : Ideal.ofBits .f32 0x3A000000#32 = ((1 / 2048 : ℝ) : EReal) := by
  simp [Ideal.ofBits, Ideal.ieee]; rw [← EReal.coe_mul]; norm_num

variable {A : FwdRow.Data} {k : Fin 256 → Fin 8192}

section Norm

variable {v63 v77 : FVec Ideal S256x1024 .f32} {v6 v74 : FVec Ideal S1x1024 .f32}
  (h63 : ∀ (r : Fin 256) (j : Fin 1024), v63 (ix2 r j) = ((A.out (k r) j : ℝ) : EReal))
  (h74 : ∀ j : Fin 1024, v74 (ix2 0 j) = ((A.fw j : ℝ) : EReal))
  (h77 : ∀ (r : Fin 256) (j : Fin 1024), v77 (ix2 r j) = ((A.T (k r) j : ℝ) : EReal))
  (h6 : ∀ j : Fin 1024, v6 (ix2 0 j) = ((A.W.ada 5 j : ℝ) : EReal))

include h63

theorem rs (r : Fin 256) (z : Fin 1) :
    k0_pay17 (F := Ideal) v63 (ix2 r z) = ((FfnRow.rs (A.out (k r)) : ℝ) : EReal) := by
  pointwise [k0_pay17]
  simp only [h63, ← EReal.coe_mul, coe_sum, width, eps_eq]
  rw [div_real (by norm_num), ← EReal.coe_add]
  exact rsqrt_pos (FfnRow.ms_pos _)

theorem xh (r : Fin 256) (j : Fin 1024) :
    k0_pay18 (F := Ideal) v63 (ix2 r j) = ((FfnRow.xh (A.out (k r)) j : ℝ) : EReal) := by
  pointwise [k0_pay18]
  rw [h63, rs h63, ← EReal.coe_mul]; rfl

include h74 h77

theorem err (r : Fin 256) (j : Fin 1024) :
    k0_pay19 (F := Ideal) v63 v74 v77 (ix2 r j) = ((A.err (k r) j : ℝ) : EReal) := by
  pointwise [k0_pay19]
  rw [xh h63, h74, h77, ← EReal.coe_mul, ← EReal.coe_sub]; rfl

theorem dy (r : Fin 256) (j : Fin 1024) :
    k0_pay20 (F := Ideal) v63 v74 v77 (ix2 r j) = ((A.dy (k r) j : ℝ) : EReal) := by
  pointwise [k0_pay20]
  rw [err h63 h74 h77, inv_width, ← EReal.coe_mul]; rfl

theorem dout (r : Fin 256) (j : Fin 1024) :
    k0_pay21 (F := Ideal) v63 v74 v77 v74 (ix2 r j) = ((A.dout (k r) j : ℝ) : EReal) := by
  pointwise [k0_pay21]
  simp only [dy h63 h74 h77, xh h63, rs h63, h74, ← EReal.coe_mul, coe_sum, width]
  rw [div_real (by norm_num), ← EReal.coe_mul, ← EReal.coe_sub, ← EReal.coe_mul]; rfl

include h6 in
theorem dffn (r : Fin 256) (j : Fin 1024) :
    k0_pay22 (F := Ideal) v6 v63 v74 v77 v74 (ix2 r j) = ((A.dffn (k r) j : ℝ) : EReal) := by
  pointwise [k0_pay22]
  rw [dout h63 h74 h77, h6, ← EReal.coe_mul]; rfl

/-- The column sum the first row of the sums takes. -/
theorem dgate {v60 : FVec Ideal S256x1024 .f32}
    (h60 : ∀ (r : Fin 256) (j : Fin 1024), v60 (ix2 r j) = ((A.ffn (k r) j : ℝ) : EReal)) (j : Fin 1024) :
    k0_pay24 (F := Ideal) v60 v63 v74 v77 v74 (ix1 j) = ((∑ r, A.dout (k r) j * A.ffn (k r) j : ℝ) : EReal) := by
  pointwise [k0_pay24]
  simp only [dout h63 h74 h77, h60, ← EReal.coe_mul, coe_sum]

end Norm

section Sums

variable (acc : FVec Ideal S1x1024 .f32)

theorem sum0 (v102 : FVec Ideal S1024 .f32) (j : Fin 1024) :
    k0_pay1 (F := Ideal) (k0_pay23 acc) v102 (ix2 0 j) = acc (ix2 0 j) + v102 (ix1 j) := by
  pointwise [k0_pay1, k0_pay23]

theorem sum1 {v73 v80 : FVec Ideal S256x1024 .f32} {a b : Fin 256 → Fin 1024 → ℝ}
    (h : ∀ (r : Fin 256) (j : Fin 1024), v80 (ix2 r j) = ((a r j : ℝ) : EReal))
    (h' : ∀ (r : Fin 256) (j : Fin 1024), v73 (ix2 r j) = ((b r j : ℝ) : EReal)) (j : Fin 1024) :
    k0_pay2 (F := Ideal) v73 v80 acc (ix2 0 j) = acc (ix2 0 j) + ((∑ r, a r j * b r j : ℝ) : EReal) := by
  pointwise [k0_pay2]
  simp only [h, h', ← EReal.coe_mul, coe_sum]

/-- The sum of squares over the whole tile. -/
theorem sum2 {v78 : FVec Ideal S256x1024 .f32} {a : Fin 256 → Fin 1024 → ℝ}
    (h : ∀ (r : Fin 256) (j : Fin 1024), v78 (ix2 r j) = ((a r j : ℝ) : EReal)) (j : Fin 1024) :
    k0_pay3 (F := Ideal) v78 acc (ix2 0 j)
      = acc (ix2 0 j) + ((∑ r, 1 / 2048 * ∑ j, a r j * a r j : ℝ) : EReal) := by
  pointwise [k0_pay3]
  simp only [h, ← EReal.coe_mul, coe_sum, half_inv_width]
  rw [Finset.mul_sum]

end Sums

/-- The vectors one grid point loads hold the rows of its tokens and the weights. -/
structure Loads (A : FwdRow.Data) (k : Fin 256 → Fin 8192) (v3 v4 v5 v6 v27 v74 : FVec Ideal S1x1024 .f32)
    (v7 : FVec Ideal S256x1024 .bf16) (v8 : FVec Ideal S1024x1024 .bf16) (v12 v77 : FVec Ideal S256x1024 .f32)
    (v39 v41 v58 : FVec Ideal S2816x1024 .bf16) : Prop where
  h3 : ∀ j : Fin 1024, v3 (ix2 0 j) = ((A.W.ada 2 j : ℝ) : EReal)
  h4 : ∀ j : Fin 1024, v4 (ix2 0 j) = ((A.W.ada 3 j : ℝ) : EReal)
  h5 : ∀ j : Fin 1024, v5 (ix2 0 j) = ((A.W.ada 4 j : ℝ) : EReal)
  h6 : ∀ j : Fin 1024, v6 (ix2 0 j) = ((A.W.ada 5 j : ℝ) : EReal)
  h27 : ∀ j : Fin 1024, v27 (ix2 0 j) = ((A.W.nw j : ℝ) : EReal)
  h74 : ∀ j : Fin 1024, v74 (ix2 0 j) = ((A.fw j : ℝ) : EReal)
  h7 : ∀ (r : Fin 256) (j : Fin 1024), v7 (ix2 r j) = ((A.Y (k r) j : ℝ) : EReal)
  h8 : ∀ i j : Fin 1024, v8 (ix2 i j) = ((A.W.wo i j : ℝ) : EReal)
  h12 : ∀ (r : Fin 256) (j : Fin 1024), v12 (ix2 r j) = ((A.X (k r) j : ℝ) : EReal)
  h77 : ∀ (r : Fin 256) (j : Fin 1024), v77 (ix2 r j) = ((A.T (k r) j : ℝ) : EReal)
  h39 : ∀ (f : Fin 2816) (j : Fin 1024), v39 (ix2 f j) = ((A.W.wi (FfnRow.lo f) j : ℝ) : EReal)
  h41 : ∀ (f : Fin 2816) (j : Fin 1024), v41 (ix2 f j) = ((A.W.wi (FfnRow.hi f) j : ℝ) : EReal)
  h58 : ∀ (f : Fin 2816) (j : Fin 1024), v58 (ix2 f j) = ((A.W.wf f j : ℝ) : EReal)

namespace Loads

variable {v3 v4 v5 v6 v27 v74 : FVec Ideal S1x1024 .f32} {v7 : FVec Ideal S256x1024 .bf16}
  {v8 : FVec Ideal S1024x1024 .bf16} {v12 v77 : FVec Ideal S256x1024 .f32} {v39 v41 v58 : FVec Ideal S2816x1024 .bf16}
  (L : Loads A k v3 v4 v5 v6 v27 v74 v7 v8 v12 v77 v39 v41 v58)

include L

theorem m (r : Fin 256) (j : Fin 1024) : k0_pay5 (F := Ideal) v7 v8 (ix2 r j) = ((A.m (k r) j : ℝ) : EReal) := by
  pointwise [k0_pay5]
  simp only [L.h7, L.h8, ← EReal.coe_mul, coe_sum, zero_add]; rfl

theorem mix (r : Fin 256) (j : Fin 1024) : k0_pay6 (F := Ideal) v7 v8 (ix2 r j) = ((A.m (k r) j : ℝ) : EReal) := by
  pointwise [k0_pay6]
  exact L.m r j

theorem x (r : Fin 256) (j : Fin 1024) :
    k0_pay7 (F := Ideal) v3 v7 v8 v12 (ix2 r j) = ((A.x (k r) j : ℝ) : EReal) := by
  pointwise [k0_pay7]
  rw [L.m, L.h3, L.h12, ← EReal.coe_mul, ← EReal.coe_add]; rfl

theorem normed (r : Fin 256) (j : Fin 1024) :
    k0_pay8 (F := Ideal) v3 v7 v8 v12 v27 (ix2 r j) = ((FfnRow.xh (A.x (k r)) j * A.W.nw j : ℝ) : EReal) := by
  have hr : Ideal.rsqrt (((∑ i, A.x (k r) i * A.x (k r) i) / 1024 + eps : ℝ) : EReal)
      = ((FfnRow.rs (A.x (k r)) : ℝ) : EReal) := rsqrt_pos (FfnRow.ms_pos _)
  pointwise [k0_pay8]
  simp only [L.x, L.h27, ← EReal.coe_mul, coe_sum, width, eps_eq, div_real (show (1024 : ℝ) ≠ 0 by norm_num),
    ← EReal.coe_add, hr]
  rfl

theorem h (r : Fin 256) (j : Fin 1024) :
    k0_pay9 (F := Ideal) v4 v5 (k0_pay8 v3 v7 v8 v12 v27) (ix2 r j) = ((A.h (k r) j : ℝ) : EReal) := by
  pointwise [k0_pay9]
  rw [L.normed, L.h4, L.h5, one_coe, ← EReal.coe_add, ← EReal.coe_mul, ← EReal.coe_add]; rfl

theorem gate (r : Fin 256) (f : Fin 2816) :
    k0_pay10 (F := Ideal) v4 v5 (k0_pay8 v3 v7 v8 v12 v27) v39 (ix2 r f)
      = ((A.g (k r) (FfnRow.lo f) : ℝ) : EReal) := by
  pointwise [k0_pay10]
  simp only [L.h, L.h39, ← EReal.coe_mul, coe_sum, zero_add]; rfl

theorem up (r : Fin 256) (f : Fin 2816) :
    k0_pay11 (F := Ideal) v4 v5 (k0_pay8 v3 v7 v8 v12 v27) v41 (ix2 r f)
      = ((A.g (k r) (FfnRow.hi f) : ℝ) : EReal) := by
  pointwise [k0_pay11]
  simp only [L.h, L.h41, ← EReal.coe_mul, coe_sum, zero_add]; rfl

theorem gateOut (r : Fin 256) (f : Fin 2816) :
    k0_pay12 (F := Ideal) v4 v5 (k0_pay8 v3 v7 v8 v12 v27) v39 (ix2 r f)
      = ((A.g (k r) (FfnRow.lo f) : ℝ) : EReal) := by
  pointwise [k0_pay12]
  exact L.gate r f

theorem upOut (r : Fin 256) (f : Fin 2816) :
    k0_pay13 (F := Ideal) v4 v5 (k0_pay8 v3 v7 v8 v12 v27) v41 (ix2 r f)
      = ((A.g (k r) (FfnRow.hi f) : ℝ) : EReal) := by
  pointwise [k0_pay13]
  exact L.up r f

theorem act (r : Fin 256) (f : Fin 2816) :
    k0_pay14 (F := Ideal) v4 v5 (k0_pay8 v3 v7 v8 v12 v27) v39 v41 (ix2 r f) = ((A.act (k r) f : ℝ) : EReal) := by
  pointwise [k0_pay14]
  rw [L.gate, L.up, half, ← EReal.coe_mul, Ideal.tanh_coe, ← EReal.coe_mul, ← EReal.coe_add, sg_tanh, ← EReal.coe_mul,
    ← EReal.coe_mul]
  rfl

theorem ffn (r : Fin 256) (j : Fin 1024) :
    k0_pay15 (F := Ideal) v4 v5 (k0_pay8 v3 v7 v8 v12 v27) v39 v41 v58 (ix2 r j) = ((A.ffn (k r) j : ℝ) : EReal) := by
  pointwise [k0_pay15]
  simp only [L.act, L.h58, ← EReal.coe_mul, coe_sum, zero_add]; rfl

theorem out (r : Fin 256) (j : Fin 1024) :
    k0_pay16 (F := Ideal) v4 v5 v6 (k0_pay7 v3 v7 v8 v12) (k0_pay8 v3 v7 v8 v12 v27) v39 v41 v58 (ix2 r j)
      = ((A.out (k r) j : ℝ) : EReal) := by
  pointwise [k0_pay16]
  rw [L.x, L.ffn, L.h6, ← EReal.coe_mul, ← EReal.coe_add]; rfl

theorem dout (r : Fin 256) (j : Fin 1024) :
    k0_pay21 (F := Ideal) (k0_pay16 v4 v5 v6 (k0_pay7 v3 v7 v8 v12) (k0_pay8 v3 v7 v8 v12 v27) v39 v41 v58) v74 v77 v74
        (ix2 r j)
      = ((A.dout (k r) j : ℝ) : EReal) :=
  FwdBlock.dout L.out L.h74 L.h77 r j

theorem dffn (r : Fin 256) (j : Fin 1024) :
    k0_pay22 (F := Ideal) v6 (k0_pay16 v4 v5 v6 (k0_pay7 v3 v7 v8 v12) (k0_pay8 v3 v7 v8 v12 v27) v39 v41 v58) v74 v77
        v74 (ix2 r j)
      = ((A.dffn (k r) j : ℝ) : EReal) :=
  FwdBlock.dffn L.out L.h74 L.h77 L.h6 r j

/-- What the tile adds to each row of the sums: the row held `a` at column `j`. -/
theorem row0 {acc : FVec Ideal S1x1024 .f32} {a : EReal} {j : Fin 1024} (ha : acc (ix2 0 j) = a) (q : Fin 8)
    (hq : q.val = 0) :
    k0_pay1 (F := Ideal) (k0_pay23 acc) (k0_pay24 (k0_pay15 v4 v5 (k0_pay8 v3 v7 v8 v12 v27) v39 v41 v58)
        (k0_pay16 v4 v5 v6 (k0_pay7 v3 v7 v8 v12) (k0_pay8 v3 v7 v8 v12 v27) v39 v41 v58) v74 v77 v74) (ix2 0 j)
      = a + ((∑ r, A.share (k r) q j : ℝ) : EReal) := by
  rw [sum0, dgate L.out L.h74 L.h77 L.ffn, ha]
  simp only [FwdRow.Data.share, hq, if_true]

theorem row1 {acc : FVec Ideal S1x1024 .f32} {a : EReal} {j : Fin 1024} (ha : acc (ix2 0 j) = a) (q : Fin 8)
    (hq : q.val = 1) :
    k0_pay2 (F := Ideal)
        (k0_pay18 (k0_pay16 v4 v5 v6 (k0_pay7 v3 v7 v8 v12) (k0_pay8 v3 v7 v8 v12 v27) v39 v41 v58))
        (k0_pay20 (k0_pay16 v4 v5 v6 (k0_pay7 v3 v7 v8 v12) (k0_pay8 v3 v7 v8 v12 v27) v39 v41 v58) v74 v77) acc (ix2 0 j)
      = a + ((∑ r, A.share (k r) q j : ℝ) : EReal) := by
  rw [sum1 acc (dy L.out L.h74 L.h77) (xh L.out), ha]
  simp [FwdRow.Data.share, hq]

theorem row2 {acc : FVec Ideal S1x1024 .f32} {a : EReal} {j : Fin 1024} (ha : acc (ix2 0 j) = a) (q : Fin 8)
    (hq : q.val = 2) :
    k0_pay3 (F := Ideal)
        (k0_pay19 (k0_pay16 v4 v5 v6 (k0_pay7 v3 v7 v8 v12) (k0_pay8 v3 v7 v8 v12 v27) v39 v41 v58) v74 v77) acc (ix2 0 j)
      = a + ((∑ r, A.share (k r) q j : ℝ) : EReal) := by
  rw [sum2 acc (err L.out L.h74 L.h77), ha]
  simp [FwdRow.Data.share, FwdRow.Data.loss, hq]

end Loads

end Cert.FwdBlock

end
-- ==== Proof.FwdTile.lean ====
/- What one grid point of the feed-forward half's forward kernel leaves in its outputs' blocks. -/
module

public import proofs.«01_k».proof.Proof.FwdBlock
public import proofs.«01_k».proof.Proof.Boxes
public import proofs.«01_k».proof.Proof.Gen.Kernel2Ideal.Value

@[expose] public section

set_option maxRecDepth 16384

noncomputable section

namespace Cert.FwdTile

open Idealize.ShloMosaic Idealize.ShloMosaic.TcCoe Idealize.SL.Sem
open Cert.Kernel2Ideal Cert.Kernel2Ideal.Gen Cert.RealMath

variable (m : (ℓ : Loc nD τ sig) → Buf (Elt Ideal) ℓ) (c : Dev nD) (A : FwdRow.Data) (k : Fin 256 → Fin 8192)

/-- The blocks a grid point is given hold the rows of its tokens `k` and the weights. -/
structure Blocks (t : Fin cfg0.N) : Prop where
  b0 : ∀ (r : Fin 256) (j : Fin 1024), (iblk m c 0 t : FVec Ideal S256x1024 .f32) (ix2 r j) = ((A.X (k r) j : ℝ) : EReal)
  b1 : ∀ (r : Fin 256) (j : Fin 1024), (iblk m c 1 t : FVec Ideal S256x1024 .bf16) (ix2 r j) = ((A.Y (k r) j : ℝ) : EReal)
  b2 : ∀ (r : Fin 256) (j : Fin 1024), (iblk m c 2 t : FVec Ideal S256x1024 .f32) (ix2 r j) = ((A.T (k r) j : ℝ) : EReal)
  b3 : ∀ (q : Fin 6) (j : Fin 1024), (iblk m c 3 t : FVec Ideal S6x1024 .f32) (ix2 q j) = ((A.W.ada q j : ℝ) : EReal)
  b4 : ∀ j : Fin 1024, (iblk m c 4 t : FVec Ideal S1x1024 .f32) (ix2 0 j) = ((A.W.nw j : ℝ) : EReal)
  b5 : ∀ j : Fin 1024, (iblk m c 5 t : FVec Ideal S1x1024 .f32) (ix2 0 j) = ((A.fw j : ℝ) : EReal)
  b6 : ∀ (i j : Fin 1024), (iblk m c 6 t : FVec Ideal S1024x1024 .bf16) (ix2 i j) = ((A.W.wo i j : ℝ) : EReal)
  b7 : ∀ (f : Fin 5632) (j : Fin 1024), (iblk m c 7 t : FVec Ideal S5632x1024 .bf16) (ix2 f j) = ((A.W.wi f j : ℝ) : EReal)
  b8 : ∀ (f : Fin 2816) (j : Fin 1024), (iblk m c 8 t : FVec Ideal S2816x1024 .bf16) (ix2 f j) = ((A.W.wf f j : ℝ) : EReal)

variable {m c A k}

/-- What the grid point loads from its blocks. -/
theorem loads {t : Fin cfg0.N} (B : Blocks m c A k t) :
    FwdBlock.Loads A k
      (View.ld (Val := Elt Ideal) (e' := .f32) (iblk m c 3 t : FVec Ideal S6x1024 .f32)
        (Rect.unit ![2, 0] ![1, 1024] inb_S6x1024_S1x1024_2_0))
      (View.ld (Val := Elt Ideal) (e' := .f32) (iblk m c 3 t : FVec Ideal S6x1024 .f32)
        (Rect.unit ![3, 0] ![1, 1024] inb_S6x1024_S1x1024_3_0))
      (View.ld (Val := Elt Ideal) (e' := .f32) (iblk m c 3 t : FVec Ideal S6x1024 .f32)
        (Rect.unit ![4, 0] ![1, 1024] inb_S6x1024_S1x1024_4_0))
      (View.ld (Val := Elt Ideal) (e' := .f32) (iblk m c 3 t : FVec Ideal S6x1024 .f32)
        (Rect.unit ![5, 0] ![1, 1024] inb_S6x1024_S1x1024_5_0))
      (iblk m c 4 t) (iblk m c 5 t) (iblk m c 1 t) (iblk m c 6 t) (iblk m c 0 t) (iblk m c 2 t)
      (View.ld (Val := Elt Ideal) (e' := .bf16) (iblk m c 7 t : FVec Ideal S5632x1024 .bf16)
        (Rect.unit ![0, 0] ![2816, 1024] inb_S5632x1024_S2816x1024_0_0))
      (View.ld (Val := Elt Ideal) (e' := .bf16) (iblk m c 7 t : FVec Ideal S5632x1024 .bf16)
        (Rect.unit ![2816, 0] ![2816, 1024] inb_S5632x1024_S2816x1024_2816_0))
      (iblk m c 8 t) where
  h3 := by intro j; pointwise; exact B.b3 _ _
  h4 := by intro j; pointwise; exact B.b3 _ _
  h5 := by intro j; pointwise; exact B.b3 _ _
  h6 := by intro j; pointwise; exact B.b3 _ _
  h27 := B.b4
  h74 := B.b5
  h7 := B.b1
  h8 := B.b6
  h12 := B.b0
  h77 := B.b2
  h39 := by intro f j; pointwise; exact B.b7 _ _
  h41 := by intro f j; pointwise; exact B.b7 _ _
  h58 := B.b8

/-- The blocks the grid point leaves in the outputs written block by block. -/
structure Left (t : Fin cfg0.N) : Prop where
  x : ∀ (r : Fin 256) (j : Fin 1024), (outsAt0 m c t.val t.isLt).1 (ix2 r j) = ((A.x (k r) j : ℝ) : EReal)
  mix : ∀ (r : Fin 256) (j : Fin 1024), (outsAt0 m c t.val t.isLt).2.1 (ix2 r j) = ((A.m (k r) j : ℝ) : EReal)
  h : ∀ (r : Fin 256) (j : Fin 1024), (outsAt0 m c t.val t.isLt).2.2.1 (ix2 r j) = ((A.h (k r) j : ℝ) : EReal)
  act : ∀ (r : Fin 256) (f : Fin 2816), (outsAt0 m c t.val t.isLt).2.2.2.1 (ix2 r f) = ((A.act (k r) f : ℝ) : EReal)
  gate : ∀ (r : Fin 256) (f : Fin 2816),
    (outsAt0 m c t.val t.isLt).2.2.2.2.1 (ix2 r (FfnRow.lo f)) = ((A.g (k r) (FfnRow.lo f) : ℝ) : EReal)
  up : ∀ (r : Fin 256) (f : Fin 2816),
    (outsAt0 m c t.val t.isLt).2.2.2.2.1 (ix2 r (FfnRow.hi f)) = ((A.g (k r) (FfnRow.hi f) : ℝ) : EReal)
  dffn : ∀ (r : Fin 256) (j : Fin 1024),
    (outsAt0 m c t.val t.isLt).2.2.2.2.2.1 (ix2 r j) = ((A.dffn (k r) j : ℝ) : EReal)
  dout : ∀ (r : Fin 256) (j : Fin 1024),
    (outsAt0 m c t.val t.isLt).2.2.2.2.2.2.1 (ix2 r j) = ((A.dout (k r) j : ℝ) : EReal)

/-- They do not depend on which of the two cases of the body the point is. -/
theorem left {t : Fin cfg0.N} (B : Blocks m c A k t) : Left (m := m) (c := c) (A := A) (k := k) t := by
  by_cases h : t.val % 32 = 0
  · constructor <;> rw [outsAt0_A m c t h] <;> frame_out
    · exact (loads B).x
    · exact (loads B).mix
    · exact (loads B).h
    · exact (loads B).act
    · exact fun r f => (Boxes.canon_miss _ _ _ _ _ (by simp [FfnRow.lo])).trans
        ((Boxes.canon_hit _ _ _ _ _ r f (by simp) (by simp [FfnRow.lo])).trans ((loads B).gateOut r f))
    · exact fun r f => (Boxes.canon_hit _ _ _ _ _ r f (by simp) (by simp [FfnRow.hi])).trans ((loads B).upOut r f)
    · exact (loads B).dffn
    · exact (loads B).dout
  · constructor <;> rw [outsAt0_B m c t h] <;> frame_out
    · exact (loads B).x
    · exact (loads B).mix
    · exact (loads B).h
    · exact (loads B).act
    · exact fun r f => (Boxes.canon_miss _ _ _ _ _ (by simp [FfnRow.lo])).trans
        ((Boxes.canon_hit _ _ _ _ _ r f (by simp) (by simp [FfnRow.lo])).trans ((loads B).gateOut r f))
    · exact fun r f => (Boxes.canon_hit _ _ _ _ _ r f (by simp) (by simp [FfnRow.hi])).trans ((loads B).upOut r f)
    · exact (loads B).dffn
    · exact (loads B).dout

/-- No token adds to the rows after the third. -/
theorem share_rest (t : Fin 8192) (q : Fin 8) (j : Fin 1024) (hq : 3 ≤ q.val) : A.share t q j = 0 := by
  simp [FwdRow.Data.share, show q.val ≠ 0 by omega, show q.val ≠ 1 by omega, show q.val ≠ 2 by omega]

/-- A later point goes on from the sums the point before it left. -/
theorem next {t : Fin cfg0.N} (h : ¬t.val % 32 = 0) (B : Blocks m c A k t) (q : Fin 8) (j : Fin 1024) :
    (outsAt0 m c t.val t.isLt).2.2.2.2.2.2.2 (ix2 q j)
      = (outsAt0 m c (t.val - 1) (Nat.lt_of_le_of_lt (Nat.sub_le _ _) t.isLt)).2.2.2.2.2.2.2 (ix2 q j)
        + ((∑ r, A.share (k r) q j : ℝ) : EReal) := by
  rw [outsAt0_B m c t h]
  generalize (outsAt0 m c (t.val - 1) (Nat.lt_of_le_of_lt (Nat.sub_le _ _) t.isLt)).2.2.2.2.2.2.2 = old
  frame_out
  refine Boxes.read_rows3 (G := fun q j => old (ix2 q j) + ((∑ r, A.share (k r) q j : ℝ) : EReal))
    _ _ [] _ _ _ _ _ _ ?_ ?_ ?_ q j ?_
  · exact fun q j hq => (loads B).row0 (Boxes.ld_box _ _ _ _ 0 j (by simp [hq]) (by simp)) q hq
  · exact fun q j hq => (loads B).row1 (Boxes.ld_box _ _ _ _ 0 j (by simp [hq]) (by simp)) q hq
  · exact fun q j hq => (loads B).row2 (Boxes.ld_box _ _ _ _ 0 j (by simp [hq]) (by simp)) q hq
  · intro hq
    rw [View.writes_nil, Memref.IsWhole.read_unread]
    simp [share_rest _ _ _ hq]

/-- The first point starts them at zero. -/
theorem first {t : Fin cfg0.N} (h : t.val % 32 = 0) (B : Blocks m c A k t) (q : Fin 8) (j : Fin 1024) :
    (outsAt0 m c t.val t.isLt).2.2.2.2.2.2.2 (ix2 q j) = (0 : EReal) + ((∑ r, A.share (k r) q j : ℝ) : EReal) := by
  rw [outsAt0_A m c t h]
  frame_out
  have fill : ∀ (q : Fin 8) (j : Fin 1024), View.canon (Val := Elt Ideal) (s := S8x1024) (e := .f32)
      [⟨Rect.unit ![0, 0] ![8, 1024] inb_S8x1024_S8x1024_0_0, k0_pay4 (F := Ideal)⟩] (ix2 q j) = (0 : EReal) := fun q j =>
    (Boxes.canon_hit (K := 8) (N := 1024) _ _ _ q j q j (by simp) (by simp)).trans (by pointwise [k0_pay4])
  refine Boxes.canon_rows3 (Val := Elt Ideal) (e := .f32) (N := 1024)
    (G := fun q j => (0 : EReal) + ((∑ r, A.share (k r) q j : ℝ) : EReal)) _ _ _ _ _ _ _ ?_ ?_ ?_ q j ?_
  · exact fun q j hq => (loads B).row0 ((Boxes.load_box _ _ q j _ 0 j (by simp [hq]) (by simp)).trans (fill q j)) q hq
  · exact fun q j hq => (loads B).row1 ((Boxes.load_box _ _ q j _ 0 j (by simp [hq]) (by simp)).trans
      ((Boxes.canon_miss _ _ _ _ _ (by omega)).trans (fill q j))) q hq
  · exact fun q j hq => (loads B).row2 ((Boxes.load_box _ _ q j _ 0 j (by simp [hq]) (by simp)).trans
      ((Boxes.canon_miss _ _ _ _ _ (by omega)).trans ((Boxes.canon_miss _ _ _ _ _ (by omega)).trans (fill q j)))) q hq
  · intro hq
    rw [fill]
    simp [share_rest _ _ _ hq]

end Cert.FwdTile

end
-- ==== Proof.FwdArrays.lean ====
/- What the forward kernel's result arrays hold after the run, on finite numbers: any array of the same numbers is that
   array. -/
module

public import proofs.«01_k».proof.Proof.FwdTile
public import proofs.«01_k».proof.Proof.Gen.Kernel2Ideal.Value
public import Idealize.ShloMosaic.Lib.Pointwise
public import Idealize.ShloMosaic.Lib.Claim

@[expose] public section

set_option maxRecDepth 16384

noncomputable section

namespace Cert.FwdArrays

open Idealize.ShloMosaic Idealize.ShloMosaic.TcCoe Idealize.SL.Sem
open Idealize.ShloMosaic.Pipeline (Dat)
open Cert.Kernel2Ideal Cert.Kernel2Ideal.Gen Cert.RealMath

variable {m : (ℓ : Loc nD τ sig) → Buf (Elt Ideal) ℓ} {c : Dev nD} {A : FwdRow.Data}
  (H : FwdRow.Holds A (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)))

/-- Which blocks the windows hold at grid point `t`: the tokens' windows the `t`-th 256 rows, the others the whole array. -/
theorem idx : ∀ t : Fin cfg0.N, win0_0.index t = ![t.val, 0] ∧ win0_1.index t = ![t.val, 0]
    ∧ win0_2.index t = ![t.val, 0] ∧ win0_3.index t = ![0, 0] ∧ win0_4.index t = ![0, 0]
    ∧ win0_5.index t = ![0, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![0, 0] ∧ t.val < 32 :=
  (by decide +kernel : ∀ t : Fin grid0.N, _)

/-- Row `r` of grid point `t` is this token. -/
def tok (t : Fin cfg0.N) (r : Fin 256) : Fin 8192 :=
  ⟨t.val * 256 + r.val, by have := (idx t).2.2.2.2.2.2.2.2.2.2.2.2.2.2.2.2.2; omega⟩

include H

/-- The blocks of grid point `t` hold the rows of its 256 tokens. -/
theorem blocks (t : Fin cfg0.N) : FwdTile.Blocks m c A (tok t) t where
  b0 r j := Eq.trans (by blk_ext [iblk, V, tok, idx t]) (H.h0 (tok t r) j)
  b1 r j := Eq.trans (by blk_ext [iblk, V, tok, idx t]) (H.h1 (tok t r) j)
  b2 r j := Eq.trans (by blk_ext [iblk, V, tok, idx t]) (H.h2 (tok t r) j)
  b3 q j := Eq.trans (by blk_ext [iblk, V, idx t]) (H.h3 q j)
  b4 j := Eq.trans (by blk_ext [iblk, V, idx t]) (H.h4 0 j)
  b5 j := Eq.trans (by blk_ext [iblk, V, idx t]) (H.h5 0 j)
  b6 i j := Eq.trans (by blk_ext [iblk, V, idx t]) (H.h6 i j)
  b7 f j := Eq.trans (by blk_ext [iblk, V, idx t]) (H.h7 f j)
  b8 f j := Eq.trans (by blk_ext [iblk, V, idx t]) (H.h8 f j)

theorem x (R : FVec Ideal S8192x1024 .f32) (h : ∀ t j, R (ix2 t j) = ((A.x t j : ℝ) : EReal)) :
    (dats m 0 c).arrAt 9 cfg0.N = R := by
  refine (dats m 0 c).arrAt_eq_of_covers 9 _ (by decide +kernel) fun t hf y => ?_
  blk_simp
  rw [after0_9]
  idx_vars y
  refine ((FwdTile.left (blocks H t)).x y0 y1).trans ((h (tok t y0) y1).symm.trans ?_)
  blk_ext [tok, idx t]

theorem mix (R : FVec Ideal S8192x1024 .bf16) (h : ∀ t j, R (ix2 t j) = ((A.m t j : ℝ) : EReal)) :
    (dats m 0 c).arrAt 10 cfg0.N = R := by
  refine (dats m 0 c).arrAt_eq_of_covers 10 _ (by decide +kernel) fun t hf y => ?_
  blk_simp
  rw [after0_10]
  idx_vars y
  refine ((FwdTile.left (blocks H t)).mix y0 y1).trans ((h (tok t y0) y1).symm.trans ?_)
  blk_ext [tok, idx t]

theorem h (R : FVec Ideal S8192x1024 .bf16) (h : ∀ t j, R (ix2 t j) = ((A.h t j : ℝ) : EReal)) :
    (dats m 0 c).arrAt 11 cfg0.N = R := by
  refine (dats m 0 c).arrAt_eq_of_covers 11 _ (by decide +kernel) fun t hf y => ?_
  blk_simp
  rw [after0_11]
  idx_vars y
  refine ((FwdTile.left (blocks H t)).h y0 y1).trans ((h (tok t y0) y1).symm.trans ?_)
  blk_ext [tok, idx t]

theorem act (R : FVec Ideal S8192x2816 .bf16) (h : ∀ t j, R (ix2 t j) = ((A.act t j : ℝ) : EReal)) :
    (dats m 0 c).arrAt 12 cfg0.N = R := by
  refine (dats m 0 c).arrAt_eq_of_covers 12 _ (by decide +kernel) fun t hf y => ?_
  blk_simp
  rw [after0_12]
  idx_vars y
  refine ((FwdTile.left (blocks H t)).act y0 y1).trans ((h (tok t y0) y1).symm.trans ?_)
  blk_ext [tok, idx t]

theorem dffn (R : FVec Ideal S8192x1024 .bf16) (h : ∀ t j, R (ix2 t j) = ((A.dffn t j : ℝ) : EReal)) :
    (dats m 0 c).arrAt 14 cfg0.N = R := by
  refine (dats m 0 c).arrAt_eq_of_covers 14 _ (by decide +kernel) fun t hf y => ?_
  blk_simp
  rw [after0_14]
  idx_vars y
  refine ((FwdTile.left (blocks H t)).dffn y0 y1).trans ((h (tok t y0) y1).symm.trans ?_)
  blk_ext [tok, idx t]

theorem dout (R : FVec Ideal S8192x1024 .f32) (h : ∀ t j, R (ix2 t j) = ((A.dout t j : ℝ) : EReal)) :
    (dats m 0 c).arrAt 15 cfg0.N = R := by
  refine (dats m 0 c).arrAt_eq_of_covers 15 _ (by decide +kernel) fun t hf y => ?_
  blk_simp
  rw [after0_15]
  idx_vars y
  refine ((FwdTile.left (blocks H t)).dout y0 y1).trans ((h (tok t y0) y1).symm.trans ?_)
  blk_ext [tok, idx t]

theorem g (R : FVec Ideal S8192x5632 .bf16) (h : ∀ t f, R (ix2 t f) = ((A.g t f : ℝ) : EReal)) :
    (dats m 0 c).arrAt 13 cfg0.N = R := by
  refine (dats m 0 c).arrAt_eq_of_covers 13 _ (by decide +kernel) fun t hf y => ?_
  blk_simp
  rw [after0_13]
  idx_vars y
  have e : (outsAt0 m c t.val t.isLt).2.2.2.2.1 (ix2 y0 y1) = ((A.g (tok t y0) y1 : ℝ) : EReal) := by
    rcases FfnRow.lo_or_hi y1 with ⟨f, rfl⟩ | ⟨f, rfl⟩
    · exact (FwdTile.left (blocks H t)).gate y0 f
    · exact (FwdTile.left (blocks H t)).up y0 f
  refine e.trans ((h (tok t y0) y1).symm.trans ?_)
  blk_ext [tok, idx t]

/-- The sums after the last grid point: every token's share, 256 tokens at each of the 32 points. -/
theorem sums (t : Fin cfg0.N) (ht : t.val + 1 = cfg0.N) (q : Fin 8) (j : Fin 1024) :
    (outsAt0 m c t.val t.isLt).2.2.2.2.2.2.2 (ix2 q j) = ((∑ t, A.share t q j : ℝ) : EReal) := by
  have key := Pipeline.eq_sum_fin_of_reset_step_apply_last (M := EReal) (ι := Fin 8 × Fin 1024)
    (fun n h i => (outsAt0 m c n h).2.2.2.2.2.2.2 (ix2 i.1 i.2)) 32 (fun _ => 0)
    (fun t i => ((∑ r, A.share (tok t r) i.1 i.2 : ℝ) : EReal))
    (fun t h i => FwdTile.first h (blocks H t) i.1 i.2) (fun t h i => FwdTile.next h (blocks H t) i.1 i.2)
    (le_of_eq N_0) t ht (q, j)
  refine key.trans ?_
  rw [zero_add, coe_sum]
  congr 1
  exact (Fin.sum_univ_tiles 32 256 rfl fun t => A.share t q j).symm

theorem part (R : FVec Ideal S8x1024 .f32) (h : ∀ q j, R (ix2 q j) = ((∑ t, A.share t q j : ℝ) : EReal)) :
    (dats m 0 c).arrAt 16 cfg0.N = R := by
  refine (dats m 0 c).arrAt_eq_of_covers 16 _ (by decide +kernel) fun t hf y => ?_
  have ht : t.val + 1 = cfg0.N := by
    have h1 := (flush0_16 t).mp hf
    have h2 : cfg0.N = 32 := N_0
    have h3 := t.isLt
    omega
  blk_simp
  rw [after0_16]
  idx_vars y
  refine (sums H t ht y0 y1).trans ((h y0 y1).symm.trans ?_)
  blk_ext [idx t]

end Cert.FwdArrays

end
-- ==== Proof.ForwardValue.lean ====
/- The feed-forward half's forward pass: the kernel's eight results are the reference's. -/
module

public import proofs.«01_k».proof.Defs
public import proofs.«01_k».proof.Proof.FwdFinite
public import proofs.«01_k».proof.Proof.FwdRef
public import proofs.«01_k».proof.Proof.FwdArrays
public import proofs.«01_k».proof.Proof.Gen.Kernel2Ideal.Value
public import proofs.«01_k».proof.Proof.Gen.Reference2Ideal.Run
public import Idealize.ShloMosaic.Lib.Claim

@[expose] public section

set_option maxRecDepth 16384

noncomputable section

namespace Cert.ForwardValue

open Idealize.ShloMosaic Idealize.ShloMosaic.TcCoe Idealize.SL.Sem

instance : Cert.Kernel2Ideal.Facts := Cert.Kernel2Ideal.Gen.facts
instance : Cert.Reference2Ideal.Facts := Cert.Reference2Ideal.Gen.facts
instance : Cert.Pre_finite2.Facts := Cert.Pre_finite2.Gen.facts

/-- The reference leaves its arguments as they were; it has no semaphore. -/
theorem frame : Cert.quiescent_Reference2Ideal := fun m ρ _ =>
  (θ_run Reference2Ideal.defs _ _).mono
    (fun r h => ⟨fun c => (h c).2.2.2.2.2.2.2.2, sem_eq_zero_of_no_sems (by decide) r.2⟩)
    (Reference2Ideal.Value.run m ρ)

theorem algebraic : Cert.algebraic_Kernel2Ideal_Reference2Ideal_pre_finite2 := by
  intro m g m' g' hpre hagree
  refine ⟨_, _, _, _, _, _, _, _, Kernel2Ideal.Value.run_blocks m g,
    (θ_run Reference2Ideal.defs _ _).mono (fun r h c => ?_) (Reference2Ideal.Value.run m' g')⟩
  obtain ⟨h0, h1, h2, h3, h4, h5, h6, h7, h8⟩ := hagree c
  obtain ⟨r0, r1, r2, r3, r4, r5, r6, r7, kept⟩ := h c
  obtain ⟨A, H⟩ := FwdFinite.holds _ _ _ _ _ _ _ _ _ (hpre c)
  have H' := H
  rw [← h0, ← h1, ← h2, ← h3, ← h4, ← h5, ← h6, ← h7, ← h8] at H'
  have e0 := r0.trans ((Reference2Ideal.Read.val_main_v11_eq (StableHlo.launchContents m' c)).trans
    (FwdArrays.x H _ (FwdRef.x H')).symm)
  have e1 := r1.trans ((Reference2Ideal.Read.val_main_v97_eq (StableHlo.launchContents m' c)).trans
    (FwdArrays.mix H _ (FwdRef.mixOut H')).symm)
  have e2 := r2.trans ((Reference2Ideal.Read.val_main_v98_eq (StableHlo.launchContents m' c)).trans
    (FwdArrays.h H _ (FwdRef.hOut H')).symm)
  have e3 := r3.trans ((Reference2Ideal.Read.val_main_v99_eq (StableHlo.launchContents m' c)).trans
    (FwdArrays.act H _ (FwdRef.actOut H')).symm)
  have e4 := r4.trans ((Reference2Ideal.Read.val_main_v100_eq (StableHlo.launchContents m' c)).trans
    (FwdArrays.g H _ (FwdRef.gOut H')).symm)
  have e5 := r5.trans ((Reference2Ideal.Read.val_main_v101_eq (StableHlo.launchContents m' c)).trans
    (FwdArrays.dffn H _ (FwdRef.dffn H')).symm)
  have e6 := r6.trans ((Reference2Ideal.Read.val_main_v88_eq (StableHlo.launchContents m' c)).trans
    (FwdArrays.dout H _ (FwdRef.dout H')).symm)
  have e7 := r7.trans ((Reference2Ideal.Read.val_main_v96_eq (StableHlo.launchContents m' c)).trans
    (FwdArrays.part H _ (FwdRef.part H')).symm)
  exact ⟨e0, e1, e2, e3, e4, e5, e6, e7, kept⟩

end Cert.ForwardValue

end
-- ==== Proof.Products.lean ====
/- The product of one array's transpose with another, over the rows the two share. -/
module

public import Idealize.ShloMosaic.Lib.Pipeline.ValueKit

@[expose] public section

noncomputable section

namespace Cert.Products

open Idealize.ShloMosaic

variable {M N : ℕ}

/-- Entry `(q, j)` of `aᵀ b`: a sum over the rows. -/
def tn {T : ℕ} (a : Fin T → Fin M → EReal) (b : Fin T → Fin N → EReal) (q : Fin M) (j : Fin N) : EReal :=
  ∑ r, a r q * b r j

/-- 8192 rows are four runs of 2048. -/
theorem tn_tiles (a : Fin 8192 → Fin M → EReal) (b : Fin 8192 → Fin N → EReal) (q : Fin M) (j : Fin N) :
    tn a b q j = ∑ s : Fin 4, tn (fun r : Fin 2048 => a ⟨s.val * 2048 + r.val, by omega⟩)
      (fun r : Fin 2048 => b ⟨s.val * 2048 + r.val, by omega⟩) q j :=
  Fin.sum_univ_tiles 4 2048 rfl fun t => a t q * b t j

end Cert.Products

end
-- ==== Proof.WgradFfnIn.lean ====
/- The gradient of the feed-forward's first weight: each block of 1408 columns, summed over the tokens 2048 at a time. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WgradFfnIn

open Idealize.ShloMosaic Idealize.ShloMosaic.TcCoe Idealize.SL.Sem
open Idealize.ShloMosaic.Pipeline (Dat)

section Kernel

open Cert.Kernel3Ideal Cert.Kernel3Ideal.Gen

variable (m : (ℓ : Loc nD τ sig) → Buf (Elt Ideal) ℓ) (c : Dev nD) (t : Fin cfg0.N)

/-- What the 2048 tokens of grid point `t` add to entry `(q, j)` of the point's block. -/
def term (m : (ℓ : Loc nD τ sig) → Buf (Elt Ideal) ℓ) (c : Dev nD) (t : Fin cfg0.N) : Fin 1408 → Fin 1024 → EReal :=
  Products.tn (fun (r : Fin 2048) q => (iblk m c 0 t : FVec Ideal S2048x1408 .bf16) (ix2 r q))
    (fun r j => (iblk m c 1 t : FVec Ideal S2048x1024 .bf16) (ix2 r j))

theorem first (h : t.val % 4 = 0) (q : Fin 1408) (j : Fin 1024) :
    (outsAt0 m c t.val t.isLt).2 (ix2 q j) = 0 + term m c t q j := by
  rw [outsAt0_A m c t h (by omega)]
  frame_out
  pointwise [k0_pay1, k0_pay2]
  rfl

theorem next (h : ¬t.val % 4 = 0) (q : Fin 1408) (j : Fin 1024) :
    (outsAt0 m c t.val t.isLt).2 (ix2 q j)
      = (outsAt0 m c (t.val - 1) (Nat.lt_of_le_of_lt (Nat.sub_le _ _) t.isLt)).2 (ix2 q j) + term m c t q j := by
  by_cases h3 : t.val % 4 = 3
  · rw [outsAt0_C m c t h h3]
    frame_out
    pointwise [k0_pay2]
    rw [read_unread_whole]
    rfl
  · rw [outsAt0_B m c t h h3]
    frame_out
    pointwise [k0_pay2]
    rw [read_unread_whole]
    rfl

theorem written (h : t.val % 4 = 3) (u : Fin 1) (q : Fin 1408) (j : Fin 1024) :
    (outsAt0 m c t.val t.isLt).1 (ix3 u q j) = (outsAt0 m c t.val t.isLt).2 (ix2 q j) := by
  rw [outsAt0_C m c t (by omega) h]
  frame_out
  pointwise [k0_pay2, k0_pay3]

/-- Which blocks the windows hold at grid point `t`: tokens `2048 (t % 4) …`, columns `1408 (t / 4) …`. -/
theorem idx : ∀ t : Fin cfg0.N, win0_0.index t = ![t.val % 4, t.val / 4] ∧ win0_1.index t = ![t.val % 4, 0]
    ∧ win0_2.index t = ![t.val / 4, 0, 0] ∧ t.val < 16 :=
  (by decide +kernel : ∀ t : Fin grid0.N, _)

/-- Column `q` of block `p`. -/
def col (p : Fin 4) (q : Fin 1408) : Fin 5632 := ⟨p.val * 1408 + q.val, by omega⟩

/-- The whole sum over the tokens, of block `p`. -/
def grad (a : FVec Ideal S8192x5632 .bf16) (b : FVec Ideal S8192x1024 .bf16) (p : Fin 4) : Fin 1408 → Fin 1024 → EReal :=
  Products.tn (fun t q => a (ix2 t (col p q))) fun t j => b (ix2 t j)

/-- After the last of a block's four points the kernel holds the sum over all tokens. -/
theorem summed (h : t.val % 4 = 3) (q : Fin 1408) (j : Fin 1024) :
    (outsAt0 m c t.val t.isLt).2 (ix2 q j)
      = grad (m ((c : Thread nD τ).loc main_arg0)) (m ((c : Thread nD τ).loc main_arg1))
        ⟨t.val / 4, by have := (idx t).2.2.2; omega⟩ q j := by
  have key := Pipeline.eq_sum_fin_of_reset_step_apply_of_flush (M := EReal) (ι := Fin 1408 × Fin 1024)
    (fun n h i => (outsAt0 m c n h).2 (ix2 i.1 i.2)) 4 (fun _ => 0) (fun t i => term m c t i.1 i.2)
    (fun t h i => first m c t h i.1 i.2) (fun t h i => next m c t h i.1 i.2) t h (q, j)
  refine key.trans ?_
  rw [zero_add, grad, Products.tn_tiles]
  refine Finset.sum_congr rfl fun s _ => ?_
  simp only [term, Products.tn]
  refine Finset.sum_congr rfl fun r _ => ?_
  have e1 : (4 * (t.val / 4) + s.val) % 4 = s.val := by omega
  have e2 : (4 * (t.val / 4) + s.val) / 4 = t.val / 4 := by omega
  congr 1
  · blk_ext [iblk, V, col, idx (⟨4 * (t.val / 4) + s.val, Pipeline.run_point_lt_of_flush t h s⟩ : Fin cfg0.N), e1, e2]
  · blk_ext [iblk, V, idx (⟨4 * (t.val / 4) + s.val, Pipeline.run_point_lt_of_flush t h s⟩ : Fin cfg0.N), e1, e2]

theorem array (R : FVec Ideal S4x1408x1024 .bf16)
    (hR : ∀ p q j, R (ix3 p q j) = grad (m ((c : Thread nD τ).loc main_arg0)) (m ((c : Thread nD τ).loc main_arg1)) p q j) :
    (dats m 0 c).arrAt 2 cfg0.N = R := by
  refine (dats m 0 c).arrAt_eq_of_covers 2 _ (by decide +kernel) fun t hf y => ?_
  have h := (flush0_2 t).mp hf
  blk_simp
  rw [after0_2]
  idx_vars y
  refine (written m c t h y0 y1 y2).trans ((summed m c t h y1 y2).trans ((hR _ y1 y2).symm.trans ?_))
  blk_ext [idx t]

end Kernel

section Reference

open Cert.Reference3Ideal Cert.Reference3Ideal.Gen Cert.Reference3Ideal.Read

theorem ref (a : FVec Ideal S8192x5632 .bf16) (b : FVec Ideal S8192x1024 .bf16) (p : Fin 4) (q : Fin 1408) (j : Fin 1024) :
    val_main_v9 (F := Ideal) a b (ix3 p q j) = grad a b p q j := by
  pointwise [val_main_v9, val_main_v8, val_main_v7, val_main_v6, val_main_v5, val_main_v4, val_main_v1]
  rfl

end Reference

instance : Cert.Kernel3Ideal.Facts := Cert.Kernel3Ideal.Gen.facts
instance : Cert.Reference3Ideal.Facts := Cert.Reference3Ideal.Gen.facts

/-- The reference leaves its arguments as they were; it has no semaphore. -/
theorem frame : Cert.quiescent_Reference3Ideal := fun m ρ _ =>
  (θ_run Reference3Ideal.defs _ _).mono (fun r h => ⟨fun c => (h c).2, sem_eq_zero_of_no_sems (by decide) r.2⟩)
    (Reference3Ideal.Value.run m ρ)

theorem algebraic : Cert.algebraic_Kernel3Ideal_Reference3Ideal := by
  pair_intro
  · run_from Cert.Kernel3Ideal.Value.run_blocks m g
  · run_from Cert.Reference3Ideal.Value.run m' g'
    obtain ⟨h0, h1⟩ := hagree c
    refine (Reference3Ideal.Read.val_main_v9_eq _ _).trans (array m c _ fun p q j => ?_).symm
    rw [← h0, ← h1]
    exact ref _ _ p q j

end Cert.WgradFfnIn

end
-- ==== Proof.WgradFfnOut.lean ====
/- The gradient of the feed-forward's second weight: each block of 1408 rows, summed over the tokens 2048 at a time. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WgradFfnOut

open Idealize.ShloMosaic Idealize.ShloMosaic.TcCoe Idealize.SL.Sem
open Idealize.ShloMosaic.Pipeline (Dat)

section Kernel

open Cert.Kernel4Ideal Cert.Kernel4Ideal.Gen

variable (m : (ℓ : Loc nD τ sig) → Buf (Elt Ideal) ℓ) (c : Dev nD) (t : Fin cfg0.N)

/-- What the 2048 tokens of grid point `t` add to entry `(q, j)` of the point's block. -/
def term (m : (ℓ : Loc nD τ sig) → Buf (Elt Ideal) ℓ) (c : Dev nD) (t : Fin cfg0.N) : Fin 1408 → Fin 1024 → EReal :=
  Products.tn (fun (r : Fin 2048) q => (iblk m c 0 t : FVec Ideal S2048x1408 .bf16) (ix2 r q))
    (fun r j => (iblk m c 1 t : FVec Ideal S2048x1024 .bf16) (ix2 r j))

theorem first (h : t.val % 4 = 0) (q : Fin 1408) (j : Fin 1024) :
    (outsAt0 m c t.val t.isLt).2 (ix2 q j) = 0 + term m c t q j := by
  rw [outsAt0_A m c t h (by omega)]
  frame_out
  pointwise [k0_pay1, k0_pay2]
  rfl

theorem next (h : ¬t.val % 4 = 0) (q : Fin 1408) (j : Fin 1024) :
    (outsAt0 m c t.val t.isLt).2 (ix2 q j)
      = (outsAt0 m c (t.val - 1) (Nat.lt_of_le_of_lt (Nat.sub_le _ _) t.isLt)).2 (ix2 q j) + term m c t q j := by
  by_cases h3 : t.val % 4 = 3
  · rw [outsAt0_C m c t h h3]
    frame_out
    pointwise [k0_pay2]
    rw [read_unread_whole]
    rfl
  · rw [outsAt0_B m c t h h3]
    frame_out
    pointwise [k0_pay2]
    rw [read_unread_whole]
    rfl

theorem written (h : t.val % 4 = 3) (u : Fin 1) (q : Fin 1408) (j : Fin 1024) :
    (outsAt0 m c t.val t.isLt).1 (ix3 u q j) = (outsAt0 m c t.val t.isLt).2 (ix2 q j) := by
  rw [outsAt0_C m c t (by omega) h]
  frame_out
  pointwise [k0_pay2, k0_pay3]

/-- Which blocks the windows hold at grid point `t`: tokens `2048 (t % 4) …`, features `1408 (t / 4) …`. -/
theorem idx : ∀ t : Fin cfg0.N, win0_0.index t = ![t.val % 4, t.val / 4] ∧ win0_1.index t = ![t.val % 4, 0]
    ∧ win0_2.index t = ![t.val / 4, 0, 0] ∧ t.val < 8 :=
  (by decide +kernel : ∀ t : Fin grid0.N, _)

/-- Feature `q` of block `p`. -/
def col (p : Fin 2) (q : Fin 1408) : Fin 2816 := ⟨p.val * 1408 + q.val, by omega⟩

/-- The whole sum over the tokens, of block `p`. -/
def grad (a : FVec Ideal S8192x2816 .bf16) (b : FVec Ideal S8192x1024 .bf16) (p : Fin 2) : Fin 1408 → Fin 1024 → EReal :=
  Products.tn (fun t q => a (ix2 t (col p q))) fun t j => b (ix2 t j)

/-- After the last of a block's four points the kernel holds the sum over all tokens. -/
theorem summed (h : t.val % 4 = 3) (q : Fin 1408) (j : Fin 1024) :
    (outsAt0 m c t.val t.isLt).2 (ix2 q j)
      = grad (m ((c : Thread nD τ).loc main_arg0)) (m ((c : Thread nD τ).loc main_arg1))
        ⟨t.val / 4, by have := (idx t).2.2.2; omega⟩ q j := by
  have key := Pipeline.eq_sum_fin_of_reset_step_apply_of_flush (M := EReal) (ι := Fin 1408 × Fin 1024)
    (fun n h i => (outsAt0 m c n h).2 (ix2 i.1 i.2)) 4 (fun _ => 0) (fun t i => term m c t i.1 i.2)
    (fun t h i => first m c t h i.1 i.2) (fun t h i => next m c t h i.1 i.2) t h (q, j)
  refine key.trans ?_
  rw [zero_add, grad, Products.tn_tiles]
  refine Finset.sum_congr rfl fun s _ => ?_
  simp only [term, Products.tn]
  refine Finset.sum_congr rfl fun r _ => ?_
  have e1 : (4 * (t.val / 4) + s.val) % 4 = s.val := by omega
  have e2 : (4 * (t.val / 4) + s.val) / 4 = t.val / 4 := by omega
  congr 1
  · blk_ext [iblk, V, col, idx (⟨4 * (t.val / 4) + s.val, Pipeline.run_point_lt_of_flush t h s⟩ : Fin cfg0.N), e1, e2]
  · blk_ext [iblk, V, idx (⟨4 * (t.val / 4) + s.val, Pipeline.run_point_lt_of_flush t h s⟩ : Fin cfg0.N), e1, e2]

theorem array (R : FVec Ideal S2x1408x1024 .bf16)
    (hR : ∀ p q j, R (ix3 p q j) = grad (m ((c : Thread nD τ).loc main_arg0)) (m ((c : Thread nD τ).loc main_arg1)) p q j) :
    (dats m 0 c).arrAt 2 cfg0.N = R := by
  refine (dats m 0 c).arrAt_eq_of_covers 2 _ (by decide +kernel) fun t hf y => ?_
  have h := (flush0_2 t).mp hf
  blk_simp
  rw [after0_2]
  idx_vars y
  refine (written m c t h y0 y1 y2).trans ((summed m c t h y1 y2).trans ((hR _ y1 y2).symm.trans ?_))
  blk_ext [idx t]

end Kernel

section Reference

open Cert.Reference4Ideal Cert.Reference4Ideal.Gen Cert.Reference4Ideal.Read

theorem ref (a : FVec Ideal S8192x2816 .bf16) (b : FVec Ideal S8192x1024 .bf16) (p : Fin 2) (q : Fin 1408) (j : Fin 1024) :
    val_main_v7 (F := Ideal) a b (ix3 p q j) = grad a b p q j := by
  pointwise [val_main_v7, val_main_v6, val_main_v5, val_main_v4, val_main_v3, val_main_v1]
  exact Finset.sum_congr rfl fun t _ => mul_comm _ _

end Reference

instance : Cert.Kernel4Ideal.Facts := Cert.Kernel4Ideal.Gen.facts
instance : Cert.Reference4Ideal.Facts := Cert.Reference4Ideal.Gen.facts

/-- The reference leaves its arguments as they were; it has no semaphore. -/
theorem frame : Cert.quiescent_Reference4Ideal := fun m ρ _ =>
  (θ_run Reference4Ideal.defs _ _).mono (fun r h => ⟨fun c => (h c).2, sem_eq_zero_of_no_sems (by decide) r.2⟩)
    (Reference4Ideal.Value.run m ρ)

theorem algebraic : Cert.algebraic_Kernel4Ideal_Reference4Ideal := by
  pair_intro
  · run_from Cert.Kernel4Ideal.Value.run_blocks m g
  · run_from Cert.Reference4Ideal.Value.run m' g'
    obtain ⟨h0, h1⟩ := hagree c
    refine (Reference4Ideal.Read.val_main_v7_eq _ _).trans (array m c _ fun p q j => ?_).symm
    rw [← h0, ← h1]
    exact ref _ _ p q j

end Cert.WgradFfnOut

end
-- ==== Proof.WgradOut.lean ====
/- The gradient of the mixing's output weight, summed over the tokens 2048 at a time. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Products
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WgradOut

open Idealize.ShloMosaic Idealize.ShloMosaic.TcCoe Idealize.SL.Sem
open Idealize.ShloMosaic.Pipeline (Dat)

section Kernel

open Cert.Kernel5Ideal Cert.Kernel5Ideal.Gen

variable (m : (ℓ : Loc nD τ sig) → Buf (Elt Ideal) ℓ) (c : Dev nD) (t : Fin cfg0.N)

/-- What the 2048 tokens of grid point `t` add to entry `(q, j)`. -/
def term (m : (ℓ : Loc nD τ sig) → Buf (Elt Ideal) ℓ) (c : Dev nD) (t : Fin cfg0.N) : Fin 1024 → Fin 1024 → EReal :=
  Products.tn (fun (r : Fin 2048) q => (iblk m c 0 t : FVec Ideal S2048x1024 .bf16) (ix2 r q))
    (fun r j => (iblk m c 1 t : FVec Ideal S2048x1024 .bf16) (ix2 r j))

theorem first (h : t.val % 4 = 0) (q j : Fin 1024) :
    (outsAt0 m c t.val t.isLt).2 (ix2 q j) = 0 + term m c t q j := by
  rw [outsAt0_A m c t h (by omega)]
  frame_out
  pointwise [k0_pay1, k0_pay2]
  rfl

theorem next (h : ¬t.val % 4 = 0) (q j : Fin 1024) :
    (outsAt0 m c t.val t.isLt).2 (ix2 q j)
      = (outsAt0 m c (t.val - 1) (Nat.lt_of_le_of_lt (Nat.sub_le _ _) t.isLt)).2 (ix2 q j) + term m c t q j := by
  by_cases h3 : t.val % 4 = 3
  · rw [outsAt0_C m c t h h3]
    frame_out
    pointwise [k0_pay2]
    rw [read_unread_whole]
    rfl
  · rw [outsAt0_B m c t h h3]
    frame_out
    pointwise [k0_pay2]
    rw [read_unread_whole]
    rfl

theorem written (h : t.val % 4 = 3) (q j : Fin 1024) :
    (outsAt0 m c t.val t.isLt).1 (ix2 q j) = (outsAt0 m c t.val t.isLt).2 (ix2 q j) := by
  rw [outsAt0_C m c t (by omega) h]
  frame_out
  pointwise [k0_pay2, k0_pay3]

/-- Which blocks the windows hold at grid point `t`: tokens `2048 (t % 4) …`. -/
theorem idx : ∀ t : Fin cfg0.N, win0_0.index t = ![t.val % 4, 0] ∧ win0_1.index t = ![t.val % 4, 0]
    ∧ win0_2.index t = ![0, 0] ∧ t.val < 4 :=
  (by decide +kernel : ∀ t : Fin grid0.N, _)

/-- The whole sum over the tokens. -/
def grad (a : FVec Ideal S8192x1024 .bf16) (b : FVec Ideal S8192x1024 .bf16) : Fin 1024 → Fin 1024 → EReal :=
  Products.tn (fun t q => a (ix2 t q)) fun t j => b (ix2 t j)

/-- After the last of the four points the kernel holds the sum over all tokens. -/
theorem summed (h : t.val % 4 = 3) (q j : Fin 1024) :
    (outsAt0 m c t.val t.isLt).2 (ix2 q j)
      = grad (m ((c : Thread nD τ).loc main_arg0)) (m ((c : Thread nD τ).loc main_arg1)) q j := by
  have key := Pipeline.eq_sum_fin_of_reset_step_apply_of_flush (M := EReal) (ι := Fin 1024 × Fin 1024)
    (fun n h i => (outsAt0 m c n h).2 (ix2 i.1 i.2)) 4 (fun _ => 0) (fun t i => term m c t i.1 i.2)
    (fun t h i => first m c t h i.1 i.2) (fun t h i => next m c t h i.1 i.2) t h (q, j)
  refine key.trans ?_
  rw [zero_add, grad, Products.tn_tiles]
  refine Finset.sum_congr rfl fun s _ => ?_
  simp only [term, Products.tn]
  refine Finset.sum_congr rfl fun r _ => ?_
  have e1 : (4 * (t.val / 4) + s.val) % 4 = s.val := by omega
  congr 1
  · blk_ext [iblk, V, idx (⟨4 * (t.val / 4) + s.val, Pipeline.run_point_lt_of_flush t h s⟩ : Fin cfg0.N), e1]
  · blk_ext [iblk, V, idx (⟨4 * (t.val / 4) + s.val, Pipeline.run_point_lt_of_flush t h s⟩ : Fin cfg0.N), e1]

theorem array (R : FVec Ideal S1024x1024 .bf16)
    (hR : ∀ q j, R (ix2 q j) = grad (m ((c : Thread nD τ).loc main_arg0)) (m ((c : Thread nD τ).loc main_arg1)) q j) :
    (dats m 0 c).arrAt 2 cfg0.N = R := by
  refine (dats m 0 c).arrAt_eq_of_covers 2 _ (by decide +kernel) fun t hf y => ?_
  have h := (flush0_2 t).mp hf
  blk_simp
  rw [after0_2]
  idx_vars y
  refine (written m c t h y0 y1).trans ((summed m c t h y0 y1).trans ((hR y0 y1).symm.trans ?_))
  blk_ext [idx t]

end Kernel

section Reference

open Cert.Reference5Ideal Cert.Reference5Ideal.Gen Cert.Reference5Ideal.Read

theorem ref (a : FVec Ideal S8192x1024 .bf16) (b : FVec Ideal S8192x1024 .bf16) (q j : Fin 1024) :
    val_main_v6 (F := Ideal) a b (ix2 q j) = grad a b q j := by
  pointwise [val_main_v6, val_main_v5, val_main_v4, val_main_v3, val_main_v1]
  exact Finset.sum_congr rfl fun t _ => mul_comm _ _

end Reference

instance : Cert.Kernel5Ideal.Facts := Cert.Kernel5Ideal.Gen.facts
instance : Cert.Reference5Ideal.Facts := Cert.Reference5Ideal.Gen.facts

/-- The reference leaves its arguments as they were; it has no semaphore. -/
theorem frame : Cert.quiescent_Reference5Ideal := fun m ρ _ =>
  (θ_run Reference5Ideal.defs _ _).mono (fun r h => ⟨fun c => (h c).2, sem_eq_zero_of_no_sems (by decide) r.2⟩)
    (Reference5Ideal.Value.run m ρ)

theorem algebraic : Cert.algebraic_Kernel5Ideal_Reference5Ideal := by
  pair_intro
  · run_from Cert.Kernel5Ideal.Value.run_blocks m g
  · run_from Cert.Reference5Ideal.Value.run m' g'
    obtain ⟨h0, h1⟩ := hagree c
    refine (Reference5Ideal.Read.val_main_v6_eq _ _).trans (array m c _ fun q j => ?_).symm
    rw [← h0, ← h1]
    exact ref _ _ q j

end Cert.WgradOut

end
-- ==== Proof.Adam.lean ====
/- One weight's step of the optimiser. -/
module

public import Idealize.ShloMosaic.Lib.Pipeline.ValueKit
public import Idealize.ShloMosaic.PureOps.Ideal.Laws

@[expose] public section

noncomputable section

namespace Cert.Adam

open Idealize.ShloMosaic

/-- The number a single-precision word writes. -/
def num (b : BitVec 32) : EReal := FloatOps.ofBits (F := Ideal) .f32 b

/-- The devices' eight parts of a gradient, added up. -/
def total (p : Fin 8 → EReal) : EReal := ∑ k, p k

/-- The new first moment. -/
def mom (g m : EReal) : EReal := num 0x3F666666#32 * m + num 0x3DCCCCCD#32 * g

/-- The new second moment. -/
def vel (g v : EReal) : EReal := num 0x3F7FBE77#32 * v + num 0x3A83126F#32 * (g * g)

/-- The weight's change. -/
def step (w g m v : EReal) : EReal :=
  num 0xBA83126F#32 * (Ideal.div (Ideal.div (mom g m) (num 0x3F26BD02#32))
    (Ideal.sqrt (Ideal.div (vel g v) (num 0x3C231ACC#32)) + num 0x322BCC77#32) + num 0x3C23D70A#32 * w)

end Cert.Adam

end
-- ==== Proof.AdamIn.lean ====
/- The optimiser's step on a device's share of the input weight. -/
module

public import proofs.«01_k».proof.Defs
public import proofs.«01_k».proof.Proof.Adam
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

namespace Cert.AdamIn

open Idealize.ShloMosaic Idealize.ShloMosaic.TcCoe Idealize.SL.Sem
open Idealize.ShloMosaic.Pipeline (Dat)

/-! ## What the reference computes -/

section Reference

open Cert.Reference6Ideal Cert.Reference6Ideal.Gen Cert.Reference6Ideal.Read

variable (x0 x1 x2 : FVec Ideal S1x1024x384 .f32) (x3 : FVec Ideal S8x1024x384 .bf16)
  (r : Fin 1024) (j : Fin 384)

theorem ref_total : val_main_v1 (F := Ideal) x3 (ix2 r j)
    = Adam.total fun k => x3 (ix3 k r j) := by
  pointwise [val_main_v0, val_main_cst, val_main_v1]
  rfl

theorem ref_delta : val_main_v28 (F := Ideal) x0 x1 x2 x3 (ix2 r j)
    = Adam.step (x0 (ix3 0 r j)) (Adam.total fun k => x3 (ix3 k r j)) (x1 (ix3 0 r j)) (x2 (ix3 0 r j)) := by
  pointwise [val_main_v0, val_main_cst, val_main_v1, val_main_v2, val_main_v3, val_main_v4, val_main_cst_0,
    val_main_v5, val_main_v6, val_main_cst_1, val_main_v7, val_main_v8, val_main_v9, val_main_cst_2, val_main_v10,
    val_main_v11, val_main_v12, val_main_cst_3, val_main_v13, val_main_v14, val_main_v15, val_main_cst_4,
    val_main_v16, val_main_v17, val_main_cst_5, val_main_v18, val_main_v19, val_main_v20, val_main_cst_6,
    val_main_v21, val_main_v22, val_main_v23, val_main_cst_7, val_main_v24, val_main_v25, val_main_v26,
    val_main_cst_8, val_main_v27, val_main_v28]
  rfl

theorem ref_first : val_main_v9 (F := Ideal) x1 x3 (ix2 r j)
    = Adam.mom (Adam.total fun k => x3 (ix3 k r j)) (x1 (ix3 0 r j)) := by
  pointwise [val_main_v0, val_main_cst, val_main_v1, val_main_v3, val_main_cst_0, val_main_v5, val_main_v6,
    val_main_cst_1, val_main_v7, val_main_v8, val_main_v9]
  rfl

theorem ref_second : val_main_v15 (F := Ideal) x2 x3 (ix2 r j)
    = Adam.vel (Adam.total fun k => x3 (ix3 k r j)) (x2 (ix3 0 r j)) := by
  pointwise [val_main_v0, val_main_cst, val_main_v1, val_main_v4, val_main_cst_2, val_main_v10, val_main_v11,
    val_main_v12, val_main_cst_3, val_main_v13, val_main_v14, val_main_v15]
  rfl

end Reference

/-! ## What the kernel computes -/

section Kernel

open Cert.Kernel6Ideal Cert.Kernel6Ideal.Gen

section Block

variable (x0 x1 x2 : FVec Ideal S256x384 .f32) (x3 : FVec Ideal S8x256x384 .bf16) (r : Fin 256) (j : Fin 384)

theorem total : out0_4 (F := Ideal) x0 x1 x2 x3 (ix2 r j)
    = Adam.total fun k => x3 (ix3 k r j) := by
  unfold out0_4
  frame_out
  pointwise [k0_pay5, k0_pay4]
  rw [Adam.total, Fin.sum_univ_eight]

theorem delta : out0_5 (F := Ideal) x0 x1 x2 x3 (ix2 r j)
    = Adam.step (x0 (ix2 r j)) (Adam.total fun k => x3 (ix3 k r j)) (x1 (ix2 r j)) (x2 (ix2 r j)) := by
  unfold out0_5
  frame_out
  pointwise [k0_pay1, k0_pay2, k0_pay3, k0_pay5, k0_pay4]
  rw [Adam.total, Fin.sum_univ_eight]
  rfl

theorem first : out0_6 (F := Ideal) x0 x1 x2 x3 (ix2 r j)
    = Adam.mom (Adam.total fun k => x3 (ix3 k r j)) (x1 (ix2 r j)) := by
  unfold out0_6
  frame_out
  pointwise [k0_pay1, k0_pay5, k0_pay4]
  rw [Adam.total, Fin.sum_univ_eight]
  rfl

theorem second : out0_7 (F := Ideal) x0 x1 x2 x3 (ix2 r j)
    = Adam.vel (Adam.total fun k => x3 (ix3 k r j)) (x2 (ix2 r j)) := by
  unfold out0_7
  frame_out
  pointwise [k0_pay2, k0_pay5, k0_pay4]
  rw [Adam.total, Fin.sum_univ_eight]
  rfl

end Block

variable (m : (ℓ : Loc nD τ sig) → Buf (Elt Ideal) ℓ) (c : Dev nD) (t : Fin cfg0.N)

/-- Which blocks the windows hold at grid point `t`: rows `256 t …`. -/
theorem idx : ∀ t : Fin cfg0.N, win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] ∧ t.val < 4 :=
  (by decide +kernel : ∀ t : Fin grid0.N, _)

/-- Row `r` of grid point `t` is this row of the array. -/
def row (r : Fin 256) : Fin 1024 :=
  ⟨t.val * 256 + r.val, by have h : t.val < 4 := (idx t).2.2.2.2.2.2.2.2; omega⟩

/-- The block of the weight at grid point `t`. -/
theorem weight (r : Fin 256) (j : Fin 384) : (iblk m c 0 t : FVec Ideal S256x384 .f32) (ix2 r j)
    = m ((c : Thread nD τ).loc main_arg0) (ix3 0 (row t r) j) := by
  blk_simp [iblk]
  entry_read
  pointwise
  blk_ext [idx t, row]

/-- The block of the first moment at grid point `t`. -/
theorem mom (r : Fin 256) (j : Fin 384) : (iblk m c 1 t : FVec Ideal S256x384 .f32) (ix2 r j)
    = m ((c : Thread nD τ).loc main_arg1) (ix3 0 (row t r) j) := by
  blk_simp [iblk]
  entry_read
  pointwise
  blk_ext [idx t, row]

/-- The block of the second moment at grid point `t`. -/
theorem vel (r : Fin 256) (j : Fin 384) : (iblk m c 2 t : FVec Ideal S256x384 .f32) (ix2 r j)
    = m ((c : Thread nD τ).loc main_arg2) (ix3 0 (row t r) j) := by
  blk_simp [iblk]
  entry_read
  pointwise
  blk_ext [idx t, row]

/-- The block of the gradient's parts at grid point `t`. -/
theorem part (k : Fin 8) (r : Fin 256) (j : Fin 384) : (iblk m c 3 t : FVec Ideal S8x256x384 .bf16) (ix3 k r j)
    = m ((c : Thread nD τ).loc main_arg3) (ix3 k (row t r) j) := by
  blk_ext [iblk, V, idx t, row]

theorem total_array : (dats m 0 c).arrAt 4 cfg0.N
    = Reference6Ideal.Read.val_main_v1 (F := Ideal)
      (m ((c : Thread nD τ).loc main_arg3)) := by
  refine (dats m 0 c).arrAt_eq_of_covers 4 _ (by decide +kernel) fun t hf y => ?_
  blk_simp
  rw [after0_4]
  idx_vars y
  refine (total _ _ _ _ y0 y1).trans (Eq.trans ?_ ((ref_total
    (m ((c : Thread nD τ).loc main_arg3)) (row t y0) y1).symm.trans ?_))
  · simp only [part]
  · blk_ext [idx t, row]

theorem delta_array : (dats m 0 c).arrAt 5 cfg0.N
    = Reference6Ideal.Read.val_main_v28 (F := Ideal)
      (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  idx_vars y
  refine (delta _ _ _ _ y0 y1).trans (Eq.trans ?_ ((ref_delta
    (m ((c : Thread nD τ).loc main_arg0)) (m ((c : Thread nD τ).loc main_arg1))
    (m ((c : Thread nD τ).loc main_arg2)) (m ((c : Thread nD τ).loc main_arg3)) (row t y0) y1).symm.trans ?_))
  · simp only [part, weight, mom, vel]
  · blk_ext [idx t, row]

theorem first_array : (dats m 0 c).arrAt 6 cfg0.N
    = Reference6Ideal.Read.val_main_v9 (F := Ideal)
      (m ((c : Thread nD τ).loc main_arg1)) (m ((c : Thread nD τ).loc main_arg3)) := by
  refine (dats m 0 c).arrAt_eq_of_covers 6 _ (by decide +kernel) fun t hf y => ?_
  blk_simp
  rw [after0_6]
  idx_vars y
  refine (first _ _ _ _ y0 y1).trans (Eq.trans ?_ ((ref_first
    (m ((c : Thread nD τ).loc main_arg1)) (m ((c : Thread nD τ).loc main_arg3)) (row t y0) y1).symm.trans ?_))
  · simp only [part, mom]
  · blk_ext [idx t, row]

theorem second_array : (dats m 0 c).arrAt 7 cfg0.N
    = Reference6Ideal.Read.val_main_v15 (F := Ideal)
      (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (second _ _ _ _ y0 y1).trans (Eq.trans ?_ ((ref_second
    (m ((c : Thread nD τ).loc main_arg2)) (m ((c : Thread nD τ).loc main_arg3)) (row t y0) y1).symm.trans ?_))
  · simp only [part, vel]
  · blk_ext [idx t, row]

end Kernel

instance : Cert.Kernel6Ideal.Facts := Cert.Kernel6Ideal.Gen.facts
instance : Cert.Reference6Ideal.Facts := Cert.Reference6Ideal.Gen.facts

/-- The reference leaves its arguments as they were; it has no semaphore. -/
theorem frame : Cert.quiescent_Reference6Ideal := fun m ρ _ =>
  (θ_run Reference6Ideal.defs _ _).mono
    (fun r h => ⟨fun c => (h c).2.2.2.2, sem_eq_zero_of_no_sems (by decide) r.2⟩) (Reference6Ideal.Value.run m ρ)

theorem algebraic : Cert.algebraic_Kernel6Ideal_Reference6Ideal := by
  intro m g m' g' _ hagree
  refine ⟨_, _, _, _, Kernel6Ideal.Value.run_blocks m g,
    (θ_run Reference6Ideal.defs _ _).mono (fun r h c => ?_) (Reference6Ideal.Value.run m' g')⟩
  obtain ⟨h0, h1, h2, h3⟩ := hagree c
  obtain ⟨r0, r1, r2, r3, kept⟩ := h c
  have e0 := r0.trans (Reference6Ideal.Read.val_main_v1_eq _)
  rw [h3, ← total_array m c] at e0
  have e1 := r1.trans (Reference6Ideal.Read.val_main_v28_eq _ _ _ _)
  rw [h0, h1, h2, h3, ← delta_array m c] at e1
  have e2 := r2.trans (Reference6Ideal.Read.val_main_v9_eq _ _)
  rw [h1, h3, ← first_array m c] at e2
  have e3 := r3.trans (Reference6Ideal.Read.val_main_v15_eq _ _)
  rw [h2, h3, ← second_array m c] at e3
  exact ⟨e0, e1, e2, e3, kept⟩

end Cert.AdamIn

end
-- ==== Proof.AdamOut.lean ====
/- The optimiser's step on a device's share of the output weight. -/
module

public import proofs.«01_k».proof.Defs
public import proofs.«01_k».proof.Proof.Adam
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

namespace Cert.AdamOut

open Idealize.ShloMosaic Idealize.ShloMosaic.TcCoe Idealize.SL.Sem
open Idealize.ShloMosaic.Pipeline (Dat)

/-! ## What the reference computes -/

section Reference

open Cert.Reference7Ideal Cert.Reference7Ideal.Gen Cert.Reference7Ideal.Read

variable (x0 x1 x2 : FVec Ideal S1x128x1024 .f32) (x3 : FVec Ideal S8x128x1024 .bf16)
  (r : Fin 128) (j : Fin 1024)

theorem ref_total : val_main_v1 (F := Ideal) x3 (ix2 r j)
    = Adam.total fun k => x3 (ix3 k r j) := by
  pointwise [val_main_v0, val_main_cst, val_main_v1]
  rfl

theorem ref_delta : val_main_v28 (F := Ideal) x0 x1 x2 x3 (ix2 r j)
    = Adam.step (x0 (ix3 0 r j)) (Adam.total fun k => x3 (ix3 k r j)) (x1 (ix3 0 r j)) (x2 (ix3 0 r j)) := by
  pointwise [val_main_v0, val_main_cst, val_main_v1, val_main_v2, val_main_v3, val_main_v4, val_main_cst_0,
    val_main_v5, val_main_v6, val_main_cst_1, val_main_v7, val_main_v8, val_main_v9, val_main_cst_2, val_main_v10,
    val_main_v11, val_main_v12, val_main_cst_3, val_main_v13, val_main_v14, val_main_v15, val_main_cst_4,
    val_main_v16, val_main_v17, val_main_cst_5, val_main_v18, val_main_v19, val_main_v20, val_main_cst_6,
    val_main_v21, val_main_v22, val_main_v23, val_main_cst_7, val_main_v24, val_main_v25, val_main_v26,
    val_main_cst_8, val_main_v27, val_main_v28]
  rfl

theorem ref_first : val_main_v9 (F := Ideal) x1 x3 (ix2 r j)
    = Adam.mom (Adam.total fun k => x3 (ix3 k r j)) (x1 (ix3 0 r j)) := by
  pointwise [val_main_v0, val_main_cst, val_main_v1, val_main_v3, val_main_cst_0, val_main_v5, val_main_v6,
    val_main_cst_1, val_main_v7, val_main_v8, val_main_v9]
  rfl

theorem ref_second : val_main_v15 (F := Ideal) x2 x3 (ix2 r j)
    = Adam.vel (Adam.total fun k => x3 (ix3 k r j)) (x2 (ix3 0 r j)) := by
  pointwise [val_main_v0, val_main_cst, val_main_v1, val_main_v4, val_main_cst_2, val_main_v10, val_main_v11,
    val_main_v12, val_main_cst_3, val_main_v13, val_main_v14, val_main_v15]
  rfl

end Reference

/-! ## What the kernel computes -/

section Kernel

open Cert.Kernel7Ideal Cert.Kernel7Ideal.Gen

section Block

variable (x0 x1 x2 : FVec Ideal S128x1024 .f32) (x3 : FVec Ideal S8x128x1024 .bf16) (r : Fin 128) (j : Fin 1024)

theorem total : out0_4 (F := Ideal) x0 x1 x2 x3 (ix2 r j)
    = Adam.total fun k => x3 (ix3 k r j) := by
  unfold out0_4
  frame_out
  pointwise [k0_pay5, k0_pay4]
  rw [Adam.total, Fin.sum_univ_eight]

theorem delta : out0_5 (F := Ideal) x0 x1 x2 x3 (ix2 r j)
    = Adam.step (x0 (ix2 r j)) (Adam.total fun k => x3 (ix3 k r j)) (x1 (ix2 r j)) (x2 (ix2 r j)) := by
  unfold out0_5
  frame_out
  pointwise [k0_pay1, k0_pay2, k0_pay3, k0_pay5, k0_pay4]
  rw [Adam.total, Fin.sum_univ_eight]
  rfl

theorem first : out0_6 (F := Ideal) x0 x1 x2 x3 (ix2 r j)
    = Adam.mom (Adam.total fun k => x3 (ix3 k r j)) (x1 (ix2 r j)) := by
  unfold out0_6
  frame_out
  pointwise [k0_pay1, k0_pay5, k0_pay4]
  rw [Adam.total, Fin.sum_univ_eight]
  rfl

theorem second : out0_7 (F := Ideal) x0 x1 x2 x3 (ix2 r j)
    = Adam.vel (Adam.total fun k => x3 (ix3 k r j)) (x2 (ix2 r j)) := by
  unfold out0_7
  frame_out
  pointwise [k0_pay2, k0_pay5, k0_pay4]
  rw [Adam.total, Fin.sum_univ_eight]
  rfl

end Block

variable (m : (ℓ : Loc nD τ sig) → Buf (Elt Ideal) ℓ) (c : Dev nD) (t : Fin cfg0.N)

/-- Which blocks the windows hold at grid point `t`: rows `128 t …`. -/
theorem idx : ∀ t : Fin cfg0.N, win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] ∧ t.val < 1 :=
  (by decide +kernel : ∀ t : Fin grid0.N, _)

/-- Row `r` of grid point `t` is this row of the array. -/
def row (r : Fin 128) : Fin 128 :=
  ⟨t.val * 128 + r.val, by have h : t.val < 1 := (idx t).2.2.2.2.2.2.2.2; omega⟩

/-- The block of the weight at grid point `t`. -/
theorem weight (r : Fin 128) (j : Fin 1024) : (iblk m c 0 t : FVec Ideal S128x1024 .f32) (ix2 r j)
    = m ((c : Thread nD τ).loc main_arg0) (ix3 0 (row t r) j) := by
  blk_simp [iblk]
  entry_read
  pointwise
  blk_ext [idx t, row]

/-- The block of the first moment at grid point `t`. -/
theorem mom (r : Fin 128) (j : Fin 1024) : (iblk m c 1 t : FVec Ideal S128x1024 .f32) (ix2 r j)
    = m ((c : Thread nD τ).loc main_arg1) (ix3 0 (row t r) j) := by
  blk_simp [iblk]
  entry_read
  pointwise
  blk_ext [idx t, row]

/-- The block of the second moment at grid point `t`. -/
theorem vel (r : Fin 128) (j : Fin 1024) : (iblk m c 2 t : FVec Ideal S128x1024 .f32) (ix2 r j)
    = m ((c : Thread nD τ).loc main_arg2) (ix3 0 (row t r) j) := by
  blk_simp [iblk]
  entry_read
  pointwise
  blk_ext [idx t, row]

/-- The block of the gradient's parts at grid point `t`. -/
theorem part (k : Fin 8) (r : Fin 128) (j : Fin 1024) : (iblk m c 3 t : FVec Ideal S8x128x1024 .bf16) (ix3 k r j)
    = m ((c : Thread nD τ).loc main_arg3) (ix3 k (row t r) j) := by
  blk_ext [iblk, V, idx t, row]

theorem total_array : (dats m 0 c).arrAt 4 cfg0.N
    = Reference7Ideal.Read.val_main_v1 (F := Ideal)
      (m ((c : Thread nD τ).loc main_arg3)) := by
  refine (dats m 0 c).arrAt_eq_of_covers 4 _ (by decide +kernel) fun t hf y => ?_
  blk_simp
  rw [after0_4]
  idx_vars y
  refine (total _ _ _ _ y0 y1).trans (Eq.trans ?_ ((ref_total
    (m ((c : Thread nD τ).loc main_arg3)) (row t y0) y1).symm.trans ?_))
  · simp only [part]
  · blk_ext [idx t, row]

theorem delta_array : (dats m 0 c).arrAt 5 cfg0.N
    = Reference7Ideal.Read.val_main_v28 (F := Ideal)
      (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  idx_vars y
  refine (delta _ _ _ _ y0 y1).trans (Eq.trans ?_ ((ref_delta
    (m ((c : Thread nD τ).loc main_arg0)) (m ((c : Thread nD τ).loc main_arg1))
    (m ((c : Thread nD τ).loc main_arg2)) (m ((c : Thread nD τ).loc main_arg3)) (row t y0) y1).symm.trans ?_))
  · simp only [part, weight, mom, vel]
  · blk_ext [idx t, row]

theorem first_array : (dats m 0 c).arrAt 6 cfg0.N
    = Reference7Ideal.Read.val_main_v9 (F := Ideal)
      (m ((c : Thread nD τ).loc main_arg1)) (m ((c : Thread nD τ).loc main_arg3)) := by
  refine (dats m 0 c).arrAt_eq_of_covers 6 _ (by decide +kernel) fun t hf y => ?_
  blk_simp
  rw [after0_6]
  idx_vars y
  refine (first _ _ _ _ y0 y1).trans (Eq.trans ?_ ((ref_first
    (m ((c : Thread nD τ).loc main_arg1)) (m ((c : Thread nD τ).loc main_arg3)) (row t y0) y1).symm.trans ?_))
  · simp only [part, mom]
  · blk_ext [idx t, row]

theorem second_array : (dats m 0 c).arrAt 7 cfg0.N
    = Reference7Ideal.Read.val_main_v15 (F := Ideal)
      (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (second _ _ _ _ y0 y1).trans (Eq.trans ?_ ((ref_second
    (m ((c : Thread nD τ).loc main_arg2)) (m ((c : Thread nD τ).loc main_arg3)) (row t y0) y1).symm.trans ?_))
  · simp only [part, vel]
  · blk_ext [idx t, row]

end Kernel

instance : Cert.Kernel7Ideal.Facts := Cert.Kernel7Ideal.Gen.facts
instance : Cert.Reference7Ideal.Facts := Cert.Reference7Ideal.Gen.facts

/-- The reference leaves its arguments as they were; it has no semaphore. -/
theorem frame : Cert.quiescent_Reference7Ideal := fun m ρ _ =>
  (θ_run Reference7Ideal.defs _ _).mono
    (fun r h => ⟨fun c => (h c).2.2.2.2, sem_eq_zero_of_no_sems (by decide) r.2⟩) (Reference7Ideal.Value.run m ρ)

theorem algebraic : Cert.algebraic_Kernel7Ideal_Reference7Ideal := by
  intro m g m' g' _ hagree
  refine ⟨_, _, _, _, Kernel7Ideal.Value.run_blocks m g,
    (θ_run Reference7Ideal.defs _ _).mono (fun r h c => ?_) (Reference7Ideal.Value.run m' g')⟩
  obtain ⟨h0, h1, h2, h3⟩ := hagree c
  obtain ⟨r0, r1, r2, r3, kept⟩ := h c
  have e0 := r0.trans (Reference7Ideal.Read.val_main_v1_eq _)
  rw [h3, ← total_array m c] at e0
  have e1 := r1.trans (Reference7Ideal.Read.val_main_v28_eq _ _ _ _)
  rw [h0, h1, h2, h3, ← delta_array m c] at e1
  have e2 := r2.trans (Reference7Ideal.Read.val_main_v9_eq _ _)
  rw [h1, h3, ← first_array m c] at e2
  have e3 := r3.trans (Reference7Ideal.Read.val_main_v15_eq _ _)
  rw [h2, h3, ← second_array m c] at e3
  exact ⟨e0, e1, e2, e3, kept⟩

end Cert.AdamOut

end
-- ==== Proof.AdamFfnIn.lean ====
/- The optimiser's step on a device's share of the feed-forward layer's input weight,
   which the kernel reads transposed. -/
module

public import proofs.«01_k».proof.Defs
public import proofs.«01_k».proof.Proof.Adam
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

namespace Cert.AdamFfnIn

open Idealize.ShloMosaic Idealize.ShloMosaic.TcCoe Idealize.SL.Sem
open Idealize.ShloMosaic.Pipeline (Dat)

/-! ## What the reference computes -/

section Reference

open Cert.Reference8Ideal Cert.Reference8Ideal.Gen Cert.Reference8Ideal.Read

variable (x0 x1 x2 : FVec Ideal S1x1024x704 .f32) (x3 : FVec Ideal S8x704x1024 .bf16)
  (r : Fin 704) (j : Fin 1024)

theorem ref_total : val_main_v3 (F := Ideal) x3 (ix2 r j)
    = Adam.total fun k => x3 (ix3 k r j) := by
  pointwise [val_main_v0, val_main_cst, val_main_v1, val_main_v2, val_main_v3]
  rfl

theorem ref_delta : val_main_v31 (F := Ideal) x0 x1 x2 x3 (ix2 r j)
    = Adam.step (x0 (ix3 0 j r)) (Adam.total fun k => x3 (ix3 k r j)) (x1 (ix3 0 j r)) (x2 (ix3 0 j r)) := by
  pointwise [val_main_v0, val_main_cst, val_main_v1, val_main_v2, val_main_v4, val_main_v5, val_main_v6,
    val_main_cst_0, val_main_v7, val_main_v8, val_main_cst_1, val_main_v9, val_main_v10, val_main_v11, val_main_cst_2,
    val_main_v12, val_main_v13, val_main_v14, val_main_cst_3, val_main_v15, val_main_v16, val_main_v17,
    val_main_cst_4, val_main_v18, val_main_v19, val_main_cst_5, val_main_v20, val_main_v21, val_main_v22,
    val_main_cst_6, val_main_v23, val_main_v24, val_main_v25, val_main_cst_7, val_main_v26, val_main_v27,
    val_main_v28, val_main_cst_8, val_main_v29, val_main_v30, val_main_v31]
  rfl

theorem ref_first : val_main_v32 (F := Ideal) x1 x3 (ix2 r j)
    = Adam.mom (Adam.total fun k => x3 (ix3 k r j)) (x1 (ix3 0 j r)) := by
  pointwise [val_main_v0, val_main_cst, val_main_v1, val_main_v2, val_main_v5, val_main_cst_0, val_main_v7,
    val_main_v8, val_main_cst_1, val_main_v9, val_main_v10, val_main_v11, val_main_v32]
  rfl

theorem ref_second : val_main_v33 (F := Ideal) x2 x3 (ix2 r j)
    = Adam.vel (Adam.total fun k => x3 (ix3 k r j)) (x2 (ix3 0 j r)) := by
  pointwise [val_main_v0, val_main_cst, val_main_v1, val_main_v2, val_main_v6, val_main_cst_2, val_main_v12,
    val_main_v13, val_main_v14, val_main_cst_3, val_main_v15, val_main_v16, val_main_v17, val_main_v33]
  rfl

end Reference

/-! ## What the kernel computes -/

section Kernel

open Cert.Kernel8Ideal Cert.Kernel8Ideal.Gen

section Block

variable (x0 x1 x2 : FVec Ideal S176x1024 .f32) (x3 : FVec Ideal S8x176x1024 .bf16) (r : Fin 176) (j : Fin 1024)

theorem total : out0_4 (F := Ideal) x0 x1 x2 x3 (ix2 r j)
    = Adam.total fun k => x3 (ix3 k r j) := by
  unfold out0_4
  frame_out
  pointwise [k0_pay5, k0_pay4]
  rw [Adam.total, Fin.sum_univ_eight]

theorem delta : out0_5 (F := Ideal) x0 x1 x2 x3 (ix2 r j)
    = Adam.step (x0 (ix2 r j)) (Adam.total fun k => x3 (ix3 k r j)) (x1 (ix2 r j)) (x2 (ix2 r j)) := by
  unfold out0_5
  frame_out
  pointwise [k0_pay1, k0_pay2, k0_pay3, k0_pay5, k0_pay4]
  rw [Adam.total, Fin.sum_univ_eight]
  rfl

theorem first : out0_6 (F := Ideal) x0 x1 x2 x3 (ix2 r j)
    = Adam.mom (Adam.total fun k => x3 (ix3 k r j)) (x1 (ix2 r j)) := by
  unfold out0_6
  frame_out
  pointwise [k0_pay1, k0_pay5, k0_pay4]
  rw [Adam.total, Fin.sum_univ_eight]
  rfl

theorem second : out0_7 (F := Ideal) x0 x1 x2 x3 (ix2 r j)
    = Adam.vel (Adam.total fun k => x3 (ix3 k r j)) (x2 (ix2 r j)) := by
  unfold out0_7
  frame_out
  pointwise [k0_pay2, k0_pay5, k0_pay4]
  rw [Adam.total, Fin.sum_univ_eight]
  rfl

end Block

variable (m : (ℓ : Loc nD τ sig) → Buf (Elt Ideal) ℓ) (c : Dev nD) (t : Fin cfg0.N)

/-- Which blocks the windows hold at grid point `t`: rows `176 t …`. -/
theorem idx : ∀ t : Fin cfg0.N, win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] ∧ t.val < 4 :=
  (by decide +kernel : ∀ t : Fin grid0.N, _)

/-- Row `r` of grid point `t` is this row of the array. -/
def row (r : Fin 176) : Fin 704 :=
  ⟨t.val * 176 + r.val, by have h : t.val < 4 := (idx t).2.2.2.2.2.2.2.2; omega⟩

/-- The block of the weight at grid point `t`. -/
theorem weight (r : Fin 176) (j : Fin 1024) : (iblk m c 0 t : FVec Ideal S176x1024 .f32) (ix2 r j)
    = m ((c : Thread nD τ).loc main_arg0) (ix3 0 j (row t r)) := by
  blk_simp [iblk]
  entry_read
  pointwise
  blk_ext [idx t, row]

/-- The block of the first moment at grid point `t`. -/
theorem mom (r : Fin 176) (j : Fin 1024) : (iblk m c 1 t : FVec Ideal S176x1024 .f32) (ix2 r j)
    = m ((c : Thread nD τ).loc main_arg1) (ix3 0 j (row t r)) := by
  blk_simp [iblk]
  entry_read
  pointwise
  blk_ext [idx t, row]

/-- The block of the second moment at grid point `t`. -/
theorem vel (r : Fin 176) (j : Fin 1024) : (iblk m c 2 t : FVec Ideal S176x1024 .f32) (ix2 r j)
    = m ((c : Thread nD τ).loc main_arg2) (ix3 0 j (row t r)) := by
  blk_simp [iblk]
  entry_read
  pointwise
  blk_ext [idx t, row]

/-- The block of the gradient's parts at grid point `t`. -/
theorem part (k : Fin 8) (r : Fin 176) (j : Fin 1024) : (iblk m c 3 t : FVec Ideal S8x176x1024 .bf16) (ix3 k r j)
    = m ((c : Thread nD τ).loc main_arg3) (ix3 k (row t r) j) := by
  blk_ext [iblk, V, idx t, row]

theorem total_array : (dats m 0 c).arrAt 4 cfg0.N
    = Reference8Ideal.Read.val_main_v3 (F := Ideal)
      (m ((c : Thread nD τ).loc main_arg3)) := by
  refine (dats m 0 c).arrAt_eq_of_covers 4 _ (by decide +kernel) fun t hf y => ?_
  blk_simp
  rw [after0_4]
  idx_vars y
  refine (total _ _ _ _ y0 y1).trans (Eq.trans ?_ ((ref_total
    (m ((c : Thread nD τ).loc main_arg3)) (row t y0) y1).symm.trans ?_))
  · simp only [part]
  · blk_ext [idx t, row]

theorem delta_array : (dats m 0 c).arrAt 5 cfg0.N
    = Reference8Ideal.Read.val_main_v31 (F := Ideal)
      (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  idx_vars y
  refine (delta _ _ _ _ y0 y1).trans (Eq.trans ?_ ((ref_delta
    (m ((c : Thread nD τ).loc main_arg0)) (m ((c : Thread nD τ).loc main_arg1))
    (m ((c : Thread nD τ).loc main_arg2)) (m ((c : Thread nD τ).loc main_arg3)) (row t y0) y1).symm.trans ?_))
  · simp only [part, weight, mom, vel]
  · blk_ext [idx t, row]

theorem first_array : (dats m 0 c).arrAt 6 cfg0.N
    = Reference8Ideal.Read.val_main_v32 (F := Ideal)
      (m ((c : Thread nD τ).loc main_arg1)) (m ((c : Thread nD τ).loc main_arg3)) := by
  refine (dats m 0 c).arrAt_eq_of_covers 6 _ (by decide +kernel) fun t hf y => ?_
  blk_simp
  rw [after0_6]
  idx_vars y
  refine (first _ _ _ _ y0 y1).trans (Eq.trans ?_ ((ref_first
    (m ((c : Thread nD τ).loc main_arg1)) (m ((c : Thread nD τ).loc main_arg3)) (row t y0) y1).symm.trans ?_))
  · simp only [part, mom]
  · blk_ext [idx t, row]

theorem second_array : (dats m 0 c).arrAt 7 cfg0.N
    = Reference8Ideal.Read.val_main_v33 (F := Ideal)
      (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (second _ _ _ _ y0 y1).trans (Eq.trans ?_ ((ref_second
    (m ((c : Thread nD τ).loc main_arg2)) (m ((c : Thread nD τ).loc main_arg3)) (row t y0) y1).symm.trans ?_))
  · simp only [part, vel]
  · blk_ext [idx t, row]

end Kernel

instance : Cert.Kernel8Ideal.Facts := Cert.Kernel8Ideal.Gen.facts
instance : Cert.Reference8Ideal.Facts := Cert.Reference8Ideal.Gen.facts

/-- The reference leaves its arguments as they were; it has no semaphore. -/
theorem frame : Cert.quiescent_Reference8Ideal := fun m ρ _ =>
  (θ_run Reference8Ideal.defs _ _).mono
    (fun r h => ⟨fun c => (h c).2.2.2.2, sem_eq_zero_of_no_sems (by decide) r.2⟩) (Reference8Ideal.Value.run m ρ)

theorem algebraic : Cert.algebraic_Kernel8Ideal_Reference8Ideal := by
  intro m g m' g' _ hagree
  refine ⟨_, _, _, _, Kernel8Ideal.Value.run_blocks m g,
    (θ_run Reference8Ideal.defs _ _).mono (fun r h c => ?_) (Reference8Ideal.Value.run m' g')⟩
  obtain ⟨h0, h1, h2, h3⟩ := hagree c
  obtain ⟨r0, r1, r2, r3, kept⟩ := h c
  have e0 := r0.trans (Reference8Ideal.Read.val_main_v3_eq _)
  rw [h3, ← total_array m c] at e0
  have e1 := r1.trans (Reference8Ideal.Read.val_main_v31_eq _ _ _ _)
  rw [h0, h1, h2, h3, ← delta_array m c] at e1
  have e2 := r2.trans (Reference8Ideal.Read.val_main_v32_eq _ _)
  rw [h1, h3, ← first_array m c] at e2
  have e3 := r3.trans (Reference8Ideal.Read.val_main_v33_eq _ _)
  rw [h2, h3, ← second_array m c] at e3
  exact ⟨e0, e1, e2, e3, kept⟩

end Cert.AdamFfnIn

end
-- ==== Proof.AdamFfnOut.lean ====
/- The optimiser's step on a device's share of the feed-forward layer's output weight. -/
module

public import proofs.«01_k».proof.Defs
public import proofs.«01_k».proof.Proof.Adam
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Claim

@[expose] public section

set_option maxRecDepth 16384

noncomputable section

namespace Cert.AdamFfnOut

open Idealize.ShloMosaic Idealize.ShloMosaic.TcCoe Idealize.SL.Sem
open Idealize.ShloMosaic.Pipeline (Dat)

/-! ## What the reference computes -/

section Reference

open Cert.Reference9Ideal Cert.Reference9Ideal.Gen Cert.Reference9Ideal.Read

variable (x0 x1 x2 : FVec Ideal S1x352x1024 .f32) (x3 : FVec Ideal S8x352x1024 .bf16)
  (r : Fin 352) (j : Fin 1024)

theorem ref_total : val_main_v1 (F := Ideal) x3 (ix2 r j)
    = Adam.total fun k => x3 (ix3 k r j) := by
  pointwise [val_main_v0, val_main_cst, val_main_v1]
  rfl

theorem ref_delta : val_main_v28 (F := Ideal) x0 x1 x2 x3 (ix2 r j)
    = Adam.step (x0 (ix3 0 r j)) (Adam.total fun k => x3 (ix3 k r j)) (x1 (ix3 0 r j)) (x2 (ix3 0 r j)) := by
  pointwise [val_main_v0, val_main_cst, val_main_v1, val_main_v2, val_main_v3, val_main_v4, val_main_cst_0,
    val_main_v5, val_main_v6, val_main_cst_1, val_main_v7, val_main_v8, val_main_v9, val_main_cst_2, val_main_v10,
    val_main_v11, val_main_v12, val_main_cst_3, val_main_v13, val_main_v14, val_main_v15, val_main_cst_4,
    val_main_v16, val_main_v17, val_main_cst_5, val_main_v18, val_main_v19, val_main_v20, val_main_cst_6,
    val_main_v21, val_main_v22, val_main_v23, val_main_cst_7, val_main_v24, val_main_v25, val_main_v26,
    val_main_cst_8, val_main_v27, val_main_v28]
  rfl

theorem ref_first : val_main_v9 (F := Ideal) x1 x3 (ix2 r j)
    = Adam.mom (Adam.total fun k => x3 (ix3 k r j)) (x1 (ix3 0 r j)) := by
  pointwise [val_main_v0, val_main_cst, val_main_v1, val_main_v3, val_main_cst_0, val_main_v5, val_main_v6,
    val_main_cst_1, val_main_v7, val_main_v8, val_main_v9]
  rfl

theorem ref_second : val_main_v15 (F := Ideal) x2 x3 (ix2 r j)
    = Adam.vel (Adam.total fun k => x3 (ix3 k r j)) (x2 (ix3 0 r j)) := by
  pointwise [val_main_v0, val_main_cst, val_main_v1, val_main_v4, val_main_cst_2, val_main_v10, val_main_v11,
    val_main_v12, val_main_cst_3, val_main_v13, val_main_v14, val_main_v15]
  rfl

end Reference

/-! ## What the kernel computes -/

section Kernel

open Cert.Kernel9Ideal Cert.Kernel9Ideal.Gen

section Block

variable (x0 x1 x2 : FVec Ideal S176x1024 .f32) (x3 : FVec Ideal S8x176x1024 .bf16) (r : Fin 176) (j : Fin 1024)

theorem total : out0_4 (F := Ideal) x0 x1 x2 x3 (ix2 r j)
    = Adam.total fun k => x3 (ix3 k r j) := by
  unfold out0_4
  frame_out
  pointwise [k0_pay5, k0_pay4]
  rw [Adam.total, Fin.sum_univ_eight]

theorem delta : out0_5 (F := Ideal) x0 x1 x2 x3 (ix2 r j)
    = Adam.step (x0 (ix2 r j)) (Adam.total fun k => x3 (ix3 k r j)) (x1 (ix2 r j)) (x2 (ix2 r j)) := by
  unfold out0_5
  frame_out
  pointwise [k0_pay1, k0_pay2, k0_pay3, k0_pay5, k0_pay4]
  rw [Adam.total, Fin.sum_univ_eight]
  rfl

theorem first : out0_6 (F := Ideal) x0 x1 x2 x3 (ix2 r j)
    = Adam.mom (Adam.total fun k => x3 (ix3 k r j)) (x1 (ix2 r j)) := by
  unfold out0_6
  frame_out
  pointwise [k0_pay1, k0_pay5, k0_pay4]
  rw [Adam.total, Fin.sum_univ_eight]
  rfl

theorem second : out0_7 (F := Ideal) x0 x1 x2 x3 (ix2 r j)
    = Adam.vel (Adam.total fun k => x3 (ix3 k r j)) (x2 (ix2 r j)) := by
  unfold out0_7
  frame_out
  pointwise [k0_pay2, k0_pay5, k0_pay4]
  rw [Adam.total, Fin.sum_univ_eight]
  rfl

end Block

variable (m : (ℓ : Loc nD τ sig) → Buf (Elt Ideal) ℓ) (c : Dev nD) (t : Fin cfg0.N)

/-- Which blocks the windows hold at grid point `t`: rows `176 t …`. -/
theorem idx : ∀ t : Fin cfg0.N, win0_0.index t = ![t.val, 0] ∧ win0_1.index t = ![t.val, 0]
    ∧ win0_2.index t = ![t.val, 0] ∧ win0_3.index t = ![0, t.val, 0] ∧ win0_4.index t = ![t.val, 0]
    ∧ win0_5.index t = ![t.val, 0] ∧ win0_6.index t = ![t.val, 0] ∧ win0_7.index t = ![t.val, 0] ∧ t.val < 2 :=
  (by decide +kernel : ∀ t : Fin grid0.N, _)

/-- Row `r` of grid point `t` is this row of the array. -/
def row (r : Fin 176) : Fin 352 :=
  ⟨t.val * 176 + r.val, by have h : t.val < 2 := (idx t).2.2.2.2.2.2.2.2; omega⟩

/-- The block of the weight at grid point `t`. -/
theorem weight (r : Fin 176) (j : Fin 1024) : (iblk m c 0 t : FVec Ideal S176x1024 .f32) (ix2 r j)
    = m ((c : Thread nD τ).loc main_arg0) (ix3 0 (row t r) j) := by
  blk_simp [iblk]
  entry_read
  pointwise
  blk_ext [idx t, row]

/-- The block of the first moment at grid point `t`. -/
theorem mom (r : Fin 176) (j : Fin 1024) : (iblk m c 1 t : FVec Ideal S176x1024 .f32) (ix2 r j)
    = m ((c : Thread nD τ).loc main_arg1) (ix3 0 (row t r) j) := by
  blk_simp [iblk]
  entry_read
  pointwise
  blk_ext [idx t, row]

/-- The block of the second moment at grid point `t`. -/
theorem vel (r : Fin 176) (j : Fin 1024) : (iblk m c 2 t : FVec Ideal S176x1024 .f32) (ix2 r j)
    = m ((c : Thread nD τ).loc main_arg2) (ix3 0 (row t r) j) := by
  blk_simp [iblk]
  entry_read
  pointwise
  blk_ext [idx t, row]

/-- The block of the gradient's parts at grid point `t`. -/
theorem part (k : Fin 8) (r : Fin 176) (j : Fin 1024) : (iblk m c 3 t : FVec Ideal S8x176x1024 .bf16) (ix3 k r j)
    = m ((c : Thread nD τ).loc main_arg3) (ix3 k (row t r) j) := by
  blk_ext [iblk, V, idx t, row]

theorem total_array : (dats m 0 c).arrAt 4 cfg0.N
    = Reference9Ideal.Read.val_main_v1 (F := Ideal)
      (m ((c : Thread nD τ).loc main_arg3)) := by
  refine (dats m 0 c).arrAt_eq_of_covers 4 _ (by decide +kernel) fun t hf y => ?_
  blk_simp
  rw [after0_4]
  idx_vars y
  refine (total _ _ _ _ y0 y1).trans (Eq.trans ?_ ((ref_total
    (m ((c : Thread nD τ).loc main_arg3)) (row t y0) y1).symm.trans ?_))
  · simp only [part]
  · blk_ext [idx t, row]

theorem delta_array : (dats m 0 c).arrAt 5 cfg0.N
    = Reference9Ideal.Read.val_main_v28 (F := Ideal)
      (m ((c : Thread nD τ).loc main_arg0)) (m ((c : Thread nD τ).loc main_arg1))
      (m ((c : Thread nD τ).loc main_arg2)) (m ((c : Thread nD τ).loc main_arg3)) := by
  refine (dats m 0 c).arrAt_eq_of_covers 5 _ (by decide +kernel) fun t hf y => ?_
  blk_simp
  rw [after0_5]
  idx_vars y
  refine (delta _ _ _ _ y0 y1).trans (Eq.trans ?_ ((ref_delta
    (m ((c : Thread nD τ).loc main_arg0)) (m ((c : Thread nD τ).loc main_arg1))
    (m ((c : Thread nD τ).loc main_arg2)) (m ((c : Thread nD τ).loc main_arg3)) (row t y0) y1).symm.trans ?_))
  · simp only [part, weight, mom, vel]
  · blk_ext [idx t, row]

theorem first_array : (dats m 0 c).arrAt 6 cfg0.N
    = Reference9Ideal.Read.val_main_v9 (F := Ideal)
      (m ((c : Thread nD τ).loc main_arg1)) (m ((c : Thread nD τ).loc main_arg3)) := by
  refine (dats m 0 c).arrAt_eq_of_covers 6 _ (by decide +kernel) fun t hf y => ?_
  blk_simp
  rw [after0_6]
  idx_vars y
  refine (first _ _ _ _ y0 y1).trans (Eq.trans ?_ ((ref_first
    (m ((c : Thread nD τ).loc main_arg1)) (m ((c : Thread nD τ).loc main_arg3)) (row t y0) y1).symm.trans ?_))
  · simp only [part, mom]
  · blk_ext [idx t, row]

theorem second_array : (dats m 0 c).arrAt 7 cfg0.N
    = Reference9Ideal.Read.val_main_v15 (F := Ideal)
      (m ((c : Thread nD τ).loc main_arg2)) (m ((c : Thread nD τ).loc main_arg3)) := by
  refine (dats m 0 c).arrAt_eq_of_covers 7 _ (by decide +kernel) fun t hf y => ?_
  blk_simp
  rw [after0_7]
  idx_vars y
  refine (second _ _ _ _ y0 y1).trans (Eq.trans ?_ ((ref_second
    (m ((c : Thread nD τ).loc main_arg2)) (m ((c : Thread nD τ).loc main_arg3)) (row t y0) y1).symm.trans ?_))
  · simp only [part, vel]
  · blk_ext [idx t, row]

end Kernel

instance : Cert.Kernel9Ideal.Facts := Cert.Kernel9Ideal.Gen.facts
instance : Cert.Reference9Ideal.Facts := Cert.Reference9Ideal.Gen.facts

/-- The reference leaves its arguments as they were; it has no semaphore. -/
theorem frame : Cert.quiescent_Reference9Ideal := fun m ρ _ =>
  (θ_run Reference9Ideal.defs _ _).mono
    (fun r h => ⟨fun c => (h c).2.2.2.2, sem_eq_zero_of_no_sems (by decide) r.2⟩) (Reference9Ideal.Value.run m ρ)

theorem algebraic : Cert.algebraic_Kernel9Ideal_Reference9Ideal := by
  intro m g m' g' _ hagree
  refine ⟨_, _, _, _, Kernel9Ideal.Value.run_blocks m g,
    (θ_run Reference9Ideal.defs _ _).mono (fun r h c => ?_) (Reference9Ideal.Value.run m' g')⟩
  obtain ⟨h0, h1, h2, h3⟩ := hagree c
  obtain ⟨r0, r1, r2, r3, kept⟩ := h c
  have e0 := r0.trans (Reference9Ideal.Read.val_main_v1_eq _)
  rw [h3, ← total_array m c] at e0
  have e1 := r1.trans (Reference9Ideal.Read.val_main_v28_eq _ _ _ _)
  rw [h0, h1, h2, h3, ← delta_array m c] at e1
  have e2 := r2.trans (Reference9Ideal.Read.val_main_v9_eq _ _)
  rw [h1, h3, ← first_array m c] at e2
  have e3 := r3.trans (Reference9Ideal.Read.val_main_v15_eq _ _)
  rw [h2, h3, ← second_array m c] at e3
  exact ⟨e0, e1, e2, e3, kept⟩

end Cert.AdamFfnOut

end
-- ==== Proof.AdamAda.lean ====
/- The optimiser's step on a device's share of the conditioning weight. -/
module

public import proofs.«01_k».proof.Defs
public import proofs.«01_k».proof.Proof.Adam
public import proofs.«01_k».proof.Proof.Products
public import proofs.«01_k».proof.Proof.Gen.Kernel10Ideal.Value
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

namespace Cert.AdamAda

open Idealize.ShloMosaic Idealize.ShloMosaic.TcCoe Idealize.SL.Sem
open Idealize.ShloMosaic.Pipeline (Dat)

/-! ## What the reference computes -/

section Reference

open Cert.Reference10Ideal Cert.Reference10Ideal.Gen Cert.Reference10Ideal.Read

variable (x0 x1 x2 : FVec Ideal S1x1024x768 .f32) (x3 : FVec Ideal S8x1024 .f32) (x4 : FVec Ideal S8x768 .f32)
  (r : Fin 1024) (j : Fin 768)

theorem swapped : ∑ k : Fin 8, x4 (ix2 k j) * x3 (ix2 k r)
    = Products.tn (fun k q => x3 (ix2 k q)) (fun k j => x4 (ix2 k j)) r j :=
  Finset.sum_congr rfl fun _ _ => mul_comm _ _

theorem ref_total : val_main_v3 (F := Ideal) x3 x4 (ix2 r j)
    = Products.tn (fun k q => x3 (ix2 k q)) (fun k j => x4 (ix2 k j)) r j := by
  pointwise [val_main_v2, val_main_v3]
  simp only [swapped]

theorem ref_delta : val_main_v30 (F := Ideal) x0 x1 x2 x3 x4 (ix2 r j)
    = Adam.step (x0 (ix3 0 r j)) (Products.tn (fun k q => x3 (ix2 k q)) (fun k j => x4 (ix2 k j)) r j)
      (x1 (ix3 0 r j)) (x2 (ix3 0 r j)) := by
  pointwise [val_main_v2, val_main_v3, val_main_v4, val_main_v5, val_main_v6, val_main_cst, val_main_v7, val_main_v8,
    val_main_cst_0, val_main_v9, val_main_v10, val_main_v11, val_main_cst_1, val_main_v12, val_main_v13, val_main_v14,
    val_main_cst_2, val_main_v15, val_main_v16, val_main_v17, val_main_cst_3, val_main_v18, val_main_v19,
    val_main_cst_4, val_main_v20, val_main_v21, val_main_v22, val_main_cst_5, val_main_v23, val_main_v24,
    val_main_v25, val_main_cst_6, val_main_v26, val_main_v27, val_main_v28, val_main_cst_7, val_main_v29,
    val_main_v30]
  simp only [swapped]
  rfl

theorem ref_first : val_main_v11 (F := Ideal) x1 x3 x4 (ix2 r j)
    = Adam.mom (Products.tn (fun k q => x3 (ix2 k q)) (fun k j => x4 (ix2 k j)) r j) (x1 (ix3 0 r j)) := by
  pointwise [val_main_v2, val_main_v3, val_main_v5, val_main_cst, val_main_v7, val_main_v8, val_main_cst_0,
    val_main_v9, val_main_v10, val_main_v11]
  simp only [swapped]
  rfl

theorem ref_second : val_main_v17 (F := Ideal) x2 x3 x4 (ix2 r j)
    = Adam.vel (Products.tn (fun k q => x3 (ix2 k q)) (fun k j => x4 (ix2 k j)) r j) (x2 (ix3 0 r j)) := by
  pointwise [val_main_v2, val_main_v3, val_main_v6, val_main_cst_1, val_main_v12, val_main_v13, val_main_v14,
    val_main_cst_2, val_main_v15, val_main_v16, val_main_v17]
  simp only [swapped]
  rfl

end Reference

/-! ## What the kernel computes -/

section Kernel

open Cert.Kernel10Ideal Cert.Kernel10Ideal.Gen

section Block

variable (x0 x1 x2 : FVec Ideal S256x768 .f32) (x3 : FVec Ideal S8x256 .f32) (x4 : FVec Ideal S8x768 .f32)
  (r : Fin 256) (j : Fin 768)

theorem total : out0_5 (F := Ideal) x0 x1 x2 x3 x4 (ix2 r j)
    = Products.tn (fun k q => x3 (ix2 k q)) (fun k j => x4 (ix2 k j)) r j := by
  unfold out0_5
  frame_out
  pointwise [k0_pay1]
  rfl

theorem delta : out0_6 (F := Ideal) x0 x1 x2 x3 x4 (ix2 r j)
    = Adam.step (x0 (ix2 r j)) (Products.tn (fun k q => x3 (ix2 k q)) (fun k j => x4 (ix2 k j)) r j)
      (x1 (ix2 r j)) (x2 (ix2 r j)) := by
  unfold out0_6
  frame_out
  pointwise [k0_pay1, k0_pay2, k0_pay3, k0_pay4]
  rfl

theorem first : out0_7 (F := Ideal) x0 x1 x2 x3 x4 (ix2 r j)
    = Adam.mom (Products.tn (fun k q => x3 (ix2 k q)) (fun k j => x4 (ix2 k j)) r j) (x1 (ix2 r j)) := by
  unfold out0_7
  frame_out
  pointwise [k0_pay1, k0_pay2]
  rfl

theorem second : out0_8 (F := Ideal) x0 x1 x2 x3 x4 (ix2 r j)
    = Adam.vel (Products.tn (fun k q => x3 (ix2 k q)) (fun k j => x4 (ix2 k j)) r j) (x2 (ix2 r j)) := by
  unfold out0_8
  frame_out
  pointwise [k0_pay1, k0_pay3]
  rfl

end Block

variable (m : (ℓ : Loc nD τ sig) → Buf (Elt Ideal) ℓ) (c : Dev nD) (t : Fin cfg0.N)

/-- Which blocks the windows hold at grid point `t`: rows `256 t …`. -/
theorem idx : ∀ t : Fin cfg0.N, win0_0.index t = ![t.val, 0] ∧ win0_1.index t = ![t.val, 0]
    ∧ win0_2.index t = ![t.val, 0] ∧ win0_3.index t = ![0, t.val] ∧ win0_4.index t = ![0, 0]
    ∧ win0_5.index t = ![t.val, 0] ∧ win0_6.index t = ![t.val, 0] ∧ win0_7.index t = ![t.val, 0]
    ∧ win0_8.index t = ![t.val, 0] ∧ t.val < 4 :=
  (by decide +kernel : ∀ t : Fin grid0.N, _)

/-- Row `r` of grid point `t` is this row of the array. -/
def row (r : Fin 256) : Fin 1024 :=
  ⟨t.val * 256 + r.val, by have h : t.val < 4 := (idx t).2.2.2.2.2.2.2.2.2; omega⟩

/-- The block of the weight at grid point `t`. -/
theorem weight (r : Fin 256) (j : Fin 768) : (iblk m c 0 t : FVec Ideal S256x768 .f32) (ix2 r j)
    = m ((c : Thread nD τ).loc main_arg0) (ix3 0 (row t r) j) := by
  blk_simp [iblk]
  entry_read
  pointwise
  blk_ext [idx t, row]

/-- The block of the first moment at grid point `t`. -/
theorem mom (r : Fin 256) (j : Fin 768) : (iblk m c 1 t : FVec Ideal S256x768 .f32) (ix2 r j)
    = m ((c : Thread nD τ).loc main_arg1) (ix3 0 (row t r) j) := by
  blk_simp [iblk]
  entry_read
  pointwise
  blk_ext [idx t, row]

/-- The block of the second moment at grid point `t`. -/
theorem vel (r : Fin 256) (j : Fin 768) : (iblk m c 2 t : FVec Ideal S256x768 .f32) (ix2 r j)
    = m ((c : Thread nD τ).loc main_arg2) (ix3 0 (row t r) j) := by
  blk_simp [iblk]
  entry_read
  pointwise
  blk_ext [idx t, row]

/-- The block of the conditioning input at grid point `t`. -/
theorem cond (k : Fin 8) (r : Fin 256) : (iblk m c 3 t : FVec Ideal S8x256 .f32) (ix2 k r)
    = m ((c : Thread nD τ).loc main_arg3) (ix2 k (row t r)) := by
  blk_ext [iblk, V, idx t, row]

/-- The block of the gradient after the conditioning product. -/
theorem dcond (k : Fin 8) (j : Fin 768) : (iblk m c 4 t : FVec Ideal S8x768 .f32) (ix2 k j)
    = m ((c : Thread nD τ).loc main_arg4) (ix2 k j) := by
  blk_ext [iblk, V, idx t]

theorem total_array : (dats m 0 c).arrAt 5 cfg0.N
    = Reference10Ideal.Read.val_main_v3 (F := Ideal)
      (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (total _ _ _ _ _ y0 y1).trans (Eq.trans ?_ ((ref_total
    (m ((c : Thread nD τ).loc main_arg3)) (m ((c : Thread nD τ).loc main_arg4)) (row t y0) y1).symm.trans ?_))
  · simp only [Products.tn, cond, dcond]
  · blk_ext [idx t, row]

theorem delta_array : (dats m 0 c).arrAt 6 cfg0.N
    = Reference10Ideal.Read.val_main_v30 (F := Ideal)
      (m ((c : Thread nD τ).loc main_arg0)) (m ((c : Thread nD τ).loc main_arg1))
      (m ((c : Thread nD τ).loc main_arg2)) (m ((c : Thread nD τ).loc main_arg3))
      (m ((c : Thread nD τ).loc main_arg4)) := by
  refine (dats m 0 c).arrAt_eq_of_covers 6 _ (by decide +kernel) fun t hf y => ?_
  blk_simp
  rw [after0_6]
  idx_vars y
  refine (delta _ _ _ _ _ y0 y1).trans (Eq.trans ?_ ((ref_delta
    (m ((c : Thread nD τ).loc main_arg0)) (m ((c : Thread nD τ).loc main_arg1))
    (m ((c : Thread nD τ).loc main_arg2)) (m ((c : Thread nD τ).loc main_arg3))
    (m ((c : Thread nD τ).loc main_arg4)) (row t y0) y1).symm.trans ?_))
  · simp only [Products.tn, cond, dcond, weight, mom, vel]
  · blk_ext [idx t, row]

theorem first_array : (dats m 0 c).arrAt 7 cfg0.N
    = Reference10Ideal.Read.val_main_v11 (F := Ideal)
      (m ((c : Thread nD τ).loc main_arg1)) (m ((c : Thread nD τ).loc main_arg3))
      (m ((c : Thread nD τ).loc main_arg4)) := by
  refine (dats m 0 c).arrAt_eq_of_covers 7 _ (by decide +kernel) fun t hf y => ?_
  blk_simp
  rw [after0_7]
  idx_vars y
  refine (first _ _ _ _ _ y0 y1).trans (Eq.trans ?_ ((ref_first
    (m ((c : Thread nD τ).loc main_arg1)) (m ((c : Thread nD τ).loc main_arg3))
    (m ((c : Thread nD τ).loc main_arg4)) (row t y0) y1).symm.trans ?_))
  · simp only [Products.tn, cond, dcond, mom]
  · blk_ext [idx t, row]

theorem second_array : (dats m 0 c).arrAt 8 cfg0.N
    = Reference10Ideal.Read.val_main_v17 (F := Ideal)
      (m ((c : Thread nD τ).loc main_arg2)) (m ((c : Thread nD τ).loc main_arg3))
      (m ((c : Thread nD τ).loc main_arg4)) := by
  refine (dats m 0 c).arrAt_eq_of_covers 8 _ (by decide +kernel) fun t hf y => ?_
  blk_simp
  rw [after0_8]
  idx_vars y
  refine (second _ _ _ _ _ y0 y1).trans (Eq.trans ?_ ((ref_second
    (m ((c : Thread nD τ).loc main_arg2)) (m ((c : Thread nD τ).loc main_arg3))
    (m ((c : Thread nD τ).loc main_arg4)) (row t y0) y1).symm.trans ?_))
  · simp only [Products.tn, cond, dcond, vel]
  · blk_ext [idx t, row]

end Kernel

instance : Cert.Kernel10Ideal.Facts := Cert.Kernel10Ideal.Gen.facts
instance : Cert.Reference10Ideal.Facts := Cert.Reference10Ideal.Gen.facts

/-- The reference leaves its arguments as they were; it has no semaphore. -/
theorem frame : Cert.quiescent_Reference10Ideal := fun m ρ _ =>
  (θ_run Reference10Ideal.defs _ _).mono
    (fun r h => ⟨fun c => (h c).2.2.2.2, sem_eq_zero_of_no_sems (by decide) r.2⟩) (Reference10Ideal.Value.run m ρ)

theorem algebraic : Cert.algebraic_Kernel10Ideal_Reference10Ideal := by
  intro m g m' g' _ hagree
  refine ⟨_, _, _, _, Kernel10Ideal.Value.run_blocks m g,
    (θ_run Reference10Ideal.defs _ _).mono (fun r h c => ?_) (Reference10Ideal.Value.run m' g')⟩
  obtain ⟨h0, h1, h2, h3, h4⟩ := hagree c
  obtain ⟨r0, r1, r2, r3, kept⟩ := h c
  have e0 := r0.trans (Reference10Ideal.Read.val_main_v3_eq _ _)
  rw [h3, h4, ← total_array m c] at e0
  have e1 := r1.trans (Reference10Ideal.Read.val_main_v30_eq _ _ _ _ _)
  rw [h0, h1, h2, h3, h4, ← delta_array m c] at e1
  have e2 := r2.trans (Reference10Ideal.Read.val_main_v11_eq _ _ _)
  rw [h1, h3, h4, ← first_array m c] at e2
  have e3 := r3.trans (Reference10Ideal.Read.val_main_v17_eq _ _ _)
  rw [h2, h3, h4, ← second_array m c] at e3
  exact ⟨e0, e1, e2, e3, kept⟩

end Cert.AdamAda

end
-- ==== Proof.SmallOut.lean ====
/- What the optimiser's step on the small weights stores: the rectangles that it reads and writes, and each
   output's contents from the inputs that it is computed from. -/
module

public import Idealize.ShloMosaic.Lib.Pipeline.FrameBody
public import Idealize.ShloMosaic.Lib.Claim
public import Idealize.ShloMosaic.Lib.Ring
public import Idealize.ShloMosaic.Lib.Tactic
public import proofs.«01_k».proof.Proof.Gen.Kernel11Ideal.Skeleton

@[expose] public section

set_option maxRecDepth 16384

noncomputable section

namespace Cert.SmallRun

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The rectangles -/

abbrev r0_0 : Rect S8x8x1024 := Rect.unit (s := S8x8x1024) ![0, 0, 0] S1x8x1024.size
  inb_S8x8x1024_S1x8x1024_0_0_0
abbrev r0_1 : Rect S8x8x1024 := Rect.unit (s := S8x8x1024) ![1, 0, 0] S1x8x1024.size
  inb_S8x8x1024_S1x8x1024_1_0_0
abbrev r0_2 : Rect S8x8x1024 := Rect.unit (s := S8x8x1024) ![2, 0, 0] S1x8x1024.size
  inb_S8x8x1024_S1x8x1024_2_0_0
abbrev r0_3 : Rect S8x8x1024 := Rect.unit (s := S8x8x1024) ![3, 0, 0] S1x8x1024.size
  inb_S8x8x1024_S1x8x1024_3_0_0
abbrev r0_4 : Rect S8x8x1024 := Rect.unit (s := S8x8x1024) ![4, 0, 0] S1x8x1024.size
  inb_S8x8x1024_S1x8x1024_4_0_0
abbrev r0_5 : Rect S8x8x1024 := Rect.unit (s := S8x8x1024) ![5, 0, 0] S1x8x1024.size
  inb_S8x8x1024_S1x8x1024_5_0_0
abbrev r0_6 : Rect S8x8x1024 := Rect.unit (s := S8x8x1024) ![6, 0, 0] S1x8x1024.size
  inb_S8x8x1024_S1x8x1024_6_0_0
abbrev r0_7 : Rect S8x8x1024 := Rect.unit (s := S8x8x1024) ![7, 0, 0] S1x8x1024.size
  inb_S8x8x1024_S1x8x1024_7_0_0
abbrev r0_8 : Rect S8x4x128x128 := Rect.unit (s := S8x4x128x128) ![0, 0, 0, 0] S1x4x128x128.size
  inb_S8x4x128x128_S1x4x128x128_0_0_0_0
abbrev r0_9 : Rect S8x4x128x128 := Rect.unit (s := S8x4x128x128) ![1, 0, 0, 0] S1x4x128x128.size
  inb_S8x4x128x128_S1x4x128x128_1_0_0_0
abbrev r0_10 : Rect S8x4x128x128 := Rect.unit (s := S8x4x128x128) ![2, 0, 0, 0] S1x4x128x128.size
  inb_S8x4x128x128_S1x4x128x128_2_0_0_0
abbrev r0_11 : Rect S8x4x128x128 := Rect.unit (s := S8x4x128x128) ![3, 0, 0, 0] S1x4x128x128.size
  inb_S8x4x128x128_S1x4x128x128_3_0_0_0
abbrev r0_12 : Rect S8x4x128x128 := Rect.unit (s := S8x4x128x128) ![4, 0, 0, 0] S1x4x128x128.size
  inb_S8x4x128x128_S1x4x128x128_4_0_0_0
abbrev r0_13 : Rect S8x4x128x128 := Rect.unit (s := S8x4x128x128) ![5, 0, 0, 0] S1x4x128x128.size
  inb_S8x4x128x128_S1x4x128x128_5_0_0_0
abbrev r0_14 : Rect S8x4x128x128 := Rect.unit (s := S8x4x128x128) ![6, 0, 0, 0] S1x4x128x128.size
  inb_S8x4x128x128_S1x4x128x128_6_0_0_0
abbrev r0_15 : Rect S8x4x128x128 := Rect.unit (s := S8x4x128x128) ![7, 0, 0, 0] S1x4x128x128.size
  inb_S8x4x128x128_S1x4x128x128_7_0_0_0
abbrev r0_16 : Rect S8x128x4 := Rect.unit (s := S8x128x4) ![0, 0, 0] S1x128x4.size inb_S8x128x4_S1x128x4_0_0_0
abbrev r0_17 : Rect S8x128x4 := Rect.unit (s := S8x128x4) ![1, 0, 0] S1x128x4.size inb_S8x128x4_S1x128x4_1_0_0
abbrev r0_18 : Rect S8x128x4 := Rect.unit (s := S8x128x4) ![2, 0, 0] S1x128x4.size inb_S8x128x4_S1x128x4_2_0_0
abbrev r0_19 : Rect S8x128x4 := Rect.unit (s := S8x128x4) ![3, 0, 0] S1x128x4.size inb_S8x128x4_S1x128x4_3_0_0
abbrev r0_20 : Rect S8x128x4 := Rect.unit (s := S8x128x4) ![4, 0, 0] S1x128x4.size inb_S8x128x4_S1x128x4_4_0_0
abbrev r0_21 : Rect S8x128x4 := Rect.unit (s := S8x128x4) ![5, 0, 0] S1x128x4.size inb_S8x128x4_S1x128x4_5_0_0
abbrev r0_22 : Rect S8x128x4 := Rect.unit (s := S8x128x4) ![6, 0, 0] S1x128x4.size inb_S8x128x4_S1x128x4_6_0_0
abbrev r0_23 : Rect S8x128x4 := Rect.unit (s := S8x128x4) ![7, 0, 0] S1x128x4.size inb_S8x128x4_S1x128x4_7_0_0
abbrev r0_24 : Rect S8x1x512 := Rect.unit (s := S8x1x512) ![0, 0, 0] S1x1x512.size inb_S8x1x512_S1x1x512_0_0_0
abbrev r0_25 : Rect S8x1x512 := Rect.unit (s := S8x1x512) ![1, 0, 0] S1x1x512.size inb_S8x1x512_S1x1x512_1_0_0
abbrev r0_26 : Rect S8x1x512 := Rect.unit (s := S8x1x512) ![2, 0, 0] S1x1x512.size inb_S8x1x512_S1x1x512_2_0_0
abbrev r0_27 : Rect S8x1x512 := Rect.unit (s := S8x1x512) ![3, 0, 0] S1x1x512.size inb_S8x1x512_S1x1x512_3_0_0
abbrev r0_28 : Rect S8x1x512 := Rect.unit (s := S8x1x512) ![4, 0, 0] S1x1x512.size inb_S8x1x512_S1x1x512_4_0_0
abbrev r0_29 : Rect S8x1x512 := Rect.unit (s := S8x1x512) ![5, 0, 0] S1x1x512.size inb_S8x1x512_S1x1x512_5_0_0
abbrev r0_30 : Rect S8x1x512 := Rect.unit (s := S8x1x512) ![6, 0, 0] S1x1x512.size inb_S8x1x512_S1x1x512_6_0_0
abbrev r0_31 : Rect S8x1x512 := Rect.unit (s := S8x1x512) ![7, 0, 0] S1x1x512.size inb_S8x1x512_S1x1x512_7_0_0
abbrev r0_32 : Rect S8x2x512 := Rect.unit (s := S8x2x512) ![0, 0, 0] S1x2x512.size inb_S8x2x512_S1x2x512_0_0_0
abbrev r0_33 : Rect S8x2x512 := Rect.unit (s := S8x2x512) ![1, 0, 0] S1x2x512.size inb_S8x2x512_S1x2x512_1_0_0
abbrev r0_34 : Rect S8x2x512 := Rect.unit (s := S8x2x512) ![2, 0, 0] S1x2x512.size inb_S8x2x512_S1x2x512_2_0_0
abbrev r0_35 : Rect S8x2x512 := Rect.unit (s := S8x2x512) ![3, 0, 0] S1x2x512.size inb_S8x2x512_S1x2x512_3_0_0
abbrev r0_36 : Rect S8x2x512 := Rect.unit (s := S8x2x512) ![4, 0, 0] S1x2x512.size inb_S8x2x512_S1x2x512_4_0_0
abbrev r0_37 : Rect S8x2x512 := Rect.unit (s := S8x2x512) ![5, 0, 0] S1x2x512.size inb_S8x2x512_S1x2x512_5_0_0
abbrev r0_38 : Rect S8x2x512 := Rect.unit (s := S8x2x512) ![6, 0, 0] S1x2x512.size inb_S8x2x512_S1x2x512_6_0_0
abbrev r0_39 : Rect S8x2x512 := Rect.unit (s := S8x2x512) ![7, 0, 0] S1x2x512.size inb_S8x2x512_S1x2x512_7_0_0
abbrev r0_40 : Rect S8x1x128 := Rect.unit (s := S8x1x128) ![0, 0, 0] S1x1x128.size inb_S8x1x128_S1x1x128_0_0_0
abbrev r0_41 : Rect S8x1x128 := Rect.unit (s := S8x1x128) ![1, 0, 0] S1x1x128.size inb_S8x1x128_S1x1x128_1_0_0
abbrev r0_42 : Rect S8x1x128 := Rect.unit (s := S8x1x128) ![2, 0, 0] S1x1x128.size inb_S8x1x128_S1x1x128_2_0_0
abbrev r0_43 : Rect S8x1x128 := Rect.unit (s := S8x1x128) ![3, 0, 0] S1x1x128.size inb_S8x1x128_S1x1x128_3_0_0
abbrev r0_44 : Rect S8x1x128 := Rect.unit (s := S8x1x128) ![4, 0, 0] S1x1x128.size inb_S8x1x128_S1x1x128_4_0_0
abbrev r0_45 : Rect S8x1x128 := Rect.unit (s := S8x1x128) ![5, 0, 0] S1x1x128.size inb_S8x1x128_S1x1x128_5_0_0
abbrev r0_46 : Rect S8x1x128 := Rect.unit (s := S8x1x128) ![6, 0, 0] S1x1x128.size inb_S8x1x128_S1x1x128_6_0_0
abbrev r0_47 : Rect S8x1x128 := Rect.unit (s := S8x1x128) ![7, 0, 0] S1x1x128.size inb_S8x1x128_S1x1x128_7_0_0
abbrev r0_48 : Rect S1x6144 := Rect.unit (s := S1x6144) ![0, 0] S1x1024.size inb_S1x6144_S1x1024_0_0
abbrev r0_49 : Rect S1x6144 := Rect.unit (s := S1x6144) ![0, 1024] S1x1024.size inb_S1x6144_S1x1024_0_1024
abbrev r0_50 : Rect S1x6144 := Rect.unit (s := S1x6144) ![0, 2048] S1x1024.size inb_S1x6144_S1x1024_0_2048
abbrev r0_51 : Rect S1x6144 := Rect.unit (s := S1x6144) ![0, 3072] S1x1024.size inb_S1x6144_S1x1024_0_3072
abbrev r0_52 : Rect S1x6144 := Rect.unit (s := S1x6144) ![0, 4096] S1x1024.size inb_S1x6144_S1x1024_0_4096
abbrev r0_53 : Rect S1x6144 := Rect.unit (s := S1x6144) ![0, 5120] S1x1024.size inb_S1x6144_S1x1024_0_5120
abbrev r0_54 : Rect S1x1024 := Rect.unit (s := S1x1024) ![0, 0] S1x1024.size inb_S1x1024_S1x1024_0_0
abbrev r0_55 : Rect S4x128x128 := Rect.unit (s := S4x128x128) ![0, 0, 0] S4x128x128.size
  inb_S4x128x128_S4x128x128_0_0_0
abbrev r0_56 : Rect S128x4 := Rect.unit (s := S128x4) ![0, 0] S128x4.size inb_S128x4_S128x4_0_0
abbrev r0_57 : Rect S1x512 := Rect.unit (s := S1x512) ![0, 0] S1x512.size inb_S1x512_S1x512_0_0
abbrev r0_58 : Rect S2x512 := Rect.unit (s := S2x512) ![0, 0] S2x512.size inb_S2x512_S2x512_0_0
abbrev r0_59 : Rect S1x128 := Rect.unit (s := S1x128) ![0, 0] S1x128.size inb_S1x128_S1x128_0_0
abbrev r0_60 : Rect S8x128 := Rect.unit (s := S8x128) ![0, 0] S8x128.size inb_S8x128_S8x128_0_0

/-! ## The sums of the eight devices' parts -/

/-- The sum of the first exchanged rows. -/
def tot0 (x0 : Vec F S8x8x1024 .f32) : FVec F S8x1024 .f32 :=
  k0_pay2 (View.ld x0 r0_0) (View.ld x0 r0_1) (View.ld x0 r0_2) (View.ld x0 r0_3) (View.ld x0 r0_4)
    (View.ld x0 r0_5) (View.ld x0 r0_6) (View.ld x0 r0_7)

/-- The sum of the second exchanged rows. -/
def tot1 (x1 : Vec F S8x8x1024 .f32) : FVec F S8x1024 .f32 :=
  k0_pay4 (k0_pay3 (View.ld x1 r0_0) (View.ld x1 r0_1)) (View.ld x1 r0_2) (View.ld x1 r0_3) (View.ld x1 r0_4)
    (View.ld x1 r0_5) (View.ld x1 r0_6) (View.ld x1 r0_7)

/-- The sum of the third exchanged rows. -/
def tot2 (x2 : Vec F S8x8x1024 .f32) : FVec F S8x1024 .f32 :=
  k0_pay6 (k0_pay5 (View.ld x2 r0_0) (View.ld x2 r0_1) (View.ld x2 r0_2) (View.ld x2 r0_3)) (View.ld x2 r0_4)
    (View.ld x2 r0_5) (View.ld x2 r0_6) (View.ld x2 r0_7)

/-- The sum of the mixing weight's gradient. -/
def tot3 (x3 : Vec F S8x4x128x128 .f32) : FVec F S4x128x128 .f32 :=
  k0_pay8 (k0_pay7 (View.ld x3 r0_8) (View.ld x3 r0_9) (View.ld x3 r0_10) (View.ld x3 r0_11) (View.ld x3 r0_12))
    (View.ld x3 r0_13) (View.ld x3 r0_14) (View.ld x3 r0_15)

/-- The sum of the mixing bias's gradient. -/
def tot4 (x4 : Vec F S8x128x4 .f32) : FVec F S128x4 .f32 :=
  k0_pay10
    (k0_pay9 (View.ld x4 r0_16) (View.ld x4 r0_17) (View.ld x4 r0_18) (View.ld x4 r0_19) (View.ld x4 r0_20)
      (View.ld x4 r0_21) (View.ld x4 r0_22))
    (View.ld x4 r0_23)

/-- The sum of the value norm's weight's gradient. -/
def tot5 (x5 : Vec F S8x1x512 .f32) : FVec F S1x512 .f32 :=
  k0_pay11 (View.ld x5 r0_24) (View.ld x5 r0_25) (View.ld x5 r0_26) (View.ld x5 r0_27) (View.ld x5 r0_28)
    (View.ld x5 r0_29) (View.ld x5 r0_30) (View.ld x5 r0_31)

/-- The sum of the value norm's bias's gradient. -/
def tot6 (x6 : Vec F S8x1x512 .f32) : FVec F S1x512 .f32 :=
  k0_pay14 (k0_pay12 (View.ld x6 r0_24)) (k0_pay13 (View.ld x6 r0_25)) (View.ld x6 r0_26) (View.ld x6 r0_27)
    (View.ld x6 r0_28) (View.ld x6 r0_29) (View.ld x6 r0_30) (View.ld x6 r0_31)

/-- The sum of the lower bounds' gradient. -/
def tot7 (x7 : Vec F S8x2x512 .f32) : FVec F S2x512 .f32 :=
  k0_pay16 (k0_pay15 (View.ld x7 r0_32) (View.ld x7 r0_33) (View.ld x7 r0_34) (View.ld x7 r0_35))
    (View.ld x7 r0_36) (View.ld x7 r0_37) (View.ld x7 r0_38) (View.ld x7 r0_39)

/-- The sum of the group norm's weight's gradient. -/
def tot8 (x8 : Vec F S8x1x128 .f32) : FVec F S1x128 .f32 :=
  k0_pay18
    (k0_pay17 (View.ld x8 r0_40) (View.ld x8 r0_41) (View.ld x8 r0_42) (View.ld x8 r0_43) (View.ld x8 r0_44)
      (View.ld x8 r0_45))
    (View.ld x8 r0_46) (View.ld x8 r0_47)

/-! ## The outputs -/

/-- Output window 39 after the body. -/
def out39 (x0 : Vec F S8x8x1024 .f32) (x1 : Vec F S8x8x1024 .f32) (x2 : Vec F S8x8x1024 .f32) :
    Vec F S1x6144 .f32 :=
  View.canon [⟨r0_53, k0_pay24 (tot0 x0)⟩,
    ⟨r0_52, k0_pay23 (tot1 x1)⟩,
    ⟨r0_51, k0_pay22 (tot1 x1)⟩,
    ⟨r0_50, k0_pay21 (tot1 x1)⟩,
    ⟨r0_49, k0_pay20 (tot2 x2)⟩,
    ⟨r0_48, k0_pay19 (tot2 x2)⟩]

theorem cover_ada (p0 : Vec F S1x1024 .f32) (p1 : Vec F S1x1024 .f32) (p2 : Vec F S1x1024 .f32)
  (p3 : Vec F S1x1024 .f32)
    (p4 : Vec F S1x1024 .f32) (p5 : Vec F S1x1024 .f32) (y : S1x6144.Idx) :
    ∃ pc ∈ ([⟨r0_53, p0⟩, ⟨r0_52, p1⟩, ⟨r0_51, p2⟩, ⟨r0_50, p3⟩, ⟨r0_49, p4⟩, ⟨r0_48, p5⟩] : List (View.Piece
      (Elt F) S1x6144 .f32)),
      y ∈ pc.1.set :=
  View.cover_of_tiled
    [⟨r0_53, p0⟩, ⟨r0_52, p1⟩, ⟨r0_51, p2⟩, ⟨r0_50, p3⟩, ⟨r0_49, p4⟩, ⟨r0_48, p5⟩]
    S1x1024.size (by rfl) y

/-- Output window 40 after the body. -/
def out40 (x0 : Vec F S8x8x1024 .f32) (x1 : Vec F S8x8x1024 .f32) (x2 : Vec F S8x8x1024 .f32)
    (x9 : Vec F S1x6144 .f32) (x10 : Vec F S1x6144 .f32) (x11 : Vec F S1x6144 .f32) :
    Vec F S1x6144 .f32 :=
  View.canon [⟨r0_53, k0_pay45 (k0_pay24 (tot0 x0)) (View.ld x9 r0_53) (View.ld x10 r0_53) (View.ld x11 r0_53)⟩,
    ⟨r0_52, k0_pay42 (k0_pay23 (tot1 x1)) (View.ld x9 r0_52) (View.ld x10 r0_52) (View.ld x11 r0_52)⟩,
    ⟨r0_51, k0_pay39 (k0_pay22 (tot1 x1)) (View.ld x9 r0_51) (View.ld x10 r0_51) (View.ld x11 r0_51)⟩,
    ⟨r0_50, k0_pay36 (k0_pay21 (tot1 x1)) (View.ld x9 r0_50) (View.ld x10 r0_50) (View.ld x11 r0_50)⟩,
    ⟨r0_49, k0_pay33 (k0_pay31 (k0_pay20 (tot2 x2)) (View.ld x9 r0_49) (View.ld x10 r0_49) (View.ld x11 r0_49))
      (k0_pay32 (F := F))⟩,
    ⟨r0_48, k0_pay28 (k0_pay27 (tot2 x2) (View.ld x9 r0_48) (View.ld x10 r0_48) (View.ld x11 r0_48))⟩]

/-- Output window 41 after the body. -/
def out41 (x0 : Vec F S8x8x1024 .f32) (x1 : Vec F S8x8x1024 .f32) (x2 : Vec F S8x8x1024 .f32)
    (x10 : Vec F S1x6144 .f32) :
    Vec F S1x6144 .f32 :=
  View.canon [⟨r0_53, k0_pay43 (k0_pay24 (tot0 x0)) (View.ld x10 r0_53)⟩,
    ⟨r0_52, k0_pay40 (k0_pay23 (tot1 x1)) (View.ld x10 r0_52)⟩,
    ⟨r0_51, k0_pay37 (k0_pay22 (tot1 x1)) (View.ld x10 r0_51)⟩,
    ⟨r0_50, k0_pay34 (k0_pay21 (tot1 x1)) (View.ld x10 r0_50)⟩,
    ⟨r0_49, k0_pay29 (k0_pay20 (tot2 x2)) (View.ld x10 r0_49)⟩,
    ⟨r0_48, k0_pay25 (tot2 x2) (View.ld x10 r0_48)⟩]

/-- Output window 42 after the body. -/
def out42 (x0 : Vec F S8x8x1024 .f32) (x1 : Vec F S8x8x1024 .f32) (x2 : Vec F S8x8x1024 .f32)
    (x11 : Vec F S1x6144 .f32) :
    Vec F S1x6144 .f32 :=
  View.canon [⟨r0_53, k0_pay44 (k0_pay24 (tot0 x0)) (View.ld x11 r0_53)⟩,
    ⟨r0_52, k0_pay41 (k0_pay23 (tot1 x1)) (View.ld x11 r0_52)⟩,
    ⟨r0_51, k0_pay38 (k0_pay22 (tot1 x1)) (View.ld x11 r0_51)⟩,
    ⟨r0_50, k0_pay35 (k0_pay21 (tot1 x1)) (View.ld x11 r0_50)⟩,
    ⟨r0_49, k0_pay30 (k0_pay20 (tot2 x2)) (View.ld x11 r0_49)⟩,
    ⟨r0_48, k0_pay26 (tot2 x2) (View.ld x11 r0_48)⟩]

/-- Output window 43 after the body. -/
def out43 (x2 : Vec F S8x8x1024 .f32) :
    Vec F S1x1024 .f32 :=
  View.canon [⟨r0_54, k0_pay46 (tot2 x2)⟩]

theorem cover_54 (p0 : Vec F S1x1024 .f32) (y : S1x1024.Idx) :
    ∃ pc ∈ ([⟨r0_54, p0⟩] : List (View.Piece (Elt F) S1x1024 .f32)),
      y ∈ pc.1.set :=
  View.cover_of_tiled
    [⟨r0_54, p0⟩]
    S1x1024.size (by rfl) y

/-- Output window 44 after the body. -/
def out44 (x2 : Vec F S8x8x1024 .f32) (x12 : Vec F S1x1024 .f32) (x13 : Vec F S1x1024 .f32)
    (x14 : Vec F S1x1024 .f32) :
    Vec F S1x1024 .f32 :=
  View.canon [⟨r0_54, k0_pay51 (tot2 x2) (View.ld x12 r0_54) (View.ld x13 r0_54) (View.ld x14 r0_54)⟩]

/-- Output window 45 after the body. -/
def out45 (x2 : Vec F S8x8x1024 .f32) (x13 : Vec F S1x1024 .f32) :
    Vec F S1x1024 .f32 :=
  View.canon [⟨r0_54, k0_pay49 (tot2 x2) (View.ld x13 r0_54)⟩]

/-- Output window 46 after the body. -/
def out46 (x2 : Vec F S8x8x1024 .f32) (x14 : Vec F S1x1024 .f32) :
    Vec F S1x1024 .f32 :=
  View.canon [⟨r0_54, k0_pay50 (tot2 x2) (View.ld x14 r0_54)⟩]

/-- Output window 47 after the body. -/
def out47 (x3 : Vec F S8x4x128x128 .f32) :
    Vec F S4x128x128 .f32 :=
  View.canon [⟨r0_55, tot3 x3⟩]

theorem cover_55 (p0 : Vec F S4x128x128 .f32) (y : S4x128x128.Idx) :
    ∃ pc ∈ ([⟨r0_55, p0⟩] : List (View.Piece (Elt F) S4x128x128 .f32)),
      y ∈ pc.1.set :=
  View.cover_of_tiled
    [⟨r0_55, p0⟩]
    S4x128x128.size (by rfl) y

/-- Output window 48 after the body. -/
def out48 (x3 : Vec F S8x4x128x128 .f32) (x15 : Vec F S4x128x128 .f32) (x16 : Vec F S4x128x128 .f32)
    (x17 : Vec F S4x128x128 .f32) :
    Vec F S4x128x128 .f32 :=
  View.canon [⟨r0_55, k0_pay54 (tot3 x3) (View.ld x15 r0_55) (View.ld x16 r0_55) (View.ld x17 r0_55)⟩]

/-- Output window 49 after the body. -/
def out49 (x3 : Vec F S8x4x128x128 .f32) (x16 : Vec F S4x128x128 .f32) :
    Vec F S4x128x128 .f32 :=
  View.canon [⟨r0_55, k0_pay52 (tot3 x3) (View.ld x16 r0_55)⟩]

/-- Output window 50 after the body. -/
def out50 (x3 : Vec F S8x4x128x128 .f32) (x17 : Vec F S4x128x128 .f32) :
    Vec F S4x128x128 .f32 :=
  View.canon [⟨r0_55, k0_pay53 (tot3 x3) (View.ld x17 r0_55)⟩]

/-- Output window 51 after the body. -/
def out51 (x4 : Vec F S8x128x4 .f32) :
    Vec F S128x4 .f32 :=
  View.canon [⟨r0_56, tot4 x4⟩]

theorem cover_56 (p0 : Vec F S128x4 .f32) (y : S128x4.Idx) :
    ∃ pc ∈ ([⟨r0_56, p0⟩] : List (View.Piece (Elt F) S128x4 .f32)),
      y ∈ pc.1.set :=
  View.cover_of_tiled
    [⟨r0_56, p0⟩]
    S128x4.size (by rfl) y

/-- Output window 52 after the body. -/
def out52 (x4 : Vec F S8x128x4 .f32) (x18 : Vec F S128x4 .f32) (x19 : Vec F S128x4 .f32)
    (x20 : Vec F S128x4 .f32) :
    Vec F S128x4 .f32 :=
  View.canon [⟨r0_56, k0_pay58
    (k0_pay57 (tot4 x4) (View.ld x18 r0_56) (View.ld x19 r0_56) (View.ld x20 r0_56))⟩]

/-- Output window 53 after the body. -/
def out53 (x4 : Vec F S8x128x4 .f32) (x19 : Vec F S128x4 .f32) :
    Vec F S128x4 .f32 :=
  View.canon [⟨r0_56, k0_pay55 (tot4 x4) (View.ld x19 r0_56)⟩]

/-- Output window 54 after the body. -/
def out54 (x4 : Vec F S8x128x4 .f32) (x20 : Vec F S128x4 .f32) :
    Vec F S128x4 .f32 :=
  View.canon [⟨r0_56, k0_pay56 (tot4 x4) (View.ld x20 r0_56)⟩]

/-- Output window 55 after the body. -/
def out55 (x5 : Vec F S8x1x512 .f32) :
    Vec F S1x512 .f32 :=
  View.canon [⟨r0_57, tot5 x5⟩]

theorem cover_57 (p0 : Vec F S1x512 .f32) (y : S1x512.Idx) :
    ∃ pc ∈ ([⟨r0_57, p0⟩] : List (View.Piece (Elt F) S1x512 .f32)),
      y ∈ pc.1.set :=
  View.cover_of_tiled
    [⟨r0_57, p0⟩]
    S1x512.size (by rfl) y

/-- Output window 56 after the body. -/
def out56 (x5 : Vec F S8x1x512 .f32) (x21 : Vec F S1x512 .f32) (x22 : Vec F S1x512 .f32)
    (x23 : Vec F S1x512 .f32) :
    Vec F S1x512 .f32 :=
  View.canon [⟨r0_57, k0_pay63 (k0_pay61 (tot5 x5) (View.ld x21 r0_57) (View.ld x22 r0_57) (View.ld x23 r0_57))
    (k0_pay62 (F := F))⟩]

/-- Output window 57 after the body. -/
def out57 (x5 : Vec F S8x1x512 .f32) (x22 : Vec F S1x512 .f32) :
    Vec F S1x512 .f32 :=
  View.canon [⟨r0_57, k0_pay59 (tot5 x5) (View.ld x22 r0_57)⟩]

/-- Output window 58 after the body. -/
def out58 (x5 : Vec F S8x1x512 .f32) (x23 : Vec F S1x512 .f32) :
    Vec F S1x512 .f32 :=
  View.canon [⟨r0_57, k0_pay60 (tot5 x5) (View.ld x23 r0_57)⟩]

/-- Output window 59 after the body. -/
def out59 (x6 : Vec F S8x1x512 .f32) :
    Vec F S1x512 .f32 :=
  View.canon [⟨r0_57, tot6 x6⟩]

/-- Output window 60 after the body. -/
def out60 (x6 : Vec F S8x1x512 .f32) (x24 : Vec F S1x512 .f32) (x25 : Vec F S1x512 .f32)
    (x26 : Vec F S1x512 .f32) :
    Vec F S1x512 .f32 :=
  View.canon [⟨r0_57, k0_pay66 (tot6 x6) (View.ld x24 r0_57) (View.ld x25 r0_57) (View.ld x26 r0_57)⟩]

/-- Output window 61 after the body. -/
def out61 (x6 : Vec F S8x1x512 .f32) (x25 : Vec F S1x512 .f32) :
    Vec F S1x512 .f32 :=
  View.canon [⟨r0_57, k0_pay64 (tot6 x6) (View.ld x25 r0_57)⟩]

/-- Output window 62 after the body. -/
def out62 (x6 : Vec F S8x1x512 .f32) (x26 : Vec F S1x512 .f32) :
    Vec F S1x512 .f32 :=
  View.canon [⟨r0_57, k0_pay65 (tot6 x6) (View.ld x26 r0_57)⟩]

/-- Output window 63 after the body. -/
def out63 (x7 : Vec F S8x2x512 .f32) :
    Vec F S2x512 .f32 :=
  View.canon [⟨r0_58, tot7 x7⟩]

theorem cover_58 (p0 : Vec F S2x512 .f32) (y : S2x512.Idx) :
    ∃ pc ∈ ([⟨r0_58, p0⟩] : List (View.Piece (Elt F) S2x512 .f32)),
      y ∈ pc.1.set :=
  View.cover_of_tiled
    [⟨r0_58, p0⟩]
    S2x512.size (by rfl) y

/-- Output window 64 after the body. -/
def out64 (x7 : Vec F S8x2x512 .f32) (x27 : Vec F S2x512 .f32) (x28 : Vec F S2x512 .f32)
    (x29 : Vec F S2x512 .f32) :
    Vec F S2x512 .f32 :=
  View.canon [⟨r0_58, k0_pay69 (tot7 x7) (View.ld x27 r0_58) (View.ld x28 r0_58) (View.ld x29 r0_58)⟩]

/-- Output window 65 after the body. -/
def out65 (x7 : Vec F S8x2x512 .f32) (x28 : Vec F S2x512 .f32) :
    Vec F S2x512 .f32 :=
  View.canon [⟨r0_58, k0_pay67 (tot7 x7) (View.ld x28 r0_58)⟩]

/-- Output window 66 after the body. -/
def out66 (x7 : Vec F S8x2x512 .f32) (x29 : Vec F S2x512 .f32) :
    Vec F S2x512 .f32 :=
  View.canon [⟨r0_58, k0_pay68 (tot7 x7) (View.ld x29 r0_58)⟩]

/-- Output window 67 after the body. -/
def out67 (x8 : Vec F S8x1x128 .f32) :
    Vec F S1x128 .f32 :=
  View.canon [⟨r0_59, tot8 x8⟩]

theorem cover_59 (p0 : Vec F S1x128 .f32) (y : S1x128.Idx) :
    ∃ pc ∈ ([⟨r0_59, p0⟩] : List (View.Piece (Elt F) S1x128 .f32)),
      y ∈ pc.1.set :=
  View.cover_of_tiled
    [⟨r0_59, p0⟩]
    S1x128.size (by rfl) y

/-- Output window 68 after the body. -/
def out68 (x8 : Vec F S8x1x128 .f32) (x30 : Vec F S1x128 .f32) (x31 : Vec F S1x128 .f32)
    (x32 : Vec F S1x128 .f32) :
    Vec F S1x128 .f32 :=
  View.canon [⟨r0_59, k0_pay72 (tot8 x8) (View.ld x30 r0_59) (View.ld x31 r0_59) (View.ld x32 r0_59)⟩]

/-- Output window 69 after the body. -/
def out69 (x8 : Vec F S8x1x128 .f32) (x31 : Vec F S1x128 .f32) :
    Vec F S1x128 .f32 :=
  View.canon [⟨r0_59, k0_pay70 (tot8 x8) (View.ld x31 r0_59)⟩]

/-- Output window 70 after the body. -/
def out70 (x8 : Vec F S8x1x128 .f32) (x32 : Vec F S1x128 .f32) :
    Vec F S1x128 .f32 :=
  View.canon [⟨r0_59, k0_pay71 (tot8 x8) (View.ld x32 r0_59)⟩]

/-- Output window 71 after the body. -/
def out71 (x1 : Vec F S8x8x1024 .f32) :
    Vec F S1x1024 .f32 :=
  View.canon [⟨r0_54, k0_pay47 (tot1 x1)⟩]

/-- Output window 72 after the body. -/
def out72 (x1 : Vec F S8x8x1024 .f32) (x33 : Vec F S1x1024 .f32) (x34 : Vec F S1x1024 .f32)
    (x35 : Vec F S1x1024 .f32) :
    Vec F S1x1024 .f32 :=
  View.canon [⟨r0_54, k0_pay75 (k0_pay47 (tot1 x1)) (View.ld x33 r0_54) (View.ld x34 r0_54)
    (View.ld x35 r0_54)⟩]

/-- Output window 73 after the body. -/
def out73 (x1 : Vec F S8x8x1024 .f32) (x34 : Vec F S1x1024 .f32) :
    Vec F S1x1024 .f32 :=
  View.canon [⟨r0_54, k0_pay73 (k0_pay47 (tot1 x1)) (View.ld x34 r0_54)⟩]

/-- Output window 74 after the body. -/
def out74 (x1 : Vec F S8x8x1024 .f32) (x35 : Vec F S1x1024 .f32) :
    Vec F S1x1024 .f32 :=
  View.canon [⟨r0_54, k0_pay74 (k0_pay47 (tot1 x1)) (View.ld x35 r0_54)⟩]

/-- Output window 75 after the body. -/
def out75 (x0 : Vec F S8x8x1024 .f32) :
    Vec F S1x1024 .f32 :=
  View.canon [⟨r0_54, k0_pay48 (tot0 x0)⟩]

/-- Output window 76 after the body. -/
def out76 (x0 : Vec F S8x8x1024 .f32) (x36 : Vec F S1x1024 .f32) (x37 : Vec F S1x1024 .f32)
    (x38 : Vec F S1x1024 .f32) :
    Vec F S1x1024 .f32 :=
  View.canon [⟨r0_54, k0_pay78 (k0_pay48 (tot0 x0)) (View.ld x36 r0_54) (View.ld x37 r0_54)
    (View.ld x38 r0_54)⟩]

/-- Output window 77 after the body. -/
def out77 (x0 : Vec F S8x8x1024 .f32) (x37 : Vec F S1x1024 .f32) :
    Vec F S1x1024 .f32 :=
  View.canon [⟨r0_54, k0_pay76 (k0_pay48 (tot0 x0)) (View.ld x37 r0_54)⟩]

/-- Output window 78 after the body. -/
def out78 (x0 : Vec F S8x8x1024 .f32) (x38 : Vec F S1x1024 .f32) :
    Vec F S1x1024 .f32 :=
  View.canon [⟨r0_54, k0_pay77 (k0_pay48 (tot0 x0)) (View.ld x38 r0_54)⟩]

/-- Output window 79 after the body. -/
def out79 (x0 : Vec F S8x8x1024 .f32) :
    Vec F S8x128 .f32 :=
  View.canon [⟨r0_60, k0_pay1 (tot0 x0)⟩]

theorem cover_60 (p0 : Vec F S8x128 .f32) (y : S8x128.Idx) :
    ∃ pc ∈ ([⟨r0_60, p0⟩] : List (View.Piece (Elt F) S8x128 .f32)),
      y ∈ pc.1.set :=
  View.cover_of_tiled
    [⟨r0_60, p0⟩]
    S8x128.size (by rfl) y

end Cert.SmallRun

end
-- ==== Proof.SmallBody.lean ====
/- The body of the optimiser's step on the small weights, run once. -/
module

public import Idealize.ShloMosaic.Lib.Pipeline.FrameBody
public import Idealize.ShloMosaic.Lib.Claim
public import Idealize.ShloMosaic.Lib.Ring
public import Idealize.ShloMosaic.Lib.Tactic
public import proofs.«01_k».proof.Proof.SmallOut

@[expose] public section

set_option maxRecDepth 16384

noncomputable section

namespace Cert.SmallRun

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1200000 in
/-- On whole buffers, the inputs' at contents `xW` and the outputs' at anything, the body leaves the inputs' as they
    were and output window `W`'s at `outW` of the inputs. -/
theorem body_runs (c : Dev nD) (E : Set ℕ) (arg0 : Memref sig .tc .vmem S8x8x1024 .f32) (harg0 : arg0.IsWhole)
  (arg1 : Memref sig .tc .vmem S8x8x1024 .f32) (harg1 : arg1.IsWhole)
  (arg2 : Memref sig .tc .vmem S8x8x1024 .f32) (harg2 : arg2.IsWhole)
  (arg3 : Memref sig .tc .vmem S8x4x128x128 .f32) (harg3 : arg3.IsWhole)
  (arg4 : Memref sig .tc .vmem S8x128x4 .f32) (harg4 : arg4.IsWhole) (arg5 : Memref sig .tc .vmem S8x1x512 .f32)
  (harg5 : arg5.IsWhole) (arg6 : Memref sig .tc .vmem S8x1x512 .f32) (harg6 : arg6.IsWhole)
  (arg7 : Memref sig .tc .vmem S8x2x512 .f32) (harg7 : arg7.IsWhole) (arg8 : Memref sig .tc .vmem S8x1x128 .f32)
  (harg8 : arg8.IsWhole) (arg9 : Memref sig .tc .vmem S1x6144 .f32) (harg9 : arg9.IsWhole)
  (arg10 : Memref sig .tc .vmem S1x6144 .f32) (harg10 : arg10.IsWhole)
  (arg11 : Memref sig .tc .vmem S1x6144 .f32) (harg11 : arg11.IsWhole)
  (arg12 : Memref sig .tc .vmem S1x1024 .f32) (harg12 : arg12.IsWhole)
  (arg13 : Memref sig .tc .vmem S1x1024 .f32) (harg13 : arg13.IsWhole)
  (arg14 : Memref sig .tc .vmem S1x1024 .f32) (harg14 : arg14.IsWhole)
  (arg15 : Memref sig .tc .vmem S4x128x128 .f32) (harg15 : arg15.IsWhole)
  (arg16 : Memref sig .tc .vmem S4x128x128 .f32) (harg16 : arg16.IsWhole)
  (arg17 : Memref sig .tc .vmem S4x128x128 .f32) (harg17 : arg17.IsWhole)
  (arg18 : Memref sig .tc .vmem S128x4 .f32) (harg18 : arg18.IsWhole) (arg19 : Memref sig .tc .vmem S128x4 .f32)
  (harg19 : arg19.IsWhole) (arg20 : Memref sig .tc .vmem S128x4 .f32) (harg20 : arg20.IsWhole)
  (arg21 : Memref sig .tc .vmem S1x512 .f32) (harg21 : arg21.IsWhole) (arg22 : Memref sig .tc .vmem S1x512 .f32)
  (harg22 : arg22.IsWhole) (arg23 : Memref sig .tc .vmem S1x512 .f32) (harg23 : arg23.IsWhole)
  (arg24 : Memref sig .tc .vmem S1x512 .f32) (harg24 : arg24.IsWhole) (arg25 : Memref sig .tc .vmem S1x512 .f32)
  (harg25 : arg25.IsWhole) (arg26 : Memref sig .tc .vmem S1x512 .f32) (harg26 : arg26.IsWhole)
  (arg27 : Memref sig .tc .vmem S2x512 .f32) (harg27 : arg27.IsWhole) (arg28 : Memref sig .tc .vmem S2x512 .f32)
  (harg28 : arg28.IsWhole) (arg29 : Memref sig .tc .vmem S2x512 .f32) (harg29 : arg29.IsWhole)
  (arg30 : Memref sig .tc .vmem S1x128 .f32) (harg30 : arg30.IsWhole) (arg31 : Memref sig .tc .vmem S1x128 .f32)
  (harg31 : arg31.IsWhole) (arg32 : Memref sig .tc .vmem S1x128 .f32) (harg32 : arg32.IsWhole)
  (arg33 : Memref sig .tc .vmem S1x1024 .f32) (harg33 : arg33.IsWhole)
  (arg34 : Memref sig .tc .vmem S1x1024 .f32) (harg34 : arg34.IsWhole)
  (arg35 : Memref sig .tc .vmem S1x1024 .f32) (harg35 : arg35.IsWhole)
  (arg36 : Memref sig .tc .vmem S1x1024 .f32) (harg36 : arg36.IsWhole)
  (arg37 : Memref sig .tc .vmem S1x1024 .f32) (harg37 : arg37.IsWhole)
  (arg38 : Memref sig .tc .vmem S1x1024 .f32) (harg38 : arg38.IsWhole)
  (arg39 : Memref sig .tc .vmem S1x6144 .f32) (harg39 : arg39.IsWhole)
  (arg40 : Memref sig .tc .vmem S1x6144 .f32) (harg40 : arg40.IsWhole)
  (arg41 : Memref sig .tc .vmem S1x6144 .f32) (harg41 : arg41.IsWhole)
  (arg42 : Memref sig .tc .vmem S1x6144 .f32) (harg42 : arg42.IsWhole)
  (arg43 : Memref sig .tc .vmem S1x1024 .f32) (harg43 : arg43.IsWhole)
  (arg44 : Memref sig .tc .vmem S1x1024 .f32) (harg44 : arg44.IsWhole)
  (arg45 : Memref sig .tc .vmem S1x1024 .f32) (harg45 : arg45.IsWhole)
  (arg46 : Memref sig .tc .vmem S1x1024 .f32) (harg46 : arg46.IsWhole)
  (arg47 : Memref sig .tc .vmem S4x128x128 .f32) (harg47 : arg47.IsWhole)
  (arg48 : Memref sig .tc .vmem S4x128x128 .f32) (harg48 : arg48.IsWhole)
  (arg49 : Memref sig .tc .vmem S4x128x128 .f32) (harg49 : arg49.IsWhole)
  (arg50 : Memref sig .tc .vmem S4x128x128 .f32) (harg50 : arg50.IsWhole)
  (arg51 : Memref sig .tc .vmem S128x4 .f32) (harg51 : arg51.IsWhole) (arg52 : Memref sig .tc .vmem S128x4 .f32)
  (harg52 : arg52.IsWhole) (arg53 : Memref sig .tc .vmem S128x4 .f32) (harg53 : arg53.IsWhole)
  (arg54 : Memref sig .tc .vmem S128x4 .f32) (harg54 : arg54.IsWhole) (arg55 : Memref sig .tc .vmem S1x512 .f32)
  (harg55 : arg55.IsWhole) (arg56 : Memref sig .tc .vmem S1x512 .f32) (harg56 : arg56.IsWhole)
  (arg57 : Memref sig .tc .vmem S1x512 .f32) (harg57 : arg57.IsWhole) (arg58 : Memref sig .tc .vmem S1x512 .f32)
  (harg58 : arg58.IsWhole) (arg59 : Memref sig .tc .vmem S1x512 .f32) (harg59 : arg59.IsWhole)
  (arg60 : Memref sig .tc .vmem S1x512 .f32) (harg60 : arg60.IsWhole) (arg61 : Memref sig .tc .vmem S1x512 .f32)
  (harg61 : arg61.IsWhole) (arg62 : Memref sig .tc .vmem S1x512 .f32) (harg62 : arg62.IsWhole)
  (arg63 : Memref sig .tc .vmem S2x512 .f32) (harg63 : arg63.IsWhole) (arg64 : Memref sig .tc .vmem S2x512 .f32)
  (harg64 : arg64.IsWhole) (arg65 : Memref sig .tc .vmem S2x512 .f32) (harg65 : arg65.IsWhole)
  (arg66 : Memref sig .tc .vmem S2x512 .f32) (harg66 : arg66.IsWhole) (arg67 : Memref sig .tc .vmem S1x128 .f32)
  (harg67 : arg67.IsWhole) (arg68 : Memref sig .tc .vmem S1x128 .f32) (harg68 : arg68.IsWhole)
  (arg69 : Memref sig .tc .vmem S1x128 .f32) (harg69 : arg69.IsWhole) (arg70 : Memref sig .tc .vmem S1x128 .f32)
  (harg70 : arg70.IsWhole) (arg71 : Memref sig .tc .vmem S1x1024 .f32) (harg71 : arg71.IsWhole)
  (arg72 : Memref sig .tc .vmem S1x1024 .f32) (harg72 : arg72.IsWhole)
  (arg73 : Memref sig .tc .vmem S1x1024 .f32) (harg73 : arg73.IsWhole)
  (arg74 : Memref sig .tc .vmem S1x1024 .f32) (harg74 : arg74.IsWhole)
  (arg75 : Memref sig .tc .vmem S1x1024 .f32) (harg75 : arg75.IsWhole)
  (arg76 : Memref sig .tc .vmem S1x1024 .f32) (harg76 : arg76.IsWhole)
  (arg77 : Memref sig .tc .vmem S1x1024 .f32) (harg77 : arg77.IsWhole)
  (arg78 : Memref sig .tc .vmem S1x1024 .f32) (harg78 : arg78.IsWhole)
  (arg79 : Memref sig .tc .vmem S8x128 .f32) (harg79 : arg79.IsWhole)
    (x0 : Vec F S8x8x1024 .f32) (x1 : Vec F S8x8x1024 .f32) (x2 : Vec F S8x8x1024 .f32)
      (x3 : Vec F S8x4x128x128 .f32) (x4 : Vec F S8x128x4 .f32) (x5 : Vec F S8x1x512 .f32)
      (x6 : Vec F S8x1x512 .f32) (x7 : Vec F S8x2x512 .f32) (x8 : Vec F S8x1x128 .f32) (x9 : Vec F S1x6144 .f32)
      (x10 : Vec F S1x6144 .f32) (x11 : Vec F S1x6144 .f32) (x12 : Vec F S1x1024 .f32)
      (x13 : Vec F S1x1024 .f32) (x14 : Vec F S1x1024 .f32) (x15 : Vec F S4x128x128 .f32)
      (x16 : Vec F S4x128x128 .f32) (x17 : Vec F S4x128x128 .f32) (x18 : Vec F S128x4 .f32)
      (x19 : Vec F S128x4 .f32) (x20 : Vec F S128x4 .f32) (x21 : Vec F S1x512 .f32) (x22 : Vec F S1x512 .f32)
      (x23 : Vec F S1x512 .f32) (x24 : Vec F S1x512 .f32) (x25 : Vec F S1x512 .f32) (x26 : Vec F S1x512 .f32)
      (x27 : Vec F S2x512 .f32) (x28 : Vec F S2x512 .f32) (x29 : Vec F S2x512 .f32) (x30 : Vec F S1x128 .f32)
      (x31 : Vec F S1x128 .f32) (x32 : Vec F S1x128 .f32) (x33 : Vec F S1x1024 .f32) (x34 : Vec F S1x1024 .f32)
      (x35 : Vec F S1x1024 .f32) (x36 : Vec F S1x1024 .f32) (x37 : Vec F S1x1024 .f32)
      (x38 : Vec F S1x1024 .f32) (K : PUnit → sProp 𝕄) :
    iprop(
    owns (c : Thread nD τ) arg0 fullShare x0 ∗ owns (c : Thread nD τ) arg1 fullShare x1 ∗ owns (c : Thread nD τ)
      arg2 fullShare x2 ∗ owns (c : Thread nD τ) arg3 fullShare x3 ∗ owns (c : Thread nD τ) arg4 fullShare x4 ∗
      owns (c : Thread nD τ) arg5 fullShare x5 ∗ owns (c : Thread nD τ) arg6 fullShare x6 ∗ owns
      (c : Thread nD τ) arg7 fullShare x7 ∗ owns (c : Thread nD τ) arg8 fullShare x8 ∗ owns (c : Thread nD τ)
      arg9 fullShare x9 ∗ owns (c : Thread nD τ) arg10 fullShare x10 ∗ owns (c : Thread nD τ) arg11 fullShare
      x11 ∗ owns (c : Thread nD τ) arg12 fullShare x12 ∗ owns (c : Thread nD τ) arg13 fullShare x13 ∗ owns
      (c : Thread nD τ) arg14 fullShare x14 ∗ owns (c : Thread nD τ) arg15 fullShare x15 ∗ owns
      (c : Thread nD τ) arg16 fullShare x16 ∗ owns (c : Thread nD τ) arg17 fullShare x17 ∗ owns
      (c : Thread nD τ) arg18 fullShare x18 ∗ owns (c : Thread nD τ) arg19 fullShare x19 ∗ owns
      (c : Thread nD τ) arg20 fullShare x20 ∗ owns (c : Thread nD τ) arg21 fullShare x21 ∗ owns
      (c : Thread nD τ) arg22 fullShare x22 ∗ owns (c : Thread nD τ) arg23 fullShare x23 ∗ owns
      (c : Thread nD τ) arg24 fullShare x24 ∗ owns (c : Thread nD τ) arg25 fullShare x25 ∗ owns
      (c : Thread nD τ) arg26 fullShare x26 ∗ owns (c : Thread nD τ) arg27 fullShare x27 ∗ owns
      (c : Thread nD τ) arg28 fullShare x28 ∗ owns (c : Thread nD τ) arg29 fullShare x29 ∗ owns
      (c : Thread nD τ) arg30 fullShare x30 ∗ owns (c : Thread nD τ) arg31 fullShare x31 ∗ owns
      (c : Thread nD τ) arg32 fullShare x32 ∗ owns (c : Thread nD τ) arg33 fullShare x33 ∗ owns
      (c : Thread nD τ) arg34 fullShare x34 ∗ owns (c : Thread nD τ) arg35 fullShare x35 ∗ owns
      (c : Thread nD τ) arg36 fullShare x36 ∗ owns (c : Thread nD τ) arg37 fullShare x37 ∗ owns
      (c : Thread nD τ) arg38 fullShare x38 ∗ (∃ d, owns (c : Thread nD τ) arg39 fullShare d) ∗
      (∃ d, owns (c : Thread nD τ) arg40 fullShare d) ∗ (∃ d, owns (c : Thread nD τ) arg41 fullShare d) ∗
      (∃ d, owns (c : Thread nD τ) arg42 fullShare d) ∗ (∃ d, owns (c : Thread nD τ) arg43 fullShare d) ∗
      (∃ d, owns (c : Thread nD τ) arg44 fullShare d) ∗ (∃ d, owns (c : Thread nD τ) arg45 fullShare d) ∗
      (∃ d, owns (c : Thread nD τ) arg46 fullShare d) ∗ (∃ d, owns (c : Thread nD τ) arg47 fullShare d) ∗
      (∃ d, owns (c : Thread nD τ) arg48 fullShare d) ∗ (∃ d, owns (c : Thread nD τ) arg49 fullShare d) ∗
      (∃ d, owns (c : Thread nD τ) arg50 fullShare d) ∗ (∃ d, owns (c : Thread nD τ) arg51 fullShare d) ∗
      (∃ d, owns (c : Thread nD τ) arg52 fullShare d) ∗ (∃ d, owns (c : Thread nD τ) arg53 fullShare d) ∗
      (∃ d, owns (c : Thread nD τ) arg54 fullShare d) ∗ (∃ d, owns (c : Thread nD τ) arg55 fullShare d) ∗
      (∃ d, owns (c : Thread nD τ) arg56 fullShare d) ∗ (∃ d, owns (c : Thread nD τ) arg57 fullShare d) ∗
      (∃ d, owns (c : Thread nD τ) arg58 fullShare d) ∗ (∃ d, owns (c : Thread nD τ) arg59 fullShare d) ∗
      (∃ d, owns (c : Thread nD τ) arg60 fullShare d) ∗ (∃ d, owns (c : Thread nD τ) arg61 fullShare d) ∗
      (∃ d, owns (c : Thread nD τ) arg62 fullShare d) ∗ (∃ d, owns (c : Thread nD τ) arg63 fullShare d) ∗
      (∃ d, owns (c : Thread nD τ) arg64 fullShare d) ∗ (∃ d, owns (c : Thread nD τ) arg65 fullShare d) ∗
      (∃ d, owns (c : Thread nD τ) arg66 fullShare d) ∗ (∃ d, owns (c : Thread nD τ) arg67 fullShare d) ∗
      (∃ d, owns (c : Thread nD τ) arg68 fullShare d) ∗ (∃ d, owns (c : Thread nD τ) arg69 fullShare d) ∗
      (∃ d, owns (c : Thread nD τ) arg70 fullShare d) ∗ (∃ d, owns (c : Thread nD τ) arg71 fullShare d) ∗
      (∃ d, owns (c : Thread nD τ) arg72 fullShare d) ∗ (∃ d, owns (c : Thread nD τ) arg73 fullShare d) ∗
      (∃ d, owns (c : Thread nD τ) arg74 fullShare d) ∗ (∃ d, owns (c : Thread nD τ) arg75 fullShare d) ∗
      (∃ d, owns (c : Thread nD τ) arg76 fullShare d) ∗ (∃ d, owns (c : Thread nD τ) arg77 fullShare d) ∗
      (∃ d, owns (c : Thread nD τ) arg78 fullShare d) ∗ (∃ d, owns (c : Thread nD τ) arg79 fullShare d)
        ∗ (iprop(
    owns (c : Thread nD τ) arg0 fullShare x0 ∗ owns (c : Thread nD τ) arg1 fullShare x1 ∗ owns (c : Thread nD τ)
      arg2 fullShare x2 ∗ owns (c : Thread nD τ) arg3 fullShare x3 ∗ owns (c : Thread nD τ) arg4 fullShare x4 ∗
      owns (c : Thread nD τ) arg5 fullShare x5 ∗ owns (c : Thread nD τ) arg6 fullShare x6 ∗ owns
      (c : Thread nD τ) arg7 fullShare x7 ∗ owns (c : Thread nD τ) arg8 fullShare x8 ∗ owns (c : Thread nD τ)
      arg9 fullShare x9 ∗ owns (c : Thread nD τ) arg10 fullShare x10 ∗ owns (c : Thread nD τ) arg11 fullShare
      x11 ∗ owns (c : Thread nD τ) arg12 fullShare x12 ∗ owns (c : Thread nD τ) arg13 fullShare x13 ∗ owns
      (c : Thread nD τ) arg14 fullShare x14 ∗ owns (c : Thread nD τ) arg15 fullShare x15 ∗ owns
      (c : Thread nD τ) arg16 fullShare x16 ∗ owns (c : Thread nD τ) arg17 fullShare x17 ∗ owns
      (c : Thread nD τ) arg18 fullShare x18 ∗ owns (c : Thread nD τ) arg19 fullShare x19 ∗ owns
      (c : Thread nD τ) arg20 fullShare x20 ∗ owns (c : Thread nD τ) arg21 fullShare x21 ∗ owns
      (c : Thread nD τ) arg22 fullShare x22 ∗ owns (c : Thread nD τ) arg23 fullShare x23 ∗ owns
      (c : Thread nD τ) arg24 fullShare x24 ∗ owns (c : Thread nD τ) arg25 fullShare x25 ∗ owns
      (c : Thread nD τ) arg26 fullShare x26 ∗ owns (c : Thread nD τ) arg27 fullShare x27 ∗ owns
      (c : Thread nD τ) arg28 fullShare x28 ∗ owns (c : Thread nD τ) arg29 fullShare x29 ∗ owns
      (c : Thread nD τ) arg30 fullShare x30 ∗ owns (c : Thread nD τ) arg31 fullShare x31 ∗ owns
      (c : Thread nD τ) arg32 fullShare x32 ∗ owns (c : Thread nD τ) arg33 fullShare x33 ∗ owns
      (c : Thread nD τ) arg34 fullShare x34 ∗ owns (c : Thread nD τ) arg35 fullShare x35 ∗ owns
      (c : Thread nD τ) arg36 fullShare x36 ∗ owns (c : Thread nD τ) arg37 fullShare x37 ∗ owns
      (c : Thread nD τ) arg38 fullShare x38 ∗ owns (c : Thread nD τ) arg39 fullShare (out39 x0 x1 x2) ∗ owns
      (c : Thread nD τ) arg40 fullShare (out40 x0 x1 x2 x9 x10 x11) ∗ owns (c : Thread nD τ) arg41 fullShare
      (out41 x0 x1 x2 x10) ∗ owns (c : Thread nD τ) arg42 fullShare (out42 x0 x1 x2 x11) ∗ owns
      (c : Thread nD τ) arg43 fullShare (out43 x2) ∗ owns (c : Thread nD τ) arg44 fullShare
      (out44 x2 x12 x13 x14) ∗ owns (c : Thread nD τ) arg45 fullShare (out45 x2 x13) ∗ owns (c : Thread nD τ)
      arg46 fullShare (out46 x2 x14) ∗ owns (c : Thread nD τ) arg47 fullShare (out47 x3) ∗ owns
      (c : Thread nD τ) arg48 fullShare (out48 x3 x15 x16 x17) ∗ owns (c : Thread nD τ) arg49 fullShare
      (out49 x3 x16) ∗ owns (c : Thread nD τ) arg50 fullShare (out50 x3 x17) ∗ owns (c : Thread nD τ) arg51
      fullShare (out51 x4) ∗ owns (c : Thread nD τ) arg52 fullShare (out52 x4 x18 x19 x20) ∗ owns
      (c : Thread nD τ) arg53 fullShare (out53 x4 x19) ∗ owns (c : Thread nD τ) arg54 fullShare (out54 x4 x20) ∗
      owns (c : Thread nD τ) arg55 fullShare (out55 x5) ∗ owns (c : Thread nD τ) arg56 fullShare
      (out56 x5 x21 x22 x23) ∗ owns (c : Thread nD τ) arg57 fullShare (out57 x5 x22) ∗ owns (c : Thread nD τ)
      arg58 fullShare (out58 x5 x23) ∗ owns (c : Thread nD τ) arg59 fullShare (out59 x6) ∗ owns
      (c : Thread nD τ) arg60 fullShare (out60 x6 x24 x25 x26) ∗ owns (c : Thread nD τ) arg61 fullShare
      (out61 x6 x25) ∗ owns (c : Thread nD τ) arg62 fullShare (out62 x6 x26) ∗ owns (c : Thread nD τ) arg63
      fullShare (out63 x7) ∗ owns (c : Thread nD τ) arg64 fullShare (out64 x7 x27 x28 x29) ∗ owns
      (c : Thread nD τ) arg65 fullShare (out65 x7 x28) ∗ owns (c : Thread nD τ) arg66 fullShare (out66 x7 x29) ∗
      owns (c : Thread nD τ) arg67 fullShare (out67 x8) ∗ owns (c : Thread nD τ) arg68 fullShare
      (out68 x8 x30 x31 x32) ∗ owns (c : Thread nD τ) arg69 fullShare (out69 x8 x31) ∗ owns (c : Thread nD τ)
      arg70 fullShare (out70 x8 x32) ∗ owns (c : Thread nD τ) arg71 fullShare (out71 x1) ∗ owns
      (c : Thread nD τ) arg72 fullShare (out72 x1 x33 x34 x35) ∗ owns (c : Thread nD τ) arg73 fullShare
      (out73 x1 x34) ∗ owns (c : Thread nD τ) arg74 fullShare (out74 x1 x35) ∗ owns (c : Thread nD τ) arg75
      fullShare (out75 x0) ∗ owns (c : Thread nD τ) arg76 fullShare (out76 x0 x36 x37 x38) ∗ owns
      (c : Thread nD τ) arg77 fullShare (out77 x0 x37) ∗ owns (c : Thread nD τ) arg78 fullShare (out78 x0 x38) ∗
      owns (c : Thread nD τ) arg79 fullShare (out79 x0)) -∗ K ⟨⟩))
      ⊢ wp frame (wpE (defs₀ (F := F)) Variants.none c none) E (cc0_adamw_small arg0 harg0 arg1 harg1 arg2 harg2
        arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19
        arg20 harg20 arg21 harg21 arg22 harg22 arg23 harg23 arg24 harg24 arg25 harg25 arg26 harg26 arg27 harg27
        arg28 harg28 arg29 harg29 arg30 harg30 arg31 harg31 arg32 harg32 arg33 harg33 arg34 harg34 arg35 harg35
        arg36 harg36 arg37 harg37 arg38 harg38 arg39 harg39 arg40 harg40 arg41 harg41 arg42 harg42 arg43 harg43
        arg44 harg44 arg45 harg45 arg46 harg46 arg47 harg47 arg48 harg48 arg49 harg49 arg50 harg50 arg51 harg51
        arg52 harg52 arg53 harg53 arg54 harg54 arg55 harg55 arg56 harg56 arg57 harg57 arg58 harg58 arg59 harg59
        arg60 harg60 arg61 harg61 arg62 harg62 arg63 harg63 arg64 harg64 arg65 harg65 arg66 harg66 arg67 harg67
        arg68 harg68 arg69 harg69 arg70 harg70 arg71 harg71 arg72 harg72 arg73 harg73 arg74 harg74 arg75 harg75
        arg76 harg76 arg77 harg77 arg78 harg78 arg79 harg79) K := by
  simp only [cc0_adamw_small_eq_skeleton]; unfold cc0_adamw_small_skel
  simp only [k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton, k0_part14_eq_skeleton, k0_part15_eq_skeleton, k0_part16_eq_skeleton,
    k0_part17_eq_skeleton, k0_part18_eq_skeleton, k0_part19_eq_skeleton, k0_part20_eq_skeleton,
    k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%f9, %hf9, H9⟩, ⟨%f10, %hf10, H10⟩, ⟨%f11, %hf11, H11⟩,
    ⟨%f12, %hf12, H12⟩, ⟨%f13, %hf13, H13⟩, ⟨%f14, %hf14, H14⟩, ⟨%f15, %hf15, H15⟩, ⟨%f16, %hf16, H16⟩,
    ⟨%f17, %hf17, H17⟩, ⟨%f18, %hf18, H18⟩, ⟨%f19, %hf19, H19⟩, ⟨%f20, %hf20, H20⟩, ⟨%f21, %hf21, H21⟩,
    ⟨%f22, %hf22, H22⟩, ⟨%f23, %hf23, H23⟩, ⟨%f24, %hf24, H24⟩, ⟨%f25, %hf25, H25⟩, ⟨%f26, %hf26, H26⟩,
    ⟨%f27, %hf27, H27⟩, ⟨%f28, %hf28, H28⟩, ⟨%f29, %hf29, H29⟩, ⟨%f30, %hf30, H30⟩, ⟨%f31, %hf31, H31⟩,
    ⟨%f32, %hf32, H32⟩, ⟨%f33, %hf33, H33⟩, ⟨%f34, %hf34, H34⟩, ⟨%f35, %hf35, H35⟩, ⟨%f36, %hf36, H36⟩,
    ⟨%f37, %hf37, H37⟩, ⟨%f38, %hf38, H38⟩, ⟨%d39, %f39, -, H39⟩, ⟨%d40, %f40, -, H40⟩, ⟨%d41, %f41, -, H41⟩,
    ⟨%d42, %f42, -, H42⟩, ⟨%d43, %f43, -, H43⟩, ⟨%d44, %f44, -, H44⟩, ⟨%d45, %f45, -, H45⟩,
    ⟨%d46, %f46, -, H46⟩, ⟨%d47, %f47, -, H47⟩, ⟨%d48, %f48, -, H48⟩, ⟨%d49, %f49, -, H49⟩,
    ⟨%d50, %f50, -, H50⟩, ⟨%d51, %f51, -, H51⟩, ⟨%d52, %f52, -, H52⟩, ⟨%d53, %f53, -, H53⟩,
    ⟨%d54, %f54, -, H54⟩, ⟨%d55, %f55, -, H55⟩, ⟨%d56, %f56, -, H56⟩, ⟨%d57, %f57, -, H57⟩,
    ⟨%d58, %f58, -, H58⟩, ⟨%d59, %f59, -, H59⟩, ⟨%d60, %f60, -, H60⟩, ⟨%d61, %f61, -, H61⟩,
    ⟨%d62, %f62, -, H62⟩, ⟨%d63, %f63, -, H63⟩, ⟨%d64, %f64, -, H64⟩, ⟨%d65, %f65, -, H65⟩,
    ⟨%d66, %f66, -, H66⟩, ⟨%d67, %f67, -, H67⟩, ⟨%d68, %f68, -, H68⟩, ⟨%d69, %f69, -, H69⟩,
    ⟨%d70, %f70, -, H70⟩, ⟨%d71, %f71, -, H71⟩, ⟨%d72, %f72, -, H72⟩, ⟨%d73, %f73, -, H73⟩,
    ⟨%d74, %f74, -, H74⟩, ⟨%d75, %f75, -, H75⟩, ⟨%d76, %f76, -, H76⟩, ⟨%d77, %f77, -, H77⟩,
    ⟨%d78, %f78, -, H78⟩, ⟨%d79, %f79, -, H79⟩, Hk⟩
  subst hf0 hf1 hf2 hf3 hf4 hf5 hf6 hf7 hf8 hf9 hf10 hf11 hf12 hf13 hf14 hf15 hf16 hf17 hf18 hf19 hf20 hf21 hf22
    hf23 hf24 hf25 hf26 hf27 hf28 hf29 hf30 hf31 hf32 hf33 hf34 hf35 hf36 hf37 hf38
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists _; isplitr
    swap; · iexact H39
    ipureintro
    refine (View.read_writes_eq_canon _ _ _ (cover_ada _ _ _ _ _ _)).trans ?_
    rfl
  isplitl [H40]
  · iexists _; isplitr
    swap; · iexact H40
    ipureintro
    refine (View.read_writes_eq_canon _ _ _ (cover_ada _ _ _ _ _ _)).trans ?_
    rfl
  isplitl [H41]
  · iexists _; isplitr
    swap; · iexact H41
    ipureintro
    refine (View.read_writes_eq_canon _ _ _ (cover_ada _ _ _ _ _ _)).trans ?_
    rfl
  isplitl [H42]
  · iexists _; isplitr
    swap; · iexact H42
    ipureintro
    refine (View.read_writes_eq_canon _ _ _ (cover_ada _ _ _ _ _ _)).trans ?_
    rfl
  isplitl [H43]
  · iexists _; isplitr
    swap; · iexact H43
    ipureintro
    refine (View.read_writes_eq_canon _ _ _ (cover_54 _)).trans ?_
    rfl
  isplitl [H44]
  · iexists _; isplitr
    swap; · iexact H44
    ipureintro
    refine (View.read_writes_eq_canon _ _ _ (cover_54 _)).trans ?_
    rfl
  isplitl [H45]
  · iexists _; isplitr
    swap; · iexact H45
    ipureintro
    refine (View.read_writes_eq_canon _ _ _ (cover_54 _)).trans ?_
    rfl
  isplitl [H46]
  · iexists _; isplitr
    swap; · iexact H46
    ipureintro
    refine (View.read_writes_eq_canon _ _ _ (cover_54 _)).trans ?_
    rfl
  isplitl [H47]
  · iexists _; isplitr
    swap; · iexact H47
    ipureintro
    refine (View.read_writes_eq_canon _ _ _ (cover_55 _)).trans ?_
    rfl
  isplitl [H48]
  · iexists _; isplitr
    swap; · iexact H48
    ipureintro
    refine (View.read_writes_eq_canon _ _ _ (cover_55 _)).trans ?_
    rfl
  isplitl [H49]
  · iexists _; isplitr
    swap; · iexact H49
    ipureintro
    refine (View.read_writes_eq_canon _ _ _ (cover_55 _)).trans ?_
    rfl
  isplitl [H50]
  · iexists _; isplitr
    swap; · iexact H50
    ipureintro
    refine (View.read_writes_eq_canon _ _ _ (cover_55 _)).trans ?_
    rfl
  isplitl [H51]
  · iexists _; isplitr
    swap; · iexact H51
    ipureintro
    refine (View.read_writes_eq_canon _ _ _ (cover_56 _)).trans ?_
    rfl
  isplitl [H52]
  · iexists _; isplitr
    swap; · iexact H52
    ipureintro
    refine (View.read_writes_eq_canon _ _ _ (cover_56 _)).trans ?_
    rfl
  isplitl [H53]
  · iexists _; isplitr
    swap; · iexact H53
    ipureintro
    refine (View.read_writes_eq_canon _ _ _ (cover_56 _)).trans ?_
    rfl
  isplitl [H54]
  · iexists _; isplitr
    swap; · iexact H54
    ipureintro
    refine (View.read_writes_eq_canon _ _ _ (cover_56 _)).trans ?_
    rfl
  isplitl [H55]
  · iexists _; isplitr
    swap; · iexact H55
    ipureintro
    refine (View.read_writes_eq_canon _ _ _ (cover_57 _)).trans ?_
    rfl
  isplitl [H56]
  · iexists _; isplitr
    swap; · iexact H56
    ipureintro
    refine (View.read_writes_eq_canon _ _ _ (cover_57 _)).trans ?_
    rfl
  isplitl [H57]
  · iexists _; isplitr
    swap; · iexact H57
    ipureintro
    refine (View.read_writes_eq_canon _ _ _ (cover_57 _)).trans ?_
    rfl
  isplitl [H58]
  · iexists _; isplitr
    swap; · iexact H58
    ipureintro
    refine (View.read_writes_eq_canon _ _ _ (cover_57 _)).trans ?_
    rfl
  isplitl [H59]
  · iexists _; isplitr
    swap; · iexact H59
    ipureintro
    refine (View.read_writes_eq_canon _ _ _ (cover_57 _)).trans ?_
    rfl
  isplitl [H60]
  · iexists _; isplitr
    swap; · iexact H60
    ipureintro
    refine (View.read_writes_eq_canon _ _ _ (cover_57 _)).trans ?_
    rfl
  isplitl [H61]
  · iexists _; isplitr
    swap; · iexact H61
    ipureintro
    refine (View.read_writes_eq_canon _ _ _ (cover_57 _)).trans ?_
    rfl
  isplitl [H62]
  · iexists _; isplitr
    swap; · iexact H62
    ipureintro
    refine (View.read_writes_eq_canon _ _ _ (cover_57 _)).trans ?_
    rfl
  isplitl [H63]
  · iexists _; isplitr
    swap; · iexact H63
    ipureintro
    refine (View.read_writes_eq_canon _ _ _ (cover_58 _)).trans ?_
    rfl
  isplitl [H64]
  · iexists _; isplitr
    swap; · iexact H64
    ipureintro
    refine (View.read_writes_eq_canon _ _ _ (cover_58 _)).trans ?_
    rfl
  isplitl [H65]
  · iexists _; isplitr
    swap; · iexact H65
    ipureintro
    refine (View.read_writes_eq_canon _ _ _ (cover_58 _)).trans ?_
    rfl
  isplitl [H66]
  · iexists _; isplitr
    swap; · iexact H66
    ipureintro
    refine (View.read_writes_eq_canon _ _ _ (cover_58 _)).trans ?_
    rfl
  isplitl [H67]
  · iexists _; isplitr
    swap; · iexact H67
    ipureintro
    refine (View.read_writes_eq_canon _ _ _ (cover_59 _)).trans ?_
    rfl
  isplitl [H68]
  · iexists _; isplitr
    swap; · iexact H68
    ipureintro
    refine (View.read_writes_eq_canon _ _ _ (cover_59 _)).trans ?_
    rfl
  isplitl [H69]
  · iexists _; isplitr
    swap; · iexact H69
    ipureintro
    refine (View.read_writes_eq_canon _ _ _ (cover_59 _)).trans ?_
    rfl
  isplitl [H70]
  · iexists _; isplitr
    swap; · iexact H70
    ipureintro
    refine (View.read_writes_eq_canon _ _ _ (cover_59 _)).trans ?_
    rfl
  isplitl [H71]
  · iexists _; isplitr
    swap; · iexact H71
    ipureintro
    refine (View.read_writes_eq_canon _ _ _ (cover_54 _)).trans ?_
    rfl
  isplitl [H72]
  · iexists _; isplitr
    swap; · iexact H72
    ipureintro
    refine (View.read_writes_eq_canon _ _ _ (cover_54 _)).trans ?_
    rfl
  isplitl [H73]
  · iexists _; isplitr
    swap; · iexact H73
    ipureintro
    refine (View.read_writes_eq_canon _ _ _ (cover_54 _)).trans ?_
    rfl
  isplitl [H74]
  · iexists _; isplitr
    swap; · iexact H74
    ipureintro
    refine (View.read_writes_eq_canon _ _ _ (cover_54 _)).trans ?_
    rfl
  isplitl [H75]
  · iexists _; isplitr
    swap; · iexact H75
    ipureintro
    refine (View.read_writes_eq_canon _ _ _ (cover_54 _)).trans ?_
    rfl
  isplitl [H76]
  · iexists _; isplitr
    swap; · iexact H76
    ipureintro
    refine (View.read_writes_eq_canon _ _ _ (cover_54 _)).trans ?_
    rfl
  isplitl [H77]
  · iexists _; isplitr
    swap; · iexact H77
    ipureintro
    refine (View.read_writes_eq_canon _ _ _ (cover_54 _)).trans ?_
    rfl
  isplitl [H78]
  · iexists _; isplitr
    swap; · iexact H78
    ipureintro
    refine (View.read_writes_eq_canon _ _ _ (cover_54 _)).trans ?_
    rfl
  iexists _; isplitr
  swap; · iexact H79
  ipureintro
  refine (View.read_writes_eq_canon _ _ _ (cover_60 _)).trans ?_
  rfl

end Cert.SmallRun

end
-- ==== Proof.SmallData.lean ====
/- What the run of the optimiser's step on the small weights holds at the one point of its grid. -/
module

public import Idealize.ShloMosaic.Lib.Pipeline.FrameBody
public import Idealize.ShloMosaic.Lib.Claim
public import Idealize.ShloMosaic.Lib.Ring
public import Idealize.ShloMosaic.Lib.Tactic
public import proofs.«01_k».proof.Proof.Gen.Kernel11Ideal.Launch
public import proofs.«01_k».proof.Proof.Gen.Kernel11Ideal.Points
public import proofs.«01_k».proof.Proof.SmallBody

@[expose] public section

set_option maxRecDepth 16384

noncomputable section

namespace Cert.SmallRun

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: after the host operations `hostOps0`
 . -/
abbrev V (c : Dev nD) (b : Ref sig .tc) : Buf (Elt F) ((c : Thread nD τ).loc b) := StableHlo.after hostOps0
  (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0
  defs₀ 𝒱₀ m (main (F := F)) (V m) :=
  Pipeline.hmain_prefix cfgs 0 defs₀ 𝒱₀ m main hostOps0 hostOps0_sub hostOps0_fresh main_chain

/-- A buffer that no host operation writes is found as launched. -/
theorem V_kept (c : Dev nD) (b : Ref sig .tc)
    (h : ∀ d ∈ [main_v0, main_v1, main_v2, main_v3, main_v4, main_v5, main_v6, main_v7, main_v8, main_v9,
      main_v10,
      main_v11], b ≠ d) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    repeat' apply And.intro
    all_goals exact StableHlo.devRef_ne_of_ne (h _ (by simp))))

/-- Window `w`'s block at point `t`, read off its array as the region finds it (`V`). -/
def iblk (c : Dev nD) (w : Fin cfg0.W) (t : Fin cfg0.N) : ((cfg0.win w).xblock (cfg0.grid.coords t)).Idx → Elt F
  (cfg0.win w).elt :=
  ((cfg0.win w).blk t).view.read (Elt F) (V m c (Pipeline.arrRef spec0 w))

/-- The proof data: the arrays as found, the inputs' buffers at their blocks, the outputs' at what the body
  leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => out39 (iblk m c 0 t) (iblk m c 1 t) (iblk m c 2 t)
    | ⟨40, _⟩ => out40 (iblk m c 0 t) (iblk m c 1 t) (iblk m c 2 t) (iblk m c 9 t) (iblk m c 10 t)
      (iblk m c 11 t)
    | ⟨41, _⟩ => out41 (iblk m c 0 t) (iblk m c 1 t) (iblk m c 2 t) (iblk m c 10 t)
    | ⟨42, _⟩ => out42 (iblk m c 0 t) (iblk m c 1 t) (iblk m c 2 t) (iblk m c 11 t)
    | ⟨43, _⟩ => out43 (iblk m c 2 t)
    | ⟨44, _⟩ => out44 (iblk m c 2 t) (iblk m c 12 t) (iblk m c 13 t) (iblk m c 14 t)
    | ⟨45, _⟩ => out45 (iblk m c 2 t) (iblk m c 13 t)
    | ⟨46, _⟩ => out46 (iblk m c 2 t) (iblk m c 14 t)
    | ⟨47, _⟩ => out47 (iblk m c 3 t)
    | ⟨48, _⟩ => out48 (iblk m c 3 t) (iblk m c 15 t) (iblk m c 16 t) (iblk m c 17 t)
    | ⟨49, _⟩ => out49 (iblk m c 3 t) (iblk m c 16 t)
    | ⟨50, _⟩ => out50 (iblk m c 3 t) (iblk m c 17 t)
    | ⟨51, _⟩ => out51 (iblk m c 4 t)
    | ⟨52, _⟩ => out52 (iblk m c 4 t) (iblk m c 18 t) (iblk m c 19 t) (iblk m c 20 t)
    | ⟨53, _⟩ => out53 (iblk m c 4 t) (iblk m c 19 t)
    | ⟨54, _⟩ => out54 (iblk m c 4 t) (iblk m c 20 t)
    | ⟨55, _⟩ => out55 (iblk m c 5 t)
    | ⟨56, _⟩ => out56 (iblk m c 5 t) (iblk m c 21 t) (iblk m c 22 t) (iblk m c 23 t)
    | ⟨57, _⟩ => out57 (iblk m c 5 t) (iblk m c 22 t)
    | ⟨58, _⟩ => out58 (iblk m c 5 t) (iblk m c 23 t)
    | ⟨59, _⟩ => out59 (iblk m c 6 t)
    | ⟨60, _⟩ => out60 (iblk m c 6 t) (iblk m c 24 t) (iblk m c 25 t) (iblk m c 26 t)
    | ⟨61, _⟩ => out61 (iblk m c 6 t) (iblk m c 25 t)
    | ⟨62, _⟩ => out62 (iblk m c 6 t) (iblk m c 26 t)
    | ⟨63, _⟩ => out63 (iblk m c 7 t)
    | ⟨64, _⟩ => out64 (iblk m c 7 t) (iblk m c 27 t) (iblk m c 28 t) (iblk m c 29 t)
    | ⟨65, _⟩ => out65 (iblk m c 7 t) (iblk m c 28 t)
    | ⟨66, _⟩ => out66 (iblk m c 7 t) (iblk m c 29 t)
    | ⟨67, _⟩ => out67 (iblk m c 8 t)
    | ⟨68, _⟩ => out68 (iblk m c 8 t) (iblk m c 30 t) (iblk m c 31 t) (iblk m c 32 t)
    | ⟨69, _⟩ => out69 (iblk m c 8 t) (iblk m c 31 t)
    | ⟨70, _⟩ => out70 (iblk m c 8 t) (iblk m c 32 t)
    | ⟨71, _⟩ => out71 (iblk m c 1 t)
    | ⟨72, _⟩ => out72 (iblk m c 1 t) (iblk m c 33 t) (iblk m c 34 t) (iblk m c 35 t)
    | ⟨73, _⟩ => out73 (iblk m c 1 t) (iblk m c 34 t)
    | ⟨74, _⟩ => out74 (iblk m c 1 t) (iblk m c 35 t)
    | ⟨75, _⟩ => out75 (iblk m c 0 t)
    | ⟨76, _⟩ => out76 (iblk m c 0 t) (iblk m c 36 t) (iblk m c 37 t) (iblk m c 38 t)
    | ⟨77, _⟩ => out77 (iblk m c 0 t) (iblk m c 37 t)
    | ⟨78, _⟩ => out78 (iblk m c 0 t) (iblk m c 38 t)
    | ⟨79, _⟩ => out79 (iblk m c 0 t)
    | ⟨_ + 80, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section After

variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = iblk m c 10 t := by dsimp only [dats]
theorem after11 : (dats m 0 c).after 11 t = iblk m c 11 t := by dsimp only [dats]
theorem after12 : (dats m 0 c).after 12 t = iblk m c 12 t := by dsimp only [dats]
theorem after13 : (dats m 0 c).after 13 t = iblk m c 13 t := by dsimp only [dats]
theorem after14 : (dats m 0 c).after 14 t = iblk m c 14 t := by dsimp only [dats]
theorem after15 : (dats m 0 c).after 15 t = iblk m c 15 t := by dsimp only [dats]
theorem after16 : (dats m 0 c).after 16 t = iblk m c 16 t := by dsimp only [dats]
theorem after17 : (dats m 0 c).after 17 t = iblk m c 17 t := by dsimp only [dats]
theorem after18 : (dats m 0 c).after 18 t = iblk m c 18 t := by dsimp only [dats]
theorem after19 : (dats m 0 c).after 19 t = iblk m c 19 t := by dsimp only [dats]
theorem after20 : (dats m 0 c).after 20 t = iblk m c 20 t := by dsimp only [dats]
theorem after21 : (dats m 0 c).after 21 t = iblk m c 21 t := by dsimp only [dats]
theorem after22 : (dats m 0 c).after 22 t = iblk m c 22 t := by dsimp only [dats]
theorem after23 : (dats m 0 c).after 23 t = iblk m c 23 t := by dsimp only [dats]
theorem after24 : (dats m 0 c).after 24 t = iblk m c 24 t := by dsimp only [dats]
theorem after25 : (dats m 0 c).after 25 t = iblk m c 25 t := by dsimp only [dats]
theorem after26 : (dats m 0 c).after 26 t = iblk m c 26 t := by dsimp only [dats]
theorem after27 : (dats m 0 c).after 27 t = iblk m c 27 t := by dsimp only [dats]
theorem after28 : (dats m 0 c).after 28 t = iblk m c 28 t := by dsimp only [dats]
theorem after29 : (dats m 0 c).after 29 t = iblk m c 29 t := by dsimp only [dats]
theorem after30 : (dats m 0 c).after 30 t = iblk m c 30 t := by dsimp only [dats]
theorem after31 : (dats m 0 c).after 31 t = iblk m c 31 t := by dsimp only [dats]
theorem after32 : (dats m 0 c).after 32 t = iblk m c 32 t := by dsimp only [dats]
theorem after33 : (dats m 0 c).after 33 t = iblk m c 33 t := by dsimp only [dats]
theorem after34 : (dats m 0 c).after 34 t = iblk m c 34 t := by dsimp only [dats]
theorem after35 : (dats m 0 c).after 35 t = iblk m c 35 t := by dsimp only [dats]
theorem after36 : (dats m 0 c).after 36 t = iblk m c 36 t := by dsimp only [dats]
theorem after37 : (dats m 0 c).after 37 t = iblk m c 37 t := by dsimp only [dats]
theorem after38 : (dats m 0 c).after 38 t = iblk m c 38 t := by dsimp only [dats]
theorem after39 : (dats m 0 c).after 39 t = out39 (iblk m c 0 t) (iblk m c 1 t) (iblk m c 2 t) := by
  dsimp only [dats]
theorem after40 : (dats m 0 c).after 40 t = out40 (iblk m c 0 t) (iblk m c 1 t) (iblk m c 2 t) (iblk m c 9 t)
  (iblk m c 10 t) (iblk m c 11 t) := by
  dsimp only [dats]
theorem after41 : (dats m 0 c).after 41 t = out41 (iblk m c 0 t) (iblk m c 1 t) (iblk m c 2 t) (iblk m c 10 t)
  := by
  dsimp only [dats]
theorem after42 : (dats m 0 c).after 42 t = out42 (iblk m c 0 t) (iblk m c 1 t) (iblk m c 2 t) (iblk m c 11 t)
  := by
  dsimp only [dats]
theorem after43 : (dats m 0 c).after 43 t = out43 (iblk m c 2 t) := by
  dsimp only [dats]
theorem after44 : (dats m 0 c).after 44 t = out44 (iblk m c 2 t) (iblk m c 12 t) (iblk m c 13 t) (iblk m c 14 t)
  := by
  dsimp only [dats]
theorem after45 : (dats m 0 c).after 45 t = out45 (iblk m c 2 t) (iblk m c 13 t) := by
  dsimp only [dats]
theorem after46 : (dats m 0 c).after 46 t = out46 (iblk m c 2 t) (iblk m c 14 t) := by
  dsimp only [dats]
theorem after47 : (dats m 0 c).after 47 t = out47 (iblk m c 3 t) := by
  dsimp only [dats]
theorem after48 : (dats m 0 c).after 48 t = out48 (iblk m c 3 t) (iblk m c 15 t) (iblk m c 16 t) (iblk m c 17 t)
  := by
  dsimp only [dats]
theorem after49 : (dats m 0 c).after 49 t = out49 (iblk m c 3 t) (iblk m c 16 t) := by
  dsimp only [dats]
theorem after50 : (dats m 0 c).after 50 t = out50 (iblk m c 3 t) (iblk m c 17 t) := by
  dsimp only [dats]
theorem after51 : (dats m 0 c).after 51 t = out51 (iblk m c 4 t) := by
  dsimp only [dats]
theorem after52 : (dats m 0 c).after 52 t = out52 (iblk m c 4 t) (iblk m c 18 t) (iblk m c 19 t) (iblk m c 20 t)
  := by
  dsimp only [dats]
theorem after53 : (dats m 0 c).after 53 t = out53 (iblk m c 4 t) (iblk m c 19 t) := by
  dsimp only [dats]
theorem after54 : (dats m 0 c).after 54 t = out54 (iblk m c 4 t) (iblk m c 20 t) := by
  dsimp only [dats]
theorem after55 : (dats m 0 c).after 55 t = out55 (iblk m c 5 t) := by
  dsimp only [dats]
theorem after56 : (dats m 0 c).after 56 t = out56 (iblk m c 5 t) (iblk m c 21 t) (iblk m c 22 t) (iblk m c 23 t)
  := by
  dsimp only [dats]
theorem after57 : (dats m 0 c).after 57 t = out57 (iblk m c 5 t) (iblk m c 22 t) := by
  dsimp only [dats]
theorem after58 : (dats m 0 c).after 58 t = out58 (iblk m c 5 t) (iblk m c 23 t) := by
  dsimp only [dats]
theorem after59 : (dats m 0 c).after 59 t = out59 (iblk m c 6 t) := by
  dsimp only [dats]
theorem after60 : (dats m 0 c).after 60 t = out60 (iblk m c 6 t) (iblk m c 24 t) (iblk m c 25 t) (iblk m c 26 t)
  := by
  dsimp only [dats]
theorem after61 : (dats m 0 c).after 61 t = out61 (iblk m c 6 t) (iblk m c 25 t) := by
  dsimp only [dats]
theorem after62 : (dats m 0 c).after 62 t = out62 (iblk m c 6 t) (iblk m c 26 t) := by
  dsimp only [dats]
theorem after63 : (dats m 0 c).after 63 t = out63 (iblk m c 7 t) := by
  dsimp only [dats]
theorem after64 : (dats m 0 c).after 64 t = out64 (iblk m c 7 t) (iblk m c 27 t) (iblk m c 28 t) (iblk m c 29 t)
  := by
  dsimp only [dats]
theorem after65 : (dats m 0 c).after 65 t = out65 (iblk m c 7 t) (iblk m c 28 t) := by
  dsimp only [dats]
theorem after66 : (dats m 0 c).after 66 t = out66 (iblk m c 7 t) (iblk m c 29 t) := by
  dsimp only [dats]
theorem after67 : (dats m 0 c).after 67 t = out67 (iblk m c 8 t) := by
  dsimp only [dats]
theorem after68 : (dats m 0 c).after 68 t = out68 (iblk m c 8 t) (iblk m c 30 t) (iblk m c 31 t) (iblk m c 32 t)
  := by
  dsimp only [dats]
theorem after69 : (dats m 0 c).after 69 t = out69 (iblk m c 8 t) (iblk m c 31 t) := by
  dsimp only [dats]
theorem after70 : (dats m 0 c).after 70 t = out70 (iblk m c 8 t) (iblk m c 32 t) := by
  dsimp only [dats]
theorem after71 : (dats m 0 c).after 71 t = out71 (iblk m c 1 t) := by
  dsimp only [dats]
theorem after72 : (dats m 0 c).after 72 t = out72 (iblk m c 1 t) (iblk m c 33 t) (iblk m c 34 t) (iblk m c 35 t)
  := by
  dsimp only [dats]
theorem after73 : (dats m 0 c).after 73 t = out73 (iblk m c 1 t) (iblk m c 34 t) := by
  dsimp only [dats]
theorem after74 : (dats m 0 c).after 74 t = out74 (iblk m c 1 t) (iblk m c 35 t) := by
  dsimp only [dats]
theorem after75 : (dats m 0 c).after 75 t = out75 (iblk m c 0 t) := by
  dsimp only [dats]
theorem after76 : (dats m 0 c).after 76 t = out76 (iblk m c 0 t) (iblk m c 36 t) (iblk m c 37 t) (iblk m c 38 t)
  := by
  dsimp only [dats]
theorem after77 : (dats m 0 c).after 77 t = out77 (iblk m c 0 t) (iblk m c 37 t) := by
  dsimp only [dats]
theorem after78 : (dats m 0 c).after 78 t = out78 (iblk m c 0 t) (iblk m c 38 t) := by
  dsimp only [dats]
theorem after79 : (dats m 0 c).after 79 t = out79 (iblk m c 0 t) := by
  dsimp only [dats]

/-! Each input's buffer holds its block before the body too. -/

theorem before0 (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

theorem before1 (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

theorem before2 (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

theorem before3 (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

theorem before4 (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

theorem before5 (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

theorem before6 (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

theorem before7 (d) : (dats m 0 c).before 7 t d = iblk m c 7 t :=
  ((dats m 0 c).before_in_eq_fetched 7 rfl (fun _ => rfl) (fun _ _ _ => rfl)
    (fun t => by rw [after7]; unfold Dat.blockOf iblk; rw [A_eq]; try rfl) t d).trans
    (by unfold Dat.fetched Dat.blockOf iblk; rw [A_eq]; try rfl)

theorem before8 (d) : (dats m 0 c).before 8 t d = iblk m c 8 t :=
  ((dats m 0 c).before_in_eq_fetched 8 rfl (fun _ => rfl) (fun _ _ _ => rfl)
    (fun t => by rw [after8]; unfold Dat.blockOf iblk; rw [A_eq]; try rfl) t d).trans
    (by unfold Dat.fetched Dat.blockOf iblk; rw [A_eq]; try rfl)

theorem before9 (d) : (dats m 0 c).before 9 t d = iblk m c 9 t :=
  ((dats m 0 c).before_in_eq_fetched 9 rfl (fun _ => rfl) (fun _ _ _ => rfl)
    (fun t => by rw [after9]; unfold Dat.blockOf iblk; rw [A_eq]; try rfl) t d).trans
    (by unfold Dat.fetched Dat.blockOf iblk; rw [A_eq]; try rfl)

theorem before10 (d) : (dats m 0 c).before 10 t d = iblk m c 10 t :=
  ((dats m 0 c).before_in_eq_fetched 10 rfl (fun _ => rfl) (fun _ _ _ => rfl)
    (fun t => by rw [after10]; unfold Dat.blockOf iblk; rw [A_eq]; try rfl) t d).trans
    (by unfold Dat.fetched Dat.blockOf iblk; rw [A_eq]; try rfl)

theorem before11 (d) : (dats m 0 c).before 11 t d = iblk m c 11 t :=
  ((dats m 0 c).before_in_eq_fetched 11 rfl (fun _ => rfl) (fun _ _ _ => rfl)
    (fun t => by rw [after11]; unfold Dat.blockOf iblk; rw [A_eq]; try rfl) t d).trans
    (by unfold Dat.fetched Dat.blockOf iblk; rw [A_eq]; try rfl)

theorem before12 (d) : (dats m 0 c).before 12 t d = iblk m c 12 t :=
  ((dats m 0 c).before_in_eq_fetched 12 rfl (fun _ => rfl) (fun _ _ _ => rfl)
    (fun t => by rw [after12]; unfold Dat.blockOf iblk; rw [A_eq]; try rfl) t d).trans
    (by unfold Dat.fetched Dat.blockOf iblk; rw [A_eq]; try rfl)

theorem before13 (d) : (dats m 0 c).before 13 t d = iblk m c 13 t :=
  ((dats m 0 c).before_in_eq_fetched 13 rfl (fun _ => rfl) (fun _ _ _ => rfl)
    (fun t => by rw [after13]; unfold Dat.blockOf iblk; rw [A_eq]; try rfl) t d).trans
    (by unfold Dat.fetched Dat.blockOf iblk; rw [A_eq]; try rfl)

theorem before14 (d) : (dats m 0 c).before 14 t d = iblk m c 14 t :=
  ((dats m 0 c).before_in_eq_fetched 14 rfl (fun _ => rfl) (fun _ _ _ => rfl)
    (fun t => by rw [after14]; unfold Dat.blockOf iblk; rw [A_eq]; try rfl) t d).trans
    (by unfold Dat.fetched Dat.blockOf iblk; rw [A_eq]; try rfl)

theorem before15 (d) : (dats m 0 c).before 15 t d = iblk m c 15 t :=
  ((dats m 0 c).before_in_eq_fetched 15 rfl (fun _ => rfl) (fun _ _ _ => rfl)
    (fun t => by rw [after15]; unfold Dat.blockOf iblk; rw [A_eq]; try rfl) t d).trans
    (by unfold Dat.fetched Dat.blockOf iblk; rw [A_eq]; try rfl)

theorem before16 (d) : (dats m 0 c).before 16 t d = iblk m c 16 t :=
  ((dats m 0 c).before_in_eq_fetched 16 rfl (fun _ => rfl) (fun _ _ _ => rfl)
    (fun t => by rw [after16]; unfold Dat.blockOf iblk; rw [A_eq]; try rfl) t d).trans
    (by unfold Dat.fetched Dat.blockOf iblk; rw [A_eq]; try rfl)

theorem before17 (d) : (dats m 0 c).before 17 t d = iblk m c 17 t :=
  ((dats m 0 c).before_in_eq_fetched 17 rfl (fun _ => rfl) (fun _ _ _ => rfl)
    (fun t => by rw [after17]; unfold Dat.blockOf iblk; rw [A_eq]; try rfl) t d).trans
    (by unfold Dat.fetched Dat.blockOf iblk; rw [A_eq]; try rfl)

theorem before18 (d) : (dats m 0 c).before 18 t d = iblk m c 18 t :=
  ((dats m 0 c).before_in_eq_fetched 18 rfl (fun _ => rfl) (fun _ _ _ => rfl)
    (fun t => by rw [after18]; unfold Dat.blockOf iblk; rw [A_eq]; try rfl) t d).trans
    (by unfold Dat.fetched Dat.blockOf iblk; rw [A_eq]; try rfl)

theorem before19 (d) : (dats m 0 c).before 19 t d = iblk m c 19 t :=
  ((dats m 0 c).before_in_eq_fetched 19 rfl (fun _ => rfl) (fun _ _ _ => rfl)
    (fun t => by rw [after19]; unfold Dat.blockOf iblk; rw [A_eq]; try rfl) t d).trans
    (by unfold Dat.fetched Dat.blockOf iblk; rw [A_eq]; try rfl)

theorem before20 (d) : (dats m 0 c).before 20 t d = iblk m c 20 t :=
  ((dats m 0 c).before_in_eq_fetched 20 rfl (fun _ => rfl) (fun _ _ _ => rfl)
    (fun t => by rw [after20]; unfold Dat.blockOf iblk; rw [A_eq]; try rfl) t d).trans
    (by unfold Dat.fetched Dat.blockOf iblk; rw [A_eq]; try rfl)

theorem before21 (d) : (dats m 0 c).before 21 t d = iblk m c 21 t :=
  ((dats m 0 c).before_in_eq_fetched 21 rfl (fun _ => rfl) (fun _ _ _ => rfl)
    (fun t => by rw [after21]; unfold Dat.blockOf iblk; rw [A_eq]; try rfl) t d).trans
    (by unfold Dat.fetched Dat.blockOf iblk; rw [A_eq]; try rfl)

theorem before22 (d) : (dats m 0 c).before 22 t d = iblk m c 22 t :=
  ((dats m 0 c).before_in_eq_fetched 22 rfl (fun _ => rfl) (fun _ _ _ => rfl)
    (fun t => by rw [after22]; unfold Dat.blockOf iblk; rw [A_eq]; try rfl) t d).trans
    (by unfold Dat.fetched Dat.blockOf iblk; rw [A_eq]; try rfl)

theorem before23 (d) : (dats m 0 c).before 23 t d = iblk m c 23 t :=
  ((dats m 0 c).before_in_eq_fetched 23 rfl (fun _ => rfl) (fun _ _ _ => rfl)
    (fun t => by rw [after23]; unfold Dat.blockOf iblk; rw [A_eq]; try rfl) t d).trans
    (by unfold Dat.fetched Dat.blockOf iblk; rw [A_eq]; try rfl)

theorem before24 (d) : (dats m 0 c).before 24 t d = iblk m c 24 t :=
  ((dats m 0 c).before_in_eq_fetched 24 rfl (fun _ => rfl) (fun _ _ _ => rfl)
    (fun t => by rw [after24]; unfold Dat.blockOf iblk; rw [A_eq]; try rfl) t d).trans
    (by unfold Dat.fetched Dat.blockOf iblk; rw [A_eq]; try rfl)

theorem before25 (d) : (dats m 0 c).before 25 t d = iblk m c 25 t :=
  ((dats m 0 c).before_in_eq_fetched 25 rfl (fun _ => rfl) (fun _ _ _ => rfl)
    (fun t => by rw [after25]; unfold Dat.blockOf iblk; rw [A_eq]; try rfl) t d).trans
    (by unfold Dat.fetched Dat.blockOf iblk; rw [A_eq]; try rfl)

theorem before26 (d) : (dats m 0 c).before 26 t d = iblk m c 26 t :=
  ((dats m 0 c).before_in_eq_fetched 26 rfl (fun _ => rfl) (fun _ _ _ => rfl)
    (fun t => by rw [after26]; unfold Dat.blockOf iblk; rw [A_eq]; try rfl) t d).trans
    (by unfold Dat.fetched Dat.blockOf iblk; rw [A_eq]; try rfl)

theorem before27 (d) : (dats m 0 c).before 27 t d = iblk m c 27 t :=
  ((dats m 0 c).before_in_eq_fetched 27 rfl (fun _ => rfl) (fun _ _ _ => rfl)
    (fun t => by rw [after27]; unfold Dat.blockOf iblk; rw [A_eq]; try rfl) t d).trans
    (by unfold Dat.fetched Dat.blockOf iblk; rw [A_eq]; try rfl)

theorem before28 (d) : (dats m 0 c).before 28 t d = iblk m c 28 t :=
  ((dats m 0 c).before_in_eq_fetched 28 rfl (fun _ => rfl) (fun _ _ _ => rfl)
    (fun t => by rw [after28]; unfold Dat.blockOf iblk; rw [A_eq]; try rfl) t d).trans
    (by unfold Dat.fetched Dat.blockOf iblk; rw [A_eq]; try rfl)

theorem before29 (d) : (dats m 0 c).before 29 t d = iblk m c 29 t :=
  ((dats m 0 c).before_in_eq_fetched 29 rfl (fun _ => rfl) (fun _ _ _ => rfl)
    (fun t => by rw [after29]; unfold Dat.blockOf iblk; rw [A_eq]; try rfl) t d).trans
    (by unfold Dat.fetched Dat.blockOf iblk; rw [A_eq]; try rfl)

theorem before30 (d) : (dats m 0 c).before 30 t d = iblk m c 30 t :=
  ((dats m 0 c).before_in_eq_fetched 30 rfl (fun _ => rfl) (fun _ _ _ => rfl)
    (fun t => by rw [after30]; unfold Dat.blockOf iblk; rw [A_eq]; try rfl) t d).trans
    (by unfold Dat.fetched Dat.blockOf iblk; rw [A_eq]; try rfl)

theorem before31 (d) : (dats m 0 c).before 31 t d = iblk m c 31 t :=
  ((dats m 0 c).before_in_eq_fetched 31 rfl (fun _ => rfl) (fun _ _ _ => rfl)
    (fun t => by rw [after31]; unfold Dat.blockOf iblk; rw [A_eq]; try rfl) t d).trans
    (by unfold Dat.fetched Dat.blockOf iblk; rw [A_eq]; try rfl)

theorem before32 (d) : (dats m 0 c).before 32 t d = iblk m c 32 t :=
  ((dats m 0 c).before_in_eq_fetched 32 rfl (fun _ => rfl) (fun _ _ _ => rfl)
    (fun t => by rw [after32]; unfold Dat.blockOf iblk; rw [A_eq]; try rfl) t d).trans
    (by unfold Dat.fetched Dat.blockOf iblk; rw [A_eq]; try rfl)

theorem before33 (d) : (dats m 0 c).before 33 t d = iblk m c 33 t :=
  ((dats m 0 c).before_in_eq_fetched 33 rfl (fun _ => rfl) (fun _ _ _ => rfl)
    (fun t => by rw [after33]; unfold Dat.blockOf iblk; rw [A_eq]; try rfl) t d).trans
    (by unfold Dat.fetched Dat.blockOf iblk; rw [A_eq]; try rfl)

theorem before34 (d) : (dats m 0 c).before 34 t d = iblk m c 34 t :=
  ((dats m 0 c).before_in_eq_fetched 34 rfl (fun _ => rfl) (fun _ _ _ => rfl)
    (fun t => by rw [after34]; unfold Dat.blockOf iblk; rw [A_eq]; try rfl) t d).trans
    (by unfold Dat.fetched Dat.blockOf iblk; rw [A_eq]; try rfl)

theorem before35 (d) : (dats m 0 c).before 35 t d = iblk m c 35 t :=
  ((dats m 0 c).before_in_eq_fetched 35 rfl (fun _ => rfl) (fun _ _ _ => rfl)
    (fun t => by rw [after35]; unfold Dat.blockOf iblk; rw [A_eq]; try rfl) t d).trans
    (by unfold Dat.fetched Dat.blockOf iblk; rw [A_eq]; try rfl)

theorem before36 (d) : (dats m 0 c).before 36 t d = iblk m c 36 t :=
  ((dats m 0 c).before_in_eq_fetched 36 rfl (fun _ => rfl) (fun _ _ _ => rfl)
    (fun t => by rw [after36]; unfold Dat.blockOf iblk; rw [A_eq]; try rfl) t d).trans
    (by unfold Dat.fetched Dat.blockOf iblk; rw [A_eq]; try rfl)

theorem before37 (d) : (dats m 0 c).before 37 t d = iblk m c 37 t :=
  ((dats m 0 c).before_in_eq_fetched 37 rfl (fun _ => rfl) (fun _ _ _ => rfl)
    (fun t => by rw [after37]; unfold Dat.blockOf iblk; rw [A_eq]; try rfl) t d).trans
    (by unfold Dat.fetched Dat.blockOf iblk; rw [A_eq]; try rfl)

theorem before38 (d) : (dats m 0 c).before 38 t d = iblk m c 38 t :=
  ((dats m 0 c).before_in_eq_fetched 38 rfl (fun _ => rfl) (fun _ _ _ => rfl)
    (fun t => by rw [after38]; unfold Dat.blockOf iblk; rw [A_eq]; try rfl) t d).trans
    (by unfold Dat.fetched Dat.blockOf iblk; rw [A_eq]; try rfl)

end After

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d))
    ∗ (∃ d, owns (c : Thread nD τ) (st0_69 t) fullShare ((dats m 0 c).before 69 t d))
    ∗ (∃ d, owns (c : Thread nD τ) (st0_70 t) fullShare ((dats m 0 c).before 70 t d))
    ∗ (∃ d, owns (c : Thread nD τ) (st0_71 t) fullShare ((dats m 0 c).before 71 t d))
    ∗ (∃ d, owns (c : Thread nD τ) (st0_72 t) fullShare ((dats m 0 c).before 72 t d))
    ∗ (∃ d, owns (c : Thread nD τ) (st0_73 t) fullShare ((dats m 0 c).before 73 t d))
    ∗ (∃ d, owns (c : Thread nD τ) (st0_74 t) fullShare ((dats m 0 c).before 74 t d))
    ∗ (∃ d, owns (c : Thread nD τ) (st0_75 t) fullShare ((dats m 0 c).before 75 t d))
    ∗ (∃ d, owns (c : Thread nD τ) (st0_76 t) fullShare ((dats m 0 c).before 76 t d))
    ∗ (∃ d, owns (c : Thread nD τ) (st0_77 t) fullShare ((dats m 0 c).before 77 t d))
    ∗ (∃ d, owns (c : Thread nD τ) (st0_78 t) fullShare ((dats m 0 c).before 78 t d))
    ∗ (∃ d, owns (c : Thread nD τ) (st0_79 t) fullShare ((dats m 0 c).before 79 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t)
    ∗ owns (c : Thread nD τ) (st0_69 t) fullShare ((dats m 0 c).after 69 t)
    ∗ owns (c : Thread nD τ) (st0_70 t) fullShare ((dats m 0 c).after 70 t)
    ∗ owns (c : Thread nD τ) (st0_71 t) fullShare ((dats m 0 c).after 71 t)
    ∗ owns (c : Thread nD τ) (st0_72 t) fullShare ((dats m 0 c).after 72 t)
    ∗ owns (c : Thread nD τ) (st0_73 t) fullShare ((dats m 0 c).after 73 t)
    ∗ owns (c : Thread nD τ) (st0_74 t) fullShare ((dats m 0 c).after 74 t)
    ∗ owns (c : Thread nD τ) (st0_75 t) fullShare ((dats m 0 c).after 75 t)
    ∗ owns (c : Thread nD τ) (st0_76 t) fullShare ((dats m 0 c).after 76 t)
    ∗ owns (c : Thread nD τ) (st0_77 t) fullShare ((dats m 0 c).after 77 t)
    ∗ owns (c : Thread nD τ) (st0_78 t) fullShare ((dats m 0 c).after 78 t)
    ∗ owns (c : Thread nD τ) (st0_79 t) fullShare ((dats m 0 c).after 79 t))

end Cert.SmallRun

end
-- ==== Proof.SmallPoint.lean ====
/- The body of the optimiser's step on the small weights, at the one point of its grid. -/
module

public import Idealize.ShloMosaic.Lib.Pipeline.FrameBody
public import Idealize.ShloMosaic.Lib.Claim
public import Idealize.ShloMosaic.Lib.Ring
public import Idealize.ShloMosaic.Lib.Tactic
public import proofs.«01_k».proof.Proof.Gen.Kernel11Ideal.Launch
public import proofs.«01_k».proof.Proof.Gen.Kernel11Ideal.Points
public import proofs.«01_k».proof.Proof.SmallData

@[expose] public section

set_option maxRecDepth 16384

noncomputable section

namespace Cert.SmallRun

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at any point: the inputs' memrefs hold their blocks (`beforeW`), so `body_runs` applies; the
  invariant and
    the core's `owes` pass through unread. -/
theorem body_at (c : Dev nD) (t : Fin cfg0.N) :
    bodyPre m c t ⊢ wp frame (wpE (defs₀ (F := F)) Variants.none c none) Set.univ (bodyAt0 t)
      (fun _ => bodyPost m c t) := by
  unfold bodyPre bodyPost bodyAt0
  simp only [before0, before1, before2, before3, before4, before5, before6, before7, before8, before9, before10,
    before11, before12, before13, before14, before15, before16, before17, before18, before19, before20,
    before21, before22, before23, before24, before25, before26, before27, before28, before29, before30,
    before31, before32, before33, before34, before35, before36, before37, before38]
  rw [show (dats m 0 c).Φ t.succ = (dats m 0 c).Φ t.castSucc from rfl,
    show (dats m 0 c).owesAt () t.succ = (dats m 0 c).owesAt () t.castSucc from rfl]
  simp only [after0, after1, after2, after3, after4, after5, after6, after7, after8, after9, after10, after11, after12,
      after13, after14, after15, after16, after17, after18, after19, after20, after21, after22, after23,
      after24, after25, after26, after27, after28, after29, after30, after31, after32, after33, after34,
      after35, after36, after37, after38, after39, after40, after41, after42, after43, after44, after45,
      after46, after47, after48, after49, after50, after51, after52, after53, after54, after55, after56,
      after57, after58, after59, after60, after61, after62, after63, after64, after65, after66, after67,
      after68, after69, after70, after71, after72, after73, after74, after75, after76, after77, after78,
      after79]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩,
    ⟨%d8, H8⟩, ⟨%d9, H9⟩, ⟨%d10, H10⟩, ⟨%d11, H11⟩, ⟨%d12, H12⟩, ⟨%d13, H13⟩, ⟨%d14, H14⟩, ⟨%d15, H15⟩,
    ⟨%d16, H16⟩, ⟨%d17, H17⟩, ⟨%d18, H18⟩, ⟨%d19, H19⟩, ⟨%d20, H20⟩, ⟨%d21, H21⟩, ⟨%d22, H22⟩, ⟨%d23, H23⟩,
    ⟨%d24, H24⟩, ⟨%d25, H25⟩, ⟨%d26, H26⟩, ⟨%d27, H27⟩, ⟨%d28, H28⟩, ⟨%d29, H29⟩, ⟨%d30, H30⟩, ⟨%d31, H31⟩,
    ⟨%d32, H32⟩, ⟨%d33, H33⟩, ⟨%d34, H34⟩, ⟨%d35, H35⟩, ⟨%d36, H36⟩, ⟨%d37, H37⟩, ⟨%d38, H38⟩, ⟨%d39, H39⟩,
    ⟨%d40, H40⟩, ⟨%d41, H41⟩, ⟨%d42, H42⟩, ⟨%d43, H43⟩, ⟨%d44, H44⟩, ⟨%d45, H45⟩, ⟨%d46, H46⟩, ⟨%d47, H47⟩,
    ⟨%d48, H48⟩, ⟨%d49, H49⟩, ⟨%d50, H50⟩, ⟨%d51, H51⟩, ⟨%d52, H52⟩, ⟨%d53, H53⟩, ⟨%d54, H54⟩, ⟨%d55, H55⟩,
    ⟨%d56, H56⟩, ⟨%d57, H57⟩, ⟨%d58, H58⟩, ⟨%d59, H59⟩, ⟨%d60, H60⟩, ⟨%d61, H61⟩, ⟨%d62, H62⟩, ⟨%d63, H63⟩,
    ⟨%d64, H64⟩, ⟨%d65, H65⟩, ⟨%d66, H66⟩, ⟨%d67, H67⟩, ⟨%d68, H68⟩, ⟨%d69, H69⟩, ⟨%d70, H70⟩, ⟨%d71, H71⟩,
    ⟨%d72, H72⟩, ⟨%d73, H73⟩, ⟨%d74, H74⟩, ⟨%d75, H75⟩, ⟨%d76, H76⟩, ⟨%d77, H77⟩, ⟨%d78, H78⟩, ⟨%d79, H79⟩⟩
  iapply (body_runs c Set.univ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ _ _ _ _ _ _ _ _ _ _ _ _ _ _ _ _ _ _ _ _ _ _ _ _ _ _ _ _ _ _ _ _ _ _ _ _ _ _ _ _ _ _ _
    _ _ _ _ _ _ _ _ _ _ _ (iblk m c 0 t) (iblk m c 1 t) (iblk m c 2 t) (iblk m c 3 t) (iblk m c 4 t) (iblk m c 5
    t) (iblk m c 6 t) (iblk m c 7 t) (iblk m c 8 t) (iblk m c 9 t) (iblk m c 10 t) (iblk m c 11 t) (iblk m c 12
    t) (iblk m c 13 t) (iblk m c 14 t) (iblk m c 15 t) (iblk m c 16 t) (iblk m c 17 t) (iblk m c 18 t) (iblk m c
    19 t) (iblk m c 20 t) (iblk m c 21 t) (iblk m c 22 t) (iblk m c 23 t) (iblk m c 24 t) (iblk m c 25 t) (iblk
    m c 26 t) (iblk m c 27 t) (iblk m c 28 t) (iblk m c 29 t) (iblk m c 30 t) (iblk m c 31 t) (iblk m c 32 t)
    (iblk m c 33 t) (iblk m c 34 t) (iblk m c 35 t) (iblk m c 36 t) (iblk m c 37 t) (iblk m c 38 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  isplitl [H69]; · iexists _; iexact H69
  isplitl [H70]; · iexists _; iexact H70
  isplitl [H71]; · iexists _; iexact H71
  isplitl [H72]; · iexists _; iexact H72
  isplitl [H73]; · iexists _; iexact H73
  isplitl [H74]; · iexists _; iexact H74
  isplitl [H75]; · iexists _; iexact H75
  isplitl [H76]; · iexists _; iexact H76
  isplitl [H77]; · iexists _; iexact H77
  isplitl [H78]; · iexists _; iexact H78
  isplitl [H79]; · iexists _; iexact H79
  iintro ⟨H0, H1, H2, H3, H4, H5, H6, H7, H8, H9, H10, H11, H12, H13, H14, H15, H16, H17, H18, H19, H20, H21,
    H22, H23, H24, H25, H26, H27, H28, H29, H30, H31, H32, H33, H34, H35, H36, H37, H38, H39, H40, H41, H42,
    H43, H44, H45, H46, H47, H48, H49, H50, H51, H52, H53, H54, H55, H56, H57, H58, H59, H60, H61, H62, H63,
    H64, H65, H66, H67, H68, H69, H70, H71, H72, H73, H74, H75, H76, H77, H78, H79⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  isplitl [H68]; · iexact H68
  isplitl [H69]; · iexact H69
  isplitl [H70]; · iexact H70
  isplitl [H71]; · iexact H71
  isplitl [H72]; · iexact H72
  isplitl [H73]; · iexact H73
  isplitl [H74]; · iexact H74
  isplitl [H75]; · iexact H75
  isplitl [H76]; · iexact H76
  isplitl [H77]; · iexact H77
  isplitl [H78]; · iexact H78
  iexact H79

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the body is handed, window by window. -/
theorem pre_eq (c : Dev nD) (t : Fin cfg0.N) :
    iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare
            ((dats m 0 c).before w t d)))
    = bodyPre m c t :=
  congrArg (fun Y => iprop((dats m 0 c).Φ t.castSucc ∗ (dats m 0 c).owesAt () t.castSucc ∗ Y)) (bigSep_W0 _)

/-- The buffers at contents `X`, window by window. -/
theorem bufs_eq (c : Dev nD) (t : Fin cfg0.N)
    (X : (w : Fin cfg0.W) → (cfg0.win w).block.Idx → Elt F (cfg0.win w).elt) :
    (bigSep Finset.univ fun w : Fin cfg0.W =>
      (owns (c : Thread nD τ) ((cfg0.win w).stage (cfg0.slots t w)) fullShare (X w) : sProp 𝕄)) = iprop(
    owns (c : Thread nD τ) (st0_0 t) fullShare (X 0)
    ∗ owns (c : Thread nD τ) (st0_1 t) fullShare (X 1)
    ∗ owns (c : Thread nD τ) (st0_2 t) fullShare (X 2)
    ∗ owns (c : Thread nD τ) (st0_3 t) fullShare (X 3)
    ∗ owns (c : Thread nD τ) (st0_4 t) fullShare (X 4)
    ∗ owns (c : Thread nD τ) (st0_5 t) fullShare (X 5)
    ∗ owns (c : Thread nD τ) (st0_6 t) fullShare (X 6)
    ∗ owns (c : Thread nD τ) (st0_7 t) fullShare (X 7)
    ∗ owns (c : Thread nD τ) (st0_8 t) fullShare (X 8)
    ∗ owns (c : Thread nD τ) (st0_9 t) fullShare (X 9)
    ∗ owns (c : Thread nD τ) (st0_10 t) fullShare (X 10)
    ∗ owns (c : Thread nD τ) (st0_11 t) fullShare (X 11)
    ∗ owns (c : Thread nD τ) (st0_12 t) fullShare (X 12)
    ∗ owns (c : Thread nD τ) (st0_13 t) fullShare (X 13)
    ∗ owns (c : Thread nD τ) (st0_14 t) fullShare (X 14)
    ∗ owns (c : Thread nD τ) (st0_15 t) fullShare (X 15)
    ∗ owns (c : Thread nD τ) (st0_16 t) fullShare (X 16)
    ∗ owns (c : Thread nD τ) (st0_17 t) fullShare (X 17)
    ∗ owns (c : Thread nD τ) (st0_18 t) fullShare (X 18)
    ∗ owns (c : Thread nD τ) (st0_19 t) fullShare (X 19)
    ∗ owns (c : Thread nD τ) (st0_20 t) fullShare (X 20)
    ∗ owns (c : Thread nD τ) (st0_21 t) fullShare (X 21)
    ∗ owns (c : Thread nD τ) (st0_22 t) fullShare (X 22)
    ∗ owns (c : Thread nD τ) (st0_23 t) fullShare (X 23)
    ∗ owns (c : Thread nD τ) (st0_24 t) fullShare (X 24)
    ∗ owns (c : Thread nD τ) (st0_25 t) fullShare (X 25)
    ∗ owns (c : Thread nD τ) (st0_26 t) fullShare (X 26)
    ∗ owns (c : Thread nD τ) (st0_27 t) fullShare (X 27)
    ∗ owns (c : Thread nD τ) (st0_28 t) fullShare (X 28)
    ∗ owns (c : Thread nD τ) (st0_29 t) fullShare (X 29)
    ∗ owns (c : Thread nD τ) (st0_30 t) fullShare (X 30)
    ∗ owns (c : Thread nD τ) (st0_31 t) fullShare (X 31)
    ∗ owns (c : Thread nD τ) (st0_32 t) fullShare (X 32)
    ∗ owns (c : Thread nD τ) (st0_33 t) fullShare (X 33)
    ∗ owns (c : Thread nD τ) (st0_34 t) fullShare (X 34)
    ∗ owns (c : Thread nD τ) (st0_35 t) fullShare (X 35)
    ∗ owns (c : Thread nD τ) (st0_36 t) fullShare (X 36)
    ∗ owns (c : Thread nD τ) (st0_37 t) fullShare (X 37)
    ∗ owns (c : Thread nD τ) (st0_38 t) fullShare (X 38)
    ∗ owns (c : Thread nD τ) (st0_39 t) fullShare (X 39)
    ∗ owns (c : Thread nD τ) (st0_40 t) fullShare (X 40)
    ∗ owns (c : Thread nD τ) (st0_41 t) fullShare (X 41)
    ∗ owns (c : Thread nD τ) (st0_42 t) fullShare (X 42)
    ∗ owns (c : Thread nD τ) (st0_43 t) fullShare (X 43)
    ∗ owns (c : Thread nD τ) (st0_44 t) fullShare (X 44)
    ∗ owns (c : Thread nD τ) (st0_45 t) fullShare (X 45)
    ∗ owns (c : Thread nD τ) (st0_46 t) fullShare (X 46)
    ∗ owns (c : Thread nD τ) (st0_47 t) fullShare (X 47)
    ∗ owns (c : Thread nD τ) (st0_48 t) fullShare (X 48)
    ∗ owns (c : Thread nD τ) (st0_49 t) fullShare (X 49)
    ∗ owns (c : Thread nD τ) (st0_50 t) fullShare (X 50)
    ∗ owns (c : Thread nD τ) (st0_51 t) fullShare (X 51)
    ∗ owns (c : Thread nD τ) (st0_52 t) fullShare (X 52)
    ∗ owns (c : Thread nD τ) (st0_53 t) fullShare (X 53)
    ∗ owns (c : Thread nD τ) (st0_54 t) fullShare (X 54)
    ∗ owns (c : Thread nD τ) (st0_55 t) fullShare (X 55)
    ∗ owns (c : Thread nD τ) (st0_56 t) fullShare (X 56)
    ∗ owns (c : Thread nD τ) (st0_57 t) fullShare (X 57)
    ∗ owns (c : Thread nD τ) (st0_58 t) fullShare (X 58)
    ∗ owns (c : Thread nD τ) (st0_59 t) fullShare (X 59)
    ∗ owns (c : Thread nD τ) (st0_60 t) fullShare (X 60)
    ∗ owns (c : Thread nD τ) (st0_61 t) fullShare (X 61)
    ∗ owns (c : Thread nD τ) (st0_62 t) fullShare (X 62)
    ∗ owns (c : Thread nD τ) (st0_63 t) fullShare (X 63)
    ∗ owns (c : Thread nD τ) (st0_64 t) fullShare (X 64)
    ∗ owns (c : Thread nD τ) (st0_65 t) fullShare (X 65)
    ∗ owns (c : Thread nD τ) (st0_66 t) fullShare (X 66)
    ∗ owns (c : Thread nD τ) (st0_67 t) fullShare (X 67)
    ∗ owns (c : Thread nD τ) (st0_68 t) fullShare (X 68)
    ∗ owns (c : Thread nD τ) (st0_69 t) fullShare (X 69)
    ∗ owns (c : Thread nD τ) (st0_70 t) fullShare (X 70)
    ∗ owns (c : Thread nD τ) (st0_71 t) fullShare (X 71)
    ∗ owns (c : Thread nD τ) (st0_72 t) fullShare (X 72)
    ∗ owns (c : Thread nD τ) (st0_73 t) fullShare (X 73)
    ∗ owns (c : Thread nD τ) (st0_74 t) fullShare (X 74)
    ∗ owns (c : Thread nD τ) (st0_75 t) fullShare (X 75)
    ∗ owns (c : Thread nD τ) (st0_76 t) fullShare (X 76)
    ∗ owns (c : Thread nD τ) (st0_77 t) fullShare (X 77)
    ∗ owns (c : Thread nD τ) (st0_78 t) fullShare (X 78)
    ∗ owns (c : Thread nD τ) (st0_79 t) fullShare (X 79)) :=
  bigSep_W0 _

/-- What the body returns, window by window. -/
theorem post_eq (c : Dev nD) (t : Fin cfg0.N) :
    iprop((dats m 0 c).Φ t.succ ∗ (dats m 0 c).owesAt () t.succ
      ∗ bigSep Finset.univ fun w : Fin cfg0.W =>
          owns (c : Thread nD τ) ((cfg0.win w).stage (cfg0.slots t w)) fullShare ((dats m 0 c).after w t))
    = bodyPost m c t := by
  rw [bufs_eq c t fun w => (dats m 0 c).after w t, bodyPost]

set_option maxHeartbeats 1600000 in
/-- The library's body obligation, at every point: the body's triple restated. -/
theorem body_obligation (c : Dev nD) : BodyObligation (dats (F := F) m 0 c) (defs₀ (F := F)) Variants.none ()
    Set.univ := fun t => by
  have h := body_at m c t
  rw [← defs₀_row, ← pre_eq, ← post_eq] at h
  exact h

end Cert.SmallRun

end
-- ==== Proof.SmallRun.lean ====
/- The run of the optimiser's step on the small weights. -/
module

public import Idealize.ShloMosaic.Lib.Pipeline.FrameBody
public import Idealize.ShloMosaic.Lib.Claim
public import Idealize.ShloMosaic.Lib.Ring
public import Idealize.ShloMosaic.Lib.Tactic
public import proofs.«01_k».proof.Proof.Gen.Kernel11Ideal.Launch
public import proofs.«01_k».proof.Proof.Gen.Kernel11Ideal.Points
public import proofs.«01_k».proof.Proof.SmallPoint

@[expose] public section

set_option maxRecDepth 16384

noncomputable section

namespace Cert.SmallRun

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run and the frame -/

-- `θ_run_frame`'s implicit arguments are found by unifying its conclusion with this one
set_option backward.isDefEq.respectTransparency.types false in
set_option maxHeartbeats 800000 in
/-- THE LAUNCH: `run_main`'s statement, and every semaphore counter of the machine at zero at every final state.
  -/
theorem run_main_quiescent : θ_run defs (onTc (τ := τ) (main (F := F))) (s₀ m ρ)
  (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of
  @main on the
    TensorCores terminates, and every final state has every array of the pipeline at what the library computes
      from the
    proof data and every other unscoped buffer as the region found it. -/
theorem run_main : θ_run defs (onTc (τ := τ) (main (F := F))) (s₀ m ρ)
  (Pipeline.FramePost cfgs (dats m) 0 (V m)) :=
  (θ_run defs _ _).mono (fun _ h => h.1) (run_main_quiescent m ρ)

/-- The arguments end as they were. -/
abbrev Kept (r : PUnit × MemSt nD τ sig (Elt F)) (c : Dev nD) : Prop :=
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)
    ∧ r.2.mem ((c.tc : Thread nD τ).loc main_arg36) = m ((c.tc : Thread nD τ).loc main_arg36)
    ∧ r.2.mem ((c.tc : Thread nD τ).loc main_arg37) = m ((c.tc : Thread nD τ).loc main_arg37)
    ∧ r.2.mem ((c.tc : Thread nD τ).loc main_arg38) = m ((c.tc : Thread nD τ).loc main_arg38)

set_option maxHeartbeats 1600000 in
/-- So they do. -/
theorem kept (r : PUnit × MemSt nD τ sig (Elt F)) (h : Pipeline.FramePost cfgs (dats m) 0 (V m) r) (c : Dev nD) :
    Kept m r c :=
  ⟨((h c).1 0).trans (((dats m 0 c).arrAt_in 0 rfl _).trans
    ((A_eq m c 0).trans (V_kept m c main_arg0 (by decide)))),
    ((h c).1 1).trans (((dats m 0 c).arrAt_in 1 rfl _).trans
      ((A_eq m c 1).trans (V_kept m c main_arg1 (by decide)))),
    ((h c).1 2).trans (((dats m 0 c).arrAt_in 2 rfl _).trans
      ((A_eq m c 2).trans (V_kept m c main_arg2 (by decide)))),
    ((h c).1 3).trans (((dats m 0 c).arrAt_in 3 rfl _).trans
      ((A_eq m c 3).trans (V_kept m c main_arg3 (by decide)))),
    ((h c).1 4).trans (((dats m 0 c).arrAt_in 4 rfl _).trans
      ((A_eq m c 4).trans (V_kept m c main_arg4 (by decide)))),
    ((h c).1 5).trans (((dats m 0 c).arrAt_in 5 rfl _).trans
      ((A_eq m c 5).trans (V_kept m c main_arg5 (by decide)))),
    ((h c).1 6).trans (((dats m 0 c).arrAt_in 6 rfl _).trans
      ((A_eq m c 6).trans (V_kept m c main_arg6 (by decide)))),
    ((h c).1 7).trans (((dats m 0 c).arrAt_in 7 rfl _).trans
      ((A_eq m c 7).trans (V_kept m c main_arg7 (by decide)))),
    ((h c).1 8).trans (((dats m 0 c).arrAt_in 8 rfl _).trans
      ((A_eq m c 8).trans (V_kept m c main_arg8 (by decide)))),
    ((h c).1 9).trans (((dats m 0 c).arrAt_in 9 rfl _).trans
      ((A_eq m c 9).trans (V_kept m c main_arg9 (by decide)))),
    ((h c).1 10).trans (((dats m 0 c).arrAt_in 10 rfl _).trans
      ((A_eq m c 10).trans (V_kept m c main_arg10 (by decide)))),
    ((h c).1 11).trans (((dats m 0 c).arrAt_in 11 rfl _).trans
      ((A_eq m c 11).trans (V_kept m c main_arg11 (by decide)))),
    ((h c).1 12).trans (((dats m 0 c).arrAt_in 12 rfl _).trans
      ((A_eq m c 12).trans (V_kept m c main_arg12 (by decide)))),
    ((h c).1 13).trans (((dats m 0 c).arrAt_in 13 rfl _).trans
      ((A_eq m c 13).trans (V_kept m c main_arg13 (by decide)))),
    ((h c).1 14).trans (((dats m 0 c).arrAt_in 14 rfl _).trans
      ((A_eq m c 14).trans (V_kept m c main_arg14 (by decide)))),
    ((h c).2 main_arg15 (Pipeline.mem_restRefs_of main_arg15 (by decide) (by decide))).trans
      (V_kept m c main_arg15 (by decide)),
    ((h c).2 main_arg16 (Pipeline.mem_restRefs_of main_arg16 (by decide) (by decide))).trans
      (V_kept m c main_arg16 (by decide)),
    ((h c).2 main_arg17 (Pipeline.mem_restRefs_of main_arg17 (by decide) (by decide))).trans
      (V_kept m c main_arg17 (by decide)),
    ((h c).2 main_arg18 (Pipeline.mem_restRefs_of main_arg18 (by decide) (by decide))).trans
      (V_kept m c main_arg18 (by decide)),
    ((h c).2 main_arg19 (Pipeline.mem_restRefs_of main_arg19 (by decide) (by decide))).trans
      (V_kept m c main_arg19 (by decide)),
    ((h c).2 main_arg20 (Pipeline.mem_restRefs_of main_arg20 (by decide) (by decide))).trans
      (V_kept m c main_arg20 (by decide)),
    ((h c).1 21).trans (((dats m 0 c).arrAt_in 21 rfl _).trans
      ((A_eq m c 21).trans (V_kept m c main_arg21 (by decide)))),
    ((h c).1 22).trans (((dats m 0 c).arrAt_in 22 rfl _).trans
      ((A_eq m c 22).trans (V_kept m c main_arg22 (by decide)))),
    ((h c).1 23).trans (((dats m 0 c).arrAt_in 23 rfl _).trans
      ((A_eq m c 23).trans (V_kept m c main_arg23 (by decide)))),
    ((h c).1 24).trans (((dats m 0 c).arrAt_in 24 rfl _).trans
      ((A_eq m c 24).trans (V_kept m c main_arg24 (by decide)))),
    ((h c).1 25).trans (((dats m 0 c).arrAt_in 25 rfl _).trans
      ((A_eq m c 25).trans (V_kept m c main_arg25 (by decide)))),
    ((h c).1 26).trans (((dats m 0 c).arrAt_in 26 rfl _).trans
      ((A_eq m c 26).trans (V_kept m c main_arg26 (by decide)))),
    ((h c).1 27).trans (((dats m 0 c).arrAt_in 27 rfl _).trans
      ((A_eq m c 27).trans (V_kept m c main_arg27 (by decide)))),
    ((h c).1 28).trans (((dats m 0 c).arrAt_in 28 rfl _).trans
      ((A_eq m c 28).trans (V_kept m c main_arg28 (by decide)))),
    ((h c).1 29).trans (((dats m 0 c).arrAt_in 29 rfl _).trans
      ((A_eq m c 29).trans (V_kept m c main_arg29 (by decide)))),
    ((h c).1 30).trans (((dats m 0 c).arrAt_in 30 rfl _).trans
      ((A_eq m c 30).trans (V_kept m c main_arg30 (by decide)))),
    ((h c).1 31).trans (((dats m 0 c).arrAt_in 31 rfl _).trans
      ((A_eq m c 31).trans (V_kept m c main_arg31 (by decide)))),
    ((h c).1 32).trans (((dats m 0 c).arrAt_in 32 rfl _).trans
      ((A_eq m c 32).trans (V_kept m c main_arg32 (by decide)))),
    ((h c).1 33).trans (((dats m 0 c).arrAt_in 33 rfl _).trans
      ((A_eq m c 33).trans (V_kept m c main_arg33 (by decide)))),
    ((h c).1 34).trans (((dats m 0 c).arrAt_in 34 rfl _).trans
      ((A_eq m c 34).trans (V_kept m c main_arg34 (by decide)))),
    ((h c).1 35).trans (((dats m 0 c).arrAt_in 35 rfl _).trans
      ((A_eq m c 35).trans (V_kept m c main_arg35 (by decide)))),
    ((h c).2 main_arg36 (Pipeline.mem_restRefs_of main_arg36 (by decide) (by decide))).trans
      (V_kept m c main_arg36 (by decide)),
    ((h c).2 main_arg37 (Pipeline.mem_restRefs_of main_arg37 (by decide) (by decide))).trans
      (V_kept m c main_arg37 (by decide)),
    ((h c).2 main_arg38 (Pipeline.mem_restRefs_of main_arg38 (by decide) (by decide))).trans
      (V_kept m c main_arg38 (by decide))⟩

end Cert.SmallRun

end
-- ==== Proof.AdamStep.lean ====
/- A weight's step of the optimiser as a relation, to compare two programs that take it. -/
module

public import proofs.«01_k».proof.Proof.Adam

@[expose] public section

noncomputable section

namespace Cert.Adam

/-- The four results of a step: the gradient, the weight's change and the new moments. -/
def IsStep (w g m v g' d m' v' : EReal) : Prop := g' = g ∧ d = step w g m v ∧ m' = mom g m ∧ v' = vel g v

/-- Two steps of the same weight have the same results. -/
theorem IsStep.unique {w g m v g₁ d₁ m₁ v₁ g₂ d₂ m₂ v₂ : EReal} (h₁ : IsStep w g m v g₁ d₁ m₁ v₁)
    (h₂ : IsStep w g m v g₂ d₂ m₂ v₂) : g₁ = g₂ ∧ d₁ = d₂ ∧ m₁ = m₂ ∧ v₁ = v₂ :=
  ⟨h₁.1.trans h₂.1.symm, h₁.2.1.trans h₂.2.1.symm, h₁.2.2.1.trans h₂.2.2.1.symm, h₁.2.2.2.trans h₂.2.2.2.symm⟩

/-- Device `k`'s part of the gradient of column `y` of the modulation's bias, a row of one of the three arrays of
    rows that the devices send: the six chunks of 1024 columns are in rows 0 and 1 of the third, 3, 0 and 1 of the
    second and 0 of the first. -/
def adaPart (a b c : Fin 8 → Fin 8 → Fin 1024 → EReal) (y : Fin 6144) (k : Fin 8) : EReal :=
  let j : Fin 1024 := ⟨y.val % 1024, Nat.mod_lt _ (by decide)⟩
  if y.val < 1024 then c k 0 j else if y.val < 2048 then c k 1 j else if y.val < 3072 then b k 3 j
    else if y.val < 4096 then b k 0 j else if y.val < 5120 then b k 1 j else a k 0 j

section Chunks

variable {a b c : Fin 8 → Fin 8 → Fin 1024 → EReal} {y : Fin 6144} {j : Fin 1024}

theorem adaPart_0 (h : y.val = j.val) : adaPart a b c y = fun k => c k 0 j := by
  have hj : (⟨y.val % 1024, Nat.mod_lt _ (by decide)⟩ : Fin 1024) = j := Fin.ext (by have := j.isLt; simp only; omega)
  funext k
  simp only [adaPart, hj]
  have := j.isLt
  repeat' split
  all_goals first | rfl | omega

theorem adaPart_1 (h : y.val = 1024 + j.val) : adaPart a b c y = fun k => c k 1 j := by
  have hj : (⟨y.val % 1024, Nat.mod_lt _ (by decide)⟩ : Fin 1024) = j := Fin.ext (by have := j.isLt; simp only; omega)
  funext k
  simp only [adaPart, hj]
  have := j.isLt
  repeat' split
  all_goals first | rfl | omega

theorem adaPart_2 (h : y.val = 2048 + j.val) : adaPart a b c y = fun k => b k 3 j := by
  have hj : (⟨y.val % 1024, Nat.mod_lt _ (by decide)⟩ : Fin 1024) = j := Fin.ext (by have := j.isLt; simp only; omega)
  funext k
  simp only [adaPart, hj]
  have := j.isLt
  repeat' split
  all_goals first | rfl | omega

theorem adaPart_3 (h : y.val = 3072 + j.val) : adaPart a b c y = fun k => b k 0 j := by
  have hj : (⟨y.val % 1024, Nat.mod_lt _ (by decide)⟩ : Fin 1024) = j := Fin.ext (by have := j.isLt; simp only; omega)
  funext k
  simp only [adaPart, hj]
  have := j.isLt
  repeat' split
  all_goals first | rfl | omega

theorem adaPart_4 (h : y.val = 4096 + j.val) : adaPart a b c y = fun k => b k 1 j := by
  have hj : (⟨y.val % 1024, Nat.mod_lt _ (by decide)⟩ : Fin 1024) = j := Fin.ext (by have := j.isLt; simp only; omega)
  funext k
  simp only [adaPart, hj]
  have := j.isLt
  repeat' split
  all_goals first | rfl | omega

theorem adaPart_5 (h : y.val = 5120 + j.val) : adaPart a b c y = fun k => a k 0 j := by
  have hj : (⟨y.val % 1024, Nat.mod_lt _ (by decide)⟩ : Fin 1024) = j := Fin.ext (by have := j.isLt; simp only; omega)
  funext k
  simp only [adaPart, hj]
  have := j.isLt
  repeat' split
  all_goals first | rfl | omega

end Chunks

/-- The modulation's bias, summed chunk by chunk. -/
theorem adaPart_cases (a b c : Fin 8 → Fin 8 → Fin 1024 → EReal) (y : Fin 6144) :
    (if h : y.val < 1024 then ∑ k, c k 0 ⟨y.val, h⟩
      else if h : y.val - 1024 < 1024 then ∑ k, c k 1 ⟨y.val - 1024, h⟩
      else if h : y.val - 1024 - 1024 < 1024 then ∑ k, b k 3 ⟨y.val - 1024 - 1024, h⟩
      else if h : y.val - 1024 - 1024 - 1024 < 1024 then ∑ k, b k 0 ⟨y.val - 1024 - 1024 - 1024, h⟩
      else if h : y.val - 1024 - 1024 - 1024 - 1024 < 1024 then
        ∑ k, b k 1 ⟨y.val - 1024 - 1024 - 1024 - 1024, h⟩
      else ∑ k, a k 0 ⟨y.val - 1024 - 1024 - 1024 - 1024 - 1024, by omega⟩) = total (adaPart a b c y) := by
  have hy := y.isLt
  split
  case isTrue h => exact congrArg total (adaPart_0 (j := ⟨_, h⟩) rfl).symm
  split
  case isTrue h => exact congrArg total (adaPart_1 (j := ⟨_, h⟩) (by simp only; omega)).symm
  split
  case isTrue h => exact congrArg total (adaPart_2 (j := ⟨_, h⟩) (by simp only; omega)).symm
  split
  case isTrue h => exact congrArg total (adaPart_3 (j := ⟨_, h⟩) (by simp only; omega)).symm
  split
  case isTrue h => exact congrArg total (adaPart_4 (j := ⟨_, h⟩) (by simp only; omega)).symm
  case isFalse => exact congrArg total (adaPart_5 (j := ⟨_, by omega⟩) (by simp only; omega)).symm

end Cert.Adam

end
-- ==== Proof.SmallRef.lean ====
/- What the reference of the optimiser's step on the small weights computes, entry by entry. -/
module

public import proofs.«01_k».proof.Proof.AdamStep
public import proofs.«01_k».proof.Proof.Gen.Reference11Ideal.Read
public import Idealize.ShloMosaic.Lib.Pointwise

@[expose] public section

set_option maxRecDepth 16384

noncomputable section

namespace Cert.SmallRef

open Idealize.ShloMosaic Idealize.ShloMosaic.TcCoe
open Cert.Reference11Ideal Cert.Reference11Ideal.Gen Cert.Reference11Ideal.Read

/-! ## The step on a whole array -/

section Host

variable {s : Shape} (h : S_.BroadcastsInDim s (![] : Fin 0 → Fin s.rank)) (w g m v : FVec Ideal s .f32)

/-- A number in every entry. -/
abbrev fill (b : BitVec 32) : FVec Ideal s .f32 := broadcastInDim s ![] h (constant (F := Ideal) S_ .f32 b)

abbrev hostMom : FVec Ideal s .f32 := addf (mulf (fill h 0x3F666666#32) m) (mulf (fill h 0x3DCCCCCD#32) g)

abbrev hostVel : FVec Ideal s .f32 :=
  addf (mulf (fill h 0x3F7FBE77#32) v) (mulf (fill h 0x3A83126F#32) (mulf g g))

abbrev hostStep : FVec Ideal s .f32 :=
  mulf (fill h 0xBA83126F#32) (addf (Host.divf (Host.divf (hostMom h g m) (fill h 0x3F26BD02#32))
    (addf (Host.sqrt (Host.divf (hostVel h g v) (fill h 0x3C231ACC#32))) (fill h 0x322BCC77#32)))
    (mulf (fill h 0x3C23D70A#32) w))

/-- Every entry of the arrays takes the step of its own weight, gradient and moments. -/
theorem host_step {w g m v} {y : s.Idx} {w' g' m' v' : EReal} (ew : w y = w') (eg : g y = g') (em : m y = m')
    (ev : v y = v') :
    Adam.IsStep w' g' m' v' (g y) (hostStep h w g m v y) (hostMom h g m y) (hostVel h g v y) := by
  subst ew eg em ev
  exact ⟨rfl, rfl, rfl, rfl⟩

end Host

theorem norm1 (x : FVec Ideal S8x8x1024 .f32) (w m v : FVec Ideal S1x1024 .f32) (j : Fin 1024) :
    Adam.IsStep (w (ix2 0 j)) (Adam.total fun k => x (ix3 k 2 j)) (m (ix2 0 j)) (v (ix2 0 j))
      (val_main_v34 (F := Ideal) x (ix2 0 j)) (val_main_v58 (F := Ideal) x w m v (ix2 0 j))
      (val_main_v39 (F := Ideal) x m (ix2 0 j)) (val_main_v45 (F := Ideal) x v (ix2 0 j)) :=
  host_step bcast_S_S1x1024 rfl (by pointwise [val_main_v34, val_main_v2, val_main_cst_1]; try rfl) rfl rfl

theorem mixW (x : FVec Ideal S8x4x128x128 .f32) (w m v : FVec Ideal S1x4x128x128 .f32) (h : Fin 4) (i j : Fin 128) :
    Adam.IsStep (w (ix4 0 h i j)) (Adam.total fun k => x (ix4 k h i j)) (m (ix4 0 h i j)) (v (ix4 0 h i j))
      (val_main_v59 (F := Ideal) x (ix3 h i j)) (val_main_v86 (F := Ideal) x w m v (ix3 h i j))
      (val_main_v67 (F := Ideal) x m (ix3 h i j)) (val_main_v73 (F := Ideal) x v (ix3 h i j)) :=
  host_step bcast_S_S4x128x128 (by pointwise [val_main_v60]) (by pointwise [val_main_v59, val_main_cst_20]; try rfl) (by pointwise [val_main_v61]) (by pointwise [val_main_v62])

theorem mixB (x : FVec Ideal S8x128x4 .f32) (w m v : FVec Ideal S1x4x128 .f32) (i : Fin 128) (h : Fin 4) :
    Adam.IsStep (w (ix3 0 h i)) (Adam.total fun k => x (ix3 k i h)) (m (ix3 0 h i)) (v (ix3 0 h i))
      (val_main_v87 (F := Ideal) x (ix2 i h)) (val_main_v117 (F := Ideal) x w m v (ix2 i h))
      (val_main_v98 (F := Ideal) x m (ix2 i h)) (val_main_v104 (F := Ideal) x v (ix2 i h)) :=
  host_step bcast_S_S128x4 (by pointwise [val_main_v89, val_main_v88]) (by pointwise [val_main_v87, val_main_cst_30]; try rfl) (by pointwise [val_main_v91, val_main_v90]) (by pointwise [val_main_v93, val_main_v92])

theorem lnW (x : FVec Ideal S8x1x512 .f32) (w m v : FVec Ideal S1x512 .f32) (j : Fin 512) :
    Adam.IsStep (w (ix2 0 j)) (Adam.total fun k => x (ix3 k 0 j)) (m (ix2 0 j)) (v (ix2 0 j))
      (val_main_v118 (F := Ideal) x (ix2 0 j)) (val_main_v142 (F := Ideal) x w m v (ix2 0 j))
      (val_main_v123 (F := Ideal) x m (ix2 0 j)) (val_main_v129 (F := Ideal) x v (ix2 0 j)) :=
  host_step bcast_S_S1x512 rfl (by pointwise [val_main_v118, val_main_cst_40]; try rfl) rfl rfl

theorem lnB (x : FVec Ideal S8x1x512 .f32) (w m v : FVec Ideal S1x512 .f32) (j : Fin 512) :
    Adam.IsStep (w (ix2 0 j)) (Adam.total fun k => x (ix3 k 0 j)) (m (ix2 0 j)) (v (ix2 0 j))
      (val_main_v143 (F := Ideal) x (ix2 0 j)) (val_main_v167 (F := Ideal) x w m v (ix2 0 j))
      (val_main_v148 (F := Ideal) x m (ix2 0 j)) (val_main_v154 (F := Ideal) x v (ix2 0 j)) :=
  host_step bcast_S_S1x512 rfl (by pointwise [val_main_v143, val_main_cst_50]; try rfl) rfl rfl

theorem lower (x : FVec Ideal S8x2x512 .f32) (w m v : FVec Ideal S2x512 .f32) (r : Fin 2) (j : Fin 512) :
    Adam.IsStep (w (ix2 r j)) (Adam.total fun k => x (ix3 k r j)) (m (ix2 r j)) (v (ix2 r j))
      (val_main_v168 (F := Ideal) x (ix2 r j)) (val_main_v192 (F := Ideal) x w m v (ix2 r j))
      (val_main_v173 (F := Ideal) x m (ix2 r j)) (val_main_v179 (F := Ideal) x v (ix2 r j)) :=
  host_step bcast_S_S2x512 rfl (by pointwise [val_main_v168, val_main_cst_60]; try rfl) rfl rfl

theorem groupW (x : FVec Ideal S8x1x128 .f32) (w m v : FVec Ideal S1x128 .f32) (j : Fin 128) :
    Adam.IsStep (w (ix2 0 j)) (Adam.total fun k => x (ix3 k 0 j)) (m (ix2 0 j)) (v (ix2 0 j))
      (val_main_v193 (F := Ideal) x (ix2 0 j)) (val_main_v217 (F := Ideal) x w m v (ix2 0 j))
      (val_main_v198 (F := Ideal) x m (ix2 0 j)) (val_main_v204 (F := Ideal) x v (ix2 0 j)) :=
  host_step bcast_S_S1x128 rfl (by pointwise [val_main_v193, val_main_cst_70]; try rfl) rfl rfl

theorem norm2 (x : FVec Ideal S8x8x1024 .f32) (w m v : FVec Ideal S1x1024 .f32) (j : Fin 1024) :
    Adam.IsStep (w (ix2 0 j)) (Adam.total fun k => x (ix3 k 2 j)) (m (ix2 0 j)) (v (ix2 0 j))
      (val_main_v218 (F := Ideal) x (ix2 0 j)) (val_main_v242 (F := Ideal) x w m v (ix2 0 j))
      (val_main_v223 (F := Ideal) x m (ix2 0 j)) (val_main_v229 (F := Ideal) x v (ix2 0 j)) :=
  host_step bcast_S_S1x1024 rfl (by pointwise [val_main_v218, val_main_v1, val_main_cst_0]; try rfl) rfl rfl

theorem last (x : FVec Ideal S8x8x1024 .f32) (w m v : FVec Ideal S1024 .f32) (j : Fin 1024) :
    Adam.IsStep (w (ix1 j)) (Adam.total fun k => x (ix3 k 1 j)) (m (ix1 j)) (v (ix1 j))
      (val_main_v243 (F := Ideal) x (ix2 0 j)) (val_main_v270 (F := Ideal) x w m v (ix2 0 j))
      (val_main_v251 (F := Ideal) x m (ix2 0 j)) (val_main_v257 (F := Ideal) x v (ix2 0 j)) :=
  host_step bcast_S_S1x1024 (by pointwise [val_main_v244]) (by pointwise [val_main_v243, val_main_v0, val_main_cst]; try rfl) (by pointwise [val_main_v245]) (by pointwise [val_main_v246])

section Ada

variable (x0 x1 x2 : FVec Ideal S8x8x1024 .f32) (w m v : FVec Ideal S1x6144 .f32) (y : Fin 6144)

/-- Device `k`'s part of the gradient of the modulation's bias. -/
abbrev part : Fin 8 → EReal :=
  Adam.adaPart (fun k r j => x0 (ix3 k r j)) (fun k r j => x1 (ix3 k r j)) (fun k r j => x2 (ix3 k r j)) y

theorem ada_grad : val_main_v9 (F := Ideal) x0 x1 x2 (ix2 0 y) = Adam.total (part x0 x1 x2 y) := by
  pointwise [val_main_v9, val_main_v3, val_main_v4, val_main_v5, val_main_v6, val_main_v7, val_main_v8,
    val_main_v0, val_main_v1, val_main_v2, val_main_cst, val_main_cst_0, val_main_cst_1]
  refine Eq.trans ?_ (Adam.adaPart_cases (fun k r j => x0 (ix3 k r j)) (fun k r j => x1 (ix3 k r j))
    (fun k r j => x2 (ix3 k r j)) y)
  congr 1

theorem ada : Adam.IsStep (w (ix2 0 y)) (Adam.total (part x0 x1 x2 y)) (m (ix2 0 y)) (v (ix2 0 y))
      (val_main_v9 (F := Ideal) x0 x1 x2 (ix2 0 y)) (val_main_v33 (F := Ideal) x0 x1 x2 w m v (ix2 0 y))
      (val_main_v14 (F := Ideal) x0 x1 x2 m (ix2 0 y)) (val_main_v20 (F := Ideal) x0 x1 x2 v (ix2 0 y)) :=
  host_step bcast_S_S1x6144 rfl (ada_grad x0 x1 x2 y) rfl rfl

end Ada

theorem loss (x : FVec Ideal S8x8x1024 .f32) (r : Fin 8) (j : Fin 128) :
    val_main_v272 (F := Ideal) x (ix2 r j) = Adam.total fun k => x (ix3 k 2 ⟨j.val, by omega⟩) := by
  pointwise [val_main_v272, val_main_v271, val_main_v0, val_main_cst]
  try rfl

end Cert.SmallRef

end
-- ==== Proof.SmallBlock.lean ====
/- What the optimiser's step on the small weights stores, entry by entry. -/
module

public import proofs.«01_k».proof.Proof.AdamStep
public import proofs.«01_k».proof.Proof.SmallOut
public import Idealize.ShloMosaic.Lib.Pipeline.ValueKit
public import Idealize.ShloMosaic.Lib.Pointwise

@[expose] public section

set_option maxRecDepth 16384

noncomputable section

namespace Cert.SmallBlock

open Idealize.ShloMosaic Idealize.ShloMosaic.TcCoe
open Cert.Kernel11Ideal Cert.Kernel11Ideal.Gen Cert.SmallRun

/-! ## The devices' parts added up -/

theorem tot0_at (x : FVec Ideal S8x8x1024 .f32) (r : Fin 8) (j : Fin 1024) :
    tot0 (F := Ideal) x (ix2 r j) = Adam.total fun k => x (ix3 k r j) := by
  pointwise [tot0, k0_pay2]
  rw [Adam.total, Fin.sum_univ_eight]

theorem tot1_at (x : FVec Ideal S8x8x1024 .f32) (r : Fin 8) (j : Fin 1024) :
    tot1 (F := Ideal) x (ix2 r j) = Adam.total fun k => x (ix3 k r j) := by
  pointwise [tot1, k0_pay4, k0_pay3]
  rw [Adam.total, Fin.sum_univ_eight]

theorem tot2_at (x : FVec Ideal S8x8x1024 .f32) (r : Fin 8) (j : Fin 1024) :
    tot2 (F := Ideal) x (ix2 r j) = Adam.total fun k => x (ix3 k r j) := by
  pointwise [tot2, k0_pay5, k0_pay6]
  rw [Adam.total, Fin.sum_univ_eight]

theorem tot3_at (x : FVec Ideal S8x4x128x128 .f32) (h : Fin 4) (i j : Fin 128) :
    tot3 (F := Ideal) x (ix3 h i j) = Adam.total fun k => x (ix4 k h i j) := by
  pointwise [tot3, k0_pay8, k0_pay7]
  rw [Adam.total, Fin.sum_univ_eight]

theorem tot4_at (x : FVec Ideal S8x128x4 .f32) (i : Fin 128) (h : Fin 4) :
    tot4 (F := Ideal) x (ix2 i h) = Adam.total fun k => x (ix3 k i h) := by
  pointwise [tot4, k0_pay10, k0_pay9]
  rw [Adam.total, Fin.sum_univ_eight]

theorem tot5_at (x : FVec Ideal S8x1x512 .f32) (j : Fin 512) :
    tot5 (F := Ideal) x (ix2 0 j) = Adam.total fun k => x (ix3 k 0 j) := by
  pointwise [tot5, k0_pay11]
  rw [Adam.total, Fin.sum_univ_eight]

theorem tot6_at (x : FVec Ideal S8x1x512 .f32) (j : Fin 512) :
    tot6 (F := Ideal) x (ix2 0 j) = Adam.total fun k => x (ix3 k 0 j) := by
  pointwise [tot6, k0_pay14, k0_pay12, k0_pay13]
  rw [Adam.total, Fin.sum_univ_eight]

theorem tot7_at (x : FVec Ideal S8x2x512 .f32) (r : Fin 2) (j : Fin 512) :
    tot7 (F := Ideal) x (ix2 r j) = Adam.total fun k => x (ix3 k r j) := by
  pointwise [tot7, k0_pay16, k0_pay15]
  rw [Adam.total, Fin.sum_univ_eight]

theorem tot8_at (x : FVec Ideal S8x1x128 .f32) (j : Fin 128) :
    tot8 (F := Ideal) x (ix2 0 j) = Adam.total fun k => x (ix3 k 0 j) := by
  pointwise [tot8, k0_pay18, k0_pay17]
  rw [Adam.total, Fin.sum_univ_eight]

/-! ## The steps -/

theorem norm1 (x : FVec Ideal S8x8x1024 .f32) (w m v : FVec Ideal S1x1024 .f32) (j : Fin 1024) :
    Adam.IsStep (w (ix2 0 j)) (Adam.total fun k => x (ix3 k 2 j)) (m (ix2 0 j)) (v (ix2 0 j))
      (out43 (F := Ideal) x (ix2 0 j)) (out44 (F := Ideal) x w m v (ix2 0 j))
      (out45 (F := Ideal) x m (ix2 0 j)) (out46 (F := Ideal) x v (ix2 0 j)) := by
  rw [← tot2_at x 2 j]
  unfold out43 out44 out45 out46
  refine ⟨?_, ?_, ?_, ?_⟩ <;> frame_out <;> pointwise [k0_pay46, k0_pay49, k0_pay50, k0_pay51] <;> rfl

theorem mixW (x : FVec Ideal S8x4x128x128 .f32) (w m v : FVec Ideal S4x128x128 .f32) (h : Fin 4) (i j : Fin 128) :
    Adam.IsStep (w (ix3 h i j)) (Adam.total fun k => x (ix4 k h i j)) (m (ix3 h i j)) (v (ix3 h i j))
      (out47 (F := Ideal) x (ix3 h i j)) (out48 (F := Ideal) x w m v (ix3 h i j))
      (out49 (F := Ideal) x m (ix3 h i j)) (out50 (F := Ideal) x v (ix3 h i j)) := by
  rw [← tot3_at x h i j]
  unfold out47 out48 out49 out50
  refine ⟨?_, ?_, ?_, ?_⟩ <;> frame_out <;> pointwise [k0_pay52, k0_pay53, k0_pay54] <;> rfl

theorem mixB (x : FVec Ideal S8x128x4 .f32) (w m v : FVec Ideal S128x4 .f32) (i : Fin 128) (h : Fin 4) :
    Adam.IsStep (w (ix2 i h)) (Adam.total fun k => x (ix3 k i h)) (m (ix2 i h)) (v (ix2 i h))
      (out51 (F := Ideal) x (ix2 i h)) (out52 (F := Ideal) x w m v (ix2 i h))
      (out53 (F := Ideal) x m (ix2 i h)) (out54 (F := Ideal) x v (ix2 i h)) := by
  rw [← tot4_at x i h]
  unfold out51 out52 out53 out54
  refine ⟨?_, ?_, ?_, ?_⟩ <;> frame_out <;> pointwise [k0_pay55, k0_pay56, k0_pay57, k0_pay58] <;> rfl

theorem lnW (x : FVec Ideal S8x1x512 .f32) (w m v : FVec Ideal S1x512 .f32) (j : Fin 512) :
    Adam.IsStep (w (ix2 0 j)) (Adam.total fun k => x (ix3 k 0 j)) (m (ix2 0 j)) (v (ix2 0 j))
      (out55 (F := Ideal) x (ix2 0 j)) (out56 (F := Ideal) x w m v (ix2 0 j))
      (out57 (F := Ideal) x m (ix2 0 j)) (out58 (F := Ideal) x v (ix2 0 j)) := by
  rw [← tot5_at x j]
  unfold out55 out56 out57 out58
  refine ⟨?_, ?_, ?_, ?_⟩ <;> frame_out <;> pointwise [k0_pay59, k0_pay60, k0_pay61, k0_pay62, k0_pay63] <;> rfl

theorem lnB (x : FVec Ideal S8x1x512 .f32) (w m v : FVec Ideal S1x512 .f32) (j : Fin 512) :
    Adam.IsStep (w (ix2 0 j)) (Adam.total fun k => x (ix3 k 0 j)) (m (ix2 0 j)) (v (ix2 0 j))
      (out59 (F := Ideal) x (ix2 0 j)) (out60 (F := Ideal) x w m v (ix2 0 j))
      (out61 (F := Ideal) x m (ix2 0 j)) (out62 (F := Ideal) x v (ix2 0 j)) := by
  rw [← tot6_at x j]
  unfold out59 out60 out61 out62
  refine ⟨?_, ?_, ?_, ?_⟩ <;> frame_out <;> pointwise [k0_pay64, k0_pay65, k0_pay66] <;> rfl

theorem lower (x : FVec Ideal S8x2x512 .f32) (w m v : FVec Ideal S2x512 .f32) (r : Fin 2) (j : Fin 512) :
    Adam.IsStep (w (ix2 r j)) (Adam.total fun k => x (ix3 k r j)) (m (ix2 r j)) (v (ix2 r j))
      (out63 (F := Ideal) x (ix2 r j)) (out64 (F := Ideal) x w m v (ix2 r j))
      (out65 (F := Ideal) x m (ix2 r j)) (out66 (F := Ideal) x v (ix2 r j)) := by
  rw [← tot7_at x r j]
  unfold out63 out64 out65 out66
  refine ⟨?_, ?_, ?_, ?_⟩ <;> frame_out <;> pointwise [k0_pay67, k0_pay68, k0_pay69] <;> rfl

theorem groupW (x : FVec Ideal S8x1x128 .f32) (w m v : FVec Ideal S1x128 .f32) (j : Fin 128) :
    Adam.IsStep (w (ix2 0 j)) (Adam.total fun k => x (ix3 k 0 j)) (m (ix2 0 j)) (v (ix2 0 j))
      (out67 (F := Ideal) x (ix2 0 j)) (out68 (F := Ideal) x w m v (ix2 0 j))
      (out69 (F := Ideal) x m (ix2 0 j)) (out70 (F := Ideal) x v (ix2 0 j)) := by
  rw [← tot8_at x j]
  unfold out67 out68 out69 out70
  refine ⟨?_, ?_, ?_, ?_⟩ <;> frame_out <;> pointwise [k0_pay70, k0_pay71, k0_pay72] <;> rfl

theorem norm2 (x : FVec Ideal S8x8x1024 .f32) (w m v : FVec Ideal S1x1024 .f32) (j : Fin 1024) :
    Adam.IsStep (w (ix2 0 j)) (Adam.total fun k => x (ix3 k 2 j)) (m (ix2 0 j)) (v (ix2 0 j))
      (out71 (F := Ideal) x (ix2 0 j)) (out72 (F := Ideal) x w m v (ix2 0 j))
      (out73 (F := Ideal) x m (ix2 0 j)) (out74 (F := Ideal) x v (ix2 0 j)) := by
  rw [← tot1_at x 2 j]
  unfold out71 out72 out73 out74
  refine ⟨?_, ?_, ?_, ?_⟩ <;> frame_out <;> pointwise [k0_pay47, k0_pay73, k0_pay74, k0_pay75] <;> rfl

theorem last (x : FVec Ideal S8x8x1024 .f32) (w m v : FVec Ideal S1x1024 .f32) (j : Fin 1024) :
    Adam.IsStep (w (ix2 0 j)) (Adam.total fun k => x (ix3 k 1 j)) (m (ix2 0 j)) (v (ix2 0 j))
      (out75 (F := Ideal) x (ix2 0 j)) (out76 (F := Ideal) x w m v (ix2 0 j))
      (out77 (F := Ideal) x m (ix2 0 j)) (out78 (F := Ideal) x v (ix2 0 j)) := by
  rw [← tot0_at x 1 j]
  unfold out75 out76 out77 out78
  refine ⟨?_, ?_, ?_, ?_⟩ <;> frame_out <;> pointwise [k0_pay48, k0_pay76, k0_pay77, k0_pay78] <;> rfl

theorem loss (x : FVec Ideal S8x8x1024 .f32) (r : Fin 8) (j : Fin 128) :
    out79 (F := Ideal) x (ix2 r j) = Adam.total fun k => x (ix3 k 2 ⟨j.val, by omega⟩) := by
  rw [← tot0_at]
  unfold out79
  frame_out
  pointwise [k0_pay1]
  blk_ext

end Cert.SmallBlock

end
-- ==== Proof.SmallAda.lean ====
/- What the optimiser's step on the small weights stores, of the modulation's bias. -/
module

public import proofs.«01_k».proof.Proof.AdamStep
public import proofs.«01_k».proof.Proof.SmallBlock
public import Idealize.ShloMosaic.Lib.Pipeline.ValueKit
public import Idealize.ShloMosaic.Lib.Pointwise

@[expose] public section

set_option maxRecDepth 16384

noncomputable section

namespace Cert.SmallAda

open Idealize.ShloMosaic Idealize.ShloMosaic.TcCoe
open Cert.Kernel11Ideal Cert.Kernel11Ideal.Gen Cert.SmallRun Cert.SmallBlock

variable (x0 x1 x2 : FVec Ideal S8x8x1024 .f32) (w m v : FVec Ideal S1x6144 .f32) (y : Fin 6144)

/-- Device `k`'s part of the gradient. -/
abbrev part (y : Fin 6144) : Fin 8 → EReal :=
  Adam.adaPart (fun k r j => x0 (ix3 k r j)) (fun k r j => x1 (ix3 k r j)) (fun k r j => x2 (ix3 k r j)) y

theorem part_0 {j : Fin 1024} (h : y.val = j.val) :
    part x0 x1 x2 y = fun k => x2 (ix3 k 0 j) := Adam.adaPart_0 h

theorem part_1 {j : Fin 1024} (h : y.val = 1024 + j.val) :
    part x0 x1 x2 y = fun k => x2 (ix3 k 1 j) := Adam.adaPart_1 h

theorem part_2 {j : Fin 1024} (h : y.val = 2048 + j.val) :
    part x0 x1 x2 y = fun k => x1 (ix3 k 3 j) := Adam.adaPart_2 h

theorem part_3 {j : Fin 1024} (h : y.val = 3072 + j.val) :
    part x0 x1 x2 y = fun k => x1 (ix3 k 0 j) := Adam.adaPart_3 h

theorem part_4 {j : Fin 1024} (h : y.val = 4096 + j.val) :
    part x0 x1 x2 y = fun k => x1 (ix3 k 1 j) := Adam.adaPart_4 h

theorem part_5 {j : Fin 1024} (h : y.val = 5120 + j.val) :
    part x0 x1 x2 y = fun k => x0 (ix3 k 0 j) := Adam.adaPart_5 h

/-- Each piece is a chunk of 1024 columns; at its column `x` the array's column is `y`. -/
theorem ada : Adam.IsStep (w (ix2 0 y)) (Adam.total (part x0 x1 x2 y)) (m (ix2 0 y)) (v (ix2 0 y))
      (out39 (F := Ideal) x0 x1 x2 (ix2 0 y)) (out40 (F := Ideal) x0 x1 x2 w m v (ix2 0 y))
      (out41 (F := Ideal) x0 x1 x2 m (ix2 0 y)) (out42 (F := Ideal) x0 x1 x2 v (ix2 0 y)) := by
  unfold out39 out40 out41 out42
  refine ⟨?_, ?_, ?_, ?_⟩ <;> canon_tiles x h
  all_goals
    pointwise [k0_pay19, k0_pay20, k0_pay21, k0_pay22, k0_pay23, k0_pay24, k0_pay25, k0_pay26, k0_pay27, k0_pay28, k0_pay29, k0_pay30, k0_pay31, k0_pay32,
      k0_pay33, k0_pay34, k0_pay35, k0_pay36, k0_pay37, k0_pay38, k0_pay39, k0_pay40, k0_pay41, k0_pay42, k0_pay43, k0_pay44, k0_pay45, tot0_at, tot1_at, tot2_at]
    first
    | have e := part_5 (j := x 1) x0 x1 x2 y h1
      have hy : y = ⟨5120 + (x 1).val, by omega⟩ := Fin.ext h1
      rw [e]
      first | done | (rw [hy]; rfl)
    | have e := part_4 (j := x 1) x0 x1 x2 y h1
      have hy : y = ⟨4096 + (x 1).val, by omega⟩ := Fin.ext h1
      rw [e]
      first | done | (rw [hy]; rfl)
    | have e := part_3 (j := x 1) x0 x1 x2 y h1
      have hy : y = ⟨3072 + (x 1).val, by omega⟩ := Fin.ext h1
      rw [e]
      first | done | (rw [hy]; rfl)
    | have e := part_2 (j := x 1) x0 x1 x2 y h1
      have hy : y = ⟨2048 + (x 1).val, by omega⟩ := Fin.ext h1
      rw [e]
      first | done | (rw [hy]; rfl)
    | have e := part_1 (j := x 1) x0 x1 x2 y h1
      have hy : y = ⟨1024 + (x 1).val, by omega⟩ := Fin.ext h1
      rw [e]
      first | done | (rw [hy]; rfl)
    | have e := part_0 (j := x 1) x0 x1 x2 y h1
      have hy : y = ⟨(x 1).val, by omega⟩ := Fin.ext h1
      rw [e]
      first | done | (rw [hy]; rfl)

end Cert.SmallAda

end
-- ==== Proof.SmallSame.lean ====
/- What the optimiser's kernel on the small weights leaves is what the reference computes. -/
module

public import proofs.«01_k».proof.Proof.SmallRef
public import proofs.«01_k».proof.Proof.SmallBlock
public import proofs.«01_k».proof.Proof.SmallAda
public import Idealize.ShloMosaic.Lib.Pipeline.ValueKit
public import Idealize.ShloMosaic.Lib.Pointwise

@[expose] public section

set_option maxRecDepth 16384

noncomputable section

namespace Cert.SmallSame

open Cert.Kernel11Ideal Cert.SmallRun
open Idealize.ShloMosaic Idealize.ShloMosaic.TcCoe Idealize.SL.Sem

/-- Four arrays that agree at every entry that `e` names are equal when `e` names all of them. -/
theorem agree {ι : Type} {s : Shape} (e : ι → s.Idx) (he : ∀ y, ∃ i, e i = y) {g d a b g' d' a' b' : s.Idx → EReal}
    (h : ∀ i, g (e i) = g' (e i) ∧ d (e i) = d' (e i) ∧ a (e i) = a' (e i) ∧ b (e i) = b' (e i)) :
    g = g' ∧ d = d' ∧ a = a' ∧ b = b' := by
  have all : ∀ y, g y = g' y ∧ d y = d' y ∧ a y = a' y ∧ b y = b' y := fun y => by
    obtain ⟨i, rfl⟩ := he y
    exact h i
  exact ⟨funext fun y => (all y).1, funext fun y => (all y).2.1, funext fun y => (all y).2.2.1,
    funext fun y => (all y).2.2.2⟩

theorem rows {n : ℕ} (y : (⟨2, ![1, n]⟩ : Shape).Idx) : ∃ j : Fin n, ix2 0 j = y := by
  refine ⟨y 1, ?_⟩
  funext a
  match a with
  | ⟨0, _⟩ => exact Subsingleton.elim (α := Fin 1) _ _
  | ⟨1, _⟩ => rfl

theorem pairs {k n : ℕ} (y : (⟨2, ![k, n]⟩ : Shape).Idx) : ∃ i : Fin k × Fin n, ix2 i.1 i.2 = y := by
  refine ⟨(y 0, y 1), ?_⟩
  funext a
  match a with
  | ⟨0, _⟩ => rfl
  | ⟨1, _⟩ => rfl

theorem triples {k l n : ℕ} (y : (⟨3, ![k, l, n]⟩ : Shape).Idx) :
    ∃ i : Fin k × Fin l × Fin n, ix3 i.1 i.2.1 i.2.2 = y := by
  refine ⟨(y 0, y 1, y 2), ?_⟩
  funext a
  match a with
  | ⟨0, _⟩ => rfl
  | ⟨1, _⟩ => rfl
  | ⟨2, _⟩ => rfl

/-- The modulation's bias. -/
theorem ada (x0 x1 x2 : FVec Ideal S8x8x1024 .f32) (w m v : FVec Ideal S1x6144 .f32) :
    out39 x0 x1 x2 = Reference11Ideal.Read.val_main_v9 (F := Ideal) x0 x1 x2
    ∧ out40 x0 x1 x2 w m v = Reference11Ideal.Read.val_main_v33 (F := Ideal) x0 x1 x2 w m v
    ∧ out41 x0 x1 x2 m = Reference11Ideal.Read.val_main_v14 (F := Ideal) x0 x1 x2 m
    ∧ out42 x0 x1 x2 v = Reference11Ideal.Read.val_main_v20 (F := Ideal) x0 x1 x2 v :=
  agree _ rows fun j => (SmallAda.ada x0 x1 x2 w m v j).unique (SmallRef.ada x0 x1 x2 w m v j)

/-- The first norm's weight. -/
theorem norm1 (x : FVec Ideal S8x8x1024 .f32) (w m v : FVec Ideal S1x1024 .f32) :
    out43 x = Reference11Ideal.Read.val_main_v34 (F := Ideal) x ∧ out44 x w m v = Reference11Ideal.Read.val_main_v58 (F := Ideal) x w m v
    ∧ out45 x m = Reference11Ideal.Read.val_main_v39 (F := Ideal) x m ∧ out46 x v = Reference11Ideal.Read.val_main_v45 (F := Ideal) x v :=
  agree _ rows fun j => (SmallBlock.norm1 x w m v j).unique (SmallRef.norm1 x w m v j)

/-- The mixing weight, the kernel's operands `w`, `m`, `v` being the host's `w'`, `m'`, `v'` reshaped. -/
theorem mixW (x : FVec Ideal S8x4x128x128 .f32) (w m v : FVec Ideal S4x128x128 .f32) (w' m' v' : FVec Ideal S1x4x128x128 .f32)
    (hw : ∀ h i j, w (ix3 h i j) = w' (ix4 0 h i j)) (hm : ∀ h i j, m (ix3 h i j) = m' (ix4 0 h i j))
    (hv : ∀ h i j, v (ix3 h i j) = v' (ix4 0 h i j)) :
    out47 x = Reference11Ideal.Read.val_main_v59 (F := Ideal) x ∧ out48 x w m v = Reference11Ideal.Read.val_main_v86 (F := Ideal) x w' m' v'
    ∧ out49 x m = Reference11Ideal.Read.val_main_v67 (F := Ideal) x m' ∧ out50 x v = Reference11Ideal.Read.val_main_v73 (F := Ideal) x v' :=
  agree _ triples fun i => by
    have s := SmallBlock.mixW x w m v i.1 i.2.1 i.2.2
    rw [hw, hm, hv] at s
    exact s.unique (SmallRef.mixW x w' m' v' i.1 i.2.1 i.2.2)

/-- The mixing bias, the kernel's operands `w`, `m`, `v` being the host's `w'`, `m'`, `v'` reshaped. -/
theorem mixB (x : FVec Ideal S8x128x4 .f32) (w m v : FVec Ideal S128x4 .f32) (w' m' v' : FVec Ideal S1x4x128 .f32)
    (hw : ∀ i h, w (ix2 i h) = w' (ix3 0 h i)) (hm : ∀ i h, m (ix2 i h) = m' (ix3 0 h i))
    (hv : ∀ i h, v (ix2 i h) = v' (ix3 0 h i)) :
    out51 x = Reference11Ideal.Read.val_main_v87 (F := Ideal) x ∧ out52 x w m v = Reference11Ideal.Read.val_main_v117 (F := Ideal) x w' m' v'
    ∧ out53 x m = Reference11Ideal.Read.val_main_v98 (F := Ideal) x m' ∧ out54 x v = Reference11Ideal.Read.val_main_v104 (F := Ideal) x v' :=
  agree _ pairs fun i => by
    have s := SmallBlock.mixB x w m v i.1 i.2
    rw [hw, hm, hv] at s
    exact s.unique (SmallRef.mixB x w' m' v' i.1 i.2)

/-- The value norm's weight. -/
theorem lnW (x : FVec Ideal S8x1x512 .f32) (w m v : FVec Ideal S1x512 .f32) :
    out55 x = Reference11Ideal.Read.val_main_v118 (F := Ideal) x ∧ out56 x w m v = Reference11Ideal.Read.val_main_v142 (F := Ideal) x w m v
    ∧ out57 x m = Reference11Ideal.Read.val_main_v123 (F := Ideal) x m ∧ out58 x v = Reference11Ideal.Read.val_main_v129 (F := Ideal) x v :=
  agree _ rows fun j => (SmallBlock.lnW x w m v j).unique (SmallRef.lnW x w m v j)

/-- The value norm's bias. -/
theorem lnB (x : FVec Ideal S8x1x512 .f32) (w m v : FVec Ideal S1x512 .f32) :
    out59 x = Reference11Ideal.Read.val_main_v143 (F := Ideal) x ∧ out60 x w m v = Reference11Ideal.Read.val_main_v167 (F := Ideal) x w m v
    ∧ out61 x m = Reference11Ideal.Read.val_main_v148 (F := Ideal) x m ∧ out62 x v = Reference11Ideal.Read.val_main_v154 (F := Ideal) x v :=
  agree _ rows fun j => (SmallBlock.lnB x w m v j).unique (SmallRef.lnB x w m v j)

/-- The lower bounds. -/
theorem lower (x : FVec Ideal S8x2x512 .f32) (w m v : FVec Ideal S2x512 .f32) :
    out63 x = Reference11Ideal.Read.val_main_v168 (F := Ideal) x ∧ out64 x w m v = Reference11Ideal.Read.val_main_v192 (F := Ideal) x w m v
    ∧ out65 x m = Reference11Ideal.Read.val_main_v173 (F := Ideal) x m ∧ out66 x v = Reference11Ideal.Read.val_main_v179 (F := Ideal) x v :=
  agree _ pairs fun i => (SmallBlock.lower x w m v i.1 i.2).unique (SmallRef.lower x w m v i.1 i.2)

/-- The group norm's weight. -/
theorem groupW (x : FVec Ideal S8x1x128 .f32) (w m v : FVec Ideal S1x128 .f32) :
    out67 x = Reference11Ideal.Read.val_main_v193 (F := Ideal) x ∧ out68 x w m v = Reference11Ideal.Read.val_main_v217 (F := Ideal) x w m v
    ∧ out69 x m = Reference11Ideal.Read.val_main_v198 (F := Ideal) x m ∧ out70 x v = Reference11Ideal.Read.val_main_v204 (F := Ideal) x v :=
  agree _ rows fun j => (SmallBlock.groupW x w m v j).unique (SmallRef.groupW x w m v j)

/-- The second norm's weight. -/
theorem norm2 (x : FVec Ideal S8x8x1024 .f32) (w m v : FVec Ideal S1x1024 .f32) :
    out71 x = Reference11Ideal.Read.val_main_v218 (F := Ideal) x ∧ out72 x w m v = Reference11Ideal.Read.val_main_v242 (F := Ideal) x w m v
    ∧ out73 x m = Reference11Ideal.Read.val_main_v223 (F := Ideal) x m ∧ out74 x v = Reference11Ideal.Read.val_main_v229 (F := Ideal) x v :=
  agree _ rows fun j => (SmallBlock.norm2 x w m v j).unique (SmallRef.norm2 x w m v j)

/-- The last norm's weight, the kernel's operands `w`, `m`, `v` being the host's `w'`, `m'`, `v'` reshaped. -/
theorem last (x : FVec Ideal S8x8x1024 .f32) (w m v : FVec Ideal S1x1024 .f32) (w' m' v' : FVec Ideal S1024 .f32)
    (hw : ∀ j, w (ix2 0 j) = w' (ix1 j)) (hm : ∀ j, m (ix2 0 j) = m' (ix1 j))
    (hv : ∀ j, v (ix2 0 j) = v' (ix1 j)) :
    out75 x = Reference11Ideal.Read.val_main_v243 (F := Ideal) x ∧ out76 x w m v = Reference11Ideal.Read.val_main_v270 (F := Ideal) x w' m' v'
    ∧ out77 x m = Reference11Ideal.Read.val_main_v251 (F := Ideal) x m' ∧ out78 x v = Reference11Ideal.Read.val_main_v257 (F := Ideal) x v' :=
  agree _ rows fun j => by
    have s := SmallBlock.last x w m v j
    rw [hw, hm, hv] at s
    exact s.unique (SmallRef.last x w' m' v' j)

/-- The loss. -/
theorem loss (x : FVec Ideal S8x8x1024 .f32) :
    out79 x = Reference11Ideal.Read.val_main_v272 (F := Ideal) x := by
  funext y
  obtain ⟨i, rfl⟩ := pairs y
  exact (SmallBlock.loss x i.1 i.2).trans (SmallRef.loss x i.1 i.2).symm

end Cert.SmallSame

end
-- ==== Proof.SmallArrays.lean ====
/- The arrays that the optimiser's kernel on the small weights leaves in memory. -/
module

public import proofs.«01_k».proof.Proof.SmallRun
public import proofs.«01_k».proof.Proof.SmallSame
public import Idealize.ShloMosaic.Lib.Pipeline.ValueKit
public import Idealize.ShloMosaic.Lib.Pointwise
public import Idealize.ShloMosaic.Lib.Claim

@[expose] public section

set_option maxRecDepth 16384

noncomputable section

namespace Cert.SmallArrays

open Cert.Kernel11Ideal Cert.Kernel11Ideal.Gen Cert.SmallRun
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-- The one point of the grid. -/
abbrev pt : Fin cfg0.N := ⟨0, by decide⟩

theorem index_zero : ∀ (w : Fin cfg0.W) (a : Fin (cfg0.win w).shape.rank), (cfg0.win w).index pt a = 0 := by
  decide +kernel

/-- Every window's block is its whole array. -/
theorem emb_zero (w : Fin cfg0.W) (y : ((cfg0.win w).xblock (cfg0.grid.coords pt)).Idx) (j : (cfg0.win w).shape.Idx)
    (hj : ∀ a, (j a).val = (y a).val) : ((cfg0.win w).blk pt).view.emb y = (cfg0.win w).arr.view.emb j := by
  show (cfg0.win w).arr.view.emb (((cfg0.win w).rect pt).emb y) = _
  congr 1
  funext a
  apply Fin.ext
  rw [Pipeline.Window.rect_emb_val_of_index_zero _ _ _ (index_zero w a), hj a]

/-! ## The operands that the kernel reads as they are -/

theorem read0 : (iblk m c 0 pt : FVec Ideal S8x8x1024 .f32) = m ((c : Thread nD τ).loc main_arg0) :=
  (funext fun y => congrArg (V m c main_arg0) (emb_zero 0 y y fun _ => rfl)).trans
    (V_kept m c main_arg0 (by decide))

theorem read1 : (iblk m c 1 pt : FVec Ideal S8x8x1024 .f32) = m ((c : Thread nD τ).loc main_arg1) :=
  (funext fun y => congrArg (V m c main_arg1) (emb_zero 1 y y fun _ => rfl)).trans
    (V_kept m c main_arg1 (by decide))

theorem read2 : (iblk m c 2 pt : FVec Ideal S8x8x1024 .f32) = m ((c : Thread nD τ).loc main_arg2) :=
  (funext fun y => congrArg (V m c main_arg2) (emb_zero 2 y y fun _ => rfl)).trans
    (V_kept m c main_arg2 (by decide))

theorem read3 : (iblk m c 3 pt : FVec Ideal S8x4x128x128 .f32) = m ((c : Thread nD τ).loc main_arg3) :=
  (funext fun y => congrArg (V m c main_arg3) (emb_zero 3 y y fun _ => rfl)).trans
    (V_kept m c main_arg3 (by decide))

theorem read4 : (iblk m c 4 pt : FVec Ideal S8x128x4 .f32) = m ((c : Thread nD τ).loc main_arg4) :=
  (funext fun y => congrArg (V m c main_arg4) (emb_zero 4 y y fun _ => rfl)).trans
    (V_kept m c main_arg4 (by decide))

theorem read5 : (iblk m c 5 pt : FVec Ideal S8x1x512 .f32) = m ((c : Thread nD τ).loc main_arg5) :=
  (funext fun y => congrArg (V m c main_arg5) (emb_zero 5 y y fun _ => rfl)).trans
    (V_kept m c main_arg5 (by decide))

theorem read6 : (iblk m c 6 pt : FVec Ideal S8x1x512 .f32) = m ((c : Thread nD τ).loc main_arg6) :=
  (funext fun y => congrArg (V m c main_arg6) (emb_zero 6 y y fun _ => rfl)).trans
    (V_kept m c main_arg6 (by decide))

theorem read7 : (iblk m c 7 pt : FVec Ideal S8x2x512 .f32) = m ((c : Thread nD τ).loc main_arg7) :=
  (funext fun y => congrArg (V m c main_arg7) (emb_zero 7 y y fun _ => rfl)).trans
    (V_kept m c main_arg7 (by decide))

theorem read8 : (iblk m c 8 pt : FVec Ideal S8x1x128 .f32) = m ((c : Thread nD τ).loc main_arg8) :=
  (funext fun y => congrArg (V m c main_arg8) (emb_zero 8 y y fun _ => rfl)).trans
    (V_kept m c main_arg8 (by decide))

theorem read9 : (iblk m c 9 pt : FVec Ideal S1x6144 .f32) = m ((c : Thread nD τ).loc main_arg9) :=
  (funext fun y => congrArg (V m c main_arg9) (emb_zero 9 y y fun _ => rfl)).trans
    (V_kept m c main_arg9 (by decide))

theorem read10 : (iblk m c 10 pt : FVec Ideal S1x6144 .f32) = m ((c : Thread nD τ).loc main_arg10) :=
  (funext fun y => congrArg (V m c main_arg10) (emb_zero 10 y y fun _ => rfl)).trans
    (V_kept m c main_arg10 (by decide))

theorem read11 : (iblk m c 11 pt : FVec Ideal S1x6144 .f32) = m ((c : Thread nD τ).loc main_arg11) :=
  (funext fun y => congrArg (V m c main_arg11) (emb_zero 11 y y fun _ => rfl)).trans
    (V_kept m c main_arg11 (by decide))

theorem read12 : (iblk m c 12 pt : FVec Ideal S1x1024 .f32) = m ((c : Thread nD τ).loc main_arg12) :=
  (funext fun y => congrArg (V m c main_arg12) (emb_zero 12 y y fun _ => rfl)).trans
    (V_kept m c main_arg12 (by decide))

theorem read13 : (iblk m c 13 pt : FVec Ideal S1x1024 .f32) = m ((c : Thread nD τ).loc main_arg13) :=
  (funext fun y => congrArg (V m c main_arg13) (emb_zero 13 y y fun _ => rfl)).trans
    (V_kept m c main_arg13 (by decide))

theorem read14 : (iblk m c 14 pt : FVec Ideal S1x1024 .f32) = m ((c : Thread nD τ).loc main_arg14) :=
  (funext fun y => congrArg (V m c main_arg14) (emb_zero 14 y y fun _ => rfl)).trans
    (V_kept m c main_arg14 (by decide))

theorem read21 : (iblk m c 21 pt : FVec Ideal S1x512 .f32) = m ((c : Thread nD τ).loc main_arg21) :=
  (funext fun y => congrArg (V m c main_arg21) (emb_zero 21 y y fun _ => rfl)).trans
    (V_kept m c main_arg21 (by decide))

theorem read22 : (iblk m c 22 pt : FVec Ideal S1x512 .f32) = m ((c : Thread nD τ).loc main_arg22) :=
  (funext fun y => congrArg (V m c main_arg22) (emb_zero 22 y y fun _ => rfl)).trans
    (V_kept m c main_arg22 (by decide))

theorem read23 : (iblk m c 23 pt : FVec Ideal S1x512 .f32) = m ((c : Thread nD τ).loc main_arg23) :=
  (funext fun y => congrArg (V m c main_arg23) (emb_zero 23 y y fun _ => rfl)).trans
    (V_kept m c main_arg23 (by decide))

theorem read24 : (iblk m c 24 pt : FVec Ideal S1x512 .f32) = m ((c : Thread nD τ).loc main_arg24) :=
  (funext fun y => congrArg (V m c main_arg24) (emb_zero 24 y y fun _ => rfl)).trans
    (V_kept m c main_arg24 (by decide))

theorem read25 : (iblk m c 25 pt : FVec Ideal S1x512 .f32) = m ((c : Thread nD τ).loc main_arg25) :=
  (funext fun y => congrArg (V m c main_arg25) (emb_zero 25 y y fun _ => rfl)).trans
    (V_kept m c main_arg25 (by decide))

theorem read26 : (iblk m c 26 pt : FVec Ideal S1x512 .f32) = m ((c : Thread nD τ).loc main_arg26) :=
  (funext fun y => congrArg (V m c main_arg26) (emb_zero 26 y y fun _ => rfl)).trans
    (V_kept m c main_arg26 (by decide))

theorem read27 : (iblk m c 27 pt : FVec Ideal S2x512 .f32) = m ((c : Thread nD τ).loc main_arg27) :=
  (funext fun y => congrArg (V m c main_arg27) (emb_zero 27 y y fun _ => rfl)).trans
    (V_kept m c main_arg27 (by decide))

theorem read28 : (iblk m c 28 pt : FVec Ideal S2x512 .f32) = m ((c : Thread nD τ).loc main_arg28) :=
  (funext fun y => congrArg (V m c main_arg28) (emb_zero 28 y y fun _ => rfl)).trans
    (V_kept m c main_arg28 (by decide))

theorem read29 : (iblk m c 29 pt : FVec Ideal S2x512 .f32) = m ((c : Thread nD τ).loc main_arg29) :=
  (funext fun y => congrArg (V m c main_arg29) (emb_zero 29 y y fun _ => rfl)).trans
    (V_kept m c main_arg29 (by decide))

theorem read30 : (iblk m c 30 pt : FVec Ideal S1x128 .f32) = m ((c : Thread nD τ).loc main_arg30) :=
  (funext fun y => congrArg (V m c main_arg30) (emb_zero 30 y y fun _ => rfl)).trans
    (V_kept m c main_arg30 (by decide))

theorem read31 : (iblk m c 31 pt : FVec Ideal S1x128 .f32) = m ((c : Thread nD τ).loc main_arg31) :=
  (funext fun y => congrArg (V m c main_arg31) (emb_zero 31 y y fun _ => rfl)).trans
    (V_kept m c main_arg31 (by decide))

theorem read32 : (iblk m c 32 pt : FVec Ideal S1x128 .f32) = m ((c : Thread nD τ).loc main_arg32) :=
  (funext fun y => congrArg (V m c main_arg32) (emb_zero 32 y y fun _ => rfl)).trans
    (V_kept m c main_arg32 (by decide))

theorem read33 : (iblk m c 33 pt : FVec Ideal S1x1024 .f32) = m ((c : Thread nD τ).loc main_arg33) :=
  (funext fun y => congrArg (V m c main_arg33) (emb_zero 33 y y fun _ => rfl)).trans
    (V_kept m c main_arg33 (by decide))

theorem read34 : (iblk m c 34 pt : FVec Ideal S1x1024 .f32) = m ((c : Thread nD τ).loc main_arg34) :=
  (funext fun y => congrArg (V m c main_arg34) (emb_zero 34 y y fun _ => rfl)).trans
    (V_kept m c main_arg34 (by decide))

theorem read35 : (iblk m c 35 pt : FVec Ideal S1x1024 .f32) = m ((c : Thread nD τ).loc main_arg35) :=
  (funext fun y => congrArg (V m c main_arg35) (emb_zero 35 y y fun _ => rfl)).trans
    (V_kept m c main_arg35 (by decide))

/-! ## The operands that the host reshapes -/

theorem read15 (h : Fin 4) (i j : Fin 128) : (iblk m c 15 pt : FVec Ideal S4x128x128 .f32) (ix3 h i j)
    = m ((c : Thread nD τ).loc main_arg15) (ix4 0 h i j) := by
  refine (congrArg (V m c main_v0) (emb_zero 15 (ix3 h i j) (ix3 h i j) fun _ => rfl)).trans ?_
  entry_read
  pointwise
  rfl

theorem read16 (h : Fin 4) (i j : Fin 128) : (iblk m c 16 pt : FVec Ideal S4x128x128 .f32) (ix3 h i j)
    = m ((c : Thread nD τ).loc main_arg16) (ix4 0 h i j) := by
  refine (congrArg (V m c main_v1) (emb_zero 16 (ix3 h i j) (ix3 h i j) fun _ => rfl)).trans ?_
  entry_read
  pointwise
  rfl

theorem read17 (h : Fin 4) (i j : Fin 128) : (iblk m c 17 pt : FVec Ideal S4x128x128 .f32) (ix3 h i j)
    = m ((c : Thread nD τ).loc main_arg17) (ix4 0 h i j) := by
  refine (congrArg (V m c main_v2) (emb_zero 17 (ix3 h i j) (ix3 h i j) fun _ => rfl)).trans ?_
  entry_read
  pointwise
  rfl

theorem read18 (i : Fin 128) (h : Fin 4) : (iblk m c 18 pt : FVec Ideal S128x4 .f32) (ix2 i h)
    = m ((c : Thread nD τ).loc main_arg18) (ix3 0 h i) := by
  refine (congrArg (V m c main_v4) (emb_zero 18 (ix2 i h) (ix2 i h) fun _ => rfl)).trans ?_
  entry_read
  pointwise
  rfl

theorem read19 (i : Fin 128) (h : Fin 4) : (iblk m c 19 pt : FVec Ideal S128x4 .f32) (ix2 i h)
    = m ((c : Thread nD τ).loc main_arg19) (ix3 0 h i) := by
  refine (congrArg (V m c main_v6) (emb_zero 19 (ix2 i h) (ix2 i h) fun _ => rfl)).trans ?_
  entry_read
  pointwise
  rfl

theorem read20 (i : Fin 128) (h : Fin 4) : (iblk m c 20 pt : FVec Ideal S128x4 .f32) (ix2 i h)
    = m ((c : Thread nD τ).loc main_arg20) (ix3 0 h i) := by
  refine (congrArg (V m c main_v8) (emb_zero 20 (ix2 i h) (ix2 i h) fun _ => rfl)).trans ?_
  entry_read
  pointwise
  rfl

theorem read36 (j : Fin 1024) : (iblk m c 36 pt : FVec Ideal S1x1024 .f32) (ix2 0 j)
    = m ((c : Thread nD τ).loc main_arg36) (ix1 j) := by
  refine (congrArg (V m c main_v9) (emb_zero 36 (ix2 0 j) (ix2 0 j) fun _ => rfl)).trans ?_
  entry_read
  pointwise
  rfl

theorem read37 (j : Fin 1024) : (iblk m c 37 pt : FVec Ideal S1x1024 .f32) (ix2 0 j)
    = m ((c : Thread nD τ).loc main_arg37) (ix1 j) := by
  refine (congrArg (V m c main_v10) (emb_zero 37 (ix2 0 j) (ix2 0 j) fun _ => rfl)).trans ?_
  entry_read
  pointwise
  rfl

theorem read38 (j : Fin 1024) : (iblk m c 38 pt : FVec Ideal S1x1024 .f32) (ix2 0 j)
    = m ((c : Thread nD τ).loc main_arg38) (ix1 j) := by
  refine (congrArg (V m c main_v11) (emb_zero 38 (ix2 0 j) (ix2 0 j) fun _ => rfl)).trans ?_
  entry_read
  pointwise
  rfl

section Equal

variable {α β γ δ ε ζ η : Type}

theorem same₃ (f : α → β → γ → δ) {a a' b b' c c'} (ha : a = a') (hb : b = b') (hc : c = c') :
    f a b c = f a' b' c' := by rw [ha, hb, hc]

theorem same₄ (f : α → β → γ → δ → ε) {a a' b b' c c' d d'} (ha : a = a') (hb : b = b') (hc : c = c') (hd : d = d') :
    f a b c d = f a' b' c' d' := by rw [ha, hb, hc, hd]

theorem same₆ (f : α → β → γ → δ → ε → ζ → η) {a a' b b' c c' d d' e e' k k'} (ha : a = a') (hb : b = b')
    (hc : c = c') (hd : d = d') (he : e = e') (hk : k = k') : f a b c d e k = f a' b' c' d' e' k' := by
  rw [ha, hb, hc, hd, he, hk]

theorem four {a a₀ a' : α} {b b₀ b' : β} {c c₀ c' : γ} {d d₀ d' : δ} (ha : a = a₀) (hb : b = b₀) (hc : c = c₀) (hd : d = d₀)
    (h : a₀ = a' ∧ b₀ = b' ∧ c₀ = c' ∧ d₀ = d') : a = a' ∧ b = b' ∧ c = c' ∧ d = d' :=
  ⟨ha.trans h.1, hb.trans h.2.1, hc.trans h.2.2.1, hd.trans h.2.2.2⟩

end Equal

/-! ## The arrays, as the body leaves them -/

theorem left39 : (dats m 0 c).arrAt 39 cfg0.N
    = out39 (F := Ideal) (m ((c : Thread nD τ).loc main_arg0)) (m ((c : Thread nD τ).loc main_arg1))
      (m ((c : Thread nD τ).loc main_arg2)) :=
  ((dats m 0 c).arrAt_eq_of_after_last 39 pt (by decide +kernel) _ fun j => congrFun (after39 m c pt) j).trans
    (same₃ _ (read0 m c) (read1 m c) (read2 m c))

theorem left40 : (dats m 0 c).arrAt 40 cfg0.N
    = out40 (F := Ideal) (m ((c : Thread nD τ).loc main_arg0)) (m ((c : Thread nD τ).loc main_arg1))
      (m ((c : Thread nD τ).loc main_arg2)) (m ((c : Thread nD τ).loc main_arg9))
      (m ((c : Thread nD τ).loc main_arg10)) (m ((c : Thread nD τ).loc main_arg11)) :=
  ((dats m 0 c).arrAt_eq_of_after_last 40 pt (by decide +kernel) _ fun j => congrFun (after40 m c pt) j).trans
    (same₆ _ (read0 m c) (read1 m c) (read2 m c) (read9 m c) (read10 m c) (read11 m c))

theorem left41 : (dats m 0 c).arrAt 41 cfg0.N
    = out41 (F := Ideal) (m ((c : Thread nD τ).loc main_arg0)) (m ((c : Thread nD τ).loc main_arg1))
      (m ((c : Thread nD τ).loc main_arg2)) (m ((c : Thread nD τ).loc main_arg10)) :=
  ((dats m 0 c).arrAt_eq_of_after_last 41 pt (by decide +kernel) _ fun j => congrFun (after41 m c pt) j).trans
    (same₄ _ (read0 m c) (read1 m c) (read2 m c) (read10 m c))

theorem left42 : (dats m 0 c).arrAt 42 cfg0.N
    = out42 (F := Ideal) (m ((c : Thread nD τ).loc main_arg0)) (m ((c : Thread nD τ).loc main_arg1))
      (m ((c : Thread nD τ).loc main_arg2)) (m ((c : Thread nD τ).loc main_arg11)) :=
  ((dats m 0 c).arrAt_eq_of_after_last 42 pt (by decide +kernel) _ fun j => congrFun (after42 m c pt) j).trans
    (same₄ _ (read0 m c) (read1 m c) (read2 m c) (read11 m c))

theorem left43 : (dats m 0 c).arrAt 43 cfg0.N
    = out43 (F := Ideal) (m ((c : Thread nD τ).loc main_arg2)) :=
  ((dats m 0 c).arrAt_eq_of_after_last 43 pt (by decide +kernel) _ fun j => congrFun (after43 m c pt) j).trans
    (congrArg _ (read2 m c))

theorem left44 : (dats m 0 c).arrAt 44 cfg0.N
    = out44 (F := Ideal) (m ((c : Thread nD τ).loc main_arg2)) (m ((c : Thread nD τ).loc main_arg12))
      (m ((c : Thread nD τ).loc main_arg13)) (m ((c : Thread nD τ).loc main_arg14)) :=
  ((dats m 0 c).arrAt_eq_of_after_last 44 pt (by decide +kernel) _ fun j => congrFun (after44 m c pt) j).trans
    (same₄ _ (read2 m c) (read12 m c) (read13 m c) (read14 m c))

theorem left45 : (dats m 0 c).arrAt 45 cfg0.N
    = out45 (F := Ideal) (m ((c : Thread nD τ).loc main_arg2)) (m ((c : Thread nD τ).loc main_arg13)) :=
  ((dats m 0 c).arrAt_eq_of_after_last 45 pt (by decide +kernel) _ fun j => congrFun (after45 m c pt) j).trans
    (congrArg₂ _ (read2 m c) (read13 m c))

theorem left46 : (dats m 0 c).arrAt 46 cfg0.N
    = out46 (F := Ideal) (m ((c : Thread nD τ).loc main_arg2)) (m ((c : Thread nD τ).loc main_arg14)) :=
  ((dats m 0 c).arrAt_eq_of_after_last 46 pt (by decide +kernel) _ fun j => congrFun (after46 m c pt) j).trans
    (congrArg₂ _ (read2 m c) (read14 m c))

theorem left47 : (dats m 0 c).arrAt 47 cfg0.N
    = out47 (F := Ideal) (m ((c : Thread nD τ).loc main_arg3)) :=
  ((dats m 0 c).arrAt_eq_of_after_last 47 pt (by decide +kernel) _ fun j => congrFun (after47 m c pt) j).trans
    (congrArg _ (read3 m c))

theorem left48 : (dats m 0 c).arrAt 48 cfg0.N
    = out48 (F := Ideal) (m ((c : Thread nD τ).loc main_arg3)) (iblk m c 15 pt) (iblk m c 16 pt) (iblk m c 17 pt) :=
  ((dats m 0 c).arrAt_eq_of_after_last 48 pt (by decide +kernel) _ fun j => congrFun (after48 m c pt) j).trans
    (same₄ _ (read3 m c) rfl rfl rfl)

theorem left49 : (dats m 0 c).arrAt 49 cfg0.N
    = out49 (F := Ideal) (m ((c : Thread nD τ).loc main_arg3)) (iblk m c 16 pt) :=
  ((dats m 0 c).arrAt_eq_of_after_last 49 pt (by decide +kernel) _ fun j => congrFun (after49 m c pt) j).trans
    (congrArg₂ _ (read3 m c) rfl)

theorem left50 : (dats m 0 c).arrAt 50 cfg0.N
    = out50 (F := Ideal) (m ((c : Thread nD τ).loc main_arg3)) (iblk m c 17 pt) :=
  ((dats m 0 c).arrAt_eq_of_after_last 50 pt (by decide +kernel) _ fun j => congrFun (after50 m c pt) j).trans
    (congrArg₂ _ (read3 m c) rfl)

theorem left51 : (dats m 0 c).arrAt 51 cfg0.N
    = out51 (F := Ideal) (m ((c : Thread nD τ).loc main_arg4)) :=
  ((dats m 0 c).arrAt_eq_of_after_last 51 pt (by decide +kernel) _ fun j => congrFun (after51 m c pt) j).trans
    (congrArg _ (read4 m c))

theorem left52 : (dats m 0 c).arrAt 52 cfg0.N
    = out52 (F := Ideal) (m ((c : Thread nD τ).loc main_arg4)) (iblk m c 18 pt) (iblk m c 19 pt) (iblk m c 20 pt) :=
  ((dats m 0 c).arrAt_eq_of_after_last 52 pt (by decide +kernel) _ fun j => congrFun (after52 m c pt) j).trans
    (same₄ _ (read4 m c) rfl rfl rfl)

theorem left53 : (dats m 0 c).arrAt 53 cfg0.N
    = out53 (F := Ideal) (m ((c : Thread nD τ).loc main_arg4)) (iblk m c 19 pt) :=
  ((dats m 0 c).arrAt_eq_of_after_last 53 pt (by decide +kernel) _ fun j => congrFun (after53 m c pt) j).trans
    (congrArg₂ _ (read4 m c) rfl)

theorem left54 : (dats m 0 c).arrAt 54 cfg0.N
    = out54 (F := Ideal) (m ((c : Thread nD τ).loc main_arg4)) (iblk m c 20 pt) :=
  ((dats m 0 c).arrAt_eq_of_after_last 54 pt (by decide +kernel) _ fun j => congrFun (after54 m c pt) j).trans
    (congrArg₂ _ (read4 m c) rfl)

theorem left55 : (dats m 0 c).arrAt 55 cfg0.N
    = out55 (F := Ideal) (m ((c : Thread nD τ).loc main_arg5)) :=
  ((dats m 0 c).arrAt_eq_of_after_last 55 pt (by decide +kernel) _ fun j => congrFun (after55 m c pt) j).trans
    (congrArg _ (read5 m c))

theorem left56 : (dats m 0 c).arrAt 56 cfg0.N
    = out56 (F := Ideal) (m ((c : Thread nD τ).loc main_arg5)) (m ((c : Thread nD τ).loc main_arg21))
      (m ((c : Thread nD τ).loc main_arg22)) (m ((c : Thread nD τ).loc main_arg23)) :=
  ((dats m 0 c).arrAt_eq_of_after_last 56 pt (by decide +kernel) _ fun j => congrFun (after56 m c pt) j).trans
    (same₄ _ (read5 m c) (read21 m c) (read22 m c) (read23 m c))

theorem left57 : (dats m 0 c).arrAt 57 cfg0.N
    = out57 (F := Ideal) (m ((c : Thread nD τ).loc main_arg5)) (m ((c : Thread nD τ).loc main_arg22)) :=
  ((dats m 0 c).arrAt_eq_of_after_last 57 pt (by decide +kernel) _ fun j => congrFun (after57 m c pt) j).trans
    (congrArg₂ _ (read5 m c) (read22 m c))

theorem left58 : (dats m 0 c).arrAt 58 cfg0.N
    = out58 (F := Ideal) (m ((c : Thread nD τ).loc main_arg5)) (m ((c : Thread nD τ).loc main_arg23)) :=
  ((dats m 0 c).arrAt_eq_of_after_last 58 pt (by decide +kernel) _ fun j => congrFun (after58 m c pt) j).trans
    (congrArg₂ _ (read5 m c) (read23 m c))

theorem left59 : (dats m 0 c).arrAt 59 cfg0.N
    = out59 (F := Ideal) (m ((c : Thread nD τ).loc main_arg6)) :=
  ((dats m 0 c).arrAt_eq_of_after_last 59 pt (by decide +kernel) _ fun j => congrFun (after59 m c pt) j).trans
    (congrArg _ (read6 m c))

theorem left60 : (dats m 0 c).arrAt 60 cfg0.N
    = out60 (F := Ideal) (m ((c : Thread nD τ).loc main_arg6)) (m ((c : Thread nD τ).loc main_arg24))
      (m ((c : Thread nD τ).loc main_arg25)) (m ((c : Thread nD τ).loc main_arg26)) :=
  ((dats m 0 c).arrAt_eq_of_after_last 60 pt (by decide +kernel) _ fun j => congrFun (after60 m c pt) j).trans
    (same₄ _ (read6 m c) (read24 m c) (read25 m c) (read26 m c))

theorem left61 : (dats m 0 c).arrAt 61 cfg0.N
    = out61 (F := Ideal) (m ((c : Thread nD τ).loc main_arg6)) (m ((c : Thread nD τ).loc main_arg25)) :=
  ((dats m 0 c).arrAt_eq_of_after_last 61 pt (by decide +kernel) _ fun j => congrFun (after61 m c pt) j).trans
    (congrArg₂ _ (read6 m c) (read25 m c))

theorem left62 : (dats m 0 c).arrAt 62 cfg0.N
    = out62 (F := Ideal) (m ((c : Thread nD τ).loc main_arg6)) (m ((c : Thread nD τ).loc main_arg26)) :=
  ((dats m 0 c).arrAt_eq_of_after_last 62 pt (by decide +kernel) _ fun j => congrFun (after62 m c pt) j).trans
    (congrArg₂ _ (read6 m c) (read26 m c))

theorem left63 : (dats m 0 c).arrAt 63 cfg0.N
    = out63 (F := Ideal) (m ((c : Thread nD τ).loc main_arg7)) :=
  ((dats m 0 c).arrAt_eq_of_after_last 63 pt (by decide +kernel) _ fun j => congrFun (after63 m c pt) j).trans
    (congrArg _ (read7 m c))

theorem left64 : (dats m 0 c).arrAt 64 cfg0.N
    = out64 (F := Ideal) (m ((c : Thread nD τ).loc main_arg7)) (m ((c : Thread nD τ).loc main_arg27))
      (m ((c : Thread nD τ).loc main_arg28)) (m ((c : Thread nD τ).loc main_arg29)) :=
  ((dats m 0 c).arrAt_eq_of_after_last 64 pt (by decide +kernel) _ fun j => congrFun (after64 m c pt) j).trans
    (same₄ _ (read7 m c) (read27 m c) (read28 m c) (read29 m c))

theorem left65 : (dats m 0 c).arrAt 65 cfg0.N
    = out65 (F := Ideal) (m ((c : Thread nD τ).loc main_arg7)) (m ((c : Thread nD τ).loc main_arg28)) :=
  ((dats m 0 c).arrAt_eq_of_after_last 65 pt (by decide +kernel) _ fun j => congrFun (after65 m c pt) j).trans
    (congrArg₂ _ (read7 m c) (read28 m c))

theorem left66 : (dats m 0 c).arrAt 66 cfg0.N
    = out66 (F := Ideal) (m ((c : Thread nD τ).loc main_arg7)) (m ((c : Thread nD τ).loc main_arg29)) :=
  ((dats m 0 c).arrAt_eq_of_after_last 66 pt (by decide +kernel) _ fun j => congrFun (after66 m c pt) j).trans
    (congrArg₂ _ (read7 m c) (read29 m c))

theorem left67 : (dats m 0 c).arrAt 67 cfg0.N
    = out67 (F := Ideal) (m ((c : Thread nD τ).loc main_arg8)) :=
  ((dats m 0 c).arrAt_eq_of_after_last 67 pt (by decide +kernel) _ fun j => congrFun (after67 m c pt) j).trans
    (congrArg _ (read8 m c))

theorem left68 : (dats m 0 c).arrAt 68 cfg0.N
    = out68 (F := Ideal) (m ((c : Thread nD τ).loc main_arg8)) (m ((c : Thread nD τ).loc main_arg30))
      (m ((c : Thread nD τ).loc main_arg31)) (m ((c : Thread nD τ).loc main_arg32)) :=
  ((dats m 0 c).arrAt_eq_of_after_last 68 pt (by decide +kernel) _ fun j => congrFun (after68 m c pt) j).trans
    (same₄ _ (read8 m c) (read30 m c) (read31 m c) (read32 m c))

theorem left69 : (dats m 0 c).arrAt 69 cfg0.N
    = out69 (F := Ideal) (m ((c : Thread nD τ).loc main_arg8)) (m ((c : Thread nD τ).loc main_arg31)) :=
  ((dats m 0 c).arrAt_eq_of_after_last 69 pt (by decide +kernel) _ fun j => congrFun (after69 m c pt) j).trans
    (congrArg₂ _ (read8 m c) (read31 m c))

theorem left70 : (dats m 0 c).arrAt 70 cfg0.N
    = out70 (F := Ideal) (m ((c : Thread nD τ).loc main_arg8)) (m ((c : Thread nD τ).loc main_arg32)) :=
  ((dats m 0 c).arrAt_eq_of_after_last 70 pt (by decide +kernel) _ fun j => congrFun (after70 m c pt) j).trans
    (congrArg₂ _ (read8 m c) (read32 m c))

theorem left71 : (dats m 0 c).arrAt 71 cfg0.N
    = out71 (F := Ideal) (m ((c : Thread nD τ).loc main_arg1)) :=
  ((dats m 0 c).arrAt_eq_of_after_last 71 pt (by decide +kernel) _ fun j => congrFun (after71 m c pt) j).trans
    (congrArg _ (read1 m c))

theorem left72 : (dats m 0 c).arrAt 72 cfg0.N
    = out72 (F := Ideal) (m ((c : Thread nD τ).loc main_arg1)) (m ((c : Thread nD τ).loc main_arg33))
      (m ((c : Thread nD τ).loc main_arg34)) (m ((c : Thread nD τ).loc main_arg35)) :=
  ((dats m 0 c).arrAt_eq_of_after_last 72 pt (by decide +kernel) _ fun j => congrFun (after72 m c pt) j).trans
    (same₄ _ (read1 m c) (read33 m c) (read34 m c) (read35 m c))

theorem left73 : (dats m 0 c).arrAt 73 cfg0.N
    = out73 (F := Ideal) (m ((c : Thread nD τ).loc main_arg1)) (m ((c : Thread nD τ).loc main_arg34)) :=
  ((dats m 0 c).arrAt_eq_of_after_last 73 pt (by decide +kernel) _ fun j => congrFun (after73 m c pt) j).trans
    (congrArg₂ _ (read1 m c) (read34 m c))

theorem left74 : (dats m 0 c).arrAt 74 cfg0.N
    = out74 (F := Ideal) (m ((c : Thread nD τ).loc main_arg1)) (m ((c : Thread nD τ).loc main_arg35)) :=
  ((dats m 0 c).arrAt_eq_of_after_last 74 pt (by decide +kernel) _ fun j => congrFun (after74 m c pt) j).trans
    (congrArg₂ _ (read1 m c) (read35 m c))

theorem left75 : (dats m 0 c).arrAt 75 cfg0.N
    = out75 (F := Ideal) (m ((c : Thread nD τ).loc main_arg0)) :=
  ((dats m 0 c).arrAt_eq_of_after_last 75 pt (by decide +kernel) _ fun j => congrFun (after75 m c pt) j).trans
    (congrArg _ (read0 m c))

theorem left76 : (dats m 0 c).arrAt 76 cfg0.N
    = out76 (F := Ideal) (m ((c : Thread nD τ).loc main_arg0)) (iblk m c 36 pt) (iblk m c 37 pt) (iblk m c 38 pt) :=
  ((dats m 0 c).arrAt_eq_of_after_last 76 pt (by decide +kernel) _ fun j => congrFun (after76 m c pt) j).trans
    (same₄ _ (read0 m c) rfl rfl rfl)

theorem left77 : (dats m 0 c).arrAt 77 cfg0.N
    = out77 (F := Ideal) (m ((c : Thread nD τ).loc main_arg0)) (iblk m c 37 pt) :=
  ((dats m 0 c).arrAt_eq_of_after_last 77 pt (by decide +kernel) _ fun j => congrFun (after77 m c pt) j).trans
    (congrArg₂ _ (read0 m c) rfl)

theorem left78 : (dats m 0 c).arrAt 78 cfg0.N
    = out78 (F := Ideal) (m ((c : Thread nD τ).loc main_arg0)) (iblk m c 38 pt) :=
  ((dats m 0 c).arrAt_eq_of_after_last 78 pt (by decide +kernel) _ fun j => congrFun (after78 m c pt) j).trans
    (congrArg₂ _ (read0 m c) rfl)

theorem left79 : (dats m 0 c).arrAt 79 cfg0.N
    = out79 (F := Ideal) (m ((c : Thread nD τ).loc main_arg0)) :=
  ((dats m 0 c).arrAt_eq_of_after_last 79 pt (by decide +kernel) _ fun j => congrFun (after79 m c pt) j).trans
    (congrArg _ (read0 m c))

/-! ## The arrays, as the reference computes them -/

/-- The modulation's bias. -/
theorem ada :
    (dats m 0 c).arrAt 39 cfg0.N = Reference11Ideal.Read.val_main_v9 (F := Ideal) (m ((c : Thread nD τ).loc main_arg0))
      (m ((c : Thread nD τ).loc main_arg1)) (m ((c : Thread nD τ).loc main_arg2))
    ∧ (dats m 0 c).arrAt 40 cfg0.N = Reference11Ideal.Read.val_main_v33 (F := Ideal) (m ((c : Thread nD τ).loc main_arg0))
      (m ((c : Thread nD τ).loc main_arg1)) (m ((c : Thread nD τ).loc main_arg2))
      (m ((c : Thread nD τ).loc main_arg9)) (m ((c : Thread nD τ).loc main_arg10))
      (m ((c : Thread nD τ).loc main_arg11))
    ∧ (dats m 0 c).arrAt 41 cfg0.N = Reference11Ideal.Read.val_main_v14 (F := Ideal) (m ((c : Thread nD τ).loc main_arg0))
      (m ((c : Thread nD τ).loc main_arg1)) (m ((c : Thread nD τ).loc main_arg2))
      (m ((c : Thread nD τ).loc main_arg10))
    ∧ (dats m 0 c).arrAt 42 cfg0.N = Reference11Ideal.Read.val_main_v20 (F := Ideal) (m ((c : Thread nD τ).loc main_arg0))
      (m ((c : Thread nD τ).loc main_arg1)) (m ((c : Thread nD τ).loc main_arg2))
      (m ((c : Thread nD τ).loc main_arg11)) :=
  four (left39 m c) (left40 m c) (left41 m c) (left42 m c)
    (SmallSame.ada _ _ _ _ _ _)

/-- The first norm's weight. -/
theorem norm1 :
    (dats m 0 c).arrAt 43 cfg0.N = Reference11Ideal.Read.val_main_v34 (F := Ideal) (m ((c : Thread nD τ).loc main_arg2))
    ∧ (dats m 0 c).arrAt 44 cfg0.N = Reference11Ideal.Read.val_main_v58 (F := Ideal) (m ((c : Thread nD τ).loc main_arg2))
      (m ((c : Thread nD τ).loc main_arg12)) (m ((c : Thread nD τ).loc main_arg13))
      (m ((c : Thread nD τ).loc main_arg14))
    ∧ (dats m 0 c).arrAt 45 cfg0.N = Reference11Ideal.Read.val_main_v39 (F := Ideal) (m ((c : Thread nD τ).loc main_arg2))
      (m ((c : Thread nD τ).loc main_arg13))
    ∧ (dats m 0 c).arrAt 46 cfg0.N = Reference11Ideal.Read.val_main_v45 (F := Ideal) (m ((c : Thread nD τ).loc main_arg2))
      (m ((c : Thread nD τ).loc main_arg14)) :=
  four (left43 m c) (left44 m c) (left45 m c) (left46 m c)
    (SmallSame.norm1 _ _ _ _)

/-- The mixing weight. -/
theorem mixW :
    (dats m 0 c).arrAt 47 cfg0.N = Reference11Ideal.Read.val_main_v59 (F := Ideal) (m ((c : Thread nD τ).loc main_arg3))
    ∧ (dats m 0 c).arrAt 48 cfg0.N = Reference11Ideal.Read.val_main_v86 (F := Ideal) (m ((c : Thread nD τ).loc main_arg3))
      (m ((c : Thread nD τ).loc main_arg15)) (m ((c : Thread nD τ).loc main_arg16))
      (m ((c : Thread nD τ).loc main_arg17))
    ∧ (dats m 0 c).arrAt 49 cfg0.N = Reference11Ideal.Read.val_main_v67 (F := Ideal) (m ((c : Thread nD τ).loc main_arg3))
      (m ((c : Thread nD τ).loc main_arg16))
    ∧ (dats m 0 c).arrAt 50 cfg0.N = Reference11Ideal.Read.val_main_v73 (F := Ideal) (m ((c : Thread nD τ).loc main_arg3))
      (m ((c : Thread nD τ).loc main_arg17)) :=
  four (left47 m c) (left48 m c) (left49 m c) (left50 m c)
    (SmallSame.mixW _ _ _ _ _ _ _ (read15 m c) (read16 m c) (read17 m c))

/-- The mixing bias. -/
theorem mixB :
    (dats m 0 c).arrAt 51 cfg0.N = Reference11Ideal.Read.val_main_v87 (F := Ideal) (m ((c : Thread nD τ).loc main_arg4))
    ∧ (dats m 0 c).arrAt 52 cfg0.N = Reference11Ideal.Read.val_main_v117 (F := Ideal)
      (m ((c : Thread nD τ).loc main_arg4)) (m ((c : Thread nD τ).loc main_arg18))
      (m ((c : Thread nD τ).loc main_arg19)) (m ((c : Thread nD τ).loc main_arg20))
    ∧ (dats m 0 c).arrAt 53 cfg0.N = Reference11Ideal.Read.val_main_v98 (F := Ideal) (m ((c : Thread nD τ).loc main_arg4))
      (m ((c : Thread nD τ).loc main_arg19))
    ∧ (dats m 0 c).arrAt 54 cfg0.N = Reference11Ideal.Read.val_main_v104 (F := Ideal)
      (m ((c : Thread nD τ).loc main_arg4)) (m ((c : Thread nD τ).loc main_arg20)) :=
  four (left51 m c) (left52 m c) (left53 m c) (left54 m c)
    (SmallSame.mixB _ _ _ _ _ _ _ (read18 m c) (read19 m c) (read20 m c))

/-- The value norm's weight. -/
theorem lnW :
    (dats m 0 c).arrAt 55 cfg0.N = Reference11Ideal.Read.val_main_v118 (F := Ideal)
      (m ((c : Thread nD τ).loc main_arg5))
    ∧ (dats m 0 c).arrAt 56 cfg0.N = Reference11Ideal.Read.val_main_v142 (F := Ideal)
      (m ((c : Thread nD τ).loc main_arg5)) (m ((c : Thread nD τ).loc main_arg21))
      (m ((c : Thread nD τ).loc main_arg22)) (m ((c : Thread nD τ).loc main_arg23))
    ∧ (dats m 0 c).arrAt 57 cfg0.N = Reference11Ideal.Read.val_main_v123 (F := Ideal)
      (m ((c : Thread nD τ).loc main_arg5)) (m ((c : Thread nD τ).loc main_arg22))
    ∧ (dats m 0 c).arrAt 58 cfg0.N = Reference11Ideal.Read.val_main_v129 (F := Ideal)
      (m ((c : Thread nD τ).loc main_arg5)) (m ((c : Thread nD τ).loc main_arg23)) :=
  four (left55 m c) (left56 m c) (left57 m c) (left58 m c)
    (SmallSame.lnW _ _ _ _)

/-- The value norm's bias. -/
theorem lnB :
    (dats m 0 c).arrAt 59 cfg0.N = Reference11Ideal.Read.val_main_v143 (F := Ideal)
      (m ((c : Thread nD τ).loc main_arg6))
    ∧ (dats m 0 c).arrAt 60 cfg0.N = Reference11Ideal.Read.val_main_v167 (F := Ideal)
      (m ((c : Thread nD τ).loc main_arg6)) (m ((c : Thread nD τ).loc main_arg24))
      (m ((c : Thread nD τ).loc main_arg25)) (m ((c : Thread nD τ).loc main_arg26))
    ∧ (dats m 0 c).arrAt 61 cfg0.N = Reference11Ideal.Read.val_main_v148 (F := Ideal)
      (m ((c : Thread nD τ).loc main_arg6)) (m ((c : Thread nD τ).loc main_arg25))
    ∧ (dats m 0 c).arrAt 62 cfg0.N = Reference11Ideal.Read.val_main_v154 (F := Ideal)
      (m ((c : Thread nD τ).loc main_arg6)) (m ((c : Thread nD τ).loc main_arg26)) :=
  four (left59 m c) (left60 m c) (left61 m c) (left62 m c)
    (SmallSame.lnB _ _ _ _)

/-- The lower bounds. -/
theorem lower :
    (dats m 0 c).arrAt 63 cfg0.N = Reference11Ideal.Read.val_main_v168 (F := Ideal)
      (m ((c : Thread nD τ).loc main_arg7))
    ∧ (dats m 0 c).arrAt 64 cfg0.N = Reference11Ideal.Read.val_main_v192 (F := Ideal)
      (m ((c : Thread nD τ).loc main_arg7)) (m ((c : Thread nD τ).loc main_arg27))
      (m ((c : Thread nD τ).loc main_arg28)) (m ((c : Thread nD τ).loc main_arg29))
    ∧ (dats m 0 c).arrAt 65 cfg0.N = Reference11Ideal.Read.val_main_v173 (F := Ideal)
      (m ((c : Thread nD τ).loc main_arg7)) (m ((c : Thread nD τ).loc main_arg28))
    ∧ (dats m 0 c).arrAt 66 cfg0.N = Reference11Ideal.Read.val_main_v179 (F := Ideal)
      (m ((c : Thread nD τ).loc main_arg7)) (m ((c : Thread nD τ).loc main_arg29)) :=
  four (left63 m c) (left64 m c) (left65 m c) (left66 m c)
    (SmallSame.lower _ _ _ _)

/-- The group norm's weight. -/
theorem groupW :
    (dats m 0 c).arrAt 67 cfg0.N = Reference11Ideal.Read.val_main_v193 (F := Ideal)
      (m ((c : Thread nD τ).loc main_arg8))
    ∧ (dats m 0 c).arrAt 68 cfg0.N = Reference11Ideal.Read.val_main_v217 (F := Ideal)
      (m ((c : Thread nD τ).loc main_arg8)) (m ((c : Thread nD τ).loc main_arg30))
      (m ((c : Thread nD τ).loc main_arg31)) (m ((c : Thread nD τ).loc main_arg32))
    ∧ (dats m 0 c).arrAt 69 cfg0.N = Reference11Ideal.Read.val_main_v198 (F := Ideal)
      (m ((c : Thread nD τ).loc main_arg8)) (m ((c : Thread nD τ).loc main_arg31))
    ∧ (dats m 0 c).arrAt 70 cfg0.N = Reference11Ideal.Read.val_main_v204 (F := Ideal)
      (m ((c : Thread nD τ).loc main_arg8)) (m ((c : Thread nD τ).loc main_arg32)) :=
  four (left67 m c) (left68 m c) (left69 m c) (left70 m c)
    (SmallSame.groupW _ _ _ _)

/-- The second norm's weight. -/
theorem norm2 :
    (dats m 0 c).arrAt 71 cfg0.N = Reference11Ideal.Read.val_main_v218 (F := Ideal)
      (m ((c : Thread nD τ).loc main_arg1))
    ∧ (dats m 0 c).arrAt 72 cfg0.N = Reference11Ideal.Read.val_main_v242 (F := Ideal)
      (m ((c : Thread nD τ).loc main_arg1)) (m ((c : Thread nD τ).loc main_arg33))
      (m ((c : Thread nD τ).loc main_arg34)) (m ((c : Thread nD τ).loc main_arg35))
    ∧ (dats m 0 c).arrAt 73 cfg0.N = Reference11Ideal.Read.val_main_v223 (F := Ideal)
      (m ((c : Thread nD τ).loc main_arg1)) (m ((c : Thread nD τ).loc main_arg34))
    ∧ (dats m 0 c).arrAt 74 cfg0.N = Reference11Ideal.Read.val_main_v229 (F := Ideal)
      (m ((c : Thread nD τ).loc main_arg1)) (m ((c : Thread nD τ).loc main_arg35)) :=
  four (left71 m c) (left72 m c) (left73 m c) (left74 m c)
    (SmallSame.norm2 _ _ _ _)

/-- The last norm's weight. -/
theorem last :
    (dats m 0 c).arrAt 75 cfg0.N = Reference11Ideal.Read.val_main_v243 (F := Ideal)
      (m ((c : Thread nD τ).loc main_arg0))
    ∧ (dats m 0 c).arrAt 76 cfg0.N = Reference11Ideal.Read.val_main_v270 (F := Ideal)
      (m ((c : Thread nD τ).loc main_arg0)) (m ((c : Thread nD τ).loc main_arg36))
      (m ((c : Thread nD τ).loc main_arg37)) (m ((c : Thread nD τ).loc main_arg38))
    ∧ (dats m 0 c).arrAt 77 cfg0.N = Reference11Ideal.Read.val_main_v251 (F := Ideal)
      (m ((c : Thread nD τ).loc main_arg0)) (m ((c : Thread nD τ).loc main_arg37))
    ∧ (dats m 0 c).arrAt 78 cfg0.N = Reference11Ideal.Read.val_main_v257 (F := Ideal)
      (m ((c : Thread nD τ).loc main_arg0)) (m ((c : Thread nD τ).loc main_arg38)) :=
  four (left75 m c) (left76 m c) (left77 m c) (left78 m c)
    (SmallSame.last _ _ _ _ _ _ _ (read36 m c) (read37 m c) (read38 m c))

/-- The loss. -/
theorem loss :
    (dats m 0 c).arrAt 79 cfg0.N = Reference11Ideal.Read.val_main_v272 (F := Ideal)
      (m ((c : Thread nD τ).loc main_arg0)) :=
  (left79 m c).trans (SmallSame.loss _)

end Cert.SmallArrays

end
-- ==== Proof.SmallHost.lean ====
/- The run of the reference of the optimiser's step on the small weights. -/
module

public import proofs.«01_k».proof.Defs
public import proofs.«01_k».proof.Proof.Gen.Reference11Ideal.Run
public import proofs.«01_k».proof.Proof.Gen.Reference11Ideal.Read
public import Idealize.ShloMosaic.Lib.Pipeline.ValueKit
public import Idealize.ShloMosaic.Lib.Claim

@[expose] public section

set_option maxRecDepth 16384

noncomputable section

namespace Cert.SmallHost

open Cert.Reference11Ideal Cert.Reference11Ideal.Gen Cert.Reference11Ideal.Read
open Idealize.ShloMosaic Idealize.ShloMosaic.TcCoe Idealize.SL.Sem

variable (m : (ℓ : Loc nD τ sig) → Buf (Elt Ideal) ℓ) (ρ : Dev nD → PrngReg)

set_option maxHeartbeats 1600000 in
/-- The reference's run: every result at its term of the arguments, the arguments as they were. -/
theorem run : θ_run defs (onTc (τ := τ) (main (F := Ideal))) ⟨m, fun _ => 0, ρ⟩ fun r => ∀ c : Dev nD,
      r.2.mem ((c : Thread nD τ).loc main_v9) = val_main_v9 (F := Ideal) (m ((c : Thread nD τ).loc main_arg0))
        (m ((c : Thread nD τ).loc main_arg1)) (m ((c : Thread nD τ).loc main_arg2))
      ∧ r.2.mem ((c : Thread nD τ).loc main_v33) = val_main_v33 (F := Ideal) (m ((c : Thread nD τ).loc main_arg0))
        (m ((c : Thread nD τ).loc main_arg1)) (m ((c : Thread nD τ).loc main_arg2))
        (m ((c : Thread nD τ).loc main_arg9)) (m ((c : Thread nD τ).loc main_arg10))
        (m ((c : Thread nD τ).loc main_arg11))
      ∧ r.2.mem ((c : Thread nD τ).loc main_v14) = val_main_v14 (F := Ideal) (m ((c : Thread nD τ).loc main_arg0))
        (m ((c : Thread nD τ).loc main_arg1)) (m ((c : Thread nD τ).loc main_arg2))
        (m ((c : Thread nD τ).loc main_arg10))
      ∧ r.2.mem ((c : Thread nD τ).loc main_v20) = val_main_v20 (F := Ideal) (m ((c : Thread nD τ).loc main_arg0))
        (m ((c : Thread nD τ).loc main_arg1)) (m ((c : Thread nD τ).loc main_arg2))
        (m ((c : Thread nD τ).loc main_arg11))
      ∧ r.2.mem ((c : Thread nD τ).loc main_v34) = val_main_v34 (F := Ideal) (m ((c : Thread nD τ).loc main_arg2))
      ∧ r.2.mem ((c : Thread nD τ).loc main_v58) = val_main_v58 (F := Ideal) (m ((c : Thread nD τ).loc main_arg2))
        (m ((c : Thread nD τ).loc main_arg12)) (m ((c : Thread nD τ).loc main_arg13))
        (m ((c : Thread nD τ).loc main_arg14))
      ∧ r.2.mem ((c : Thread nD τ).loc main_v39) = val_main_v39 (F := Ideal) (m ((c : Thread nD τ).loc main_arg2))
        (m ((c : Thread nD τ).loc main_arg13))
      ∧ r.2.mem ((c : Thread nD τ).loc main_v45) = val_main_v45 (F := Ideal) (m ((c : Thread nD τ).loc main_arg2))
        (m ((c : Thread nD τ).loc main_arg14))
      ∧ r.2.mem ((c : Thread nD τ).loc main_v59) = val_main_v59 (F := Ideal) (m ((c : Thread nD τ).loc main_arg3))
      ∧ r.2.mem ((c : Thread nD τ).loc main_v86) = val_main_v86 (F := Ideal) (m ((c : Thread nD τ).loc main_arg3))
        (m ((c : Thread nD τ).loc main_arg15)) (m ((c : Thread nD τ).loc main_arg16))
        (m ((c : Thread nD τ).loc main_arg17))
      ∧ r.2.mem ((c : Thread nD τ).loc main_v67) = val_main_v67 (F := Ideal) (m ((c : Thread nD τ).loc main_arg3))
        (m ((c : Thread nD τ).loc main_arg16))
      ∧ r.2.mem ((c : Thread nD τ).loc main_v73) = val_main_v73 (F := Ideal) (m ((c : Thread nD τ).loc main_arg3))
        (m ((c : Thread nD τ).loc main_arg17))
      ∧ r.2.mem ((c : Thread nD τ).loc main_v87) = val_main_v87 (F := Ideal) (m ((c : Thread nD τ).loc main_arg4))
      ∧ r.2.mem ((c : Thread nD τ).loc main_v117) = val_main_v117 (F := Ideal) (m ((c : Thread nD τ).loc main_arg4))
        (m ((c : Thread nD τ).loc main_arg18)) (m ((c : Thread nD τ).loc main_arg19))
        (m ((c : Thread nD τ).loc main_arg20))
      ∧ r.2.mem ((c : Thread nD τ).loc main_v98) = val_main_v98 (F := Ideal) (m ((c : Thread nD τ).loc main_arg4))
        (m ((c : Thread nD τ).loc main_arg19))
      ∧ r.2.mem ((c : Thread nD τ).loc main_v104) = val_main_v104 (F := Ideal) (m ((c : Thread nD τ).loc main_arg4))
        (m ((c : Thread nD τ).loc main_arg20))
      ∧ r.2.mem ((c : Thread nD τ).loc main_v118) = val_main_v118 (F := Ideal) (m ((c : Thread nD τ).loc main_arg5))
      ∧ r.2.mem ((c : Thread nD τ).loc main_v142) = val_main_v142 (F := Ideal) (m ((c : Thread nD τ).loc main_arg5))
        (m ((c : Thread nD τ).loc main_arg21)) (m ((c : Thread nD τ).loc main_arg22))
        (m ((c : Thread nD τ).loc main_arg23))
      ∧ r.2.mem ((c : Thread nD τ).loc main_v123) = val_main_v123 (F := Ideal) (m ((c : Thread nD τ).loc main_arg5))
        (m ((c : Thread nD τ).loc main_arg22))
      ∧ r.2.mem ((c : Thread nD τ).loc main_v129) = val_main_v129 (F := Ideal) (m ((c : Thread nD τ).loc main_arg5))
        (m ((c : Thread nD τ).loc main_arg23))
      ∧ r.2.mem ((c : Thread nD τ).loc main_v143) = val_main_v143 (F := Ideal) (m ((c : Thread nD τ).loc main_arg6))
      ∧ r.2.mem ((c : Thread nD τ).loc main_v167) = val_main_v167 (F := Ideal) (m ((c : Thread nD τ).loc main_arg6))
        (m ((c : Thread nD τ).loc main_arg24)) (m ((c : Thread nD τ).loc main_arg25))
        (m ((c : Thread nD τ).loc main_arg26))
      ∧ r.2.mem ((c : Thread nD τ).loc main_v148) = val_main_v148 (F := Ideal) (m ((c : Thread nD τ).loc main_arg6))
        (m ((c : Thread nD τ).loc main_arg25))
      ∧ r.2.mem ((c : Thread nD τ).loc main_v154) = val_main_v154 (F := Ideal) (m ((c : Thread nD τ).loc main_arg6))
        (m ((c : Thread nD τ).loc main_arg26))
      ∧ r.2.mem ((c : Thread nD τ).loc main_v168) = val_main_v168 (F := Ideal) (m ((c : Thread nD τ).loc main_arg7))
      ∧ r.2.mem ((c : Thread nD τ).loc main_v192) = val_main_v192 (F := Ideal) (m ((c : Thread nD τ).loc main_arg7))
        (m ((c : Thread nD τ).loc main_arg27)) (m ((c : Thread nD τ).loc main_arg28))
        (m ((c : Thread nD τ).loc main_arg29))
      ∧ r.2.mem ((c : Thread nD τ).loc main_v173) = val_main_v173 (F := Ideal) (m ((c : Thread nD τ).loc main_arg7))
        (m ((c : Thread nD τ).loc main_arg28))
      ∧ r.2.mem ((c : Thread nD τ).loc main_v179) = val_main_v179 (F := Ideal) (m ((c : Thread nD τ).loc main_arg7))
        (m ((c : Thread nD τ).loc main_arg29))
      ∧ r.2.mem ((c : Thread nD τ).loc main_v193) = val_main_v193 (F := Ideal) (m ((c : Thread nD τ).loc main_arg8))
      ∧ r.2.mem ((c : Thread nD τ).loc main_v217) = val_main_v217 (F := Ideal) (m ((c : Thread nD τ).loc main_arg8))
        (m ((c : Thread nD τ).loc main_arg30)) (m ((c : Thread nD τ).loc main_arg31))
        (m ((c : Thread nD τ).loc main_arg32))
      ∧ r.2.mem ((c : Thread nD τ).loc main_v198) = val_main_v198 (F := Ideal) (m ((c : Thread nD τ).loc main_arg8))
        (m ((c : Thread nD τ).loc main_arg31))
      ∧ r.2.mem ((c : Thread nD τ).loc main_v204) = val_main_v204 (F := Ideal) (m ((c : Thread nD τ).loc main_arg8))
        (m ((c : Thread nD τ).loc main_arg32))
      ∧ r.2.mem ((c : Thread nD τ).loc main_v218) = val_main_v218 (F := Ideal) (m ((c : Thread nD τ).loc main_arg1))
      ∧ r.2.mem ((c : Thread nD τ).loc main_v242) = val_main_v242 (F := Ideal) (m ((c : Thread nD τ).loc main_arg1))
        (m ((c : Thread nD τ).loc main_arg33)) (m ((c : Thread nD τ).loc main_arg34))
        (m ((c : Thread nD τ).loc main_arg35))
      ∧ r.2.mem ((c : Thread nD τ).loc main_v223) = val_main_v223 (F := Ideal) (m ((c : Thread nD τ).loc main_arg1))
        (m ((c : Thread nD τ).loc main_arg34))
      ∧ r.2.mem ((c : Thread nD τ).loc main_v229) = val_main_v229 (F := Ideal) (m ((c : Thread nD τ).loc main_arg1))
        (m ((c : Thread nD τ).loc main_arg35))
      ∧ r.2.mem ((c : Thread nD τ).loc main_v243) = val_main_v243 (F := Ideal) (m ((c : Thread nD τ).loc main_arg0))
      ∧ r.2.mem ((c : Thread nD τ).loc main_v270) = val_main_v270 (F := Ideal) (m ((c : Thread nD τ).loc main_arg0))
        (m ((c : Thread nD τ).loc main_arg36)) (m ((c : Thread nD τ).loc main_arg37))
        (m ((c : Thread nD τ).loc main_arg38))
      ∧ r.2.mem ((c : Thread nD τ).loc main_v251) = val_main_v251 (F := Ideal) (m ((c : Thread nD τ).loc main_arg0))
        (m ((c : Thread nD τ).loc main_arg37))
      ∧ r.2.mem ((c : Thread nD τ).loc main_v257) = val_main_v257 (F := Ideal) (m ((c : Thread nD τ).loc main_arg0))
        (m ((c : Thread nD τ).loc main_arg38))
      ∧ r.2.mem ((c : Thread nD τ).loc main_v272) = val_main_v272 (F := Ideal) (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36)
      ∧ r.2.mem ((c : Thread nD τ).loc main_arg37) = m ((c : Thread nD τ).loc main_arg37)
      ∧ r.2.mem ((c : Thread nD τ).loc main_arg38) = m ((c : Thread nD τ).loc main_arg38) :=
  (θ_run defs _ _).mono (fun r h c => by
    obtain ⟨r39, r40, r41, r42, r43, r44, r45, r46, r47, r48, r49, r50, r51, r52, r53, r54, r55, r56, r57, r58, r59,
      r60, r61, r62, r63, r64, r65, r66, r67, r68, r69, r70, r71, r72, r73, r74, r75, r76, r77, r78, r79, kept⟩ := h c
    exact
      ⟨r39.trans (val_main_v9_eq _), r40.trans (val_main_v33_eq _), r41.trans (val_main_v14_eq _),
        r42.trans (val_main_v20_eq _), r43.trans (val_main_v34_eq _), r44.trans (val_main_v58_eq _),
        r45.trans (val_main_v39_eq _), r46.trans (val_main_v45_eq _), r47.trans (val_main_v59_eq _),
        r48.trans (val_main_v86_eq _), r49.trans (val_main_v67_eq _), r50.trans (val_main_v73_eq _),
        r51.trans (val_main_v87_eq _), r52.trans (val_main_v117_eq _), r53.trans (val_main_v98_eq _),
        r54.trans (val_main_v104_eq _), r55.trans (val_main_v118_eq _), r56.trans (val_main_v142_eq _),
        r57.trans (val_main_v123_eq _), r58.trans (val_main_v129_eq _), r59.trans (val_main_v143_eq _),
        r60.trans (val_main_v167_eq _), r61.trans (val_main_v148_eq _), r62.trans (val_main_v154_eq _),
        r63.trans (val_main_v168_eq _), r64.trans (val_main_v192_eq _), r65.trans (val_main_v173_eq _),
        r66.trans (val_main_v179_eq _), r67.trans (val_main_v193_eq _), r68.trans (val_main_v217_eq _),
        r69.trans (val_main_v198_eq _), r70.trans (val_main_v204_eq _), r71.trans (val_main_v218_eq _),
        r72.trans (val_main_v242_eq _), r73.trans (val_main_v223_eq _), r74.trans (val_main_v229_eq _),
        r75.trans (val_main_v243_eq _), r76.trans (val_main_v270_eq _), r77.trans (val_main_v251_eq _),
        r78.trans (val_main_v257_eq _), r79.trans (val_main_v272_eq _), kept⟩) (Value.run m ρ)

instance : Cert.Reference11Ideal.Facts := Cert.Reference11Ideal.Gen.facts

/-- The reference leaves its arguments as they were; it has no semaphore. -/
theorem frame : Cert.quiescent_Reference11Ideal := fun m ρ _ =>
  (θ_run defs _ _).mono
    (fun r h => ⟨fun c => (h c).2.2.2.2.2.2.2.2.2.2.2.2.2.2.2.2.2.2.2.2.2.2.2.2.2.2.2.2.2.2.2.2.2.2.2.2.2.2.2.2.2,
      sem_eq_zero_of_no_sems (by decide) r.2⟩) (Value.run m ρ)

end Cert.SmallHost

end
-- ==== Proof.AdamSmall.lean ====
/- The optimiser's step on the small weights, and the loss. -/
module

public import proofs.«01_k».proof.Defs
public import proofs.«01_k».proof.Proof.SmallArrays
public import proofs.«01_k».proof.Proof.SmallHost
public import proofs.«01_k».proof.Proof.Gen.Kernel11
public import proofs.«01_k».proof.Proof.Gen.Kernel11Ideal
public import Idealize.ShloMosaic.Lib.Claim

@[expose] public section

set_option maxRecDepth 16384

noncomputable section

namespace Cert.AdamSmall

open Idealize.ShloMosaic Idealize.ShloMosaic.TcCoe Idealize.SL.Sem
open Cert.SmallArrays (same₃ same₄ same₆)

instance : Cert.Kernel11.Facts := Cert.Kernel11.Gen.facts
instance : Cert.Kernel11Ideal.Facts := Cert.Kernel11Ideal.Gen.facts

/-- The reference leaves its arguments as they were. -/
theorem frame : Cert.quiescent_Reference11Ideal := SmallHost.frame

section Run

open Cert.Kernel11Ideal Cert.Kernel11Ideal.Gen Cert.SmallRun

/-- The array of a window after the run. -/
theorem array_at (m : (ℓ : Loc nD τ sig) → Buf (Elt Ideal) ℓ) (r : PUnit × MemSt nD τ sig (Elt Ideal))
    (h : Pipeline.FramePost cfgs (dats m) 0 (V m) r) (c : Dev nD) (w : Fin cfg0.W) :
    r.2.mem ((c : Thread nD τ).loc (Pipeline.arrRef spec0 w)) = (dats m 0 c).arrAt w cfg0.N :=
  (h c).1 w

set_option maxHeartbeats 1600000 in
/-- The kernel's run: every result is its window's array, the arguments are as they were. -/
theorem run_arrays (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v12_0) = (dats m 0 c).arrAt 39 cfg0.N
      ∧ r.2.mem ((c : Thread nD τ).loc main_v12_1) = (dats m 0 c).arrAt 40 cfg0.N
      ∧ r.2.mem ((c : Thread nD τ).loc main_v12_2) = (dats m 0 c).arrAt 41 cfg0.N
      ∧ r.2.mem ((c : Thread nD τ).loc main_v12_3) = (dats m 0 c).arrAt 42 cfg0.N
      ∧ r.2.mem ((c : Thread nD τ).loc main_v12_4) = (dats m 0 c).arrAt 43 cfg0.N
      ∧ r.2.mem ((c : Thread nD τ).loc main_v12_5) = (dats m 0 c).arrAt 44 cfg0.N
      ∧ r.2.mem ((c : Thread nD τ).loc main_v12_6) = (dats m 0 c).arrAt 45 cfg0.N
      ∧ r.2.mem ((c : Thread nD τ).loc main_v12_7) = (dats m 0 c).arrAt 46 cfg0.N
      ∧ r.2.mem ((c : Thread nD τ).loc main_v12_8) = (dats m 0 c).arrAt 47 cfg0.N
      ∧ r.2.mem ((c : Thread nD τ).loc main_v12_9) = (dats m 0 c).arrAt 48 cfg0.N
      ∧ r.2.mem ((c : Thread nD τ).loc main_v12_10) = (dats m 0 c).arrAt 49 cfg0.N
      ∧ r.2.mem ((c : Thread nD τ).loc main_v12_11) = (dats m 0 c).arrAt 50 cfg0.N
      ∧ r.2.mem ((c : Thread nD τ).loc main_v12_12) = (dats m 0 c).arrAt 51 cfg0.N
      ∧ r.2.mem ((c : Thread nD τ).loc main_v12_13) = (dats m 0 c).arrAt 52 cfg0.N
      ∧ r.2.mem ((c : Thread nD τ).loc main_v12_14) = (dats m 0 c).arrAt 53 cfg0.N
      ∧ r.2.mem ((c : Thread nD τ).loc main_v12_15) = (dats m 0 c).arrAt 54 cfg0.N
      ∧ r.2.mem ((c : Thread nD τ).loc main_v12_16) = (dats m 0 c).arrAt 55 cfg0.N
      ∧ r.2.mem ((c : Thread nD τ).loc main_v12_17) = (dats m 0 c).arrAt 56 cfg0.N
      ∧ r.2.mem ((c : Thread nD τ).loc main_v12_18) = (dats m 0 c).arrAt 57 cfg0.N
      ∧ r.2.mem ((c : Thread nD τ).loc main_v12_19) = (dats m 0 c).arrAt 58 cfg0.N
      ∧ r.2.mem ((c : Thread nD τ).loc main_v12_20) = (dats m 0 c).arrAt 59 cfg0.N
      ∧ r.2.mem ((c : Thread nD τ).loc main_v12_21) = (dats m 0 c).arrAt 60 cfg0.N
      ∧ r.2.mem ((c : Thread nD τ).loc main_v12_22) = (dats m 0 c).arrAt 61 cfg0.N
      ∧ r.2.mem ((c : Thread nD τ).loc main_v12_23) = (dats m 0 c).arrAt 62 cfg0.N
      ∧ r.2.mem ((c : Thread nD τ).loc main_v12_24) = (dats m 0 c).arrAt 63 cfg0.N
      ∧ r.2.mem ((c : Thread nD τ).loc main_v12_25) = (dats m 0 c).arrAt 64 cfg0.N
      ∧ r.2.mem ((c : Thread nD τ).loc main_v12_26) = (dats m 0 c).arrAt 65 cfg0.N
      ∧ r.2.mem ((c : Thread nD τ).loc main_v12_27) = (dats m 0 c).arrAt 66 cfg0.N
      ∧ r.2.mem ((c : Thread nD τ).loc main_v12_28) = (dats m 0 c).arrAt 67 cfg0.N
      ∧ r.2.mem ((c : Thread nD τ).loc main_v12_29) = (dats m 0 c).arrAt 68 cfg0.N
      ∧ r.2.mem ((c : Thread nD τ).loc main_v12_30) = (dats m 0 c).arrAt 69 cfg0.N
      ∧ r.2.mem ((c : Thread nD τ).loc main_v12_31) = (dats m 0 c).arrAt 70 cfg0.N
      ∧ r.2.mem ((c : Thread nD τ).loc main_v12_32) = (dats m 0 c).arrAt 71 cfg0.N
      ∧ r.2.mem ((c : Thread nD τ).loc main_v12_33) = (dats m 0 c).arrAt 72 cfg0.N
      ∧ r.2.mem ((c : Thread nD τ).loc main_v12_34) = (dats m 0 c).arrAt 73 cfg0.N
      ∧ r.2.mem ((c : Thread nD τ).loc main_v12_35) = (dats m 0 c).arrAt 74 cfg0.N
      ∧ r.2.mem ((c : Thread nD τ).loc main_v12_36) = (dats m 0 c).arrAt 75 cfg0.N
      ∧ r.2.mem ((c : Thread nD τ).loc main_v12_37) = (dats m 0 c).arrAt 76 cfg0.N
      ∧ r.2.mem ((c : Thread nD τ).loc main_v12_38) = (dats m 0 c).arrAt 77 cfg0.N
      ∧ r.2.mem ((c : Thread nD τ).loc main_v12_39) = (dats m 0 c).arrAt 78 cfg0.N
      ∧ r.2.mem ((c : Thread nD τ).loc main_v12_40) = (dats m 0 c).arrAt 79 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)
      ∧ r.2.mem ((c : Thread nD τ).loc main_arg31) = m ((c : Thread nD τ).loc main_arg31)
      ∧ r.2.mem ((c : Thread nD τ).loc main_arg32) = m ((c : Thread nD τ).loc main_arg32)
      ∧ r.2.mem ((c : Thread nD τ).loc main_arg33) = m ((c : Thread nD τ).loc main_arg33)
      ∧ r.2.mem ((c : Thread nD τ).loc main_arg34) = m ((c : Thread nD τ).loc main_arg34)
      ∧ r.2.mem ((c : Thread nD τ).loc main_arg35) = m ((c : Thread nD τ).loc main_arg35)
      ∧ r.2.mem ((c : Thread nD τ).loc main_arg36) = m ((c : Thread nD τ).loc main_arg36)
      ∧ r.2.mem ((c : Thread nD τ).loc main_arg37) = m ((c : Thread nD τ).loc main_arg37)
      ∧ r.2.mem ((c : Thread nD τ).loc main_arg38) = m ((c : Thread nD τ).loc main_arg38) :=
  (θ_run defs _ _).mono (fun r h c =>
    ⟨array_at m r h c 39, array_at m r h c 40, array_at m r h c 41, array_at m r h c 42, array_at m r h c 43,
      array_at m r h c 44, array_at m r h c 45, array_at m r h c 46, array_at m r h c 47, array_at m r h c 48,
      array_at m r h c 49, array_at m r h c 50, array_at m r h c 51, array_at m r h c 52, array_at m r h c 53,
      array_at m r h c 54, array_at m r h c 55, array_at m r h c 56, array_at m r h c 57, array_at m r h c 58,
      array_at m r h c 59, array_at m r h c 60, array_at m r h c 61, array_at m r h c 62, array_at m r h c 63,
      array_at m r h c 64, array_at m r h c 65, array_at m r h c 66, array_at m r h c 67, array_at m r h c 68,
      array_at m r h c 69, array_at m r h c 70, array_at m r h c 71, array_at m r h c 72, array_at m r h c 73,
      array_at m r h c 74, array_at m r h c 75, array_at m r h c 76, array_at m r h c 77, array_at m r h c 78,
      array_at m r h c 79, kept m r h c⟩) (run_main m ρ)

end Run

set_option maxHeartbeats 1600000 in
theorem algebraic : Cert.algebraic_Kernel11Ideal_Reference11Ideal := by
  intro m g m' g' _ hagree
  refine
    ⟨_, _, _, _, _, _, _, _, _, _, _, _, _, _, _, _, _, _, _, _, _, _, _, _, _, _, _, _, _, _, _, _, _, _, _, _, _,
      _, _, _, _, run_arrays m g, (θ_run Reference11Ideal.defs _ _).mono (fun r h c => ?_) (SmallHost.run m' g')⟩
  obtain ⟨h0, h1, h2, h3, h4, h5, h6, h7, h8, h9, h10, h11, h12, h13, h14, h15, h16, h17, h18, h19, h20, h21, h22,
    h23, h24, h25, h26, h27, h28, h29, h30, h31, h32, h33, h34, h35, h36, h37, h38⟩ := hagree c
  obtain ⟨r39, r40, r41, r42, r43, r44, r45, r46, r47, r48, r49, r50, r51, r52, r53, r54, r55, r56, r57, r58, r59,
    r60, r61, r62, r63, r64, r65, r66, r67, r68, r69, r70, r71, r72, r73, r74, r75, r76, r77, r78, r79, kept⟩ := h c
  exact
    ⟨(r39.trans (same₃ _ h0 h1 h2)).trans (SmallArrays.ada m c).1.symm,
      (r40.trans (same₆ _ h0 h1 h2 h9 h10 h11)).trans (SmallArrays.ada m c).2.1.symm,
      (r41.trans (same₄ _ h0 h1 h2 h10)).trans (SmallArrays.ada m c).2.2.1.symm,
      (r42.trans (same₄ _ h0 h1 h2 h11)).trans (SmallArrays.ada m c).2.2.2.symm,
      (r43.trans (congrArg _ h2)).trans (SmallArrays.norm1 m c).1.symm,
      (r44.trans (same₄ _ h2 h12 h13 h14)).trans (SmallArrays.norm1 m c).2.1.symm,
      (r45.trans (congrArg₂ _ h2 h13)).trans (SmallArrays.norm1 m c).2.2.1.symm,
      (r46.trans (congrArg₂ _ h2 h14)).trans (SmallArrays.norm1 m c).2.2.2.symm,
      (r47.trans (congrArg _ h3)).trans (SmallArrays.mixW m c).1.symm,
      (r48.trans (same₄ _ h3 h15 h16 h17)).trans (SmallArrays.mixW m c).2.1.symm,
      (r49.trans (congrArg₂ _ h3 h16)).trans (SmallArrays.mixW m c).2.2.1.symm,
      (r50.trans (congrArg₂ _ h3 h17)).trans (SmallArrays.mixW m c).2.2.2.symm,
      (r51.trans (congrArg _ h4)).trans (SmallArrays.mixB m c).1.symm,
      (r52.trans (same₄ _ h4 h18 h19 h20)).trans (SmallArrays.mixB m c).2.1.symm,
      (r53.trans (congrArg₂ _ h4 h19)).trans (SmallArrays.mixB m c).2.2.1.symm,
      (r54.trans (congrArg₂ _ h4 h20)).trans (SmallArrays.mixB m c).2.2.2.symm,
      (r55.trans (congrArg _ h5)).trans (SmallArrays.lnW m c).1.symm,
      (r56.trans (same₄ _ h5 h21 h22 h23)).trans (SmallArrays.lnW m c).2.1.symm,
      (r57.trans (congrArg₂ _ h5 h22)).trans (SmallArrays.lnW m c).2.2.1.symm,
      (r58.trans (congrArg₂ _ h5 h23)).trans (SmallArrays.lnW m c).2.2.2.symm,
      (r59.trans (congrArg _ h6)).trans (SmallArrays.lnB m c).1.symm,
      (r60.trans (same₄ _ h6 h24 h25 h26)).trans (SmallArrays.lnB m c).2.1.symm,
      (r61.trans (congrArg₂ _ h6 h25)).trans (SmallArrays.lnB m c).2.2.1.symm,
      (r62.trans (congrArg₂ _ h6 h26)).trans (SmallArrays.lnB m c).2.2.2.symm,
      (r63.trans (congrArg _ h7)).trans (SmallArrays.lower m c).1.symm,
      (r64.trans (same₄ _ h7 h27 h28 h29)).trans (SmallArrays.lower m c).2.1.symm,
      (r65.trans (congrArg₂ _ h7 h28)).trans (SmallArrays.lower m c).2.2.1.symm,
      (r66.trans (congrArg₂ _ h7 h29)).trans (SmallArrays.lower m c).2.2.2.symm,
      (r67.trans (congrArg _ h8)).trans (SmallArrays.groupW m c).1.symm,
      (r68.trans (same₄ _ h8 h30 h31 h32)).trans (SmallArrays.groupW m c).2.1.symm,
      (r69.trans (congrArg₂ _ h8 h31)).trans (SmallArrays.groupW m c).2.2.1.symm,
      (r70.trans (congrArg₂ _ h8 h32)).trans (SmallArrays.groupW m c).2.2.2.symm,
      (r71.trans (congrArg _ h1)).trans (SmallArrays.norm2 m c).1.symm,
      (r72.trans (same₄ _ h1 h33 h34 h35)).trans (SmallArrays.norm2 m c).2.1.symm,
      (r73.trans (congrArg₂ _ h1 h34)).trans (SmallArrays.norm2 m c).2.2.1.symm,
      (r74.trans (congrArg₂ _ h1 h35)).trans (SmallArrays.norm2 m c).2.2.2.symm,
      (r75.trans (congrArg _ h0)).trans (SmallArrays.last m c).1.symm,
      (r76.trans (same₄ _ h0 h36 h37 h38)).trans (SmallArrays.last m c).2.1.symm,
      (r77.trans (congrArg₂ _ h0 h37)).trans (SmallArrays.last m c).2.2.1.symm,
      (r78.trans (congrArg₂ _ h0 h38)).trans (SmallArrays.last m c).2.2.2.symm,
      (r79.trans (congrArg _ h0)).trans (SmallArrays.loss m c).symm, kept⟩

end Cert.AdamSmall

end
-- ==== Proof.WgradIn.lean ====
/- The gradient of the input weight: each block of 1536 columns, summed over the tokens 2048 at a time. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Products
public import proofs.«01_k».proof.Proof.Boxes
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.WgradIn

open Idealize.ShloMosaic Idealize.ShloMosaic.TcCoe Idealize.SL.Sem
open Idealize.ShloMosaic.Pipeline (Dat)

section Kernel

open Cert.Kernel12Ideal Cert.Kernel12Ideal.Gen

variable (m : (ℓ : Loc nD τ sig) → Buf (Elt Ideal) ℓ) (c : Dev nD) (t : Fin cfg0.N)

/-- What the 2048 tokens of grid point `t` add to entry `(k, f)` of the point's block. -/
def term (m : (ℓ : Loc nD τ sig) → Buf (Elt Ideal) ℓ) (c : Dev nD) (t : Fin cfg0.N) : Fin 1024 → Fin 1536 → EReal :=
  Products.tn (fun (r : Fin 2048) k => (iblk m c 0 t : FVec Ideal S2048x1024 .bf16) (ix2 r k))
    (fun r f => (iblk m c 1 t : FVec Ideal S2048x1536 .bf16) (ix2 r f))

theorem first (h : t.val % 4 = 0) (k : Fin 1024) (f : Fin 1536) :
    (outsAt0 m c t.val t.isLt).2 (ix2 k f) = 0 + term m c t k f := by
  rw [outsAt0_A m c t h (by omega)]
  frame_out
  pointwise [k0_pay1, k0_pay2]
  rfl

theorem next (h : ¬t.val % 4 = 0) (k : Fin 1024) (f : Fin 1536) :
    (outsAt0 m c t.val t.isLt).2 (ix2 k f)
      = (outsAt0 m c (t.val - 1) (Nat.lt_of_le_of_lt (Nat.sub_le _ _) t.isLt)).2 (ix2 k f) + term m c t k f := by
  by_cases h3 : t.val % 4 = 3
  · rw [outsAt0_C m c t h h3]
    frame_out
    pointwise [k0_pay2]
    rw [read_unread_whole]
    rfl
  · rw [outsAt0_B m c t h h3]
    frame_out
    pointwise [k0_pay2]
    rw [read_unread_whole]
    rfl

/-- A box of 384 columns loaded back from the whole accumulator. -/
theorem load {sig : RefSig} {κ : Kind} {sp : Space} (v : View sig κ sp S1024x1536 .f32) (A : S1024x1536.Idx → Elt Ideal .f32)
    {o : ℕ} (i0 : ∀ x, (![0, 0] : Fin 2 → ℕ) x + (![1024, 1536] : Fin 2 → ℕ) x ≤ S1024x1536.size x)
    (i1 : ∀ x, (![0, o] : Fin 2 → ℕ) x + (![1024, 384] : Fin 2 → ℕ) x ≤ S1024x1536.size x) (k k' : Fin 1024) (f' : Fin 384)
    (f : Fin 1536) (hk : k.val = k'.val) (hf : f.val = o + f'.val) :
    v.readCov [(⟨Rect.unit (s := S1024x1536) ![0, 0] ![1024, 1536] i0, A⟩ : View.Piece (Elt Ideal) S1024x1536 .f32)]
      (Rect.unit (s := S1024x1536) ![0, o] ![1024, 384] i1).toLoadRect (ix2 k' f') = A (ix2 k f) :=
  (Boxes.load_box (Val := Elt Ideal) i1 _ k f v k' f' (by omega) hf).trans
    (Boxes.canon_hit (K := 1024) (N := 1536) (o := 0) (p := 0) (k := 1024) (n := 1536) (Val := Elt Ideal) (e := .f32)
      i0 A [] k f k f (Nat.zero_add _).symm (Nat.zero_add _).symm)

/-- A block's four parts of 384 columns are stored one after the other. -/
theorem written (h : t.val % 4 = 3) (s : Fin 4) (k : Fin 1024) (f : Fin 384) :
    (outsAt0 m c t.val t.isLt).1 (ix3 s k f)
      = (outsAt0 m c t.val t.isLt).2 (ix2 k (⟨s.val * 384 + f.val, by omega⟩ : Fin 1536)) := by
  rw [outsAt0_C m c t (by omega) h]
  frame_out
  generalize k0_pay2 (F := Ideal) _ _ _ = A
  clear h
  canon_tiles x h
  all_goals
    have e0 : s.val = _ := h0
    have e1 : k.val = _ := h1
    have e2 : f.val = _ := h2
    pointwise [k0_pay3, k0_pay4, k0_pay5, k0_pay6]
    refine load _ A _ _ k (x 1) (x 2) _ e1 ?_
    simp only
    omega

/-- Which blocks the windows hold at grid point `t`: tokens `2048 (t % 4) …`, columns `1536 (t / 4) …`. -/
theorem idx : ∀ t : Fin cfg0.N, win0_0.index t = ![t.val % 4, 0] ∧ win0_1.index t = ![t.val % 4, t.val / 4]
    ∧ win0_2.index t = ![t.val / 4, 0, 0] ∧ t.val < 8 :=
  (by decide +kernel : ∀ t : Fin grid0.N, _)

/-- The whole sum over the tokens. -/
def grad (a : FVec Ideal S8192x1024 .bf16) (b : FVec Ideal S8192x3072 .bf16) : Fin 1024 → Fin 3072 → EReal :=
  Products.tn (fun t k => a (ix2 t k)) fun t f => b (ix2 t f)

/-- After the last of a block's four points the kernel holds the sum over all tokens. -/
theorem summed (h : t.val % 4 = 3) (k : Fin 1024) (f : Fin 1536) :
    (outsAt0 m c t.val t.isLt).2 (ix2 k f)
      = grad (m ((c : Thread nD τ).loc main_arg0)) (m ((c : Thread nD τ).loc main_arg1)) k
        ⟨t.val / 4 * 1536 + f.val, by have := (idx t).2.2.2; omega⟩ := by
  have key := Pipeline.eq_sum_fin_of_reset_step_apply_of_flush (M := EReal) (ι := Fin 1024 × Fin 1536)
    (fun n h i => (outsAt0 m c n h).2 (ix2 i.1 i.2)) 4 (fun _ => 0) (fun t i => term m c t i.1 i.2)
    (fun t h i => first m c t h i.1 i.2) (fun t h i => next m c t h i.1 i.2) t h (k, f)
  refine key.trans ?_
  rw [zero_add, grad, Products.tn_tiles]
  refine Finset.sum_congr rfl fun s _ => ?_
  simp only [term, Products.tn]
  refine Finset.sum_congr rfl fun r _ => ?_
  have e1 : (4 * (t.val / 4) + s.val) % 4 = s.val := by omega
  have e2 : (4 * (t.val / 4) + s.val) / 4 = t.val / 4 := by omega
  congr 1
  · blk_ext [iblk, V, idx (⟨4 * (t.val / 4) + s.val, Pipeline.run_point_lt_of_flush t h s⟩ : Fin cfg0.N), e1, e2]
  · blk_ext [iblk, V, idx (⟨4 * (t.val / 4) + s.val, Pipeline.run_point_lt_of_flush t h s⟩ : Fin cfg0.N), e1, e2]

/-- Column `f` of device `d`'s part. -/
def col (d : Fin 8) (f : Fin 384) : Fin 3072 := ⟨d.val * 384 + f.val, by omega⟩

theorem array (R : FVec Ideal S8x1024x384 .bf16)
    (hR : ∀ d k f, R (ix3 d k f)
      = grad (m ((c : Thread nD τ).loc main_arg0)) (m ((c : Thread nD τ).loc main_arg1)) k (col d f)) :
    (dats m 0 c).arrAt 2 cfg0.N = R := by
  refine (dats m 0 c).arrAt_eq_of_covers 2 _ (by decide +kernel) fun t hf y => ?_
  have h := (flush0_2 t).mp hf
  have ht := (idx t).2.2.2
  blk_simp
  rw [after0_2]
  idx_vars y
  have e : (⟨t.val / 4 * 1536 + (y0.val * 384 + y2.val), by omega⟩ : Fin 3072)
      = col ⟨t.val / 4 * 4 + y0.val, by omega⟩ y2 := Fin.ext (by simp only [col]; omega)
  refine (written m c t h y0 y1 y2).trans ((summed m c t h y1 _).trans
    ((congrArg _ e).trans ((hR ⟨t.val / 4 * 4 + y0.val, by omega⟩ y1 y2).symm.trans ?_)))
  blk_ext [idx t]

end Kernel

section Reference

open Cert.Reference12Ideal Cert.Reference12Ideal.Gen Cert.Reference12Ideal.Read

theorem ref (a : FVec Ideal S8192x1024 .bf16) (b : FVec Ideal S8192x3072 .bf16) (d : Fin 8) (k : Fin 1024) (f : Fin 384) :
    val_main_v8 (F := Ideal) a b (ix3 d k f) = grad a b k (col d f) := by
  pointwise [val_main_v8, val_main_v7, val_main_v6, val_main_v5, val_main_v4, val_main_v3, val_main_v1]
  exact Finset.sum_congr rfl fun t _ => mul_comm _ _

end Reference

instance : Cert.Kernel12Ideal.Facts := Cert.Kernel12Ideal.Gen.facts
instance : Cert.Reference12Ideal.Facts := Cert.Reference12Ideal.Gen.facts

/-- The reference leaves its arguments as they were; it has no semaphore. -/
theorem frame : Cert.quiescent_Reference12Ideal := fun m ρ _ =>
  (θ_run Reference12Ideal.defs _ _).mono (fun r h => ⟨fun c => (h c).2, sem_eq_zero_of_no_sems (by decide) r.2⟩)
    (Reference12Ideal.Value.run m ρ)

theorem algebraic : Cert.algebraic_Kernel12Ideal_Reference12Ideal := by
  pair_intro
  · run_from Cert.Kernel12Ideal.Value.run_blocks m g
  · run_from Cert.Reference12Ideal.Value.run m' g'
    obtain ⟨h0, h1⟩ := hagree c
    refine (Reference12Ideal.Read.val_main_v8_eq _ _).trans (array m c _ fun d k f => ?_).symm
    rw [← h0, ← h1]
    exact ref _ _ d k f

end Cert.WgradIn

end
-- ==== Proof.SmallRows.lean ====
/- The small optimiser's body, printed once for the bits and once for the extended reals: over the bits the two
  printings are one program, and so are the two tables that hold it. -/
module

public import proofs.«01_k».proof.Defs
public import proofs.«01_k».proof.Proof.Gen.Kernel11
public import proofs.«01_k».proof.Proof.Gen.Kernel11Ideal
public import Idealize.ShloMosaic.Lib.Claim

@[expose] public section

set_option maxRecDepth 16384

noncomputable section

namespace Cert.SmallRows

open Idealize.ShloMosaic Idealize.ShloMosaic.TcCoe Idealize.SL.Sem

instance : Cert.Kernel11.Facts := Cert.Kernel11.Gen.facts
instance : Cert.Kernel11Ideal.Facts := Cert.Kernel11Ideal.Gen.facts

set_option backward.isDefEq.respectTransparency false in
set_option maxHeartbeats 2000000 in
/-- The body as it was printed for the bits, at the type of the other printing. -/
def kernelBody : type_of% (@Kernel11Ideal.cc0_adamw_small Bits _ Kernel11Ideal.Gen.facts) :=
  @Kernel11.cc0_adamw_small Bits _ Kernel11.Gen.facts

set_option backward.isDefEq.respectTransparency false in
set_option maxHeartbeats 2000000 in
/-- It is the other printing's body. -/
theorem kernelBody_eq : kernelBody = @Kernel11Ideal.cc0_adamw_small Bits _ Kernel11Ideal.Gen.facts := rfl

section
open Cert.Kernel11Ideal Cert.Kernel11Ideal.Facts₀ Cert.Kernel11Ideal.Facts

/-- The launch's one row, with the body left open. -/
def rows (b : type_of% (@Kernel11Ideal.cc0_adamw_small Bits _ Kernel11Ideal.Gen.facts)) :
    Defs nD τ sig (Elt Bits) Λ₀ := Defs.onTc fun
  | 0, (t, s) => b
      (win0_0.stage (s 0)) (hstage0_0 0) (win0_1.stage (s 1)) (hstage0_1 0) (win0_2.stage (s 2)) (hstage0_2 0)
      (win0_3.stage (s 3)) (hstage0_3 0) (win0_4.stage (s 4)) (hstage0_4 0) (win0_5.stage (s 5)) (hstage0_5 0)
      (win0_6.stage (s 6)) (hstage0_6 0) (win0_7.stage (s 7)) (hstage0_7 0) (win0_8.stage (s 8)) (hstage0_8 0)
      (win0_9.stage (s 9)) (hstage0_9 0) (win0_10.stage (s 10)) (hstage0_10 0) (win0_11.stage (s 11))
      (hstage0_11 0) (win0_12.stage (s 12)) (hstage0_12 0) (win0_13.stage (s 13)) (hstage0_13 0)
      (win0_14.stage (s 14)) (hstage0_14 0) (win0_15.stage (s 15)) (hstage0_15 0) (win0_16.stage (s 16))
      (hstage0_16 0) (win0_17.stage (s 17)) (hstage0_17 0) (win0_18.stage (s 18)) (hstage0_18 0)
      (win0_19.stage (s 19)) (hstage0_19 0) (win0_20.stage (s 20)) (hstage0_20 0) (win0_21.stage (s 21))
      (hstage0_21 0) (win0_22.stage (s 22)) (hstage0_22 0) (win0_23.stage (s 23)) (hstage0_23 0)
      (win0_24.stage (s 24)) (hstage0_24 0) (win0_25.stage (s 25)) (hstage0_25 0) (win0_26.stage (s 26))
      (hstage0_26 0) (win0_27.stage (s 27)) (hstage0_27 0) (win0_28.stage (s 28)) (hstage0_28 0)
      (win0_29.stage (s 29)) (hstage0_29 0) (win0_30.stage (s 30)) (hstage0_30 0) (win0_31.stage (s 31))
      (hstage0_31 0) (win0_32.stage (s 32)) (hstage0_32 0) (win0_33.stage (s 33)) (hstage0_33 0)
      (win0_34.stage (s 34)) (hstage0_34 0) (win0_35.stage (s 35)) (hstage0_35 0) (win0_36.stage (s 36))
      (hstage0_36 0) (win0_37.stage (s 37)) (hstage0_37 0) (win0_38.stage (s 38)) (hstage0_38 0)
      (win0_39.stage (s 39)) (hstage0_39 0) (win0_40.stage (s 40)) (hstage0_40 0) (win0_41.stage (s 41))
      (hstage0_41 0) (win0_42.stage (s 42)) (hstage0_42 0) (win0_43.stage (s 43)) (hstage0_43 0)
      (win0_44.stage (s 44)) (hstage0_44 0) (win0_45.stage (s 45)) (hstage0_45 0) (win0_46.stage (s 46))
      (hstage0_46 0) (win0_47.stage (s 47)) (hstage0_47 0) (win0_48.stage (s 48)) (hstage0_48 0)
      (win0_49.stage (s 49)) (hstage0_49 0) (win0_50.stage (s 50)) (hstage0_50 0) (win0_51.stage (s 51))
      (hstage0_51 0) (win0_52.stage (s 52)) (hstage0_52 0) (win0_53.stage (s 53)) (hstage0_53 0)
      (win0_54.stage (s 54)) (hstage0_54 0) (win0_55.stage (s 55)) (hstage0_55 0) (win0_56.stage (s 56))
      (hstage0_56 0) (win0_57.stage (s 57)) (hstage0_57 0) (win0_58.stage (s 58)) (hstage0_58 0)
      (win0_59.stage (s 59)) (hstage0_59 0) (win0_60.stage (s 60)) (hstage0_60 0) (win0_61.stage (s 61))
      (hstage0_61 0) (win0_62.stage (s 62)) (hstage0_62 0) (win0_63.stage (s 63)) (hstage0_63 0)
      (win0_64.stage (s 64)) (hstage0_64 0) (win0_65.stage (s 65)) (hstage0_65 0) (win0_66.stage (s 66))
      (hstage0_66 0) (win0_67.stage (s 67)) (hstage0_67 0) (win0_68.stage (s 68)) (hstage0_68 0)
      (win0_69.stage (s 69)) (hstage0_69 0) (win0_70.stage (s 70)) (hstage0_70 0) (win0_71.stage (s 71))
      (hstage0_71 0) (win0_72.stage (s 72)) (hstage0_72 0) (win0_73.stage (s 73)) (hstage0_73 0)
      (win0_74.stage (s 74)) (hstage0_74 0) (win0_75.stage (s 75)) (hstage0_75 0) (win0_76.stage (s 76))
      (hstage0_76 0) (win0_77.stage (s 77)) (hstage0_77 0) (win0_78.stage (s 78)) (hstage0_78 0)
      (win0_79.stage (s 79)) (hstage0_79 0)
  | ⟨_ + 1, h⟩, _ => absurd h (Nat.not_lt.2 (Nat.le_add_left _ _))

end

set_option backward.isDefEq.respectTransparency false in
set_option maxHeartbeats 2000000 in
/-- With its own body it is the table of the one printing, -/
theorem rows_ideal : rows (@Kernel11Ideal.cc0_adamw_small Bits _ Kernel11Ideal.Gen.facts) = Kernel11Ideal.defs₀ :=
  congrArg Defs.onTc (funext fun l => funext fun x => match l, x with
    | 0, (_, _) => rfl
    | ⟨_ + 1, h⟩, _ => absurd h (Nat.not_lt.2 (Nat.le_add_left _ _)))

set_option backward.isDefEq.respectTransparency false in
set_option maxHeartbeats 2000000 in
/-- and with the other body the table of the other. -/
theorem rows_kernel : rows kernelBody = Kernel11.defs₀ (F := Bits) :=
  congrArg Defs.onTc (funext fun l => funext fun x => match l, x with
    | 0, (_, _) => rfl
    | ⟨_ + 1, h⟩, _ => absurd h (Nat.not_lt.2 (Nat.le_add_left _ _)))

set_option backward.isDefEq.respectTransparency false in
set_option maxHeartbeats 2000000 in
/-- So the two tables are one. -/
theorem defs₀_eq : Kernel11.defs₀ (F := Bits) = Kernel11Ideal.defs₀ (F := Bits) :=
  rows_kernel.symm.trans ((congrArg rows kernelBody_eq).trans rows_ideal)

end Cert.SmallRows

end
-- ==== Proof.SmallMain.lean ====
/- The launch of the small optimiser's step, printed once for the bits and once for the extended reals: over the
  bits the two launches are one. -/
module

public import proofs.«01_k».proof.Defs
public import proofs.«01_k».proof.Proof.Gen.Kernel11
public import proofs.«01_k».proof.Proof.Gen.Kernel11Ideal
public import Idealize.ShloMosaic.Lib.Claim

@[expose] public section

set_option maxRecDepth 16384

noncomputable section

namespace Cert.SmallMain

open Idealize.ShloMosaic Idealize.ShloMosaic.TcCoe Idealize.SL.Sem

instance : Cert.Kernel11.Facts := Cert.Kernel11.Gen.facts
instance : Cert.Kernel11Ideal.Facts := Cert.Kernel11Ideal.Gen.facts

set_option backward.isDefEq.respectTransparency false in
set_option maxHeartbeats 2000000 in
/-- The two main programs are one. -/
theorem main_eq : Kernel11.main (F := Bits) = Kernel11Ideal.main (F := Bits) := rfl

set_option backward.isDefEq.respectTransparency false in
set_option maxHeartbeats 2000000 in
/-- The two launches are one when the tables that hold the body are. -/
theorem defs_eq (h : Kernel11.defs₀ (F := Bits) = Kernel11Ideal.defs₀ (F := Bits)) :
    Kernel11.defs (F := Bits) = Kernel11Ideal.defs (F := Bits) :=
  congrArg (Pipeline.defs (Kernel11.pcfgs (F := Bits))) h

end Cert.SmallMain

end
-- ==== Proof.SmallFrame.lean ====
/- The small optimiser's step leaves its arguments as they were: one run, read over the extended reals and, the two
  printings being one program there, over the bits. -/
module

public import proofs.«01_k».proof.Defs
public import proofs.«01_k».proof.Proof.SmallRun
public import proofs.«01_k».proof.Proof.SmallRows
public import proofs.«01_k».proof.Proof.SmallMain
public import proofs.«01_k».proof.Proof.Gen.Kernel11
public import proofs.«01_k».proof.Proof.Gen.Kernel11Ideal
public import Idealize.ShloMosaic.Lib.Claim

@[expose] public section

set_option maxRecDepth 16384

noncomputable section

namespace Cert.SmallFrame

open Idealize.ShloMosaic Idealize.ShloMosaic.TcCoe Idealize.SL.Sem

instance : Cert.Kernel11.Facts := Cert.Kernel11.Gen.facts
instance : Cert.Kernel11Ideal.Facts := Cert.Kernel11Ideal.Gen.facts

/-- After the run every argument is as it was, and every semaphore at zero, over any values. -/
theorem kept_run {F : FTy → Type} [FloatOps F]
    (m : (ℓ : Loc Kernel11Ideal.nD Kernel11Ideal.τ Kernel11Ideal.sig) → Buf (Elt F) ℓ)
    (ρ : Dev Kernel11Ideal.nD → PrngReg) :
    θ_run (Kernel11Ideal.defs (F := F)) (onTc (τ := Kernel11Ideal.τ) (Kernel11Ideal.main (F := F)))
      ⟨m, fun _ => 0, ρ⟩ (fun r => (∀ c, SmallRun.Kept m r c) ∧ r.2.sem = fun _ => 0) :=
  (θ_run Kernel11Ideal.defs _ _).mono (fun r h => ⟨fun c => SmallRun.kept m r h.1 c, h.2⟩)
    (SmallRun.run_main_quiescent m ρ)

/-- Over the extended reals, -/
theorem frame_ideal : Cert.quiescent_Kernel11Ideal := fun m ρ _ => kept_run m ρ

set_option backward.isDefEq.respectTransparency false in
set_option maxHeartbeats 2000000 in
/-- and over the bits. -/
theorem frame_kernel : Cert.quiescent_Kernel11 := fun m ρ _ => by
  rw [SmallMain.defs_eq SmallRows.defs₀_eq, SmallMain.main_eq]
  exact kept_run (F := Bits) m ρ

end Cert.SmallFrame

end
-- ==== Proof.lean ====
/- The step's calls one by one: the frames of each call and of its reference, and the call's results equal to the reference's
   over the extended reals. The two calls of the feed-forward half are stated for finite arguments. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite
public import proofs.«01_k».proof.Proof.Gen.Pre_finite2
public import proofs.«01_k».proof.Proof.FfnValue
public import proofs.«01_k».proof.Proof.ForwardValue
public import proofs.«01_k».proof.Proof.WgradFfnIn
public import proofs.«01_k».proof.Proof.WgradFfnOut
public import proofs.«01_k».proof.Proof.WgradOut
public import proofs.«01_k».proof.Proof.AdamIn
public import proofs.«01_k».proof.Proof.AdamOut
public import proofs.«01_k».proof.Proof.AdamFfnIn
public import proofs.«01_k».proof.Proof.AdamFfnOut
public import proofs.«01_k».proof.Proof.AdamAda
public import proofs.«01_k».proof.Proof.AdamSmall
public import proofs.«01_k».proof.Proof.WgradIn
public import proofs.«01_k».proof.Proof.SmallFrame
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_finite2.Gen.facts,
  fun m ρ _ => Cert.Kernel.Gen.frame m ρ,
  fun m ρ _ => Cert.KernelIdeal.Gen.frame m ρ,
  fun m ρ _ => Cert.KernelIdeal.Gen.frame m ρ,
  FfnValue.frame,
  fun m ρ _ => FfnValue.frame m ρ trivial,
  fun m ρ _ => Cert.Kernel2.Gen.frame m ρ,
  fun m ρ _ => Cert.Kernel2Ideal.Gen.frame m ρ,
  fun m ρ _ => Cert.Kernel2Ideal.Gen.frame m ρ,
  ForwardValue.frame,
  fun m ρ _ => ForwardValue.frame m ρ trivial,
  fun m ρ _ => Cert.Kernel3.Gen.frame m ρ,
  fun m ρ _ => Cert.Kernel3Ideal.Gen.frame m ρ,
  WgradFfnIn.frame,
  fun m ρ _ => Cert.Kernel4.Gen.frame m ρ,
  fun m ρ _ => Cert.Kernel4Ideal.Gen.frame m ρ,
  WgradFfnOut.frame,
  fun m ρ _ => Cert.Kernel5.Gen.frame m ρ,
  fun m ρ _ => Cert.Kernel5Ideal.Gen.frame m ρ,
  WgradOut.frame,
  fun m ρ _ => Cert.Kernel6.Gen.frame m ρ,
  fun m ρ _ => Cert.Kernel6Ideal.Gen.frame m ρ,
  AdamIn.frame,
  fun m ρ _ => Cert.Kernel7.Gen.frame m ρ,
  fun m ρ _ => Cert.Kernel7Ideal.Gen.frame m ρ,
  AdamOut.frame,
  fun m ρ _ => Cert.Kernel8.Gen.frame m ρ,
  fun m ρ _ => Cert.Kernel8Ideal.Gen.frame m ρ,
  AdamFfnIn.frame,
  fun m ρ _ => Cert.Kernel9.Gen.frame m ρ,
  fun m ρ _ => Cert.Kernel9Ideal.Gen.frame m ρ,
  AdamFfnOut.frame,
  fun m ρ _ => Cert.Kernel10.Gen.frame m ρ,
  fun m ρ _ => Cert.Kernel10Ideal.Gen.frame m ρ,
  AdamAda.frame,
  SmallFrame.frame_kernel,
  SmallFrame.frame_ideal,
  AdamSmall.frame,
  fun m ρ _ => Cert.Kernel12.Gen.frame m ρ,
  fun m ρ _ => Cert.Kernel12Ideal.Gen.frame m ρ,
  WgradIn.frame,
  trivial,
  FfnValue.algebraic,
  trivial,
  ForwardValue.algebraic,
  trivial,
  WgradFfnIn.algebraic,
  trivial,
  WgradFfnOut.algebraic,
  trivial,
  WgradOut.algebraic,
  trivial,
  AdamIn.algebraic,
  trivial,
  AdamOut.algebraic,
  trivial,
  AdamFfnIn.algebraic,
  trivial,
  AdamFfnOut.algebraic,
  trivial,
  AdamAda.algebraic,
  trivial,
  AdamSmall.algebraic,
  trivial,
  WgradIn.algebraic⟩

end Cert.Proof

end
